-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.2.2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.2.2.2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg10))).2.2.2.2.2.2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.2.2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.2.2.2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9)) (m ((c.tc : Thread Cert.Reference11Ideal.nD Cert.Reference11Ideal.τ).loc Cert.Reference11Ideal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v149) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_v18) = v3 c
          ∧ r.2.mem ((c.tc : Thread Cert.Reference6Ideal.nD Cert.Reference6Ideal.τ).loc Cert.Reference6Ideal.main_v22) = v4 c
          ∧ r.2.mem ((c.tc : Thread Cert.Reference6Ideal.nD Cert.Reference6Ideal.τ).loc Cert.Reference6Ideal.main_v20) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v32_0)) (v1 : (c : Dev Cert.Kernel7Ideal.nD) → Buf (Elt Ideal) ((c.tc : Thread Cert.Kernel7Ideal.nD Cert.Kernel7Ideal.τ).loc Cert.Kernel7Ideal.main_v32_1)) (v2 : (c : Dev Cert.Kernel7Ideal.nD) → Buf (Elt Ideal) ((c.tc : Thread Cert.Kernel7Ideal.nD Cert.Kernel7Ideal.τ).loc Cert.Kernel7Ideal.main_v32_2)) (v3 : (c : Dev Cert.Kernel7Ideal.nD) → Buf (Elt Ideal) ((c.tc : Thread Cert.Kernel7Ideal.nD Cert.Kernel7Ideal.τ).loc Cert.Kernel7Ideal.main_v32_3)) (v4 : (c : Dev Cert.Kernel7Ideal.nD) → Buf (Elt Ideal) ((c.tc : Thread Cert.Kernel7Ideal.nD Cert.Kernel7Ideal.τ).loc Cert.Kernel7Ideal.main_v32_4)) (v5 : (c : Dev Cert.Kernel7Ideal.nD) → Buf (Elt Ideal) ((c.tc : Thread Cert.Kernel7Ideal.nD Cert.Kernel7Ideal.τ).loc Cert.Kernel7Ideal.main_v32_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v32_0) = v0 c
          ∧ r.2.mem ((c.tc : Thread Cert.Kernel7Ideal.nD Cert.Kernel7Ideal.τ).loc Cert.Kernel7Ideal.main_v32_1) = v1 c
          ∧ r.2.mem ((c.tc : Thread Cert.Kernel7Ideal.nD Cert.Kernel7Ideal.τ).loc Cert.Kernel7Ideal.main_v32_2) = v2 c
          ∧ r.2.mem ((c.tc : Thread Cert.Kernel7Ideal.nD Cert.Kernel7Ideal.τ).loc Cert.Kernel7Ideal.main_v32_3) = v3 c
          ∧ r.2.mem ((c.tc : Thread Cert.Kernel7Ideal.nD Cert.Kernel7Ideal.τ).loc Cert.Kernel7Ideal.main_v32_4) = v4 c
          ∧ r.2.mem ((c.tc : Thread Cert.Kernel7Ideal.nD Cert.Kernel7Ideal.τ).loc Cert.Kernel7Ideal.main_v32_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v91) = v0 c
          ∧ r.2.mem ((c.tc : Thread Cert.Reference7Ideal.nD Cert.Reference7Ideal.τ).loc Cert.Reference7Ideal.main_v92) = v1 c
          ∧ r.2.mem ((c.tc : Thread Cert.Reference7Ideal.nD Cert.Reference7Ideal.τ).loc Cert.Reference7Ideal.main_v93) = v2 c
          ∧ r.2.mem ((c.tc : Thread Cert.Reference7Ideal.nD Cert.Reference7Ideal.τ).loc Cert.Reference7Ideal.main_v94) = v3 c
          ∧ r.2.mem ((c.tc : Thread Cert.Reference7Ideal.nD Cert.Reference7Ideal.τ).loc Cert.Reference7Ideal.main_v95) = v4 c
          ∧ r.2.mem ((c.tc : Thread Cert.Reference7Ideal.nD Cert.Reference7Ideal.τ).loc Cert.Reference7Ideal.main_v20) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_2)) (v2 : (c : Dev Cert.Kernel8Ideal.nD) → Buf (Elt Ideal) ((c.tc : Thread Cert.Kernel8Ideal.nD Cert.Kernel8Ideal.τ).loc Cert.Kernel8Ideal.main_v0_4)) (v3 : (c : Dev Cert.Kernel8Ideal.nD) → Buf (Elt Ideal) ((c.tc : Thread Cert.Kernel8Ideal.nD Cert.Kernel8Ideal.τ).loc Cert.Kernel8Ideal.main_v0_1)) (v4 : (c : Dev Cert.Kernel8Ideal.nD) → Buf (Elt Ideal) ((c.tc : Thread Cert.Kernel8Ideal.nD Cert.Kernel8Ideal.τ).loc Cert.Kernel8Ideal.main_v0_3)) (v5 : (c : Dev Cert.Kernel8Ideal.nD) → Buf (Elt Ideal) ((c.tc : Thread Cert.Kernel8Ideal.nD Cert.Kernel8Ideal.τ).loc Cert.Kernel8Ideal.main_v0_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_2) = v1 c
          ∧ r.2.mem ((c.tc : Thread Cert.Kernel8Ideal.nD Cert.Kernel8Ideal.τ).loc Cert.Kernel8Ideal.main_v0_4) = v2 c
          ∧ r.2.mem ((c.tc : Thread Cert.Kernel8Ideal.nD Cert.Kernel8Ideal.τ).loc Cert.Kernel8Ideal.main_v0_1) = v3 c
          ∧ r.2.mem ((c.tc : Thread Cert.Kernel8Ideal.nD Cert.Kernel8Ideal.τ).loc Cert.Kernel8Ideal.main_v0_3) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v47) = v3 c
          ∧ r.2.mem ((c.tc : Thread Cert.Reference8Ideal.nD Cert.Reference8Ideal.τ).loc Cert.Reference8Ideal.main_v28) = v4 c
          ∧ r.2.mem ((c.tc : Thread Cert.Reference8Ideal.nD Cert.Reference8Ideal.τ).loc Cert.Reference8Ideal.main_v34) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_3)) (v2 : (c : Dev Cert.Kernel9Ideal.nD) → Buf (Elt Ideal) ((c.tc : Thread Cert.Kernel9Ideal.nD Cert.Kernel9Ideal.τ).loc Cert.Kernel9Ideal.main_v0_6)) (v3 : (c : Dev Cert.Kernel9Ideal.nD) → Buf (Elt Ideal) ((c.tc : Thread Cert.Kernel9Ideal.nD Cert.Kernel9Ideal.τ).loc Cert.Kernel9Ideal.main_v0_1)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_7)) (v6 : (c : Dev Cert.Kernel9Ideal.nD) → Buf (Elt Ideal) ((c.tc : Thread Cert.Kernel9Ideal.nD Cert.Kernel9Ideal.τ).loc Cert.Kernel9Ideal.main_v0_2)) (v7 : (c : Dev Cert.Kernel9Ideal.nD) → Buf (Elt Ideal) ((c.tc : Thread Cert.Kernel9Ideal.nD Cert.Kernel9Ideal.τ).loc Cert.Kernel9Ideal.main_v0_5)) (v8 : (c : Dev Cert.Kernel9Ideal.nD) → Buf (Elt Ideal) ((c.tc : Thread Cert.Kernel9Ideal.nD Cert.Kernel9Ideal.τ).loc Cert.Kernel9Ideal.main_v0_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_3) = v1 c
          ∧ r.2.mem ((c.tc : Thread Cert.Kernel9Ideal.nD Cert.Kernel9Ideal.τ).loc Cert.Kernel9Ideal.main_v0_6) = v2 c
          ∧ r.2.mem ((c.tc : Thread Cert.Kernel9Ideal.nD Cert.Kernel9Ideal.τ).loc Cert.Kernel9Ideal.main_v0_1) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_7) = v5 c
          ∧ r.2.mem ((c.tc : Thread Cert.Kernel9Ideal.nD Cert.Kernel9Ideal.τ).loc Cert.Kernel9Ideal.main_v0_2) = v6 c
          ∧ r.2.mem ((c.tc : Thread Cert.Kernel9Ideal.nD Cert.Kernel9Ideal.τ).loc Cert.Kernel9Ideal.main_v0_5) = v7 c
          ∧ r.2.mem ((c.tc : Thread Cert.Kernel9Ideal.nD Cert.Kernel9Ideal.τ).loc Cert.Kernel9Ideal.main_v0_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v47) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_v34) = v5 c
          ∧ r.2.mem ((c.tc : Thread Cert.Reference9Ideal.nD Cert.Reference9Ideal.τ).loc Cert.Reference9Ideal.main_v71) = v6 c
          ∧ r.2.mem ((c.tc : Thread Cert.Reference9Ideal.nD Cert.Reference9Ideal.τ).loc Cert.Reference9Ideal.main_v52) = v7 c
          ∧ r.2.mem ((c.tc : Thread Cert.Reference9Ideal.nD Cert.Reference9Ideal.τ).loc Cert.Reference9Ideal.main_v58) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)) (v4 : (c : Dev Cert.Kernel10Ideal.nD) → Buf (Elt Ideal) ((c.tc : Thread Cert.Kernel10Ideal.nD Cert.Kernel10Ideal.τ).loc Cert.Kernel10Ideal.main_v3_4)) (v5 : (c : Dev Cert.Kernel10Ideal.nD) → Buf (Elt Ideal) ((c.tc : Thread Cert.Kernel10Ideal.nD Cert.Kernel10Ideal.τ).loc Cert.Kernel10Ideal.main_v3_5)) (v6 : (c : Dev Cert.Kernel10Ideal.nD) → Buf (Elt Ideal) ((c.tc : Thread Cert.Kernel10Ideal.nD Cert.Kernel10Ideal.τ).loc Cert.Kernel10Ideal.main_v3_6)) (v7 : (c : Dev Cert.Kernel10Ideal.nD) → Buf (Elt Ideal) ((c.tc : Thread Cert.Kernel10Ideal.nD Cert.Kernel10Ideal.τ).loc Cert.Kernel10Ideal.main_v3_7)) (v8 : (c : Dev Cert.Kernel10Ideal.nD) → Buf (Elt Ideal) ((c.tc : Thread Cert.Kernel10Ideal.nD Cert.Kernel10Ideal.τ).loc Cert.Kernel10Ideal.main_v3_8)) (v9 : (c : Dev Cert.Kernel10Ideal.nD) → Buf (Elt Ideal) ((c.tc : Thread Cert.Kernel10Ideal.nD Cert.Kernel10Ideal.τ).loc Cert.Kernel10Ideal.main_v3_9)) (v10 : (c : Dev Cert.Kernel10Ideal.nD) → Buf (Elt Ideal) ((c.tc : Thread Cert.Kernel10Ideal.nD Cert.Kernel10Ideal.τ).loc Cert.Kernel10Ideal.main_v3_10)) (v11 : (c : Dev Cert.Kernel10Ideal.nD) → Buf (Elt Ideal) ((c.tc : Thread Cert.Kernel10Ideal.nD Cert.Kernel10Ideal.τ).loc Cert.Kernel10Ideal.main_v3_11)) (v12 : (c : Dev Cert.Kernel10Ideal.nD) → Buf (Elt Ideal) ((c.tc : Thread Cert.Kernel10Ideal.nD Cert.Kernel10Ideal.τ).loc Cert.Kernel10Ideal.main_v3_12)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_v3_4) = v4 c
          ∧ r.2.mem ((c.tc : Thread Cert.Kernel10Ideal.nD Cert.Kernel10Ideal.τ).loc Cert.Kernel10Ideal.main_v3_5) = v5 c
          ∧ r.2.mem ((c.tc : Thread Cert.Kernel10Ideal.nD Cert.Kernel10Ideal.τ).loc Cert.Kernel10Ideal.main_v3_6) = v6 c
          ∧ r.2.mem ((c.tc : Thread Cert.Kernel10Ideal.nD Cert.Kernel10Ideal.τ).loc Cert.Kernel10Ideal.main_v3_7) = v7 c
          ∧ r.2.mem ((c.tc : Thread Cert.Kernel10Ideal.nD Cert.Kernel10Ideal.τ).loc Cert.Kernel10Ideal.main_v3_8) = v8 c
          ∧ r.2.mem ((c.tc : Thread Cert.Kernel10Ideal.nD Cert.Kernel10Ideal.τ).loc Cert.Kernel10Ideal.main_v3_9) = v9 c
          ∧ r.2.mem ((c.tc : Thread Cert.Kernel10Ideal.nD Cert.Kernel10Ideal.τ).loc Cert.Kernel10Ideal.main_v3_10) = v10 c
          ∧ r.2.mem ((c.tc : Thread Cert.Kernel10Ideal.nD Cert.Kernel10Ideal.τ).loc Cert.Kernel10Ideal.main_v3_11) = v11 c
          ∧ r.2.mem ((c.tc : Thread Cert.Kernel10Ideal.nD Cert.Kernel10Ideal.τ).loc Cert.Kernel10Ideal.main_v3_12) = v12 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v78) = v0 c
          ∧ r.2.mem ((c.tc : Thread Cert.Reference10Ideal.nD Cert.Reference10Ideal.τ).loc Cert.Reference10Ideal.main_v2) = v1 c
          ∧ r.2.mem ((c.tc : Thread Cert.Reference10Ideal.nD Cert.Reference10Ideal.τ).loc Cert.Reference10Ideal.main_v3) = v2 c
          ∧ r.2.mem ((c.tc : Thread Cert.Reference10Ideal.nD Cert.Reference10Ideal.τ).loc Cert.Reference10Ideal.main_v5) = v3 c
          ∧ r.2.mem ((c.tc : Thread Cert.Reference10Ideal.nD Cert.Reference10Ideal.τ).loc Cert.Reference10Ideal.main_v29) = v4 c
          ∧ r.2.mem ((c.tc : Thread Cert.Reference10Ideal.nD Cert.Reference10Ideal.τ).loc Cert.Reference10Ideal.main_v53) = v5 c
          ∧ r.2.mem ((c.tc : Thread Cert.Reference10Ideal.nD Cert.Reference10Ideal.τ).loc Cert.Reference10Ideal.main_v77) = v6 c
          ∧ r.2.mem ((c.tc : Thread Cert.Reference10Ideal.nD Cert.Reference10Ideal.τ).loc Cert.Reference10Ideal.main_v10) = v7 c
          ∧ r.2.mem ((c.tc : Thread Cert.Reference10Ideal.nD Cert.Reference10Ideal.τ).loc Cert.Reference10Ideal.main_v34) = v8 c
          ∧ r.2.mem ((c.tc : Thread Cert.Reference10Ideal.nD Cert.Reference10Ideal.τ).loc Cert.Reference10Ideal.main_v58) = v9 c
          ∧ r.2.mem ((c.tc : Thread Cert.Reference10Ideal.nD Cert.Reference10Ideal.τ).loc Cert.Reference10Ideal.main_v16) = v10 c
          ∧ r.2.mem ((c.tc : Thread Cert.Reference10Ideal.nD Cert.Reference10Ideal.τ).loc Cert.Reference10Ideal.main_v40) = v11 c
          ∧ r.2.mem ((c.tc : Thread Cert.Reference10Ideal.nD Cert.Reference10Ideal.τ).loc Cert.Reference10Ideal.main_v64) = v12 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v105) = v0 c
          ∧ r.2.mem ((c.tc : Thread Cert.Reference11Ideal.nD Cert.Reference11Ideal.τ).loc Cert.Reference11Ideal.main_v106) = v1 c
          ∧ r.2.mem ((c.tc : Thread Cert.Reference11Ideal.nD Cert.Reference11Ideal.τ).loc Cert.Reference11Ideal.main_v107) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite3 : Cert.Pre_finite3.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S2048x1024 : Shape := ⟨2, ![2048, 1024]⟩
abbrev S3x1024 : Shape := ⟨2, ![3, 1024]⟩
abbrev S2048x256 : Shape := ⟨2, ![2048, 256]⟩
abbrev S256x512 : Shape := ⟨2, ![256, 512]⟩
abbrev S2048x1280 : Shape := ⟨2, ![2048, 1280]⟩
abbrev S1280x1024 : Shape := ⟨2, ![1280, 1024]⟩
abbrev S_ : Shape := ⟨0, ![]⟩

class Facts : Prop where
  bcast_S_S2048x1024 : S_.BroadcastsInDim S2048x1024 (![] : Fin 0 → Fin S2048x1024.rank)
  bcast_S_S3x1024 : S_.BroadcastsInDim S3x1024 (![] : Fin 0 → Fin S3x1024.rank)
  bitsLt_bf16_f32 : FTy.bits .bf16 < FTy.bits .f32
  bcast_S_S2048x256 : S_.BroadcastsInDim S2048x256 (![] : Fin 0 → Fin S2048x256.rank)
  bcast_S_S256x512 : S_.BroadcastsInDim S256x512 (![] : Fin 0 → Fin S256x512.rank)
  bcast_S_S2048x1280 : S_.BroadcastsInDim S2048x1280 (![] : Fin 0 → Fin S2048x1280.rank)
  bcast_S_S1280x1024 : S_.BroadcastsInDim S1280x1024 (![] : Fin 0 → Fin S1280x1024.rank)

variable [Facts]

def fn_part1 {F : FTy → Type} [FloatOps F] (main_arg6 : FVec F S256x512 .bf16) (main_arg7 : FVec F S2048x1280 .f32) (main_arg8 : FVec F S1280x1024 .bf16) (main_v2 : IVec S2048x1024 1) (main_v5 : IVec S2048x1024 1) (main_v8 : IVec S2048x1024 1) (main_v11 : IVec S2048x1024 1) (main_v14 : IVec S3x1024 1) (main_v16 : FVec F S2048x256 .f32) (main_v17 : FVec F S2048x256 .f32) : IVec S2048x1024 1 × IVec S2048x1024 1 × IVec S2048x1024 1 × IVec S2048x1024 1 × IVec S3x1024 1 × IVec S2048x256 1 × IVec S256x512 1 × IVec S2048x1280 1 × IVec S1280x1024 1 :=
  let main_v18 : IVec S2048x256 1 := cmpf .olt main_v16 main_v17
  let main_v19 : FVec F S256x512 .f32 := (extf .f32 · bitsLt_bf16_f32) main_arg6
  let main_v20 : FVec F S256x512 .f32 := Host.absf main_v19
  let main_cst_5 : FVec F S_ .f32 := constant S_ .f32 0x7F800000#32
  let main_v21 : FVec F S256x512 .f32 := broadcastInDim S256x512 ![] bcast_S_S256x512 main_cst_5
  let main_v22 : IVec S256x512 1 := cmpf .olt main_v20 main_v21
  let main_v23 : FVec F S2048x1280 .f32 := Host.absf main_arg7
  let main_cst_6 : FVec F S_ .f32 := constant S_ .f32 0x7F800000#32
  let main_v24 : FVec F S2048x1280 .f32 := broadcastInDim S2048x1280 ![] bcast_S_S2048x1280 main_cst_6
  let main_v25 : IVec S2048x1280 1 := cmpf .olt main_v23 main_v24
  let main_v26 : FVec F S1280x1024 .f32 := (extf .f32 · bitsLt_bf16_f32) main_arg8
  let main_v27 : FVec F S1280x1024 .f32 := Host.absf main_v26
  let main_cst_7 : FVec F S_ .f32 := constant S_ .f32 0x7F800000#32
  let main_v28 : FVec F S1280x1024 .f32 := broadcastInDim S1280x1024 ![] bcast_S_S1280x1024 main_cst_7
  let main_v29 : IVec S1280x1024 1 := cmpf .olt main_v27 main_v28
  (main_v2, main_v5, main_v8, main_v11, main_v14, main_v18, main_v22, main_v25, main_v29)

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S3x1024 .f32) (main_arg5 : FVec F S2048x256 .bf16) (main_arg6 : FVec F S256x512 .bf16) (main_arg7 : FVec F S2048x1280 .f32) (main_arg8 : FVec F S1280x1024 .bf16) : IVec S2048x1024 1 × IVec S2048x1024 1 × IVec S2048x1024 1 × IVec S2048x1024 1 × IVec S3x1024 1 × IVec S2048x256 1 × IVec S256x512 1 × IVec S2048x1280 1 × IVec S1280x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S3x1024 .f32 := Host.absf main_arg4
  let main_cst_3 : FVec F S_ .f32 := constant S_ .f32 0x7F800000#32
  let main_v13 : FVec F S3x1024 .f32 := broadcastInDim S3x1024 ![] bcast_S_S3x1024 main_cst_3
  let main_v14 : IVec S3x1024 1 := cmpf .olt main_v12 main_v13
  let main_v15 : FVec F S2048x256 .f32 := (extf .f32 · bitsLt_bf16_f32) main_arg5
  let main_v16 : FVec F S2048x256 .f32 := Host.absf main_v15
  let main_cst_4 : FVec F S_ .f32 := constant S_ .f32 0x7F800000#32
  let main_v17 : FVec F S2048x256 .f32 := broadcastInDim S2048x256 ![] bcast_S_S2048x256 main_cst_4
  fn_part1 (F := F) main_arg6 main_arg7 main_arg8 main_v2 main_v5 main_v8 main_v11 main_v14 main_v16 main_v17
-- ==== Pre_finite11.lean ====
abbrev S2048x1024 : Shape := ⟨2, ![2048, 1024]⟩
abbrev S3x1024 : Shape := ⟨2, ![3, 1024]⟩
abbrev S2048x256 : Shape := ⟨2, ![2048, 256]⟩
abbrev S256x512 : Shape := ⟨2, ![256, 512]⟩
abbrev S2048x1280 : Shape := ⟨2, ![2048, 1280]⟩
abbrev S1280x1024 : Shape := ⟨2, ![1280, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S3x1024 : S_.BroadcastsInDim S3x1024 (![] : Fin 0 → Fin S3x1024.rank)
  bitsLt_bf16_f32 : FTy.bits .bf16 < FTy.bits .f32
  bcast_S_S2048x256 : S_.BroadcastsInDim S2048x256 (![] : Fin 0 → Fin S2048x256.rank)
  bcast_S_S256x512 : S_.BroadcastsInDim S256x512 (![] : Fin 0 → Fin S256x512.rank)
  bcast_S_S2048x1280 : S_.BroadcastsInDim S2048x1280 (![] : Fin 0 → Fin S2048x1280.rank)
  bcast_S_S1280x1024 : S_.BroadcastsInDim S1280x1024 (![] : Fin 0 → Fin S1280x1024.rank)
  bcast_S_S1024 : S_.BroadcastsInDim S1024 (![] : Fin 0 → Fin S1024.rank)

variable [Facts]

def fn_part1 {F : FTy → Type} [FloatOps F] (main_arg6 : FVec F S2048x1280 .f32) (main_arg7 : FVec F S2048x1024 .f32) (main_arg8 : FVec F S1280x1024 .bf16) (main_arg9 : FVec F S1024 .f32) (main_arg10 : FVec F S2048x1024 .f32) (main_v2 : IVec S2048x1024 1) (main_v5 : IVec S2048x1024 1) (main_v8 : IVec S2048x1024 1) (main_v11 : IVec S3x1024 1) (main_v15 : IVec S2048x256 1) (main_v17 : FVec F S256x512 .f32) (main_cst_4 : FVec F S_ .f32) : IVec S2048x1024 1 × IVec S2048x1024 1 × IVec S2048x1024 1 × IVec S3x1024 1 × IVec S2048x256 1 × IVec S256x512 1 × IVec S2048x1280 1 × IVec S2048x1024 1 × IVec S1280x1024 1 × IVec S1024 1 × IVec S2048x1024 1 :=
  let main_v18 : FVec F S256x512 .f32 := broadcastInDim S256x512 ![] bcast_S_S256x512 main_cst_4
  let main_v19 : IVec S256x512 1 := cmpf .olt main_v17 main_v18
  let main_v20 : FVec F S2048x1280 .f32 := Host.absf main_arg6
  let main_cst_5 : FVec F S_ .f32 := constant S_ .f32 0x7F800000#32
  let main_v21 : FVec F S2048x1280 .f32 := broadcastInDim S2048x1280 ![] bcast_S_S2048x1280 main_cst_5
  let main_v22 : IVec S2048x1280 1 := cmpf .olt main_v20 main_v21
  let main_v23 : FVec F S2048x1024 .f32 := Host.absf main_arg7
  let main_cst_6 : FVec F S_ .f32 := constant S_ .f32 0x7F800000#32
  let main_v24 : FVec F S2048x1024 .f32 := broadcastInDim S2048x1024 ![] bcast_S_S2048x1024 main_cst_6
  let main_v25 : IVec S2048x1024 1 := cmpf .olt main_v23 main_v24
  let main_v26 : FVec F S1280x1024 .f32 := (extf .f32 · bitsLt_bf16_f32) main_arg8
  let main_v27 : FVec F S1280x1024 .f32 := Host.absf main_v26
  let main_cst_7 : FVec F S_ .f32 := constant S_ .f32 0x7F800000#32
  let main_v28 : FVec F S1280x1024 .f32 := broadcastInDim S1280x1024 ![] bcast_S_S1280x1024 main_cst_7
  let main_v29 : IVec S1280x1024 1 := cmpf .olt main_v27 main_v28
  let main_v30 : FVec F S1024 .f32 := Host.absf main_arg9
  let main_cst_8 : FVec F S_ .f32 := constant S_ .f32 0x7F800000#32
  let main_v31 : FVec F S1024 .f32 := broadcastInDim S1024 ![] bcast_S_S1024 main_cst_8
  let main_v32 : IVec S1024 1 := cmpf .olt main_v30 main_v31
  let main_v33 : FVec F S2048x1024 .f32 := Host.absf main_arg10
  let main_cst_9 : FVec F S_ .f32 := constant S_ .f32 0x7F800000#32
  let main_v34 : FVec F S2048x1024 .f32 := broadcastInDim S2048x1024 ![] bcast_S_S2048x1024 main_cst_9
  let main_v35 : IVec S2048x1024 1 := cmpf .olt main_v33 main_v34
  (main_v2, main_v5, main_v8, main_v11, main_v15, main_v19, main_v22, main_v25, main_v29, main_v32, main_v35)

def fn {F : FTy → Type} [FloatOps F] (main_arg0 : FVec F S2048x1024 .f32) (main_arg1 : FVec F S2048x1024 .f32) (main_arg2 : FVec F S2048x1024 .f32) (main_arg3 : FVec F S3x1024 .f32) (main_arg4 : FVec F S2048x256 .bf16) (main_arg5 : FVec F S256x512 .bf16) (main_arg6 : FVec F S2048x1280 .f32) (main_arg7 : FVec F S2048x1024 .f32) (main_arg8 : FVec F S1280x1024 .bf16) (main_arg9 : FVec F S1024 .f32) (main_arg10 : FVec F S2048x1024 .f32) : IVec S2048x1024 1 × IVec S2048x1024 1 × IVec S2048x1024 1 × IVec S3x1024 1 × IVec S2048x256 1 × IVec S256x512 1 × IVec S2048x1280 1 × IVec S2048x1024 1 × IVec S1280x1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S3x1024 .f32 := Host.absf main_arg3
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_v12 : FVec F S2048x256 .f32 := (extf .f32 · bitsLt_bf16_f32) main_arg4
  let main_v13 : FVec F S2048x256 .f32 := Host.absf main_v12
  let main_cst_3 : FVec F S_ .f32 := constant S_ .f32 0x7F800000#32
  let main_v14 : FVec F S2048x256 .f32 := broadcastInDim S2048x256 ![] bcast_S_S2048x256 main_cst_3
  let main_v15 : IVec S2048x256 1 := cmpf .olt main_v13 main_v14
  let main_v16 : FVec F S256x512 .f32 := (extf .f32 · bitsLt_bf16_f32) main_arg5
  let main_v17 : FVec F S256x512 .f32 := Host.absf main_v16
  let main_cst_4 : FVec F S_ .f32 := constant S_ .f32 0x7F800000#32
  fn_part1 (F := F) main_arg6 main_arg7 main_arg8 main_arg9 main_arg10 main_v2 main_v5 main_v8 main_v11 main_v15 main_v17 main_cst_4
-- ==== Pre_finite2.lean ====
abbrev S2048x4608 : Shape := ⟨2, ![2048, 4608]⟩
abbrev S4x1024x1152 : Shape := ⟨3, ![4, 1024, 1152]⟩
abbrev S2048x1024 : Shape := ⟨2, ![2048, 1024]⟩
abbrev S1x1024 : Shape := ⟨2, ![1, 1024]⟩
abbrev S8x128 : Shape := ⟨2, ![8, 128]⟩
abbrev S_ : Shape := ⟨0, ![]⟩

class Facts : Prop where
  bitsLt_bf16_f32 : FTy.bits .bf16 < FTy.bits .f32
  bcast_S_S2048x4608 : S_.BroadcastsInDim S2048x4608 (![] : Fin 0 → Fin S2048x4608.rank)
  bcast_S_S4x1024x1152 : S_.BroadcastsInDim S4x1024x1152 (![] : Fin 0 → Fin S4x1024x1152.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x4608 .bf16) (main_arg1 : FVec F S4x1024x1152 .bf16) (main_arg2 : FVec F S2048x1024 .f32) (main_arg3 : FVec F S1x1024 .f32) (main_arg4 : FVec F S2048x1024 .f32) (main_arg5 : FVec F S8x128 .f32) : IVec S2048x4608 1 × IVec S4x1024x1152 1 × IVec S2048x1024 1 × IVec S1x1024 1 × IVec S2048x1024 1 :=
  let main_v0 : FVec F S2048x4608 .f32 := (extf .f32 · bitsLt_bf16_f32) main_arg0
  let main_v1 : FVec F S2048x4608 .f32 := Host.absf main_v0
  let main_cst : FVec F S_ .f32 := constant S_ .f32 0x7F800000#32
  let main_v2 : FVec F S2048x4608 .f32 := broadcastInDim S2048x4608 ![] bcast_S_S2048x4608 main_cst
  let main_v3 : IVec S2048x4608 1 := cmpf .olt main_v1 main_v2
  let main_v4 : FVec F S4x1024x1152 .f32 := (extf .f32 · bitsLt_bf16_f32) main_arg1
  let main_v5 : FVec F S4x1024x1152 .f32 := Host.absf main_v4
  let main_cst_0 : FVec F S_ .f32 := constant S_ .f32 0x7F800000#32
  let main_v6 : FVec F S4x1024x1152 .f32 := broadcastInDim S4x1024x1152 ![] bcast_S_S4x1024x1152 main_cst_0
  let main_v7 : IVec S4x1024x1152 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S2048x1024 .f32 := Host.absf main_arg4
  let main_cst_3 : FVec F S_ .f32 := constant S_ .f32 0x7F800000#32
  let main_v15 : FVec F S2048x1024 .f32 := broadcastInDim S2048x1024 ![] bcast_S_S2048x1024 main_cst_3
  let main_v16 : IVec S2048x1024 1 := cmpf .olt main_v14 main_v15
  (main_v3, main_v7, main_v10, main_v13, main_v16)
-- ==== Pre_finite3.lean ====
abbrev S2048x5632 : Shape := ⟨2, ![2048, 5632]⟩
abbrev S4x1024x1408 : Shape := ⟨3, ![4, 1024, 1408]⟩
abbrev S2048x1024 : Shape := ⟨2, ![2048, 1024]⟩
abbrev S1x1024 : Shape := ⟨2, ![1, 1024]⟩
abbrev S8x128 : Shape := ⟨2, ![8, 128]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  bcast_S_S4x1024x1408 : S_.BroadcastsInDim S4x1024x1408 (![] : Fin 0 → Fin S4x1024x1408.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x5632 .bf16) (main_arg1 : FVec F S4x1024x1408 .bf16) (main_arg2 : FVec F S2048x1024 .f32) (main_arg3 : FVec F S1x1024 .f32) (main_arg4 : FVec F S2048x1024 .f32) (main_arg5 : FVec F S8x128 .f32) : IVec S2048x5632 1 × IVec S4x1024x1408 1 × IVec S2048x1024 1 × IVec S1x1024 1 × IVec S2048x1024 1 :=
  let main_v0 : FVec F S2048x5632 .f32 := (extf .f32 · bitsLt_bf16_f32) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_v4 : FVec F S4x1024x1408 .f32 := (extf .f32 · bitsLt_bf16_f32) main_arg1
  let main_v5 : FVec F S4x1024x1408 .f32 := Host.absf main_v4
  let main_cst_0 : FVec F S_ .f32 := constant S_ .f32 0x7F800000#32
  let main_v6 : FVec F S4x1024x1408 .f32 := broadcastInDim S4x1024x1408 ![] bcast_S_S4x1024x1408 main_cst_0
  let main_v7 : IVec S4x1024x1408 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S2048x1024 .f32 := Host.absf main_arg4
  let main_cst_3 : FVec F S_ .f32 := constant S_ .f32 0x7F800000#32
  let main_v15 : FVec F S2048x1024 .f32 := broadcastInDim S2048x1024 ![] bcast_S_S2048x1024 main_cst_3
  let main_v16 : IVec S2048x1024 1 := cmpf .olt main_v14 main_v15
  (main_v3, main_v7, main_v10, main_v13, main_v16)
-- ==== Kernel.lean ====
abbrev S2048x1024 : Shape := ⟨2, ![2048, 1024]⟩
abbrev S3x1024 : Shape := ⟨2, ![3, 1024]⟩
abbrev S2048x256 : Shape := ⟨2, ![2048, 256]⟩
abbrev S256x512 : Shape := ⟨2, ![256, 512]⟩
abbrev S2048x1280 : Shape := ⟨2, ![2048, 1280]⟩
abbrev S1280x1024 : Shape := ⟨2, ![1280, 1024]⟩
abbrev S_ : Shape := ⟨0, ![]⟩
abbrev S8x1024 : Shape := ⟨2, ![8, 1024]⟩
abbrev S2048x4608 : Shape := ⟨2, ![2048, 4608]⟩
abbrev S512x1024 : Shape := ⟨2, ![512, 1024]⟩
abbrev S512x256 : Shape := ⟨2, ![512, 256]⟩
abbrev S512x1280 : Shape := ⟨2, ![512, 1280]⟩
abbrev S512x4608 : Shape := ⟨2, ![512, 4608]⟩
abbrev S256x256 : Shape := ⟨2, ![256, 256]⟩
abbrev S2048 : Shape := ⟨1, ![2048]⟩
abbrev S2048x1 : Shape := ⟨2, ![2048, 1]⟩
abbrev S8x256 : Shape := ⟨2, ![8, 256]⟩
abbrev S1x256 : Shape := ⟨2, ![1, 256]⟩
abbrev S256 : Shape := ⟨1, ![256]⟩
abbrev S512 : Shape := ⟨1, ![512]⟩
abbrev S512x1 : Shape := ⟨2, ![512, 1]⟩

abbrev nBuf : Space → Nat
  | .hbm => 17
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S3x1024, .f32⟩
  | .hbm, ⟨5, _⟩ => ⟨S2048x256, .bf16⟩
  | .hbm, ⟨6, _⟩ => ⟨S256x512, .bf16⟩
  | .hbm, ⟨7, _⟩ => ⟨S2048x1280, .f32⟩
  | .hbm, ⟨8, _⟩ => ⟨S1280x1024, .bf16⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S2048x4608, .bf16⟩
  | .hbm, ⟨13, _⟩ => ⟨S1280x1024, .f32⟩
  | .hbm, ⟨14, _⟩ => ⟨S8x1024, .f32⟩
  | .hbm, ⟨15, _⟩ => ⟨S256x512, .f32⟩
  | .hbm, ⟨16, _⟩ => ⟨S1280x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S512x256, .bf16⟩
  | .local _ .vmem, ⟨14, _⟩ => ⟨S512x256, .bf16⟩
  | .local _ .vmem, ⟨15, _⟩ => ⟨S256x512, .bf16⟩
  | .local _ .vmem, ⟨16, _⟩ => ⟨S512x1280, .f32⟩
  | .local _ .vmem, ⟨17, _⟩ => ⟨S512x1280, .f32⟩
  | .local _ .vmem, ⟨18, _⟩ => ⟨S1280x1024, .bf16⟩
  | .local _ .vmem, ⟨19, _⟩ => ⟨S512x4608, .bf16⟩
  | .local _ .vmem, ⟨20, _⟩ => ⟨S512x4608, .bf16⟩
  | .local _ .vmem, ⟨21, _⟩ => ⟨S1280x1024, .f32⟩
  | .local _ .vmem, ⟨22, _⟩ => ⟨S8x1024, .f32⟩
  | .local _ .vmem, ⟨23, _⟩ => ⟨S256x512, .f32⟩
  | .local _ .vmem, ⟨24, _⟩ => ⟨S1280x1024, .bf16⟩
  | .local _ .vmem, ⟨25, _⟩ => ⟨S512x1280, .bf16⟩
  | .local _ .vmem, ⟨26, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_344 : BitVec 32 := 3#32
  let v841 : BitVec 1 := Scalar.cmpi .eq arg0 c3_i32_344
  let v842 : BitVec 32 := Scalar.extui v841
  let c0_i32_345 : BitVec 32 := 0#32
  let v843 : BitVec 1 := Scalar.cmpi .ne v842 c0_i32_345
  v843

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c3_i32 : BitVec 32 := 3#32
  let v0 : BitVec 32 := Scalar.subi c3_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x4608 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1280x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1280x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2048x1024 : Shape := ⟨2, ![2048, 1024]⟩
abbrev S3x1024 : Shape := ⟨2, ![3, 1024]⟩
abbrev S2048x256 : Shape := ⟨2, ![2048, 256]⟩
abbrev S256x512 : Shape := ⟨2, ![256, 512]⟩
abbrev S2048x1280 : Shape := ⟨2, ![2048, 1280]⟩
abbrev S1280x1024 : Shape := ⟨2, ![1280, 1024]⟩
abbrev S_ : Shape := ⟨0, ![]⟩
abbrev S1x1024 : Shape := ⟨2, ![1, 1024]⟩
abbrev S2047x1024 : Shape := ⟨2, ![2047, 1024]⟩
abbrev S2x1024 : Shape := ⟨2, ![2, 1024]⟩
abbrev S2046x1024 : Shape := ⟨2, ![2046, 1024]⟩
abbrev S1024 : Shape := ⟨1, ![1024]⟩
abbrev S256x256 : Shape := ⟨2, ![256, 256]⟩
abbrev S256x4x64 : Shape := ⟨3, ![256, 4, 64]⟩
abbrev S2048x4x64 : Shape := ⟨3, ![2048, 4, 64]⟩
abbrev S4x2048x256 : Shape := ⟨3, ![4, 2048, 256]⟩
abbrev S4x2048 : Shape := ⟨2, ![4, 2048]⟩
abbrev S4x2048x1 : Shape := ⟨3, ![4, 2048, 1]⟩
abbrev S4x64x2048 : Shape := ⟨3, ![4, 64, 2048]⟩
abbrev S1024x1280 : Shape := ⟨2, ![1024, 1280]⟩
abbrev S4x64x256 : Shape := ⟨3, ![4, 64, 256]⟩
abbrev S4x256x64 : Shape := ⟨3, ![4, 256, 64]⟩
abbrev S4x2048x64 : Shape := ⟨3, ![4, 2048, 64]⟩
abbrev S2048x4608 : Shape := ⟨2, ![2048, 4608]⟩
abbrev S8x1024 : Shape := ⟨2, ![8, 1024]⟩

abbrev nBuf : Space → Nat
  | .hbm => 205
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S3x1024, .f32⟩
  | 5 => ⟨S2048x256, .bf16⟩
  | 6 => ⟨S256x512, .bf16⟩
  | 7 => ⟨S2048x1280, .f32⟩
  | 8 => ⟨S1280x1024, .bf16⟩
  | 9 => ⟨S2048x256, .f32⟩
  | 10 => ⟨S256x512, .f32⟩
  | 11 => ⟨S1280x1024, .f32⟩
  | 12 => ⟨S2048x1024, .f32⟩
  | 13 => ⟨S_, .f32⟩
  | 14 => ⟨S1x1024, .f32⟩
  | 15 => ⟨S2047x1024, .f32⟩
  | 16 => ⟨S2048x1024, .f32⟩
  | 17 => ⟨S_, .f32⟩
  | 18 => ⟨S1x1024, .f32⟩
  | 19 => ⟨S_, .f32⟩
  | 20 => ⟨S2x1024, .f32⟩
  | 21 => ⟨S2046x1024, .f32⟩
  | 22 => ⟨S2048x1024, .f32⟩
  | 23 => ⟨S_, .f32⟩
  | 24 => ⟨S2x1024, .f32⟩
  | 25 => ⟨S1x1024, .f32⟩
  | 26 => ⟨S1024, .f32⟩
  | 27 => ⟨S1x1024, .f32⟩
  | 28 => ⟨S2048x1024, .f32⟩
  | 29 => ⟨S2048x1024, .f32⟩
  | 30 => ⟨S1x1024, .f32⟩
  | 31 => ⟨S1024, .f32⟩
  | 32 => ⟨S1x1024, .f32⟩
  | 33 => ⟨S2048x1024, .f32⟩
  | 34 => ⟨S2048x1024, .f32⟩
  | 35 => ⟨S2048x1024, .f32⟩
  | 36 => ⟨S1x1024, .f32⟩
  | 37 => ⟨S1024, .f32⟩
  | 38 => ⟨S1x1024, .f32⟩
  | 39 => ⟨S2048x1024, .f32⟩
  | 40 => ⟨S2048x1024, .f32⟩
  | 41 => ⟨S2048x1024, .f32⟩
  | 42 => ⟨S2048x1024, .f32⟩
  | 43 => ⟨S256x256, .f32⟩
  | 44 => ⟨S256x256, .f32⟩
  | 45 => ⟨S256x4x64, .f32⟩
  | 46 => ⟨S256x4x64, .f32⟩
  | 47 => ⟨S2048x4x64, .f32⟩
  | 48 => ⟨S4x2048x256, .f32⟩
  | 49 => ⟨S_, .f32⟩
  | 50 => ⟨S4x2048x256, .f32⟩
  | 51 => ⟨S4x2048x256, .f32⟩
  | 52 => ⟨S_, .f32⟩
  | 53 => ⟨S4x2048, .f32⟩
  | 54 => ⟨S4x2048x1, .f32⟩
  | 55 => ⟨S4x2048x256, .f32⟩
  | 56 => ⟨S4x2048x256, .i1⟩
  | 57 => ⟨S4x2048x256, .f32⟩
  | 58 => ⟨S_, .f32⟩
  | 59 => ⟨S4x2048, .f32⟩
  | 60 => ⟨S_, .f32⟩
  | 61 => ⟨S4x2048, .f32⟩
  | 62 => ⟨S4x2048, .f32⟩
  | 63 => ⟨S_, .f32⟩
  | 64 => ⟨S4x2048, .f32⟩
  | 65 => ⟨S4x2048, .i1⟩
  | 66 => ⟨S_, .f32⟩
  | 67 => ⟨S4x2048, .f32⟩
  | 68 => ⟨S4x2048, .i1⟩
  | 69 => ⟨S_, .f32⟩
  | 70 => ⟨S4x2048, .f32⟩
  | 71 => ⟨S_, .f32⟩
  | 72 => ⟨S4x2048, .f32⟩
  | 73 => ⟨S_, .f32⟩
  | 74 => ⟨S4x2048, .f32⟩
  | 75 => ⟨S4x2048, .f32⟩
  | 76 => ⟨S4x2048, .f32⟩
  | 77 => ⟨S4x2048x1, .f32⟩
  | 78 => ⟨S4x2048x256, .f32⟩
  | 79 => ⟨S4x2048x256, .f32⟩
  | 80 => ⟨S4x2048x256, .f32⟩
  | 81 => ⟨S_, .f32⟩
  | 82 => ⟨S4x2048, .f32⟩
  | 83 => ⟨S4x2048x1, .f32⟩
  | 84 => ⟨S4x2048x256, .f32⟩
  | 85 => ⟨S4x2048x256, .f32⟩
  | 86 => ⟨S4x2048x1, .f32⟩
  | 87 => ⟨S_, .f32⟩
  | 88 => ⟨S4x2048x1, .f32⟩
  | 89 => ⟨S4x2048x1, .f32⟩
  | 90 => ⟨S4x64x2048, .f32⟩
  | 91 => ⟨S2048x4x64, .f32⟩
  | 92 => ⟨S2048x256, .f32⟩
  | 93 => ⟨S2048x1280, .f32⟩
  | 94 => ⟨S2048x1280, .f32⟩
  | 95 => ⟨S2048x1280, .f32⟩
  | 96 => ⟨S_, .f32⟩
  | 97 => ⟨S2048x1280, .f32⟩
  | 98 => ⟨S2048x1280, .f32⟩
  | 99 => ⟨S_, .f32⟩
  | 100 => ⟨S2048x1280, .f32⟩
  | 101 => ⟨S2048x1280, .f32⟩
  | 102 => ⟨S_, .f32⟩
  | 103 => ⟨S2048x1280, .f32⟩
  | 104 => ⟨S2048x1280, .f32⟩
  | 105 => ⟨S2048x1280, .f32⟩
  | 106 => ⟨S2048x1280, .f32⟩
  | 107 => ⟨S2048x1280, .f32⟩
  | 108 => ⟨S2048x1024, .f32⟩
  | 109 => ⟨S1024x1280, .f32⟩
  | 110 => ⟨S1280x1024, .f32⟩
  | 111 => ⟨S2048x1280, .f32⟩
  | 112 => ⟨S2048x1280, .f32⟩
  | 113 => ⟨S2048x1280, .f32⟩
  | 114 => ⟨S2048x1280, .f32⟩
  | 115 => ⟨S2048x1280, .f32⟩
  | 116 => ⟨S2048x1280, .f32⟩
  | 117 => ⟨S2048x1280, .f32⟩
  | 118 => ⟨S2048x1024, .f32⟩
  | 119 => ⟨S2048x256, .f32⟩
  | 120 => ⟨S2048x4x64, .f32⟩
  | 121 => ⟨S4x64x2048, .f32⟩
  | 122 => ⟨S4x2048x256, .f32⟩
  | 123 => ⟨S4x64x256, .f32⟩
  | 124 => ⟨S256x4x64, .f32⟩
  | 125 => ⟨S4x2048x256, .f32⟩
  | 126 => ⟨S4x2048x256, .f32⟩
  | 127 => ⟨S4x2048x256, .f32⟩
  | _ => ⟨S2048x1024, .f32⟩

abbrev hbmTy0_1 (i : Nat) : BufTy := match i % 128 with
  | 0 => ⟨S_, .f32⟩
  | 1 => ⟨S4x2048, .f32⟩
  | 2 => ⟨S4x2048x1, .f32⟩
  | 3 => ⟨S4x2048x1, .f32⟩
  | 4 => ⟨S4x2048x256, .f32⟩
  | 5 => ⟨S4x2048x256, .f32⟩
  | 6 => ⟨S_, .f32⟩
  | 7 => ⟨S4x2048, .f32⟩
  | 8 => ⟨S4x2048x256, .f32⟩
  | 9 => ⟨S4x2048x256, .f32⟩
  | 10 => ⟨S4x2048x256, .f32⟩
  | 11 => ⟨S_, .f32⟩
  | 12 => ⟨S4x2048x256, .f32⟩
  | 13 => ⟨S4x2048x256, .f32⟩
  | 14 => ⟨S4x256x64, .f32⟩
  | 15 => ⟨S256x4x64, .f32⟩
  | 16 => ⟨S4x2048x64, .f32⟩
  | 17 => ⟨S2048x4x64, .f32⟩
  | 18 => ⟨S2048x256, .f32⟩
  | 19 => ⟨S256x256, .f32⟩
  | 20 => ⟨S256x256, .f32⟩
  | 21 => ⟨S256x512, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S_, .f32⟩
  | 28 => ⟨S1024, .f32⟩
  | 29 => ⟨S1x1024, .f32⟩
  | 30 => ⟨S_, .f32⟩
  | 31 => ⟨S1024, .f32⟩
  | 32 => ⟨S1x1024, .f32⟩
  | 33 => ⟨S_, .f32⟩
  | 34 => ⟨S3x1024, .f32⟩
  | 35 => ⟨S2048x1024, .f32⟩
  | 36 => ⟨S2048x1024, .f32⟩
  | 37 => ⟨S2048x1024, .f32⟩
  | 38 => ⟨S_, .f32⟩
  | 39 => ⟨S1024, .f32⟩
  | 40 => ⟨S1x1024, .f32⟩
  | 41 => ⟨S_, .f32⟩
  | 42 => ⟨S1024, .f32⟩
  | 43 => ⟨S1x1024, .f32⟩
  | 44 => ⟨S_, .f32⟩
  | 45 => ⟨S3x1024, .f32⟩
  | 46 => ⟨S3x1024, .f32⟩
  | 47 => ⟨S2048x1024, .f32⟩
  | 48 => ⟨S2048x1024, .f32⟩
  | 49 => ⟨S2048x1024, .f32⟩
  | 50 => ⟨S_, .f32⟩
  | 51 => ⟨S1024, .f32⟩
  | 52 => ⟨S1x1024, .f32⟩
  | 53 => ⟨S_, .f32⟩
  | 54 => ⟨S1024, .f32⟩
  | 55 => ⟨S1x1024, .f32⟩
  | 56 => ⟨S_, .f32⟩
  | 57 => ⟨S3x1024, .f32⟩
  | 58 => ⟨S3x1024, .f32⟩
  | 59 => ⟨S2x1024, .f32⟩
  | 60 => ⟨S2046x1024, .f32⟩
  | 61 => ⟨S_, .f32⟩
  | 62 => ⟨S2048x1024, .f32⟩
  | 63 => ⟨S2048x1024, .f32⟩
  | 64 => ⟨S1x1024, .f32⟩
  | 65 => ⟨S2047x1024, .f32⟩
  | 66 => ⟨S_, .f32⟩
  | 67 => ⟨S2048x1024, .f32⟩
  | 68 => ⟨S2048x1024, .f32⟩
  | 69 => ⟨S2048x1024, .f32⟩
  | 70 => ⟨S2048x1024, .f32⟩
  | 71 => ⟨S2048x4608, .f32⟩
  | 72 => ⟨S2048x4608, .bf16⟩
  | 73 => ⟨S_, .i32⟩
  | 74 => ⟨S_, .f32⟩
  | 75 => ⟨S8x1024, .f32⟩
  | 76 => ⟨S1280x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_v70_2 : Ref sig .tc := ⟨.hbm, 101, rfl⟩
abbrev main_call0_cst_1 : Ref sig .tc := ⟨.hbm, 102, rfl⟩
abbrev main_call0_v6 : Ref sig .tc := ⟨.hbm, 103, rfl⟩
abbrev main_call0_v7 : Ref sig .tc := ⟨.hbm, 104, rfl⟩
abbrev main_v70_1 : Ref sig .tc := ⟨.hbm, 105, rfl⟩
abbrev main_v70_0 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_14 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_15 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_16 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_17 : Ref sig .tc := ⟨.hbm, 155, rfl⟩
abbrev main_v113 : Ref sig .tc := ⟨.hbm, 156, rfl⟩
abbrev main_v114 : Ref sig .tc := ⟨.hbm, 157, rfl⟩
abbrev main_cst_18 : Ref sig .tc := ⟨.hbm, 158, rfl⟩
abbrev main_v115 : Ref sig .tc := ⟨.hbm, 159, rfl⟩
abbrev main_v116 : Ref sig .tc := ⟨.hbm, 160, rfl⟩
abbrev main_cst_19 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_20 : Ref sig .tc := ⟨.hbm, 166, rfl⟩
abbrev main_v121 : Ref sig .tc := ⟨.hbm, 167, rfl⟩
abbrev main_v122 : Ref sig .tc := ⟨.hbm, 168, rfl⟩
abbrev main_cst_21 : Ref sig .tc := ⟨.hbm, 169, rfl⟩
abbrev main_v123 : Ref sig .tc := ⟨.hbm, 170, rfl⟩
abbrev main_v124 : Ref sig .tc := ⟨.hbm, 171, rfl⟩
abbrev main_cst_22 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_23 : Ref sig .tc := ⟨.hbm, 178, rfl⟩
abbrev main_v130 : Ref sig .tc := ⟨.hbm, 179, rfl⟩
abbrev main_v131 : Ref sig .tc := ⟨.hbm, 180, rfl⟩
abbrev main_cst_24 : Ref sig .tc := ⟨.hbm, 181, rfl⟩
abbrev main_v132 : Ref sig .tc := ⟨.hbm, 182, rfl⟩
abbrev main_v133 : Ref sig .tc := ⟨.hbm, 183, rfl⟩
abbrev main_cst_25 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_26 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_27 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_c : Ref sig .tc := ⟨.hbm, 201, rfl⟩
abbrev main_call2_v0 : Ref sig .tc := ⟨.hbm, 202, rfl⟩
abbrev main_v148 : Ref sig .tc := ⟨.hbm, 203, rfl⟩
abbrev main_v149 : Ref sig .tc := ⟨.hbm, 204, rfl⟩

abbrev nD : Nat := 1
abbrev τ : Topo := Topo.v7x

variable {F : FTy → Type} [FloatOps F]
-- ==== Kernel2.lean ====
abbrev S2048x4608 : Shape := ⟨2, ![2048, 4608]⟩
abbrev S4x1024x1152 : Shape := ⟨3, ![4, 1024, 1152]⟩
abbrev S2048x1024 : Shape := ⟨2, ![2048, 1024]⟩
abbrev S1x1024 : Shape := ⟨2, ![1, 1024]⟩
abbrev S8x128 : Shape := ⟨2, ![8, 128]⟩
abbrev S256x4608 : Shape := ⟨2, ![256, 4608]⟩
abbrev S256x1024 : Shape := ⟨2, ![256, 1024]⟩
abbrev S256x1152 : Shape := ⟨2, ![256, 1152]⟩
abbrev S1x1024x1152 : Shape := ⟨3, ![1, 1024, 1152]⟩
abbrev S1024x1152 : Shape := ⟨2, ![1024, 1152]⟩
abbrev S256 : Shape := ⟨1, ![256]⟩
abbrev S256x1 : Shape := ⟨2, ![256, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x4608, .bf16⟩
  | .hbm, ⟨1, _⟩ => ⟨S4x1024x1152, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x128, .f32⟩
  | .hbm, ⟨6, _⟩ => ⟨S2048x1024, .f32⟩
  | .hbm, ⟨7, _⟩ => ⟨S1x1024, .f32⟩
  | .local _ .vmem, ⟨0, _⟩ => ⟨S256x4608, .bf16⟩
  | .local _ .vmem, ⟨1, _⟩ => ⟨S256x4608, .bf16⟩
  | .local _ .vmem, ⟨2, _⟩ => ⟨S4x1024x1152, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S2048x4608 : Shape := ⟨2, ![2048, 4608]⟩
abbrev S4x1024x1152 : Shape := ⟨3, ![4, 1024, 1152]⟩
abbrev S2048x1024 : Shape := ⟨2, ![2048, 1024]⟩
abbrev S1x1024 : Shape := ⟨2, ![1, 1024]⟩
abbrev S8x128 : Shape := ⟨2, ![8, 128]⟩
abbrev S1024x4x1152 : Shape := ⟨3, ![1024, 4, 1152]⟩
abbrev S1024x4608 : Shape := ⟨2, ![1024, 4608]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S4x1024x1152, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x128, .f32⟩
  | .hbm, ⟨6, _⟩ => ⟨S4x1024x1152, .f32⟩
  | .hbm, ⟨7, _⟩ => ⟨S1024x4x1152, .f32⟩
  | .hbm, ⟨8, _⟩ => ⟨S1024x4608, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x4608, .f32⟩
  | .hbm, ⟨29, _⟩ => ⟨S2048x4608, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel3.lean ====
abbrev S2048x5632 : Shape := ⟨2, ![2048, 5632]⟩
abbrev S4x1024x1408 : Shape := ⟨3, ![4, 1024, 1408]⟩
abbrev S2048x1024 : Shape := ⟨2, ![2048, 1024]⟩
abbrev S1x1024 : Shape := ⟨2, ![1, 1024]⟩
abbrev S8x128 : Shape := ⟨2, ![8, 128]⟩
abbrev S256x5632 : Shape := ⟨2, ![256, 5632]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S4x1024x1408, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x128, .f32⟩
  | .hbm, ⟨6, _⟩ => ⟨S2048x1024, .f32⟩
  | .hbm, ⟨7, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S2048x5632 : Shape := ⟨2, ![2048, 5632]⟩
abbrev S4x1024x1408 : Shape := ⟨3, ![4, 1024, 1408]⟩
abbrev S2048x1024 : Shape := ⟨2, ![2048, 1024]⟩
abbrev S1x1024 : Shape := ⟨2, ![1, 1024]⟩
abbrev S8x128 : Shape := ⟨2, ![8, 128]⟩
abbrev S1024x4x1408 : Shape := ⟨3, ![1024, 4, 1408]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x1024x1408, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x128, .f32⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x5632, .f32⟩
  | .hbm, ⟨29, _⟩ => ⟨S2048x5632, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S4x1024x1152 : Shape := ⟨3, ![4, 1024, 1152]⟩
abbrev S2048x1152 : Shape := ⟨2, ![2048, 1152]⟩
abbrev S1x1024x1152 : Shape := ⟨3, ![1, 1024, 1152]⟩
abbrev S1024x1152 : Shape := ⟨2, ![1024, 1152]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x4608, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S4x1024x1152, .f32⟩
  | .hbm, ⟨20, _⟩ => ⟨S4x1024x1152, .bf16⟩
  | .local _ .vmem, ⟨0, _⟩ => ⟨S2048x1024, .bf16⟩
  | .local _ .vmem, ⟨1, _⟩ => ⟨S2048x1152, .bf16⟩
  | .local _ .vmem, ⟨2, _⟩ => ⟨S2048x1152, .bf16⟩
  | .local _ .vmem, ⟨3, _⟩ => ⟨S1x1024x1152, .f32⟩
  | .local _ .vmem, ⟨4, _⟩ => ⟨S1x1024x1152, .f32⟩
  | .local _ .vmem, ⟨5, _⟩ => ⟨S1x1024x1152, .bf16⟩
  | .local _ .vmem, ⟨6, _⟩ => ⟨S1x1024x1152, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2048x1024 : Shape := ⟨2, ![2048, 1024]⟩
abbrev S1x1024 : Shape := ⟨2, ![1, 1024]⟩
abbrev S2048x4608 : Shape := ⟨2, ![2048, 4608]⟩
abbrev S_ : Shape := ⟨0, ![]⟩
abbrev S1024x4608 : Shape := ⟨2, ![1024, 4608]⟩
abbrev S2048 : Shape := ⟨1, ![2048]⟩
abbrev S2048x1 : Shape := ⟨2, ![2048, 1]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x4608, .bf16⟩
  | .hbm, ⟨3, _⟩ => ⟨S_, .f32⟩
  | .hbm, ⟨4, _⟩ => ⟨S1024x4608, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x4608, .f32⟩
  | .hbm, ⟨21, _⟩ => ⟨S2048x4608, .f32⟩
  | .hbm, ⟨22, _⟩ => ⟨S4608x1024, .f32⟩
  | .hbm, ⟨23, _⟩ => ⟨S1024x4608, .f32⟩
  | .hbm, ⟨24, _⟩ => ⟨S1024x4x1152, .f32⟩
  | .hbm, ⟨25, _⟩ => ⟨S4x1024x1152, .f32⟩
  | .hbm, ⟨26, _⟩ => ⟨S4x1024x1152, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x5632, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S4x1024x1408, .f32⟩
  | .hbm, ⟨20, _⟩ => ⟨S4x1024x1408, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1x1024x1408, .f32⟩
  | .local _ .vmem, ⟨4, _⟩ => ⟨S1x1024x1408, .f32⟩
  | .local _ .vmem, ⟨5, _⟩ => ⟨S1x1024x1408, .bf16⟩
  | .local _ .vmem, ⟨6, _⟩ => ⟨S1x1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2048x1024 : Shape := ⟨2, ![2048, 1024]⟩
abbrev S1x1024 : Shape := ⟨2, ![1, 1024]⟩
abbrev S2048x5632 : Shape := ⟨2, ![2048, 5632]⟩
abbrev S_ : Shape := ⟨0, ![]⟩
abbrev S1024x5632 : Shape := ⟨2, ![1024, 5632]⟩
abbrev S2048 : Shape := ⟨1, ![2048]⟩
abbrev S2048x1 : Shape := ⟨2, ![2048, 1]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x5632, .bf16⟩
  | .hbm, ⟨3, _⟩ => ⟨S_, .f32⟩
  | .hbm, ⟨4, _⟩ => ⟨S1024x5632, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x5632, .f32⟩
  | .hbm, ⟨21, _⟩ => ⟨S2048x5632, .f32⟩
  | .hbm, ⟨22, _⟩ => ⟨S5632x1024, .f32⟩
  | .hbm, ⟨23, _⟩ => ⟨S1024x5632, .f32⟩
  | .hbm, ⟨24, _⟩ => ⟨S1024x4x1408, .f32⟩
  | .hbm, ⟨25, _⟩ => ⟨S4x1024x1408, .f32⟩
  | .hbm, ⟨26, _⟩ => ⟨S4x1024x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S4x1024x1152 : Shape := ⟨3, ![4, 1024, 1152]⟩
abbrev S2048x256 : Shape := ⟨2, ![2048, 256]⟩
abbrev S2048x1280 : Shape := ⟨2, ![2048, 1280]⟩
abbrev S256x1024 : Shape := ⟨2, ![256, 1024]⟩
abbrev S256x256 : Shape := ⟨2, ![256, 256]⟩
abbrev S256x1280 : Shape := ⟨2, ![256, 1280]⟩
abbrev S256x4608 : Shape := ⟨2, ![256, 4608]⟩
abbrev S256 : Shape := ⟨1, ![256]⟩
abbrev S256x1 : Shape := ⟨2, ![256, 1]⟩
abbrev S1x1024x1152 : Shape := ⟨3, ![1, 1024, 1152]⟩
abbrev S1024x1152 : Shape := ⟨2, ![1024, 1152]⟩
abbrev S256x1152 : Shape := ⟨2, ![256, 1152]⟩

abbrev nBuf : Space → Nat
  | .hbm => 9
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1152, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x256, .bf16⟩
  | .hbm, ⟨8, _⟩ => ⟨S2048x1280, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1152, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x256, .bf16⟩
  | .local _ .vmem, ⟨13, _⟩ => ⟨S256x256, .bf16⟩
  | .local _ .vmem, ⟨14, _⟩ => ⟨S256x1280, .f32⟩
  | .local _ .vmem, ⟨15, _⟩ => ⟨S256x1280, .f32⟩
  | .local _ .vmem, ⟨16, _⟩ => ⟨S256x4608, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2048x1024 : Shape := ⟨2, ![2048, 1024]⟩
abbrev S1x1024 : Shape := ⟨2, ![1, 1024]⟩
abbrev S4x1024x1152 : Shape := ⟨3, ![4, 1024, 1152]⟩
abbrev S_ : Shape := ⟨0, ![]⟩
abbrev S2048 : Shape := ⟨1, ![2048]⟩
abbrev S2048x1 : Shape := ⟨2, ![2048, 1]⟩
abbrev S1024x4x1152 : Shape := ⟨3, ![1024, 4, 1152]⟩
abbrev S1024x4608 : Shape := ⟨2, ![1024, 4608]⟩
abbrev S2048x4608 : Shape := ⟨2, ![2048, 4608]⟩
abbrev S2048x256 : Shape := ⟨2, ![2048, 256]⟩
abbrev S2048x1280 : Shape := ⟨2, ![2048, 1280]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1152, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S4x1024x1152, .f32⟩
  | .hbm, ⟨19, _⟩ => ⟨S1024x4x1152, .f32⟩
  | .hbm, ⟨20, _⟩ => ⟨S1024x4608, .f32⟩
  | .hbm, ⟨21, _⟩ => ⟨S2048x4608, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x256, .f32⟩
  | .hbm, ⟨26, _⟩ => ⟨S2048x1280, .f32⟩
  | .hbm, ⟨27, _⟩ => ⟨S2048x1024, .bf16⟩
  | .hbm, ⟨28, _⟩ => ⟨S2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel7.lean ====
abbrev S2048x1024 : Shape := ⟨2, ![2048, 1024]⟩
abbrev S1x1024 : Shape := ⟨2, ![1, 1024]⟩
abbrev S4x1024x1408 : Shape := ⟨3, ![4, 1024, 1408]⟩
abbrev S2048 : Shape := ⟨1, ![2048]⟩
abbrev S8x128 : Shape := ⟨2, ![8, 128]⟩
abbrev S1x128 : Shape := ⟨2, ![1, 128]⟩
abbrev S_ : Shape := ⟨0, ![]⟩
abbrev S2048x1 : Shape := ⟨2, ![2048, 1]⟩
abbrev S2048x128 : Shape := ⟨2, ![2048, 128]⟩
abbrev S2048x1536 : Shape := ⟨2, ![2048, 1536]⟩
abbrev S2048x256 : Shape := ⟨2, ![2048, 256]⟩
abbrev S2048x768 : Shape := ⟨2, ![2048, 768]⟩
abbrev S256x1024 : Shape := ⟨2, ![256, 1024]⟩
abbrev S256x128 : Shape := ⟨2, ![256, 128]⟩
abbrev S256x1536 : Shape := ⟨2, ![256, 1536]⟩
abbrev S256x256 : Shape := ⟨2, ![256, 256]⟩
abbrev S256x768 : Shape := ⟨2, ![256, 768]⟩
abbrev S256x5632 : Shape := ⟨2, ![256, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 51
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1408, .bf16⟩
  | .hbm, ⟨3, _⟩ => ⟨S2048, .i32⟩
  | .hbm, ⟨4, _⟩ => ⟨S8x128, .f32⟩
  | .hbm, ⟨5, _⟩ => ⟨S1x128, .i32⟩
  | .hbm, ⟨6, _⟩ => ⟨S_, .i32⟩
  | .hbm, ⟨7, _⟩ => ⟨S1x128, .i32⟩
  | .hbm, ⟨8, _⟩ => ⟨S1x128, .i32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S2048, .f32⟩
  | .hbm, ⟨18, _⟩ => ⟨S2048x1, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S_, .i32⟩
  | .hbm, ⟨23, _⟩ => ⟨S1x128, .i32⟩
  | .hbm, ⟨24, _⟩ => ⟨S1x128, .i32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S2048x128, .f32⟩
  | .hbm, ⟨29, _⟩ => ⟨S_, .i32⟩
  | .hbm, ⟨30, _⟩ => ⟨S1x128, .i32⟩
  | .hbm, ⟨31, _⟩ => ⟨S1x128, .i1⟩
  | .hbm, ⟨32, _⟩ => ⟨S2048x128, .i1⟩
  | .hbm, ⟨33, _⟩ => ⟨S_, .i32⟩
  | .hbm, ⟨34, _⟩ => ⟨S1x128, .i32⟩
  | .hbm, ⟨35, _⟩ => ⟨S1x128, .i1⟩
  | .hbm, ⟨36, _⟩ => ⟨S2048x128, .i1⟩
  | .hbm, ⟨37, _⟩ => ⟨S_, .f32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S2048x1024, .bf16⟩
  | .hbm, ⟨46, _⟩ => ⟨S2048x1536, .bf16⟩
  | .hbm, ⟨47, _⟩ => ⟨S2048x1536, .bf16⟩
  | .hbm, ⟨48, _⟩ => ⟨S2048x1536, .bf16⟩
  | .hbm, ⟨49, _⟩ => ⟨S2048x256, .bf16⟩
  | .hbm, ⟨50, _⟩ => ⟨S2048x768, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S256x1536, .bf16⟩
  | .local _ .vmem, ⟨13, _⟩ => ⟨S256x1536, .bf16⟩
  | .local _ .vmem, ⟨14, _⟩ => ⟨S256x1536, .bf16⟩
  | .local _ .vmem, ⟨15, _⟩ => ⟨S256x1536, .bf16⟩
  | .local _ .vmem, ⟨16, _⟩ => ⟨S256x1536, .bf16⟩
  | .local _ .vmem, ⟨17, _⟩ => ⟨S256x1536, .bf16⟩
  | .local _ .vmem, ⟨18, _⟩ => ⟨S256x256, .bf16⟩
  | .local _ .vmem, ⟨19, _⟩ => ⟨S256x256, .bf16⟩
  | .local _ .vmem, ⟨20, _⟩ => ⟨S256x768, .f32⟩
  | .local _ .vmem, ⟨21, _⟩ => ⟨S256x768, .f32⟩
  | .local _ .vmem, ⟨22, _⟩ => ⟨S256x5632, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev main_v32_3 : Ref sig .tc := ⟨.hbm, 48, rfl⟩
abbrev main_v32_4 : Ref sig .tc := ⟨.hbm, 49, rfl⟩
abbrev main_v32_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S2048x1024 : Shape := ⟨2, ![2048, 1024]⟩
abbrev S1x1024 : Shape := ⟨2, ![1, 1024]⟩
abbrev S4x1024x1408 : Shape := ⟨3, ![4, 1024, 1408]⟩
abbrev S2048 : Shape := ⟨1, ![2048]⟩
abbrev S8x128 : Shape := ⟨2, ![8, 128]⟩
abbrev S_ : Shape := ⟨0, ![]⟩
abbrev S2048x1 : Shape := ⟨2, ![2048, 1]⟩
abbrev S1024x4x1408 : Shape := ⟨3, ![1024, 4, 1408]⟩
abbrev S1024x5632 : Shape := ⟨2, ![1024, 5632]⟩
abbrev S2048x5632 : Shape := ⟨2, ![2048, 5632]⟩
abbrev S2048x1536 : Shape := ⟨2, ![2048, 1536]⟩
abbrev S2048x256 : Shape := ⟨2, ![2048, 256]⟩
abbrev S2048x768 : Shape := ⟨2, ![2048, 768]⟩
abbrev S2048x24x64 : Shape := ⟨3, ![2048, 24, 64]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S2048x24x16 : Shape := ⟨3, ![2048, 24, 16]⟩
abbrev S2048x24x8 : Shape := ⟨3, ![2048, 24, 8]⟩
abbrev S2048x24x48 : Shape := ⟨3, ![2048, 24, 48]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1408, .bf16⟩
  | .hbm, ⟨3, _⟩ => ⟨S2048, .i32⟩
  | .hbm, ⟨4, _⟩ => ⟨S8x128, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S4x1024x1408, .f32⟩
  | .hbm, ⟨21, _⟩ => ⟨S1024x4x1408, .f32⟩
  | .hbm, ⟨22, _⟩ => ⟨S1024x5632, .f32⟩
  | .hbm, ⟨23, _⟩ => ⟨S2048x5632, .f32⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S2048x256, .f32⟩
  | .hbm, ⟨28, _⟩ => ⟨S2048x768, .f32⟩
  | .hbm, ⟨29, _⟩ => ⟨S2048x24x64, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S2048, .f32⟩
  | .hbm, ⟨39, _⟩ => ⟨S2048x1, .f32⟩
  | .hbm, ⟨40, _⟩ => ⟨S1x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S2048x8, .f32⟩
  | .hbm, ⟨45, _⟩ => ⟨S2048x1x8, .f32⟩
  | .hbm, ⟨46, _⟩ => ⟨S2048x8, .f32⟩
  | .hbm, ⟨47, _⟩ => ⟨S2048x1x8, .f32⟩
  | .hbm, ⟨48, _⟩ => ⟨S2048x24x16, .f32⟩
  | .hbm, ⟨49, _⟩ => ⟨S2048x24x8, .f32⟩
  | .hbm, ⟨50, _⟩ => ⟨S2048x24x8, .f32⟩
  | .hbm, ⟨51, _⟩ => ⟨S2048x24x8, .f32⟩
  | .hbm, ⟨52, _⟩ => ⟨S2048x24x8, .f32⟩
  | .hbm, ⟨53, _⟩ => ⟨S2048x24x8, .f32⟩
  | .hbm, ⟨54, _⟩ => ⟨S2048x24x8, .f32⟩
  | .hbm, ⟨55, _⟩ => ⟨S2048x24x8, .f32⟩
  | .hbm, ⟨56, _⟩ => ⟨S2048x24x8, .f32⟩
  | .hbm, ⟨57, _⟩ => ⟨S2048x24x8, .f32⟩
  | .hbm, ⟨58, _⟩ => ⟨S2048x24x8, .f32⟩
  | .hbm, ⟨59, _⟩ => ⟨S2048x24x8, .f32⟩
  | .hbm, ⟨60, _⟩ => ⟨S2048x24x8, .f32⟩
  | .hbm, ⟨61, _⟩ => ⟨S2048x24x16, .f32⟩
  | .hbm, ⟨62, _⟩ => ⟨S2048x24x48, .f32⟩
  | .hbm, ⟨63, _⟩ => ⟨S2048x24x64, .f32⟩
  | .hbm, ⟨64, _⟩ => ⟨S2048x1536, .f32⟩
  | .hbm, ⟨65, _⟩ => ⟨S_, .f32⟩
  | .hbm, ⟨66, _⟩ => ⟨S2048x1536, .f32⟩
  | .hbm, ⟨67, _⟩ => ⟨S2048x1536, .f32⟩
  | .hbm, ⟨68, _⟩ => ⟨S2048x24x64, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S2048, .f32⟩
  | .hbm, ⟨78, _⟩ => ⟨S2048x1, .f32⟩
  | .hbm, ⟨79, _⟩ => ⟨S1x8, .f32⟩
  | .hbm, ⟨80, _⟩ => ⟨S2048x8, .f32⟩
  | .hbm, ⟨81, _⟩ => ⟨S2048x8, .f32⟩
  | .hbm, ⟨82, _⟩ => ⟨S2048x8, .f32⟩
  | .hbm, ⟨83, _⟩ => ⟨S2048x8, .f32⟩
  | .hbm, ⟨84, _⟩ => ⟨S2048x1x8, .f32⟩
  | .hbm, ⟨85, _⟩ => ⟨S2048x8, .f32⟩
  | .hbm, ⟨86, _⟩ => ⟨S2048x1x8, .f32⟩
  | .hbm, ⟨87, _⟩ => ⟨S2048x24x16, .f32⟩
  | .hbm, ⟨88, _⟩ => ⟨S2048x24x8, .f32⟩
  | .hbm, ⟨89, _⟩ => ⟨S2048x24x8, .f32⟩
  | .hbm, ⟨90, _⟩ => ⟨S2048x24x8, .f32⟩
  | .hbm, ⟨91, _⟩ => ⟨S2048x24x8, .f32⟩
  | .hbm, ⟨92, _⟩ => ⟨S2048x24x8, .f32⟩
  | .hbm, ⟨93, _⟩ => ⟨S2048x24x8, .f32⟩
  | .hbm, ⟨94, _⟩ => ⟨S2048x24x8, .f32⟩
  | .hbm, ⟨95, _⟩ => ⟨S2048x24x8, .f32⟩
  | .hbm, ⟨96, _⟩ => ⟨S2048x24x8, .f32⟩
  | .hbm, ⟨97, _⟩ => ⟨S2048x24x8, .f32⟩
  | .hbm, ⟨98, _⟩ => ⟨S2048x24x8, .f32⟩
  | .hbm, ⟨99, _⟩ => ⟨S2048x24x8, .f32⟩
  | .hbm, ⟨100, _⟩ => ⟨S2048x24x16, .f32⟩
  | .hbm, ⟨101, _⟩ => ⟨S2048x24x48, .f32⟩
  | .hbm, ⟨102, _⟩ => ⟨S2048x24x64, .f32⟩
  | .hbm, ⟨103, _⟩ => ⟨S2048x1536, .f32⟩
  | .hbm, ⟨104, _⟩ => ⟨S2048x1024, .bf16⟩
  | .hbm, ⟨105, _⟩ => ⟨S2048x1536, .bf16⟩
  | .hbm, ⟨106, _⟩ => ⟨S2048x1536, .bf16⟩
  | .hbm, ⟨107, _⟩ => ⟨S2048x1536, .bf16⟩
  | .hbm, ⟨108, _⟩ => ⟨S2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩

abbrev nD : Nat := 1
abbrev τ : Topo := Topo.v7x

variable {F : FTy → Type} [FloatOps F]
-- ==== Kernel8.lean ====
abbrev S1x1024x1152 : Shape := ⟨3, ![1, 1024, 1152]⟩
abbrev S1x320x1024 : Shape := ⟨3, ![1, 320, 1024]⟩
abbrev S1x256x1152 : Shape := ⟨3, ![1, 256, 1152]⟩
abbrev S1x80x1024 : Shape := ⟨3, ![1, 80, 1024]⟩

abbrev nBuf : Space → Nat
  | .hbm => 16
  | .vmem => 32
  | .smem => 0
  | _ => 0

abbrev bufTy : (tb : Table) → Fin (tcTables nBuf tb) → BufTy
  | .hbm, ⟨0, _⟩ => ⟨S1x1024x1152, .f32⟩
  | .hbm, ⟨1, _⟩ => ⟨S1x320x1024, .f32⟩
  | .hbm, ⟨2, _⟩ => ⟨S1x1024x1152, .f32⟩
  | .hbm, ⟨3, _⟩ => ⟨S1x320x1024, .f32⟩
  | .hbm, ⟨4, _⟩ => ⟨S1x1024x1152, .f32⟩
  | .hbm, ⟨5, _⟩ => ⟨S1x320x1024, .f32⟩
  | .hbm, ⟨6, _⟩ => ⟨S1x1024x1152, .f32⟩
  | .hbm, ⟨7, _⟩ => ⟨S1x320x1024, .f32⟩
  | .hbm, ⟨8, _⟩ => ⟨S1x1024x1152, .f32⟩
  | .hbm, ⟨9, _⟩ => ⟨S1x320x1024, .f32⟩
  | .hbm, ⟨10, _⟩ => ⟨S1x1024x1152, .f32⟩
  | .hbm, ⟨11, _⟩ => ⟨S1x320x1024, .f32⟩
  | .hbm, ⟨12, _⟩ => ⟨S1x1024x1152, .f32⟩
  | .hbm, ⟨13, _⟩ => ⟨S1x320x1024, .f32⟩
  | .hbm, ⟨14, _⟩ => ⟨S1x1024x1152, .f32⟩
  | .hbm, ⟨15, _⟩ => ⟨S1x320x1024, .f32⟩
  | .local _ .vmem, ⟨0, _⟩ => ⟨S1x256x1152, .f32⟩
  | .local _ .vmem, ⟨1, _⟩ => ⟨S1x256x1152, .f32⟩
  | .local _ .vmem, ⟨2, _⟩ => ⟨S1x80x1024, .f32⟩
  | .local _ .vmem, ⟨3, _⟩ => ⟨S1x80x1024, .f32⟩
  | .local _ .vmem, ⟨4, _⟩ => ⟨S1x256x1152, .f32⟩
  | .local _ .vmem, ⟨5, _⟩ => ⟨S1x256x1152, .f32⟩
  | .local _ .vmem, ⟨6, _⟩ => ⟨S1x80x1024, .f32⟩
  | .local _ .vmem, ⟨7, _⟩ => ⟨S1x80x1024, .f32⟩
  | .local _ .vmem, ⟨8, _⟩ => ⟨S1x256x1152, .f32⟩
  | .local _ .vmem, ⟨9, _⟩ => ⟨S1x256x1152, .f32⟩
  | .local _ .vmem, ⟨10, _⟩ => ⟨S1x80x1024, .f32⟩
  | .local _ .vmem, ⟨11, _⟩ => ⟨S1x80x1024, .f32⟩
  | .local _ .vmem, ⟨12, _⟩ => ⟨S1x256x1152, .f32⟩
  | .local _ .vmem, ⟨13, _⟩ => ⟨S1x256x1152, .f32⟩
  | .local _ .vmem, ⟨14, _⟩ => ⟨S1x80x1024, .f32⟩
  | .local _ .vmem, ⟨15, _⟩ => ⟨S1x80x1024, .f32⟩
  | .local _ .vmem, ⟨16, _⟩ => ⟨S1x256x1152, .f32⟩
  | .local _ .vmem, ⟨17, _⟩ => ⟨S1x256x1152, .f32⟩
  | .local _ .vmem, ⟨18, _⟩ => ⟨S1x80x1024, .f32⟩
  | .local _ .vmem, ⟨19, _⟩ => ⟨S1x80x1024, .f32⟩
  | .local _ .vmem, ⟨20, _⟩ => ⟨S1x256x1152, .f32⟩
  | .local _ .vmem, ⟨21, _⟩ => ⟨S1x256x1152, .f32⟩
  | .local _ .vmem, ⟨22, _⟩ => ⟨S1x80x1024, .f32⟩
  | .local _ .vmem, ⟨23, _⟩ => ⟨S1x80x1024, .f32⟩
  | .local _ .vmem, ⟨24, _⟩ => ⟨S1x256x1152, .f32⟩
  | .local _ .vmem, ⟨25, _⟩ => ⟨S1x256x1152, .f32⟩
  | .local _ .vmem, ⟨26, _⟩ => ⟨S1x80x1024, .f32⟩
  | .local _ .vmem, ⟨27, _⟩ => ⟨S1x80x1024, .f32⟩
  | .local _ .vmem, ⟨28, _⟩ => ⟨S1x256x1152, .f32⟩
  | .local _ .vmem, ⟨29, _⟩ => ⟨S1x256x1152, .f32⟩
  | .local _ .vmem, ⟨30, _⟩ => ⟨S1x80x1024, .f32⟩
  | .local _ .vmem, ⟨31, _⟩ => ⟨S1x80x1024, .f32⟩
  | _, _ => ⟨S1x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x80x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x80x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x80x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x80x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x80x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1152 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x80x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x1152 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x80x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S1x1024x1152 : Shape := ⟨3, ![1, 1024, 1152]⟩
abbrev S1x320x1024 : Shape := ⟨3, ![1, 320, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x1024x1152, .f32⟩
  | .hbm, ⟨1, _⟩ => ⟨S1x320x1024, .f32⟩
  | .hbm, ⟨2, _⟩ => ⟨S1x1024x1152, .f32⟩
  | .hbm, ⟨3, _⟩ => ⟨S1x320x1024, .f32⟩
  | .hbm, ⟨4, _⟩ => ⟨S1x1024x1152, .f32⟩
  | .hbm, ⟨5, _⟩ => ⟨S1x320x1024, .f32⟩
  | .hbm, ⟨6, _⟩ => ⟨S1x1024x1152, .f32⟩
  | .hbm, ⟨7, _⟩ => ⟨S1x320x1024, .f32⟩
  | .hbm, ⟨8, _⟩ => ⟨S_, .f32⟩
  | .hbm, ⟨9, _⟩ => ⟨S1x1024x1152, .f32⟩
  | .hbm, ⟨10, _⟩ => ⟨S1x1024x1152, .f32⟩
  | .hbm, ⟨11, _⟩ => ⟨S_, .f32⟩
  | .hbm, ⟨12, _⟩ => ⟨S1x1024x1152, .f32⟩
  | .hbm, ⟨13, _⟩ => ⟨S1x1024x1152, .f32⟩
  | .hbm, ⟨14, _⟩ => ⟨S1x1024x1152, .f32⟩
  | .hbm, ⟨15, _⟩ => ⟨S_, .f32⟩
  | .hbm, ⟨16, _⟩ => ⟨S1x1024x1152, .f32⟩
  | .hbm, ⟨17, _⟩ => ⟨S1x1024x1152, .f32⟩
  | .hbm, ⟨18, _⟩ => ⟨S1x1024x1152, .f32⟩
  | .hbm, ⟨19, _⟩ => ⟨S_, .f32⟩
  | .hbm, ⟨20, _⟩ => ⟨S1x1024x1152, .f32⟩
  | .hbm, ⟨21, _⟩ => ⟨S1x1024x1152, .f32⟩
  | .hbm, ⟨22, _⟩ => ⟨S1x1024x1152, .f32⟩
  | .hbm, ⟨23, _⟩ => ⟨S_, .f32⟩
  | .hbm, ⟨24, _⟩ => ⟨S1x1024x1152, .f32⟩
  | .hbm, ⟨25, _⟩ => ⟨S1x1024x1152, .f32⟩
  | .hbm, ⟨26, _⟩ => ⟨S_, .f32⟩
  | .hbm, ⟨27, _⟩ => ⟨S1x1024x1152, .f32⟩
  | .hbm, ⟨28, _⟩ => ⟨S1x1024x1152, .f32⟩
  | .hbm, ⟨29, _⟩ => ⟨S1x1024x1152, .f32⟩
  | .hbm, ⟨30, _⟩ => ⟨S_, .f32⟩
  | .hbm, ⟨31, _⟩ => ⟨S1x1024x1152, .f32⟩
  | .hbm, ⟨32, _⟩ => ⟨S1x1024x1152, .f32⟩
  | .hbm, ⟨33, _⟩ => ⟨S1x1024x1152, .f32⟩
  | .hbm, ⟨34, _⟩ => ⟨S_, .f32⟩
  | .hbm, ⟨35, _⟩ => ⟨S1x1024x1152, .f32⟩
  | .hbm, ⟨36, _⟩ => ⟨S1x1024x1152, .f32⟩
  | .hbm, ⟨37, _⟩ => ⟨S1x1024x1152, .f32⟩
  | .hbm, ⟨38, _⟩ => ⟨S_, .f32⟩
  | .hbm, ⟨39, _⟩ => ⟨S1x1024x1152, .f32⟩
  | .hbm, ⟨40, _⟩ => ⟨S1x1024x1152, .f32⟩
  | .hbm, ⟨41, _⟩ => ⟨S_, .f32⟩
  | .hbm, ⟨42, _⟩ => ⟨S1x320x1024, .f32⟩
  | .hbm, ⟨43, _⟩ => ⟨S1x320x1024, .f32⟩
  | .hbm, ⟨44, _⟩ => ⟨S_, .f32⟩
  | .hbm, ⟨45, _⟩ => ⟨S1x320x1024, .f32⟩
  | .hbm, ⟨46, _⟩ => ⟨S1x320x1024, .f32⟩
  | .hbm, ⟨47, _⟩ => ⟨S1x320x1024, .f32⟩
  | .hbm, ⟨48, _⟩ => ⟨S_, .f32⟩
  | .hbm, ⟨49, _⟩ => ⟨S1x320x1024, .f32⟩
  | .hbm, ⟨50, _⟩ => ⟨S1x320x1024, .f32⟩
  | .hbm, ⟨51, _⟩ => ⟨S1x320x1024, .f32⟩
  | .hbm, ⟨52, _⟩ => ⟨S_, .f32⟩
  | .hbm, ⟨53, _⟩ => ⟨S1x320x1024, .f32⟩
  | .hbm, ⟨54, _⟩ => ⟨S1x320x1024, .f32⟩
  | .hbm, ⟨55, _⟩ => ⟨S1x320x1024, .f32⟩
  | .hbm, ⟨56, _⟩ => ⟨S_, .f32⟩
  | .hbm, ⟨57, _⟩ => ⟨S1x320x1024, .f32⟩
  | .hbm, ⟨58, _⟩ => ⟨S1x320x1024, .f32⟩
  | .hbm, ⟨59, _⟩ => ⟨S_, .f32⟩
  | .hbm, ⟨60, _⟩ => ⟨S1x320x1024, .f32⟩
  | .hbm, ⟨61, _⟩ => ⟨S1x320x1024, .f32⟩
  | .hbm, ⟨62, _⟩ => ⟨S1x320x1024, .f32⟩
  | .hbm, ⟨63, _⟩ => ⟨S_, .f32⟩
  | .hbm, ⟨64, _⟩ => ⟨S1x320x1024, .f32⟩
  | .hbm, ⟨65, _⟩ => ⟨S1x320x1024, .f32⟩
  | .hbm, ⟨66, _⟩ => ⟨S1x320x1024, .f32⟩
  | .hbm, ⟨67, _⟩ => ⟨S_, .f32⟩
  | .hbm, ⟨68, _⟩ => ⟨S1x320x1024, .f32⟩
  | .hbm, ⟨69, _⟩ => ⟨S1x320x1024, .f32⟩
  | .hbm, ⟨70, _⟩ => ⟨S1x320x1024, .f32⟩
  | .hbm, ⟨71, _⟩ => ⟨S_, .f32⟩
  | .hbm, ⟨72, _⟩ => ⟨S1x320x1024, .f32⟩
  | .hbm, ⟨73, _⟩ => ⟨S1x320x1024, .f32⟩
  | _, _ => ⟨S1x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel9.lean ====
abbrev S2x256x512 : Shape := ⟨3, ![2, 256, 512]⟩
abbrev S1x1024x1408 : Shape := ⟨3, ![1, 1024, 1408]⟩
abbrev S1x768x256 : Shape := ⟨3, ![1, 768, 256]⟩
abbrev S2x64x512 : Shape := ⟨3, ![2, 64, 512]⟩
abbrev S1x256x1408 : Shape := ⟨3, ![1, 256, 1408]⟩
abbrev S1x192x256 : Shape := ⟨3, ![1, 192, 256]⟩

abbrev nBuf : Space → Nat
  | .hbm => 24
  | .vmem => 48
  | .smem => 0
  | _ => 0

abbrev bufTy : (tb : Table) → Fin (tcTables nBuf tb) → BufTy
  | .hbm, ⟨0, _⟩ => ⟨S2x256x512, .f32⟩
  | .hbm, ⟨1, _⟩ => ⟨S1x1024x1408, .f32⟩
  | .hbm, ⟨2, _⟩ => ⟨S1x768x256, .f32⟩
  | .hbm, ⟨3, _⟩ => ⟨S2x256x512, .f32⟩
  | .hbm, ⟨4, _⟩ => ⟨S1x1024x1408, .f32⟩
  | .hbm, ⟨5, _⟩ => ⟨S1x768x256, .f32⟩
  | .hbm, ⟨6, _⟩ => ⟨S2x256x512, .f32⟩
  | .hbm, ⟨7, _⟩ => ⟨S1x1024x1408, .f32⟩
  | .hbm, ⟨8, _⟩ => ⟨S1x768x256, .f32⟩
  | .hbm, ⟨9, _⟩ => ⟨S2x256x512, .f32⟩
  | .hbm, ⟨10, _⟩ => ⟨S1x1024x1408, .f32⟩
  | .hbm, ⟨11, _⟩ => ⟨S1x768x256, .f32⟩
  | .hbm, ⟨12, _⟩ => ⟨S2x256x512, .f32⟩
  | .hbm, ⟨13, _⟩ => ⟨S1x1024x1408, .f32⟩
  | .hbm, ⟨14, _⟩ => ⟨S1x768x256, .f32⟩
  | .hbm, ⟨15, _⟩ => ⟨S2x256x512, .f32⟩
  | .hbm, ⟨16, _⟩ => ⟨S1x1024x1408, .f32⟩
  | .hbm, ⟨17, _⟩ => ⟨S1x768x256, .f32⟩
  | .hbm, ⟨18, _⟩ => ⟨S2x256x512, .f32⟩
  | .hbm, ⟨19, _⟩ => ⟨S1x1024x1408, .f32⟩
  | .hbm, ⟨20, _⟩ => ⟨S1x768x256, .f32⟩
  | .hbm, ⟨21, _⟩ => ⟨S2x256x512, .f32⟩
  | .hbm, ⟨22, _⟩ => ⟨S1x1024x1408, .f32⟩
  | .hbm, ⟨23, _⟩ => ⟨S1x768x256, .f32⟩
  | .local _ .vmem, ⟨0, _⟩ => ⟨S2x64x512, .f32⟩
  | .local _ .vmem, ⟨1, _⟩ => ⟨S2x64x512, .f32⟩
  | .local _ .vmem, ⟨2, _⟩ => ⟨S1x256x1408, .f32⟩
  | .local _ .vmem, ⟨3, _⟩ => ⟨S1x256x1408, .f32⟩
  | .local _ .vmem, ⟨4, _⟩ => ⟨S1x192x256, .f32⟩
  | .local _ .vmem, ⟨5, _⟩ => ⟨S1x192x256, .f32⟩
  | .local _ .vmem, ⟨6, _⟩ => ⟨S2x64x512, .f32⟩
  | .local _ .vmem, ⟨7, _⟩ => ⟨S2x64x512, .f32⟩
  | .local _ .vmem, ⟨8, _⟩ => ⟨S1x256x1408, .f32⟩
  | .local _ .vmem, ⟨9, _⟩ => ⟨S1x256x1408, .f32⟩
  | .local _ .vmem, ⟨10, _⟩ => ⟨S1x192x256, .f32⟩
  | .local _ .vmem, ⟨11, _⟩ => ⟨S1x192x256, .f32⟩
  | .local _ .vmem, ⟨12, _⟩ => ⟨S2x64x512, .f32⟩
  | .local _ .vmem, ⟨13, _⟩ => ⟨S2x64x512, .f32⟩
  | .local _ .vmem, ⟨14, _⟩ => ⟨S1x256x1408, .f32⟩
  | .local _ .vmem, ⟨15, _⟩ => ⟨S1x256x1408, .f32⟩
  | .local _ .vmem, ⟨16, _⟩ => ⟨S1x192x256, .f32⟩
  | .local _ .vmem, ⟨17, _⟩ => ⟨S1x192x256, .f32⟩
  | .local _ .vmem, ⟨18, _⟩ => ⟨S2x64x512, .f32⟩
  | .local _ .vmem, ⟨19, _⟩ => ⟨S2x64x512, .f32⟩
  | .local _ .vmem, ⟨20, _⟩ => ⟨S1x256x1408, .f32⟩
  | .local _ .vmem, ⟨21, _⟩ => ⟨S1x256x1408, .f32⟩
  | .local _ .vmem, ⟨22, _⟩ => ⟨S1x192x256, .f32⟩
  | .local _ .vmem, ⟨23, _⟩ => ⟨S1x192x256, .f32⟩
  | .local _ .vmem, ⟨24, _⟩ => ⟨S2x64x512, .f32⟩
  | .local _ .vmem, ⟨25, _⟩ => ⟨S2x64x512, .f32⟩
  | .local _ .vmem, ⟨26, _⟩ => ⟨S1x256x1408, .f32⟩
  | .local _ .vmem, ⟨27, _⟩ => ⟨S1x256x1408, .f32⟩
  | .local _ .vmem, ⟨28, _⟩ => ⟨S1x192x256, .f32⟩
  | .local _ .vmem, ⟨29, _⟩ => ⟨S1x192x256, .f32⟩
  | .local _ .vmem, ⟨30, _⟩ => ⟨S2x64x512, .f32⟩
  | .local _ .vmem, ⟨31, _⟩ => ⟨S2x64x512, .f32⟩
  | .local _ .vmem, ⟨32, _⟩ => ⟨S1x256x1408, .f32⟩
  | .local _ .vmem, ⟨33, _⟩ => ⟨S1x256x1408, .f32⟩
  | .local _ .vmem, ⟨34, _⟩ => ⟨S1x192x256, .f32⟩
  | .local _ .vmem, ⟨35, _⟩ => ⟨S1x192x256, .f32⟩
  | .local _ .vmem, ⟨36, _⟩ => ⟨S2x64x512, .f32⟩
  | .local _ .vmem, ⟨37, _⟩ => ⟨S2x64x512, .f32⟩
  | .local _ .vmem, ⟨38, _⟩ => ⟨S1x256x1408, .f32⟩
  | .local _ .vmem, ⟨39, _⟩ => ⟨S1x256x1408, .f32⟩
  | .local _ .vmem, ⟨40, _⟩ => ⟨S1x192x256, .f32⟩
  | .local _ .vmem, ⟨41, _⟩ => ⟨S1x192x256, .f32⟩
  | .local _ .vmem, ⟨42, _⟩ => ⟨S2x64x512, .f32⟩
  | .local _ .vmem, ⟨43, _⟩ => ⟨S2x64x512, .f32⟩
  | .local _ .vmem, ⟨44, _⟩ => ⟨S1x256x1408, .f32⟩
  | .local _ .vmem, ⟨45, _⟩ => ⟨S1x256x1408, .f32⟩
  | .local _ .vmem, ⟨46, _⟩ => ⟨S1x192x256, .f32⟩
  | .local _ .vmem, ⟨47, _⟩ => ⟨S1x192x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x192x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x192x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x192x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x1408 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x192x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x64x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x256x1408 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x192x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference9Ideal.lean ====
abbrev S2x256x512 : Shape := ⟨3, ![2, 256, 512]⟩
abbrev S1x1024x1408 : Shape := ⟨3, ![1, 1024, 1408]⟩
abbrev S1x768x256 : Shape := ⟨3, ![1, 768, 256]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S1x1024x1408, .f32⟩
  | .hbm, ⟨2, _⟩ => ⟨S1x768x256, .f32⟩
  | .hbm, ⟨3, _⟩ => ⟨S2x256x512, .f32⟩
  | .hbm, ⟨4, _⟩ => ⟨S1x1024x1408, .f32⟩
  | .hbm, ⟨5, _⟩ => ⟨S1x768x256, .f32⟩
  | .hbm, ⟨6, _⟩ => ⟨S2x256x512, .f32⟩
  | .hbm, ⟨7, _⟩ => ⟨S1x1024x1408, .f32⟩
  | .hbm, ⟨8, _⟩ => ⟨S1x768x256, .f32⟩
  | .hbm, ⟨9, _⟩ => ⟨S2x256x512, .f32⟩
  | .hbm, ⟨10, _⟩ => ⟨S1x1024x1408, .f32⟩
  | .hbm, ⟨11, _⟩ => ⟨S1x768x256, .f32⟩
  | .hbm, ⟨12, _⟩ => ⟨S_, .f32⟩
  | .hbm, ⟨13, _⟩ => ⟨S2x256x512, .f32⟩
  | .hbm, ⟨14, _⟩ => ⟨S2x256x512, .f32⟩
  | .hbm, ⟨15, _⟩ => ⟨S_, .f32⟩
  | .hbm, ⟨16, _⟩ => ⟨S2x256x512, .f32⟩
  | .hbm, ⟨17, _⟩ => ⟨S2x256x512, .f32⟩
  | .hbm, ⟨18, _⟩ => ⟨S2x256x512, .f32⟩
  | .hbm, ⟨19, _⟩ => ⟨S_, .f32⟩
  | .hbm, ⟨20, _⟩ => ⟨S2x256x512, .f32⟩
  | .hbm, ⟨21, _⟩ => ⟨S2x256x512, .f32⟩
  | .hbm, ⟨22, _⟩ => ⟨S2x256x512, .f32⟩
  | .hbm, ⟨23, _⟩ => ⟨S_, .f32⟩
  | .hbm, ⟨24, _⟩ => ⟨S2x256x512, .f32⟩
  | .hbm, ⟨25, _⟩ => ⟨S2x256x512, .f32⟩
  | .hbm, ⟨26, _⟩ => ⟨S2x256x512, .f32⟩
  | .hbm, ⟨27, _⟩ => ⟨S_, .f32⟩
  | .hbm, ⟨28, _⟩ => ⟨S2x256x512, .f32⟩
  | .hbm, ⟨29, _⟩ => ⟨S2x256x512, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S_, .f32⟩
  | .hbm, ⟨35, _⟩ => ⟨S2x256x512, .f32⟩
  | .hbm, ⟨36, _⟩ => ⟨S2x256x512, .f32⟩
  | .hbm, ⟨37, _⟩ => ⟨S2x256x512, .f32⟩
  | .hbm, ⟨38, _⟩ => ⟨S_, .f32⟩
  | .hbm, ⟨39, _⟩ => ⟨S2x256x512, .f32⟩
  | .hbm, ⟨40, _⟩ => ⟨S2x256x512, .f32⟩
  | .hbm, ⟨41, _⟩ => ⟨S2x256x512, .f32⟩
  | .hbm, ⟨42, _⟩ => ⟨S_, .f32⟩
  | .hbm, ⟨43, _⟩ => ⟨S2x256x512, .f32⟩
  | .hbm, ⟨44, _⟩ => ⟨S2x256x512, .f32⟩
  | .hbm, ⟨45, _⟩ => ⟨S_, .f32⟩
  | .hbm, ⟨46, _⟩ => ⟨S1x1024x1408, .f32⟩
  | .hbm, ⟨47, _⟩ => ⟨S1x1024x1408, .f32⟩
  | .hbm, ⟨48, _⟩ => ⟨S_, .f32⟩
  | .hbm, ⟨49, _⟩ => ⟨S1x1024x1408, .f32⟩
  | .hbm, ⟨50, _⟩ => ⟨S1x1024x1408, .f32⟩
  | .hbm, ⟨51, _⟩ => ⟨S1x1024x1408, .f32⟩
  | .hbm, ⟨52, _⟩ => ⟨S_, .f32⟩
  | .hbm, ⟨53, _⟩ => ⟨S1x1024x1408, .f32⟩
  | .hbm, ⟨54, _⟩ => ⟨S1x1024x1408, .f32⟩
  | .hbm, ⟨55, _⟩ => ⟨S1x1024x1408, .f32⟩
  | .hbm, ⟨56, _⟩ => ⟨S_, .f32⟩
  | .hbm, ⟨57, _⟩ => ⟨S1x1024x1408, .f32⟩
  | .hbm, ⟨58, _⟩ => ⟨S1x1024x1408, .f32⟩
  | .hbm, ⟨59, _⟩ => ⟨S1x1024x1408, .f32⟩
  | .hbm, ⟨60, _⟩ => ⟨S_, .f32⟩
  | .hbm, ⟨61, _⟩ => ⟨S1x1024x1408, .f32⟩
  | .hbm, ⟨62, _⟩ => ⟨S1x1024x1408, .f32⟩
  | .hbm, ⟨63, _⟩ => ⟨S_, .f32⟩
  | .hbm, ⟨64, _⟩ => ⟨S1x1024x1408, .f32⟩
  | .hbm, ⟨65, _⟩ => ⟨S1x1024x1408, .f32⟩
  | .hbm, ⟨66, _⟩ => ⟨S1x1024x1408, .f32⟩
  | .hbm, ⟨67, _⟩ => ⟨S_, .f32⟩
  | .hbm, ⟨68, _⟩ => ⟨S1x1024x1408, .f32⟩
  | .hbm, ⟨69, _⟩ => ⟨S1x1024x1408, .f32⟩
  | .hbm, ⟨70, _⟩ => ⟨S1x1024x1408, .f32⟩
  | .hbm, ⟨71, _⟩ => ⟨S_, .f32⟩
  | .hbm, ⟨72, _⟩ => ⟨S1x1024x1408, .f32⟩
  | .hbm, ⟨73, _⟩ => ⟨S1x1024x1408, .f32⟩
  | .hbm, ⟨74, _⟩ => ⟨S1x1024x1408, .f32⟩
  | .hbm, ⟨75, _⟩ => ⟨S_, .f32⟩
  | .hbm, ⟨76, _⟩ => ⟨S1x1024x1408, .f32⟩
  | .hbm, ⟨77, _⟩ => ⟨S1x1024x1408, .f32⟩
  | .hbm, ⟨78, _⟩ => ⟨S_, .f32⟩
  | .hbm, ⟨79, _⟩ => ⟨S1x768x256, .f32⟩
  | .hbm, ⟨80, _⟩ => ⟨S1x768x256, .f32⟩
  | .hbm, ⟨81, _⟩ => ⟨S_, .f32⟩
  | .hbm, ⟨82, _⟩ => ⟨S1x768x256, .f32⟩
  | .hbm, ⟨83, _⟩ => ⟨S1x768x256, .f32⟩
  | .hbm, ⟨84, _⟩ => ⟨S1x768x256, .f32⟩
  | .hbm, ⟨85, _⟩ => ⟨S_, .f32⟩
  | .hbm, ⟨86, _⟩ => ⟨S1x768x256, .f32⟩
  | .hbm, ⟨87, _⟩ => ⟨S1x768x256, .f32⟩
  | .hbm, ⟨88, _⟩ => ⟨S1x768x256, .f32⟩
  | .hbm, ⟨89, _⟩ => ⟨S_, .f32⟩
  | .hbm, ⟨90, _⟩ => ⟨S1x768x256, .f32⟩
  | .hbm, ⟨91, _⟩ => ⟨S1x768x256, .f32⟩
  | .hbm, ⟨92, _⟩ => ⟨S1x768x256, .f32⟩
  | .hbm, ⟨93, _⟩ => ⟨S_, .f32⟩
  | .hbm, ⟨94, _⟩ => ⟨S1x768x256, .f32⟩
  | .hbm, ⟨95, _⟩ => ⟨S1x768x256, .f32⟩
  | .hbm, ⟨96, _⟩ => ⟨S_, .f32⟩
  | .hbm, ⟨97, _⟩ => ⟨S1x768x256, .f32⟩
  | .hbm, ⟨98, _⟩ => ⟨S1x768x256, .f32⟩
  | .hbm, ⟨99, _⟩ => ⟨S1x768x256, .f32⟩
  | .hbm, ⟨100, _⟩ => ⟨S_, .f32⟩
  | .hbm, ⟨101, _⟩ => ⟨S1x768x256, .f32⟩
  | .hbm, ⟨102, _⟩ => ⟨S1x768x256, .f32⟩
  | .hbm, ⟨103, _⟩ => ⟨S1x768x256, .f32⟩
  | .hbm, ⟨104, _⟩ => ⟨S_, .f32⟩
  | .hbm, ⟨105, _⟩ => ⟨S1x768x256, .f32⟩
  | .hbm, ⟨106, _⟩ => ⟨S1x768x256, .f32⟩
  | .hbm, ⟨107, _⟩ => ⟨S1x768x256, .f32⟩
  | .hbm, ⟨108, _⟩ => ⟨S_, .f32⟩
  | .hbm, ⟨109, _⟩ => ⟨S1x768x256, .f32⟩
  | .hbm, ⟨110, _⟩ => ⟨S1x768x256, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel10.lean ====
abbrev S40x1024 : Shape := ⟨2, ![40, 1024]⟩
abbrev S7x40x1024 : Shape := ⟨3, ![7, 40, 1024]⟩
abbrev S2x1024 : Shape := ⟨2, ![2, 1024]⟩
abbrev S1024 : Shape := ⟨1, ![1024]⟩
abbrev S1x1024 : Shape := ⟨2, ![1, 1024]⟩
abbrev S1x128 : Shape := ⟨2, ![1, 128]⟩
abbrev S1x40x1024 : Shape := ⟨3, ![1, 40, 1024]⟩

abbrev nBuf : Space → Nat
  | .hbm => 27
  | .vmem => 25
  | .smem => 0
  | _ => 0

abbrev bufTy : (tb : Table) → Fin (tcTables nBuf tb) → BufTy
  | .hbm, ⟨0, _⟩ => ⟨S40x1024, .f32⟩
  | .hbm, ⟨1, _⟩ => ⟨S7x40x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S1024, .f32⟩
  | .hbm, ⟨8, _⟩ => ⟨S2x1024, .f32⟩
  | .hbm, ⟨9, _⟩ => ⟨S2x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x128, .f32⟩
  | .hbm, ⟨15, _⟩ => ⟨S2x1024, .f32⟩
  | .hbm, ⟨16, _⟩ => ⟨S2x1024, .f32⟩
  | .hbm, ⟨17, _⟩ => ⟨S1024, .f32⟩
  | .hbm, ⟨18, _⟩ => ⟨S2x1024, .f32⟩
  | .hbm, ⟨19, _⟩ => ⟨S2x1024, .f32⟩
  | .hbm, ⟨20, _⟩ => ⟨S1024, .f32⟩
  | .hbm, ⟨21, _⟩ => ⟨S2x1024, .f32⟩
  | .hbm, ⟨22, _⟩ => ⟨S2x1024, .f32⟩
  | .hbm, ⟨23, _⟩ => ⟨S1024, .f32⟩
  | .hbm, ⟨24, _⟩ => ⟨S2x1024, .f32⟩
  | .hbm, ⟨25, _⟩ => ⟨S2x1024, .f32⟩
  | .hbm, ⟨26, _⟩ => ⟨S1024, .f32⟩
  | .local _ .vmem, ⟨0, _⟩ => ⟨S40x1024, .f32⟩
  | .local _ .vmem, ⟨1, _⟩ => ⟨S7x40x1024, .f32⟩
  | .local _ .vmem, ⟨2, _⟩ => ⟨S2x1024, .f32⟩
  | .local _ .vmem, ⟨3, _⟩ => ⟨S2x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | .local _ .vmem, ⟨7, _⟩ => ⟨S1x1024, .f32⟩
  | .local _ .vmem, ⟨8, _⟩ => ⟨S2x1024, .f32⟩
  | .local _ .vmem, ⟨9, _⟩ => ⟨S2x1024, .f32⟩
  | .local _ .vmem, ⟨10, _⟩ => ⟨S1x1024, .f32⟩
  | .local _ .vmem, ⟨11, _⟩ => ⟨S1x128, .f32⟩
  | .local _ .vmem, ⟨12, _⟩ => ⟨S2x1024, .f32⟩
  | .local _ .vmem, ⟨13, _⟩ => ⟨S2x1024, .f32⟩
  | .local _ .vmem, ⟨14, _⟩ => ⟨S1024, .f32⟩
  | .local _ .vmem, ⟨15, _⟩ => ⟨S2x1024, .f32⟩
  | .local _ .vmem, ⟨16, _⟩ => ⟨S2x1024, .f32⟩
  | .local _ .vmem, ⟨17, _⟩ => ⟨S1024, .f32⟩
  | .local _ .vmem, ⟨18, _⟩ => ⟨S2x1024, .f32⟩
  | .local _ .vmem, ⟨19, _⟩ => ⟨S2x1024, .f32⟩
  | .local _ .vmem, ⟨20, _⟩ => ⟨S1024, .f32⟩
  | .local _ .vmem, ⟨21, _⟩ => ⟨S2x1024, .f32⟩
  | .local _ .vmem, ⟨22, _⟩ => ⟨S2x1024, .f32⟩
  | .local _ .vmem, ⟨23, _⟩ => ⟨S1024, .f32⟩
  | .local _ .vmem, ⟨24, _⟩ => ⟨S40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev main_v3_7 : Ref sig .tc := ⟨.hbm, 21, rfl⟩
abbrev main_v3_8 : Ref sig .tc := ⟨.hbm, 22, rfl⟩
abbrev main_v3_9 : Ref sig .tc := ⟨.hbm, 23, rfl⟩
abbrev main_v3_10 : Ref sig .tc := ⟨.hbm, 24, rfl⟩
abbrev main_v3_11 : Ref sig .tc := ⟨.hbm, 25, rfl⟩
abbrev main_v3_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference10Ideal.lean ====
abbrev S40x1024 : Shape := ⟨2, ![40, 1024]⟩
abbrev S7x40x1024 : Shape := ⟨3, ![7, 40, 1024]⟩
abbrev S2x1024 : Shape := ⟨2, ![2, 1024]⟩
abbrev S1024 : Shape := ⟨1, ![1024]⟩
abbrev S_ : Shape := ⟨0, ![]⟩
abbrev S1x1024 : Shape := ⟨2, ![1, 1024]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S7x40x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S1024, .f32⟩
  | .hbm, ⟨8, _⟩ => ⟨S2x1024, .f32⟩
  | .hbm, ⟨9, _⟩ => ⟨S2x1024, .f32⟩
  | .hbm, ⟨10, _⟩ => ⟨S1024, .f32⟩
  | .hbm, ⟨11, _⟩ => ⟨S_, .f32⟩
  | .hbm, ⟨12, _⟩ => ⟨S40x1024, .f32⟩
  | .hbm, ⟨13, _⟩ => ⟨S40x1024, .f32⟩
  | .hbm, ⟨14, _⟩ => ⟨S2x1024, .f32⟩
  | .hbm, ⟨15, _⟩ => ⟨S2x1024, .f32⟩
  | .hbm, ⟨16, _⟩ => ⟨S1x1024, .f32⟩
  | .hbm, ⟨17, _⟩ => ⟨S1024, .f32⟩
  | .hbm, ⟨18, _⟩ => ⟨S_, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S2x1024, .f32⟩
  | .hbm, ⟨24, _⟩ => ⟨S2x1024, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S_, .f32⟩
  | .hbm, ⟨30, _⟩ => ⟨S2x1024, .f32⟩
  | .hbm, ⟨31, _⟩ => ⟨S2x1024, .f32⟩
  | .hbm, ⟨32, _⟩ => ⟨S2x1024, .f32⟩
  | .hbm, ⟨33, _⟩ => ⟨S_, .f32⟩
  | .hbm, ⟨34, _⟩ => ⟨S2x1024, .f32⟩
  | .hbm, ⟨35, _⟩ => ⟨S2x1024, .f32⟩
  | .hbm, ⟨36, _⟩ => ⟨S_, .f32⟩
  | .hbm, ⟨37, _⟩ => ⟨S2x1024, .f32⟩
  | .hbm, ⟨38, _⟩ => ⟨S2x1024, .f32⟩
  | .hbm, ⟨39, _⟩ => ⟨S2x1024, .f32⟩
  | .hbm, ⟨40, _⟩ => ⟨S_, .f32⟩
  | .hbm, ⟨41, _⟩ => ⟨S2x1024, .f32⟩
  | .hbm, ⟨42, _⟩ => ⟨S2x1024, .f32⟩
  | .hbm, ⟨43, _⟩ => ⟨S2x1024, .f32⟩
  | .hbm, ⟨44, _⟩ => ⟨S_, .f32⟩
  | .hbm, ⟨45, _⟩ => ⟨S2x1024, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S_, .f32⟩
  | .hbm, ⟨52, _⟩ => ⟨S2x1024, .f32⟩
  | .hbm, ⟨53, _⟩ => ⟨S2x1024, .f32⟩
  | .hbm, ⟨54, _⟩ => ⟨S_, .f32⟩
  | .hbm, ⟨55, _⟩ => ⟨S2x1024, .f32⟩
  | .hbm, ⟨56, _⟩ => ⟨S2x1024, .f32⟩
  | .hbm, ⟨57, _⟩ => ⟨S2x1024, .f32⟩
  | .hbm, ⟨58, _⟩ => ⟨S_, .f32⟩
  | .hbm, ⟨59, _⟩ => ⟨S2x1024, .f32⟩
  | .hbm, ⟨60, _⟩ => ⟨S2x1024, .f32⟩
  | .hbm, ⟨61, _⟩ => ⟨S2x1024, .f32⟩
  | .hbm, ⟨62, _⟩ => ⟨S_, .f32⟩
  | .hbm, ⟨63, _⟩ => ⟨S2x1024, .f32⟩
  | .hbm, ⟨64, _⟩ => ⟨S2x1024, .f32⟩
  | .hbm, ⟨65, _⟩ => ⟨S2x1024, .f32⟩
  | .hbm, ⟨66, _⟩ => ⟨S_, .f32⟩
  | .hbm, ⟨67, _⟩ => ⟨S2x1024, .f32⟩
  | .hbm, ⟨68, _⟩ => ⟨S2x1024, .f32⟩
  | .hbm, ⟨69, _⟩ => ⟨S_, .f32⟩
  | .hbm, ⟨70, _⟩ => ⟨S2x1024, .f32⟩
  | .hbm, ⟨71, _⟩ => ⟨S2x1024, .f32⟩
  | .hbm, ⟨72, _⟩ => ⟨S2x1024, .f32⟩
  | .hbm, ⟨73, _⟩ => ⟨S_, .f32⟩
  | .hbm, ⟨74, _⟩ => ⟨S2x1024, .f32⟩
  | .hbm, ⟨75, _⟩ => ⟨S2x1024, .f32⟩
  | .hbm, ⟨76, _⟩ => ⟨S2x1024, .f32⟩
  | .hbm, ⟨77, _⟩ => ⟨S_, .f32⟩
  | .hbm, ⟨78, _⟩ => ⟨S2x1024, .f32⟩
  | .hbm, ⟨79, _⟩ => ⟨S2x1024, .f32⟩
  | .hbm, ⟨80, _⟩ => ⟨S2x1024, .f32⟩
  | .hbm, ⟨81, _⟩ => ⟨S_, .f32⟩
  | .hbm, ⟨82, _⟩ => ⟨S2x1024, .f32⟩
  | .hbm, ⟨83, _⟩ => ⟨S2x1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S_, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S1024, .f32⟩
  | .hbm, ⟨104, _⟩ => ⟨S1024, .f32⟩
  | .hbm, ⟨105, _⟩ => ⟨S1024, .f32⟩
  | .hbm, ⟨106, _⟩ => ⟨S_, .f32⟩
  | .hbm, ⟨107, _⟩ => ⟨S1024, .f32⟩
  | .hbm, ⟨108, _⟩ => ⟨S1024, .f32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1024, .f32⟩
  | .hbm, ⟨113, _⟩ => ⟨S1024, .f32⟩
  | .hbm, ⟨114, _⟩ => ⟨S_, .f32⟩
  | .hbm, ⟨115, _⟩ => ⟨S1024, .f32⟩
  | .hbm, ⟨116, _⟩ => ⟨S1024, .f32⟩
  | .hbm, ⟨117, _⟩ => ⟨S1x128, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_15 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_16 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_v52 : Ref sig .tc := ⟨.hbm, 82, rfl⟩
abbrev main_v53 : Ref sig .tc := ⟨.hbm, 83, rfl⟩
abbrev main_cst_18 : Ref sig .tc := ⟨.hbm, 84, rfl⟩
abbrev main_v54 : Ref sig .tc := ⟨.hbm, 85, rfl⟩
abbrev main_v55 : Ref sig .tc := ⟨.hbm, 86, rfl⟩
abbrev main_cst_19 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_20 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_21 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_22 : Ref sig .tc := ⟨.hbm, 99, rfl⟩
abbrev main_v65 : Ref sig .tc := ⟨.hbm, 100, rfl⟩
abbrev main_v66 : Ref sig .tc := ⟨.hbm, 101, rfl⟩
abbrev main_cst_23 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_24 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_25 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_26 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩

abbrev nD : Nat := 1
abbrev τ : Topo := Topo.v7x

variable {F : FTy → Type} [FloatOps F]
-- ==== Kernel11.lean ====
abbrev S2048x1024 : Shape := ⟨2, ![2048, 1024]⟩
abbrev S3x1024 : Shape := ⟨2, ![3, 1024]⟩
abbrev S2048x256 : Shape := ⟨2, ![2048, 256]⟩
abbrev S256x512 : Shape := ⟨2, ![256, 512]⟩
abbrev S2048x1280 : Shape := ⟨2, ![2048, 1280]⟩
abbrev S1280x1024 : Shape := ⟨2, ![1280, 1024]⟩
abbrev S1024 : Shape := ⟨1, ![1024]⟩
abbrev S_ : Shape := ⟨0, ![]⟩
abbrev S8x1024 : Shape := ⟨2, ![8, 1024]⟩
abbrev S1x1024 : Shape := ⟨2, ![1, 1024]⟩
abbrev S1x128 : Shape := ⟨2, ![1, 128]⟩
abbrev S512x1024 : Shape := ⟨2, ![512, 1024]⟩
abbrev S512x256 : Shape := ⟨2, ![512, 256]⟩
abbrev S512x1280 : Shape := ⟨2, ![512, 1280]⟩
abbrev S256x256 : Shape := ⟨2, ![256, 256]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 18
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S3x1024, .f32⟩
  | .hbm, ⟨4, _⟩ => ⟨S2048x256, .bf16⟩
  | .hbm, ⟨5, _⟩ => ⟨S256x512, .bf16⟩
  | .hbm, ⟨6, _⟩ => ⟨S2048x1280, .f32⟩
  | .hbm, ⟨7, _⟩ => ⟨S2048x1024, .f32⟩
  | .hbm, ⟨8, _⟩ => ⟨S1280x1024, .bf16⟩
  | .hbm, ⟨9, _⟩ => ⟨S1024, .f32⟩
  | .hbm, ⟨10, _⟩ => ⟨S2048x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S1x1024, .f32⟩
  | .hbm, ⟨15, _⟩ => ⟨S2048x1024, .f32⟩
  | .hbm, ⟨16, _⟩ => ⟨S1x128, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S512x256, .bf16⟩
  | .local _ .vmem, ⟨12, _⟩ => ⟨S512x256, .bf16⟩
  | .local _ .vmem, ⟨13, _⟩ => ⟨S256x512, .bf16⟩
  | .local _ .vmem, ⟨14, _⟩ => ⟨S512x1280, .f32⟩
  | .local _ .vmem, ⟨15, _⟩ => ⟨S512x1280, .f32⟩
  | .local _ .vmem, ⟨16, _⟩ => ⟨S512x1024, .f32⟩
  | .local _ .vmem, ⟨17, _⟩ => ⟨S512x1024, .f32⟩
  | .local _ .vmem, ⟨18, _⟩ => ⟨S1280x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x128, .f32⟩
  | .local _ .vmem, ⟨25, _⟩ => ⟨S1x1024, .f32⟩
  | .local _ .vmem, ⟨26, _⟩ => ⟨S512x1280, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference11Ideal.lean ====
abbrev S2048x1024 : Shape := ⟨2, ![2048, 1024]⟩
abbrev S3x1024 : Shape := ⟨2, ![3, 1024]⟩
abbrev S2048x256 : Shape := ⟨2, ![2048, 256]⟩
abbrev S256x512 : Shape := ⟨2, ![256, 512]⟩
abbrev S2048x1280 : Shape := ⟨2, ![2048, 1280]⟩
abbrev S1280x1024 : Shape := ⟨2, ![1280, 1024]⟩
abbrev S1024 : Shape := ⟨1, ![1024]⟩
abbrev S_ : Shape := ⟨0, ![]⟩
abbrev S1x1024 : Shape := ⟨2, ![1, 1024]⟩
abbrev S2047x1024 : Shape := ⟨2, ![2047, 1024]⟩
abbrev S2x1024 : Shape := ⟨2, ![2, 1024]⟩
abbrev S2046x1024 : Shape := ⟨2, ![2046, 1024]⟩
abbrev S256x256 : Shape := ⟨2, ![256, 256]⟩
abbrev S2048x4x64 : Shape := ⟨3, ![2048, 4, 64]⟩
abbrev S256x4x64 : Shape := ⟨3, ![256, 4, 64]⟩
abbrev S4x2048x256 : Shape := ⟨3, ![4, 2048, 256]⟩
abbrev S4x2048 : Shape := ⟨2, ![4, 2048]⟩
abbrev S4x2048x1 : Shape := ⟨3, ![4, 2048, 1]⟩
abbrev S4x64x2048 : Shape := ⟨3, ![4, 64, 2048]⟩
abbrev S2048 : Shape := ⟨1, ![2048]⟩
abbrev S2048x1 : Shape := ⟨2, ![2048, 1]⟩
abbrev S1x128 : Shape := ⟨2, ![1, 128]⟩

abbrev nBuf : Space → Nat
  | .hbm => 150
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S3x1024, .f32⟩
  | 4 => ⟨S2048x256, .bf16⟩
  | 5 => ⟨S256x512, .bf16⟩
  | 6 => ⟨S2048x1280, .f32⟩
  | 7 => ⟨S2048x1024, .f32⟩
  | 8 => ⟨S1280x1024, .bf16⟩
  | 9 => ⟨S1024, .f32⟩
  | 10 => ⟨S2048x1024, .f32⟩
  | 11 => ⟨S2048x256, .f32⟩
  | 12 => ⟨S256x512, .f32⟩
  | 13 => ⟨S2048x1024, .f32⟩
  | 14 => ⟨S_, .f32⟩
  | 15 => ⟨S1x1024, .f32⟩
  | 16 => ⟨S2047x1024, .f32⟩
  | 17 => ⟨S2048x1024, .f32⟩
  | 18 => ⟨S_, .f32⟩
  | 19 => ⟨S2x1024, .f32⟩
  | 20 => ⟨S2046x1024, .f32⟩
  | 21 => ⟨S2048x1024, .f32⟩
  | 22 => ⟨S1x1024, .f32⟩
  | 23 => ⟨S1024, .f32⟩
  | 24 => ⟨S1x1024, .f32⟩
  | 25 => ⟨S2048x1024, .f32⟩
  | 26 => ⟨S2048x1024, .f32⟩
  | 27 => ⟨S1x1024, .f32⟩
  | 28 => ⟨S1024, .f32⟩
  | 29 => ⟨S1x1024, .f32⟩
  | 30 => ⟨S2048x1024, .f32⟩
  | 31 => ⟨S2048x1024, .f32⟩
  | 32 => ⟨S2048x1024, .f32⟩
  | 33 => ⟨S1x1024, .f32⟩
  | 34 => ⟨S1024, .f32⟩
  | 35 => ⟨S1x1024, .f32⟩
  | 36 => ⟨S2048x1024, .f32⟩
  | 37 => ⟨S2048x1024, .f32⟩
  | 38 => ⟨S2048x1024, .f32⟩
  | 39 => ⟨S256x256, .f32⟩
  | 40 => ⟨S256x256, .f32⟩
  | 41 => ⟨S2048x4x64, .f32⟩
  | 42 => ⟨S256x4x64, .f32⟩
  | 43 => ⟨S4x2048x256, .f32⟩
  | 44 => ⟨S_, .f32⟩
  | 45 => ⟨S4x2048x256, .f32⟩
  | 46 => ⟨S4x2048x256, .f32⟩
  | 47 => ⟨S_, .f32⟩
  | 48 => ⟨S4x2048, .f32⟩
  | 49 => ⟨S_, .f32⟩
  | 50 => ⟨S4x2048, .f32⟩
  | 51 => ⟨S4x2048, .f32⟩
  | 52 => ⟨S4x2048x1, .f32⟩
  | 53 => ⟨S4x2048x256, .f32⟩
  | 54 => ⟨S4x2048x256, .f32⟩
  | 55 => ⟨S4x2048x256, .f32⟩
  | 56 => ⟨S_, .f32⟩
  | 57 => ⟨S4x2048, .f32⟩
  | 58 => ⟨S4x2048x1, .f32⟩
  | 59 => ⟨S4x2048x256, .f32⟩
  | 60 => ⟨S4x2048x256, .f32⟩
  | 61 => ⟨S256x4x64, .f32⟩
  | 62 => ⟨S4x64x2048, .f32⟩
  | 63 => ⟨S2048x4x64, .f32⟩
  | 64 => ⟨S2048x256, .f32⟩
  | 65 => ⟨S2048x1024, .f32⟩
  | 66 => ⟨S2048x1280, .f32⟩
  | 67 => ⟨S2048x1280, .f32⟩
  | 68 => ⟨S2048x1280, .f32⟩
  | 69 => ⟨S_, .f32⟩
  | 70 => ⟨S2048x1280, .f32⟩
  | 71 => ⟨S2048x1280, .f32⟩
  | 72 => ⟨S_, .f32⟩
  | 73 => ⟨S2048x1280, .f32⟩
  | 74 => ⟨S2048x1280, .f32⟩
  | 75 => ⟨S2048x1280, .f32⟩
  | 76 => ⟨S2048x1280, .f32⟩
  | 77 => ⟨S1280x1024, .f32⟩
  | 78 => ⟨S2048x1024, .f32⟩
  | 79 => ⟨S2048x1024, .f32⟩
  | 80 => ⟨S2048x1024, .f32⟩
  | 81 => ⟨S_, .f32⟩
  | 82 => ⟨S2048, .f32⟩
  | 83 => ⟨S2048x1, .f32⟩
  | 84 => ⟨S_, .f32⟩
  | 85 => ⟨S2048x1, .f32⟩
  | 86 => ⟨S2048x1, .f32⟩
  | 87 => ⟨S_, .f32⟩
  | 88 => ⟨S2048x1, .f32⟩
  | 89 => ⟨S2048x1, .f32⟩
  | 90 => ⟨S2048x1, .f32⟩
  | 91 => ⟨S2048x1, .f32⟩
  | 92 => ⟨S_, .f32⟩
  | 93 => ⟨S2048x1, .f32⟩
  | 94 => ⟨S2048x1, .f32⟩
  | 95 => ⟨S2048x1024, .f32⟩
  | 96 => ⟨S2048x1024, .f32⟩
  | 97 => ⟨S1x1024, .f32⟩
  | 98 => ⟨S2048x1024, .f32⟩
  | 99 => ⟨S2048x1024, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S_, .f32⟩
  | 106 => ⟨S2048, .f32⟩
  | 107 => ⟨S_, .f32⟩
  | 108 => ⟨S2048, .f32⟩
  | 109 => ⟨S2048, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S2048, .f32⟩
  | 118 => ⟨S_, .f32⟩
  | 119 => ⟨S2048, .f32⟩
  | 120 => ⟨S2048, .f32⟩
  | 121 => ⟨S2048x1024, .f32⟩
  | 122 => ⟨S2048x1024, .f32⟩
  | 123 => ⟨S2048x1024, .f32⟩
  | 124 => ⟨S_, .f32⟩
  | 125 => ⟨S1024, .f32⟩
  | 126 => ⟨S1x1024, .f32⟩
  | 127 => ⟨S2048x1024, .f32⟩
  | _ => ⟨S2048x1024, .f32⟩

abbrev hbmTy0_1 (i : Nat) : BufTy := match i % 128 with
  | 0 => ⟨S2048x1024, .f32⟩
  | 1 => ⟨S_, .f32⟩
  | 2 => ⟨S1024, .f32⟩
  | 3 => ⟨S2048x1024, .f32⟩
  | 4 => ⟨S_, .f32⟩
  | 5 => ⟨S2048, .f32⟩
  | 6 => ⟨S2048x1, .f32⟩
  | 7 => ⟨S2048x1024, .f32⟩
  | 8 => ⟨S2048x1024, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S1x128, .f32⟩
  | 21 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_5 : Ref sig .tc := ⟨.hbm, 81, rfl⟩
abbrev main_v56 : Ref sig .tc := ⟨.hbm, 82, rfl⟩
abbrev main_v57 : Ref sig .tc := ⟨.hbm, 83, rfl⟩
abbrev main_cst_6 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_9 : Ref sig .tc := ⟨.hbm, 102, rfl⟩
abbrev main_v73 : Ref sig .tc := ⟨.hbm, 103, rfl⟩
abbrev main_v74 : Ref sig .tc := ⟨.hbm, 104, rfl⟩
abbrev main_cst_10 : Ref sig .tc := ⟨.hbm, 105, rfl⟩
abbrev main_v75 : Ref sig .tc := ⟨.hbm, 106, rfl⟩
abbrev main_cst_11 : Ref sig .tc := ⟨.hbm, 107, rfl⟩
abbrev main_v76 : Ref sig .tc := ⟨.hbm, 108, rfl⟩
abbrev main_v77 : Ref sig .tc := ⟨.hbm, 109, rfl⟩
abbrev main_cst_12 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_cst_14 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_cst_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩

abbrev nD : Nat := 1
abbrev τ : Topo := Topo.v7x

variable {F : FTy → Type} [FloatOps F]
-- ==== Proof.Spec.lean ====
module

public import Idealize.ShloMosaic.Lib.Pointwise
public import Idealize.ShloMosaic.PureOps.Ideal.Laws

@[expose] public section

noncomputable section

namespace Cert.Grad

open Idealize.ShloMosaic

/-! ## Real arrays read as arrays of extended reals -/

/-- A real matrix, indexed by natural numbers, as an array of extended reals of a given size. -/
def lift2 {n m : ℕ} (X : ℕ → ℕ → ℝ) : (⟨2, ![n, m]⟩ : Shape).Idx → EReal :=
  fun j => ((X (j 0).val (j 1).val : ℝ) : EReal)

/-- The same for an array of three axes. -/
def lift3 {n m k : ℕ} (X : ℕ → ℕ → ℕ → ℝ) : (⟨3, ![n, m, k]⟩ : Shape).Idx → EReal :=
  fun j => ((X (j 0).val (j 1).val (j 2).val : ℝ) : EReal)

/-- An entry of an array of reals. -/
theorem lift2_at {n m : ℕ} (X : ℕ → ℕ → ℝ) (a : Fin n) (b : Fin m) :
    lift2 (n := n) (m := m) X (ix2 a b) = ((X a.val b.val : ℝ) : EReal) := rfl

/-- An entry of an array of reals with three axes. -/
theorem lift3_at {n m k : ℕ} (X : ℕ → ℕ → ℕ → ℝ) (a : Fin n) (b : Fin m) (c : Fin k) :
    lift3 (n := n) (m := m) (k := k) X (ix3 a b c) = ((X a.val b.val c.val : ℝ) : EReal) := rfl

/-- A finite sum of reals, taken among the extended reals, is the sum taken among the reals. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Division of reals among the extended reals. -/
theorem div_real (x y : ℝ) (h : y ≠ 0) : Ideal.div (x : EReal) (y : EReal) = ((x / y : ℝ) : EReal) := by
  rw [Ideal.div_coe h, ← EReal.coe_mul]; congr 1; ring

/-- The maximum of finitely many (at least one) reals, started at the least extended real, is a real. -/
theorem fold_max_real {n : ℕ} (hn : 0 < n) (f : Fin n → ℝ) :
    ∃ r : ℝ, (Finset.univ.fold max (⊥ : EReal) fun k => ((f k : ℝ) : EReal)) = (r : EReal) := by
  classical
  have key : ∀ s : Finset (Fin n), s.Nonempty →
      ∃ r : ℝ, (s.fold max (⊥ : EReal) fun k => ((f k : ℝ) : EReal)) = (r : EReal) := by
    intro s hs
    induction hs using Finset.Nonempty.cons_induction with
    | singleton a => exact ⟨f a, by simp⟩
    | cons a s ha hs ih =>
      obtain ⟨r, hr⟩ := ih
      exact ⟨max (f a) r, by rw [Finset.fold_cons, hr]; exact (EReal.coe_strictMono.monotone.map_max).symm⟩
  exact key _ ⟨⟨0, hn⟩, Finset.mem_univ _⟩

/-- The word of one eighth. -/
theorem ofBits_eighth : Ideal.ofBits .f32 0x3E000000#32 = ((1 / 8 : ℝ) : EReal) := by
  simp [Ideal.ofBits, Ideal.ieee, -EReal.coe_mul]; norm_num

/-- The word of one half. -/
theorem ofBits_half : Ideal.ofBits .f32 0x3F000000#32 = ((1 / 2 : ℝ) : EReal) := by
  simp [Ideal.ofBits, Ideal.ieee, -EReal.coe_mul]; norm_num

/-- The word of one. -/
theorem ofBits_one : Ideal.ofBits .f32 1065353216#32 = ((1 : ℝ) : EReal) := by
  simp [Ideal.ofBits, Ideal.ieee, -EReal.coe_mul]; norm_num

/-- The word of minus infinity. -/
theorem ofBits_negInf : Ideal.ofBits .f32 0xFF800000#32 = ⊥ := by
  simp [Ideal.ofBits, Ideal.ieee]

/-- The word of infinity. -/
theorem ofBits_inf : Ideal.ofBits .f32 0x7F800000#32 = ⊤ := by
  simp [Ideal.ofBits, Ideal.ieee]

/-! ## The gradients of the layer over the reals -/

section
variable (DH BG CG U CW QM KV Z WO : ℕ → ℕ → ℝ)

/-- The product that the convolution runs over. -/
def av (s c : ℕ) : ℝ := CG s c * U s c
/-- That product one row earlier, zero before the first row. -/
def tap1 (s c : ℕ) : ℝ := if s < 1 then 0 else av CG U (s - 1) c
/-- That product two rows earlier, zero before the first row. -/
def tap2 (s c : ℕ) : ℝ := if s < 2 then 0 else av CG U (s - 2) c
/-- The causal convolution with three taps. -/
def conv (s c : ℕ) : ℝ := CW 0 c * tap2 CG U s c + CW 1 c * tap1 CG U s c + CW 2 c * av CG U s c
/-- The scaled score of query row `s` against memory slot `k` in head `h`. -/
def sc (h s k : ℕ) : ℝ := (∑ d : Fin 64, QM s (h * 64 + d.val) * KV k (h * 64 + d.val)) * (1 / 8)
/-- The sum of the exponentials of a row of scores. -/
def den (h s : ℕ) : ℝ := ∑ k : Fin 256, Real.exp (sc QM KV h s k.val)
/-- The attention weights of a row. -/
def pw (h s k : ℕ) : ℝ := Real.exp (sc QM KV h s k) / den QM KV h s
/-- The attention's output, its heads side by side. -/
def mo (s j : ℕ) : ℝ := ∑ k : Fin 256, pw QM KV (j / 64) s k.val * KV k.val (256 + j)
/-- The logistic function. -/
def lgst (x : ℝ) : ℝ := (1 + Real.exp (-x))⁻¹
/-- The derivative of `x * lgst x`. -/
def dsilu (x : ℝ) : ℝ := lgst x * (1 + x * (1 - lgst x))
/-- The gated convolution and the attention's output side by side. -/
def y0 (s j : ℕ) : ℝ := if j < 1024 then BG s j * conv CG U CW s j else mo QM KV s (j - 1024)
/-- The input of the output projection. -/
def yv (s j : ℕ) : ℝ := y0 BG CG U CW QM KV s j * (Z s j * lgst (Z s j))
/-- The gradient of the output projection's input. -/
def dy (s j : ℕ) : ℝ := ∑ k : Fin 1024, DH s k.val * WO j k.val
/-- The gradient of the projection's weights. -/
def dw (i k : ℕ) : ℝ := ∑ s : Fin 2048, yv BG CG U CW QM KV Z s.val i * DH s.val k
/-- The gradient of the gate's input. -/
def dz (s j : ℕ) : ℝ := dy DH WO s j * y0 BG CG U CW QM KV s j * dsilu (Z s j)
/-- The gradient of what the gate multiplies. -/
def dm (s j : ℕ) : ℝ := dy DH WO s j * (Z s j * lgst (Z s j))
/-- The gradient of the convolution's output. -/
def dc (s c : ℕ) : ℝ := dm DH Z WO s c * BG s c
/-- That gradient some rows later, zero after the last row. -/
def later (n s c : ℕ) : ℝ := if s + n < 2048 then dc DH BG Z WO (s + n) c else 0
/-- The gradient of the product that the convolution runs over. -/
def da (s c : ℕ) : ℝ :=
  CW 2 c * dc DH BG Z WO s c + CW 1 c * later DH BG Z WO 1 s c + CW 0 c * later DH BG Z WO 2 s c
/-- The gradient of the taps, in an array of eight rows. -/
def dcw (t c : ℕ) : ℝ :=
  if t = 0 then ∑ s : Fin 2048, dc DH BG Z WO s.val c * tap2 CG U s.val c
  else if t = 1 then ∑ s : Fin 2048, dc DH BG Z WO s.val c * tap1 CG U s.val c
  else if t = 2 then ∑ s : Fin 2048, dc DH BG Z WO s.val c * av CG U s.val c
  else 0
/-- The gradient of the attention weights. -/
def dp (h s k : ℕ) : ℝ := ∑ d : Fin 64, dm DH Z WO s (1024 + (h * 64 + d.val)) * KV k (256 + (h * 64 + d.val))
/-- The gradient of the unscaled scores. -/
def ds (h s k : ℕ) : ℝ :=
  pw QM KV h s k * (dp DH KV Z WO h s k - ∑ l : Fin 256, pw QM KV h s l.val * dp DH KV Z WO h s l.val) * (1 / 8)
/-- The gradient of the queries. -/
def dq (s j : ℕ) : ℝ := ∑ k : Fin 256, ds DH QM KV Z WO (j / 64) s k.val * KV k.val j
/-- The gradient of the memory's keys and values side by side. -/
def dkv (k j : ℕ) : ℝ :=
  if j < 256 then ∑ s : Fin 2048, ds DH QM KV Z WO (j / 64) s.val k * QM s.val j
  else ∑ s : Fin 2048, pw QM KV ((j - 256) / 64) s.val k * dm DH Z WO s.val (1024 + (j - 256))
/-- The gradient of the layer's input projection, its five parts side by side. -/
def dproj (s j : ℕ) : ℝ :=
  if j < 1024 then dm DH Z WO s j * conv CG U CW s j
  else if j < 2048 then da DH BG CW Z WO s (j - 1024) * U s (j - 1024)
  else if j < 3072 then da DH BG CW Z WO s (j - 2048) * CG s (j - 2048)
  else if j < 3328 then dq DH QM KV Z WO s (j - 3072)
  else dz DH BG CG U CW QM KV Z WO s (j - 3328)

/-- The largest score of a row. -/
def mx (h s : ℕ) : ℝ := (Finset.univ.fold max (⊥ : EReal) fun k : Fin 256 => ((sc QM KV h s k.val : ℝ) : EReal)).toReal

/-- The largest score of a row. -/
theorem mx_eq (h s : ℕ) :
    (Finset.univ.fold max (⊥ : EReal) fun k : Fin 256 => ((sc QM KV h s k.val : ℝ) : EReal)) = ((mx QM KV h s : ℝ) : EReal) := by
  obtain ⟨r, hr⟩ := fold_max_real (by decide : 0 < 256) fun k : Fin 256 => sc QM KV h s k.val
  rw [mx, hr, EReal.toReal_coe]

/-- The sum of the exponentials of a row of scores is positive. -/
theorem den_pos (h s : ℕ) : 0 < den QM KV h s :=
  Finset.sum_pos (fun _ _ => Real.exp_pos _) ⟨⟨0, by decide⟩, Finset.mem_univ _⟩

/-- The sum of the exponentials of a row of scores from which a number was subtracted. -/
theorem den_shift (h s : ℕ) (M : ℝ) :
    ∑ k : Fin 256, Real.exp (sc QM KV h s k.val - M) = den QM KV h s * Real.exp (-M) := by
  rw [den, Finset.sum_mul]
  exact Finset.sum_congr rfl fun k _ => by rw [← Real.exp_add, sub_eq_add_neg]

/-- … is not zero. -/
theorem den_shift_ne (h s : ℕ) (M : ℝ) : ∑ k : Fin 256, Real.exp (sc QM KV h s k.val - M) ≠ 0 := by
  rw [den_shift]; exact mul_ne_zero (den_pos QM KV h s).ne' (Real.exp_ne_zero _)

/-- Subtracting a number from a whole row of scores leaves the attention weights as they are. -/
theorem pw_shift (h s k : ℕ) (M : ℝ) :
    Real.exp (sc QM KV h s k - M) / ∑ k : Fin 256, Real.exp (sc QM KV h s k.val - M) = pw QM KV h s k := by
  rw [den_shift, sub_eq_add_neg, Real.exp_add, pw, mul_div_mul_right _ _ (Real.exp_ne_zero _)]

end

end Cert.Grad

end
-- ==== Proof.Finite.lean ====
module

public import proofs.«01_k».proof.Defs
public import proofs.«01_k».proof.Proof.Spec
public import proofs.«01_k».proof.Proof.Gen.Pre_finite

@[expose] public section

noncomputable section

/-! # Finite arguments are arrays of numbers -/

namespace Cert.Grad

open Idealize.ShloMosaic

/-- An array of two axes, every entry of which compares below +∞ in absolute value, is an array of numbers. -/
theorem real_of_finite {n k : ℕ} (x : (⟨2, ![n, k]⟩ : Shape).Idx → EReal)
    (h : ∀ i, Ideal.cmp .olt (max (x i) (-(x i))) (Ideal.ofBits .f32 0x7F800000#32) = 1#1) :
    ∃ X : ℕ → ℕ → ℝ, x = lift2 X := by
  classical
  have htop : Ideal.ofBits .f32 0x7F800000#32 = ⊤ := by simp [Ideal.ofBits, Ideal.ieee]
  refine ⟨fun a b => if ha : a < n then if hb : b < k then (x (ix2 ⟨a, ha⟩ ⟨b, hb⟩)).toReal else 0 else 0, ?_⟩
  funext i
  have hi := h i
  rw [htop] at hi
  have hlt : max (x i) (-(x i)) < ⊤ := by
    by_contra hn
    simp [Ideal.cmp, hn] at hi
  rw [max_lt_iff] at hlt
  have h1 : x i ≠ ⊤ := hlt.1.ne
  have h2 : x i ≠ ⊥ := fun e => by
    rw [e] at hlt
    exact absurd hlt.2 (by simp)
  have ha : (i 0).val < n := (i 0).isLt
  have hb : (i 1).val < k := (i 1).isLt
  have e : (ix2 ⟨(i 0).val, ha⟩ ⟨(i 1).val, hb⟩ : (⟨2, ![n, k]⟩ : Shape).Idx) = i := ix2_eta i
  simp only [lift2, ha, hb, dite_true]
  rw [e, EReal.coe_toReal h1 h2]

open Cert.Pre_finite in
/-- What the precondition says of the nine arguments. -/
theorem args_real (x0 x1 x2 x3 : FVec Ideal S2048x1024 .f32) (x4 : FVec Ideal S3x1024 .f32) (x5 : FVec Ideal S2048x256 .bf16)
    (x6 : FVec Ideal S256x512 .bf16) (x7 : FVec Ideal S2048x1280 .f32) (x8 : FVec Ideal S1280x1024 .bf16)
    (h : (fn (F := Ideal) x0 x1 x2 x3 x4 x5 x6 x7 x8).1 = (fun _ => 1#1)
      ∧ (fn (F := Ideal) x0 x1 x2 x3 x4 x5 x6 x7 x8).2.1 = (fun _ => 1#1)
      ∧ (fn (F := Ideal) x0 x1 x2 x3 x4 x5 x6 x7 x8).2.2.1 = (fun _ => 1#1)
      ∧ (fn (F := Ideal) x0 x1 x2 x3 x4 x5 x6 x7 x8).2.2.2.1 = (fun _ => 1#1)
      ∧ (fn (F := Ideal) x0 x1 x2 x3 x4 x5 x6 x7 x8).2.2.2.2.1 = (fun _ => 1#1)
      ∧ (fn (F := Ideal) x0 x1 x2 x3 x4 x5 x6 x7 x8).2.2.2.2.2.1 = (fun _ => 1#1)
      ∧ (fn (F := Ideal) x0 x1 x2 x3 x4 x5 x6 x7 x8).2.2.2.2.2.2.1 = (fun _ => 1#1)
      ∧ (fn (F := Ideal) x0 x1 x2 x3 x4 x5 x6 x7 x8).2.2.2.2.2.2.2.1 = (fun _ => 1#1)
      ∧ (fn (F := Ideal) x0 x1 x2 x3 x4 x5 x6 x7 x8).2.2.2.2.2.2.2.2 = (fun _ => 1#1)) :
    ∃ DH BG CG UG CW QM KV ZG WO : ℕ → ℕ → ℝ, x0 = lift2 DH ∧ x1 = lift2 BG ∧ x2 = lift2 CG ∧ x3 = lift2 UG ∧ x4 = lift2 CW ∧ x5 = lift2 QM
      ∧ x6 = lift2 KV ∧ x7 = lift2 ZG ∧ x8 = lift2 WO := by
  obtain ⟨h0, h1, h2, h3, h4, h5, h6, h7, h8⟩ := h
  obtain ⟨DH, e0⟩ := real_of_finite x0 fun i => congrFun h0 i
  obtain ⟨BG, e1⟩ := real_of_finite x1 fun i => congrFun h1 i
  obtain ⟨CG, e2⟩ := real_of_finite x2 fun i => congrFun h2 i
  obtain ⟨UG, e3⟩ := real_of_finite x3 fun i => congrFun h3 i
  obtain ⟨CW, e4⟩ := real_of_finite x4 fun i => congrFun h4 i
  obtain ⟨QM, e5⟩ := real_of_finite x5 fun i => congrFun h5 i
  obtain ⟨KV, e6⟩ := real_of_finite x6 fun i => congrFun h6 i
  obtain ⟨ZG, e7⟩ := real_of_finite x7 fun i => congrFun h7 i
  obtain ⟨WO, e8⟩ := real_of_finite x8 fun i => congrFun h8 i
  exact ⟨DH, BG, CG, UG, CW, QM, KV, ZG, WO, e0, e1, e2, e3, e4, e5, e6, e7, e8⟩

end Cert.Grad
-- ==== Proof.Attention.lean ====
module

public import proofs.«01_k».proof.Proof.Gen.KernelIdeal.Value
public import proofs.«01_k».proof.Proof.Spec
public import Idealize.ShloMosaic.Lib.Pipeline.ValueKit

@[expose] public section

set_option maxRecDepth 16384

noncomputable section

/-! # The memory attention of one tile of rows, as the kernel computes it: heads stacked under one another, masked by lane

Every stage of the kernel's text is stated over arrays of real numbers; `Q`, `KV`, `DM` are the tile's own. -/

namespace Cert.Grad.Ker

open Idealize.ShloMosaic Idealize.ShloMosaic.TcCoe Cert.KernelIdeal Cert.KernelIdeal.Gen

variable (Q KV Z DM M O X : ℕ → ℕ → ℝ)

/-- A block read out of an array of numbers. -/
theorem ld_lift2 {n m : ℕ} (a b n' m' : ℕ)
    (h : ∀ x : Fin 2, ![a, b] x + ![n', m'] x ≤ (⟨2, ![n, m]⟩ : Shape).size x) :
    View.ld (Val := Elt Ideal) (S := ⟨2, ![n, m]⟩) (e' := .f32) (lift2 X) (Rect.unit ![a, b] ![n', m'] h)
      = lift2 (n := n') (m := m') (fun r k => X (a + r) (b + k)) := by
  funext i
  rw [View.ld_apply]
  simp [lift2]

/-! ## The head a lane belongs to -/

/-- The quotient by 64 that the call computes on signed words is the column's head. -/
theorem floor_head (j : Fin 256) :
    Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (j.val / 64) := by
  revert j
  decide +kernel

/-- The same, the sign of the divisor written out. -/
theorem floor_head' (j : Fin 256) :
    Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui 1#1) (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (j.val / 64) := by
  revert j
  decide +kernel

/-- The head of each column, as a word. -/
theorem pay9_eq : k0_pay9 = fun i => BitVec.ofNat 32 ((i 1).val / 64) := by
  funext i; idx_vars i
  pointwise [k0_pay9]
  exact floor_head i1

/-- The head of each column, as a word (the second time it is computed). -/
theorem pay140_eq : k0_pay140 = fun i => BitVec.ofNat 32 ((i 1).val / 64) := by
  funext i; idx_vars i
  pointwise [k0_pay140]
  exact floor_head i1

/-- Selecting the lanes of a head. -/
theorem sel_head {α : Type} (j : Fin 256) (k : Fin 4) (x y : α) :
    Scalar.select (IntOp.cmpi .eq (BitVec.ofNat 32 (j.val / 64)) (BitVec.ofNat 32 k.val)) x y = if j.val / 64 = k.val then x else y := by
  have h : ∀ (j : Fin 256) (k : Fin 4), IntOp.cmpi .eq (BitVec.ofNat 32 (j.val / 64)) (BitVec.ofNat 32 k.val) = if j.val / 64 = k.val then 1#1 else 0#1 := by
    decide +kernel
  rw [h]
  split <;> rfl

/-- The choice of head 0's columns. -/
theorem sel_head0 {α : Type} (j : Fin 256) (x y : α) :
    Scalar.select (IntOp.cmpi .eq (BitVec.ofNat 32 (j.val / 64)) 0#32) x y = if j.val / 64 = 0 then x else y := sel_head j 0 x y
/-- The choice of head 1's columns. -/
theorem sel_head1 {α : Type} (j : Fin 256) (x y : α) :
    Scalar.select (IntOp.cmpi .eq (BitVec.ofNat 32 (j.val / 64)) 1#32) x y = if j.val / 64 = 1 then x else y := sel_head j 1 x y
/-- The choice of head 2's columns. -/
theorem sel_head2 {α : Type} (j : Fin 256) (x y : α) :
    Scalar.select (IntOp.cmpi .eq (BitVec.ofNat 32 (j.val / 64)) 2#32) x y = if j.val / 64 = 2 then x else y := sel_head j 2 x y
/-- The choice of head 3's columns. -/
theorem sel_head3 {α : Type} (j : Fin 256) (x y : α) :
    Scalar.select (IntOp.cmpi .eq (BitVec.ofNat 32 (j.val / 64)) 3#32) x y = if j.val / 64 = 3 then x else y := sel_head j 3 x y

/-! ## Stacking the heads -/

/-- The heads of an array of 512 rows under one another, each with the other heads' lanes zero. -/
def stack (R j : ℕ) : ℝ := if j / 64 = R / 512 then X (R % 512) j else 0

/-- A sum over all lanes of one head's lanes. -/
theorem sum_head (f : ℕ → ℝ) (h : ℕ) (hh : h < 4) :
    ∑ j : Fin 256, (if j.val / 64 = h then f j.val else 0) = ∑ d : Fin 64, f (h * 64 + d.val) := by
  have e := Fin.sum_univ_univ_mul_add 4 64 (fun j => if j / 64 = h then f j else 0)
  rw [show (4 * 64) = 256 from rfl] at e
  rw [← e, Finset.sum_eq_single_of_mem (⟨h, hh⟩ : Fin 4) (Finset.mem_univ _)]
  · exact Finset.sum_congr rfl fun d _ => if_pos (by dsimp only; omega)
  · intro b _ hb
    refine Finset.sum_eq_zero fun d _ => if_neg fun hc => hb (Fin.ext ?_)
    dsimp only at hc ⊢
    omega

/-- A sum over the lanes of a stacked row is the sum over its head's lanes. -/
theorem sum_stack_lane (f : ℕ → ℝ) (R : ℕ) (hR : R < 2048) :
    ∑ j : Fin 256, stack X R j.val * f j.val = ∑ d : Fin 64, X (R % 512) (R / 512 * 64 + d.val) * f (R / 512 * 64 + d.val) := by
  rw [← sum_head (fun j => X (R % 512) j * f j) (R / 512) (by omega)]
  exact Finset.sum_congr rfl fun j _ => by unfold stack; split <;> simp

/-- A sum over all stacked rows at a lane is the sum over the rows of the lane's head. -/
theorem sum_stack_row (f : ℕ → ℝ) (j : ℕ) (hj : j < 256) :
    ∑ R : Fin 2048, f R.val * stack X R.val j = ∑ r : Fin 512, f (j / 64 * 512 + r.val) * X r.val j := by
  have e := Fin.sum_univ_univ_mul_add 4 512 (fun R => f R * stack X R j)
  rw [show (4 * 512) = 2048 from rfl] at e
  rw [← e, Finset.sum_eq_single_of_mem (⟨j / 64, by omega⟩ : Fin 4) (Finset.mem_univ _)]
  · refine Finset.sum_congr rfl fun r _ => ?_
    have hr := r.isLt
    unfold stack
    rw [if_pos (by dsimp only; omega), show (j / 64 * 512 + r.val) % 512 = r.val by omega]
  · intro b _ hb
    refine Finset.sum_eq_zero fun r _ => ?_
    have hr := r.isLt
    unfold stack
    rw [if_neg, mul_zero]
    intro hc
    apply hb
    apply Fin.ext
    dsimp only at hc ⊢
    omega

/-! ## The forward part -/

/-- The queries, stacked head by head. -/
theorem pay12_eq : k0_pay12 (F := Ideal) (k0_pay8 (lift2 Q)) k0_pay9 k0_pay10 k0_pay11 = lift2 (stack Q) := by
  funext i; idx_vars i
  pointwise [k0_pay12, k0_pay8, k0_pay10, pay9_eq, k0_pay11]
  simp only [sel_head0, sel_head1, sel_head2, sel_head3, lift2_at, stack, Nat.sub_sub]
  have h0 := i0.isLt
  split_ifs <;> first | rfl | (exfalso; omega) | (congr 2; omega)

/-- The attention weights, heads under one another. -/
theorem pay13_eq : k0_pay13 (F := Ideal) (lift2 KV) (k0_pay8 (lift2 Q)) k0_pay9 k0_pay10 k0_pay11
    = lift2 (fun R k => pw Q KV (R / 512) (R % 512) k) := by
  funext i; idx_vars i
  pointwise [k0_pay13, pay12_eq]
  have key : ∀ k : Fin 256, (∑ x : Fin 256, stack Q i0.val x.val * KV k.val x.val) * (1 / 8) = sc Q KV (i0 / 512) (i0 % 512) k := fun k => by
    rw [sum_stack_lane Q (fun x => KV k.val x) i0 i0.isLt]; rfl
  simp only [lift2_at, ofBits_eighth, ← EReal.coe_mul, coe_sum, ofBits_negInf, key, mx_eq, ← EReal.coe_sub, Ideal.exp_coe,
    ← EReal.coe_one]
  rw [div_real _ _ (den_shift_ne Q KV _ _ _), ← EReal.coe_mul, mul_one_div, pw_shift]

/-- The softmax over the memory, for the stacked heads. -/
theorem pay14_eq : k0_pay14 (F := Ideal) (lift2 KV) (k0_pay8 (lift2 Q)) k0_pay9 k0_pay10 k0_pay11
    = lift2 (fun R j => ∑ k : Fin 256, pw Q KV (R / 512) (R % 512) k.val * KV k.val (256 + j)) := by
  funext i; idx_vars i
  pointwise [k0_pay14, pay13_eq]
  simp only [lift2_at, ← EReal.coe_mul, coe_sum]

/-- Each lane's head's row out of the stack. -/
theorem pay17_unstack : k0_pay17 (F := Ideal) (lift2 O) (iota Kind.tc S512x256 32 [1] iota_S512x256_d1_w32) (64#32) k0_pay15 k0_pay16 1#1
    = lift2 (fun r j => O (j / 64 * 512 + r) j) := by
  funext i; idx_vars i
  pointwise [k0_pay17, k0_pay15, k0_pay16]
  simp only [floor_head', sel_head1, sel_head2, sel_head3, lift2_at]
  have h1 := i1.isLt
  split_ifs with a b c
  · rw [a]
  · rw [b]
  · rw [c]
  · rw [show (i1 : ℕ) / 64 = 0 by omega, zero_mul, zero_add]

/-- The attention's output. -/
theorem pay17_eq : k0_pay17 (F := Ideal) (k0_pay14 (lift2 KV) (k0_pay8 (lift2 Q)) k0_pay9 k0_pay10 k0_pay11)
    (iota Kind.tc S512x256 32 [1] iota_S512x256_d1_w32) (64#32) k0_pay15 k0_pay16 1#1 = lift2 (mo Q KV) := by
  rw [pay14_eq, pay17_unstack]
  funext i; idx_vars i
  have h0 := i0.isLt
  simp only [lift2_at, mo]
  rw [show ((i1 : ℕ) / 64 * 512 + i0) / 512 = i1 / 64 by omega, show ((i1 : ℕ) / 64 * 512 + i0) % 512 = i0 by omega]

/-! ## The backward part -/

/-- The gradient of the attention weights, from the gradient `DM` of the output. -/
def dpl (h s k : ℕ) : ℝ := ∑ d : Fin 64, DM s (h * 64 + d.val) * KV k (256 + (h * 64 + d.val))
/-- The gradient of the unscaled scores. -/
def dsl (h s k : ℕ) : ℝ :=
  pw Q KV h s k * (dpl KV DM h s k - ∑ l : Fin 256, pw Q KV h s l.val * dpl KV DM h s l.val) * (1 / 8)

/-- The gradient of the memory's output, stacked head by head. -/
theorem pay147_eq : k0_pay147 (F := Ideal) (lift2 DM) k0_pay144 k0_pay145 k0_pay146 = lift2 (stack DM) := by
  funext i; idx_vars i
  pointwise [k0_pay147, k0_pay144, k0_pay145, k0_pay146]
  simp only [floor_head, sel_head0, sel_head1, sel_head2, sel_head3, lift2_at, stack, Nat.sub_sub]
  have h0 := i0.isLt
  split_ifs <;> first | rfl | (exfalso; omega) | (congr 2; omega)

/-- The sums over the lanes of each head, heads under one another. -/
theorem pay143_eq : k0_pay143 (F := Ideal) k0_pay140 (lift2 M) (lift2 (fun r j => if j / 64 = 0 then M r j else 0))
    = lift2 (fun R _ => ∑ d : Fin 64, M (R % 512) (R / 512 * 64 + d.val)) := by
  funext i; idx_vars i
  pointwise [k0_pay143, pay140_eq]
  simp only [sel_head0, sel_head1, sel_head2, sel_head3, lift2_at, Nat.sub_sub]
  have h0 := i0.isLt
  have hc : ∀ (p : Prop) [Decidable p] (x : ℝ), (if p then (x : EReal) else 0) = ((if p then x else 0 : ℝ) : EReal) := by
    intro p _ x; split <;> simp
  simp only [hc, coe_sum]
  split_ifs with a b c <;> congr 1
  · rw [sum_head (fun j => M i0 j) 0 (by omega), show (i0 : ℕ) / 512 = 0 by omega, show (i0 : ℕ) % 512 = i0 by omega]
  · rw [sum_head (fun j => M (i0 - 512) j) 1 (by omega), show (i0 : ℕ) / 512 = 1 by omega, show (i0 : ℕ) % 512 = i0 - 512 by omega]
  · rw [sum_head (fun j => M (i0 - (512 + 512)) j) 2 (by omega), show (i0 : ℕ) / 512 = 2 by omega,
      show (i0 : ℕ) % 512 = i0 - (512 + 512) by omega]
  · rw [sum_head (fun j => M (i0 - (512 + 512 + 512)) j) 3 (by omega), show (i0 : ℕ) / 512 = 3 by omega,
      show (i0 : ℕ) % 512 = i0 - (512 + 512 + 512) by omega]

/-- The sum of a head's output times its gradient is the weighted sum of the weights' gradients. -/
theorem delta_eq (h s : ℕ) (hh : h < 4) :
    ∑ d : Fin 64, DM s (h * 64 + d.val) * mo Q KV s (h * 64 + d.val) = ∑ l : Fin 256, pw Q KV h s l.val * dpl KV DM h s l.val := by
  have e : ∀ d : Fin 64, DM s (h * 64 + d.val) * mo Q KV s (h * 64 + d.val)
      = ∑ l : Fin 256, DM s (h * 64 + d.val) * (pw Q KV h s l.val * KV l.val (256 + (h * 64 + d.val))) := fun d => by
    rw [mo, Finset.mul_sum, show (h * 64 + d.val) / 64 = h by omega]
  rw [Finset.sum_congr rfl fun d _ => e d, Finset.sum_comm]
  refine Finset.sum_congr rfl fun l _ => ?_
  rw [dpl, Finset.mul_sum]
  exact Finset.sum_congr rfl fun d _ => by ring

/-- The gradient of the scores, for the stacked heads. -/
theorem pay148_eq (P DL : ℕ → ℕ → ℝ) : k0_pay148 (F := Ideal) (lift2 KV) (lift2 P) (lift2 DM) (lift2 DL) k0_pay144 k0_pay145 k0_pay146
    = lift2 (fun R k => P R k * (dpl KV DM (R / 512) (R % 512) k - DL R 0) * (1 / 8)) := by
  funext i; idx_vars i
  pointwise [k0_pay148, pay147_eq]
  simp only [lift2_at, ofBits_eighth, ← EReal.coe_mul, coe_sum, ← EReal.coe_sub]
  rw [sum_stack_lane DM (fun x => KV i1 (256 + x)) i0 i0.isLt]
  rfl

/-- The gradient of the unscaled scores, heads under one another. -/
theorem scores_eq : k0_pay148 (F := Ideal) (lift2 KV) (k0_pay13 (lift2 KV) (k0_pay8 (lift2 Q)) k0_pay9 k0_pay10 k0_pay11) (lift2 DM)
      (k0_pay143 k0_pay140 (lift2 (fun r j => DM r j * mo Q KV r j)) (lift2 (fun r j => if j / 64 = 0 then DM r j * mo Q KV r j else 0)))
      k0_pay144 k0_pay145 k0_pay146
    = lift2 (fun R k => dsl Q KV DM (R / 512) (R % 512) k) := by
  rw [pay13_eq, pay143_eq (fun r j => DM r j * mo Q KV r j), pay148_eq]
  funext i; idx_vars i
  have h0 := i0.isLt
  simp only [lift2_at, dsl]
  rw [delta_eq Q KV DM _ _ (by omega)]

/-- The gradient of the queries, put back on the columns. -/
theorem pay151_eq : k0_pay151 (F := Ideal) (lift2 KV) (lift2 O)
    = lift2 (fun r j => ∑ k : Fin 256, O (j / 64 * 512 + r) k.val * KV k.val j) := by
  funext i; idx_vars i
  pointwise [k0_pay151]
  simp only [floor_head, sel_head1, sel_head2, sel_head3, lift2_at, ← EReal.coe_mul, coe_sum]
  have h1 := i1.isLt
  split_ifs with a b c
  · rw [a]
  · rw [b]
  · rw [c]
  · rw [show (i1 : ℕ) / 64 = 0 by omega, zero_mul, zero_add]

/-- The gradient of the queries. -/
theorem queries_eq : k0_pay151 (F := Ideal) (lift2 KV) (lift2 (fun R k => dsl Q KV DM (R / 512) (R % 512) k))
    = lift2 (fun r j => ∑ k : Fin 256, dsl Q KV DM (j / 64) r k.val * KV k.val j) := by
  rw [pay151_eq]
  funext i; idx_vars i
  have h0 := i0.isLt
  simp only [lift2_at]
  rw [show ((i1 : ℕ) / 64 * 512 + i0) / 512 = i1 / 64 by omega, show ((i1 : ℕ) / 64 * 512 + i0) % 512 = i0 by omega]

end Cert.Grad.Ker
end
-- ==== Proof.Chunks.lean ====
module

public import proofs.«01_k».proof.Proof.Attention

@[expose] public section

set_option maxRecDepth 16384

noncomputable section

/-! # The convolution's gradients on one tile of rows, 256 columns at a time

`c`, `u`, `b`, `z` are the tile's columns, `cp`, `up` the eight rows before the tile, `ca` the rows kept from the tile
after it, `w0`, `w1`, `w2` the taps, `dy` the gradient of the gated output; `x` is the tile's number. -/

namespace Cert.Grad.Ker

open Idealize.ShloMosaic Idealize.ShloMosaic.TcCoe Cert.KernelIdeal Cert.KernelIdeal.Gen

section Local
variable (x : BitVec 32) (c u cp up b z dy ca w0 w1 w2 : ℕ → ℕ → ℝ)

/-- The convolution's input one row earlier; before the tile, from the halo, which is zero for the first rows of all. -/
def t1 (r k : ℕ) : ℝ :=
  if r = 0 then (if x = 3#32 then 0 else cp 7 k * up 7 k) else c ((r + 512 - 1) % 512) k * u ((r + 512 - 1) % 512) k
/-- The convolution's input two rows earlier. -/
def t2 (r k : ℕ) : ℝ :=
  if r = 0 then (if x = 3#32 then 0 else cp 6 k * up 6 k)
  else if r = 1 then (if x = 3#32 then 0 else cp 7 k * up 7 k)
  else c ((r + 512 - 2) % 512) k * u ((r + 512 - 2) % 512) k
/-- The convolution. -/
def cv (r k : ℕ) : ℝ := w0 0 k * t2 x c u cp up r k + w1 0 k * t1 x c u cp up r k + w2 0 k * (c r k * u r k)
/-- The gradient of the convolution. -/
def dcl (r k : ℕ) : ℝ := dy r k * (z r k * lgst (z r k)) * b r k
/-- The gradient of the convolution's input: the taps over the rows from here on, the last ones from the tile after. -/
def dal (r k : ℕ) : ℝ :=
  w2 0 k * dcl b z dy r k
    + w1 0 k * (if r = 511 then ca 0 k else dcl b z dy ((r + 512 - 511) % 512) k)
    + w0 0 k * (if r = 510 then ca 0 k else if r = 511 then ca 1 k else dcl b z dy ((r + 512 - 510) % 512) k)

end Local

/-- The logistic function by the hyperbolic tangent of half the argument. -/
theorem half_tanh (x : ℝ) : Ideal.ofBits .f32 1056964608#32 * Ideal.tanh (Ideal.ofBits .f32 1056964608#32 * (x : EReal))
    + Ideal.ofBits .f32 1056964608#32 = ((lgst x : ℝ) : EReal) := by
  rw [ofBits_half, ← EReal.coe_mul, Ideal.tanh_coe, ← EReal.coe_mul, ← EReal.coe_add]
  congr 1
  unfold lgst
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have p1 := Real.exp_pos (1 / 2 * x)
  have p2 := Real.exp_pos (-(1 / 2 * x))
  rw [h1]
  have e : Real.exp (1 / 2 * x) = (Real.exp (-(1 / 2 * x)))⁻¹ := eq_inv_of_mul_eq_one_left h2
  rw [e]
  field_simp
  ring

/-- A choice between two reals is a real. -/
theorem coe_ite (p : Prop) [Decidable p] (x y : ℝ) : (if p then (x : EReal) else (y : EReal)) = ((if p then x else y : ℝ) : EReal) := by
  split <;> rfl

/-- The choice of one row by comparing words. -/
theorem sel_row {α : Type} (r : Fin 512) (n : Fin 512) (a b : α) :
    Scalar.select (IntOp.cmpi .eq (BitVec.ofNat 32 r.val) (BitVec.ofNat 32 n.val)) a b = if r.val = n.val then a else b := by
  have hr := r.isLt
  have hn := n.isLt
  have e : BitVec.ofNat 32 r.val = BitVec.ofNat 32 n.val ↔ r.val = n.val := by
    rw [← BitVec.toNat_inj]; simp only [BitVec.toNat_ofNat]; omega
  by_cases h : r.val = n.val
  · rw [if_pos h]; simp [IntOp.cmpi, Scalar.select, h]
  · rw [if_neg h]; simp only [IntOp.cmpi, Scalar.select, beq_eq_false_iff_ne.mpr (mt e.mp h)]; rfl
/-- The choice of the tile's first row. -/
theorem row_at0 {α : Type} (r : Fin 512) (a b : α) :
    Scalar.select (IntOp.cmpi .eq (BitVec.ofNat 32 r.val) 0#32) a b = if r.val = 0 then a else b := sel_row r 0 a b
/-- The choice of its second row. -/
theorem row_at1 {α : Type} (r : Fin 512) (a b : α) :
    Scalar.select (IntOp.cmpi .eq (BitVec.ofNat 32 r.val) 1#32) a b = if r.val = 1 then a else b := sel_row r 1 a b
/-- The choice of the last row but one. -/
theorem row_at510 {α : Type} (r : Fin 512) (a b : α) :
    Scalar.select (IntOp.cmpi .eq (BitVec.ofNat 32 r.val) 510#32) a b = if r.val = 510 then a else b := sel_row r 510 a b
/-- The choice of the last row. -/
theorem row_at511 {α : Type} (r : Fin 512) (a b : α) :
    Scalar.select (IntOp.cmpi .eq (BitVec.ofNat 32 r.val) 511#32) a b = if r.val = 511 then a else b := sel_row r 511 a b
/-- The choice made in the first tile. -/
theorem sel_first {α : Type} (x : BitVec 32) (a b : α) :
    Scalar.select (Scalar.cmpi .eq x 3#32) a b = if x = 3#32 then a else b := by
  by_cases h : x = 3#32
  · subst h; rfl
  · rw [if_neg h]; simp only [Scalar.cmpi, IntOp.cmpi, Scalar.select, beq_eq_false_iff_ne.mpr h]; rfl

/-- The columns of the first gate, columns from 0. -/
theorem conv0_eq (x : BitVec 32) (c u cp up z dy w0 w1 w2 : ℕ → ℕ → ℝ) : k0_pay41 (F := Ideal) (k0_pay40 (lift2 dy) (k0_pay25 (lift2 c) (lift2 u)) (k0_pay27 x (lift2 c) (lift2 u) (lift2 cp) (lift2 up)) (k0_pay28 x (lift2 c) (lift2 u) (lift2 cp) (lift2 up)) (lift2 w0) (lift2 w1) (lift2 w2) (lift2 z))
    = lift2 (fun r k => dy r (0 + k) * (z r k * lgst (z r k)) * cv x c u cp up w0 w1 w2 r k) := by
  funext i; idx_vars i
  pointwise [k0_pay25, k0_pay26, k0_pay27, k0_pay28, k0_pay29, k0_pay30, k0_pay31, k0_pay32, k0_pay34, k0_pay35, k0_pay37, k0_pay39, k0_pay40, k0_pay41]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the output gate, columns from 0. -/
theorem dz0_eq (x : BitVec 32) (c u cp up b z dy w0 w1 w2 : ℕ → ℕ → ℝ) : k0_pay38 (F := Ideal) (lift2 dy) (lift2 b) (k0_pay25 (lift2 c) (lift2 u)) (k0_pay27 x (lift2 c) (lift2 u) (lift2 cp) (lift2 up)) (k0_pay28 x (lift2 c) (lift2 u) (lift2 cp) (lift2 up)) (lift2 w0) (lift2 w1) (lift2 w2) (lift2 z)
    = lift2 (fun r k => dy r (0 + k) * (b r k * cv x c u cp up w0 w1 w2 r k) * dsilu (z r k)) := by
  funext i; idx_vars i
  pointwise [k0_pay25, k0_pay26, k0_pay27, k0_pay28, k0_pay29, k0_pay30, k0_pay31, k0_pay32, k0_pay33, k0_pay34, k0_pay37, k0_pay38]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The gated output, columns from 0. -/
theorem y0_eq (x : BitVec 32) (c u cp up b z w0 w1 w2 : ℕ → ℕ → ℝ) : k0_pay36 (F := Ideal) (lift2 b) (k0_pay25 (lift2 c) (lift2 u)) (k0_pay27 x (lift2 c) (lift2 u) (lift2 cp) (lift2 up)) (k0_pay28 x (lift2 c) (lift2 u) (lift2 cp) (lift2 up)) (lift2 w0) (lift2 w1) (lift2 w2) (lift2 z)
    = lift2 (fun r k => b r k * cv x c u cp up w0 w1 w2 r k * (z r k * lgst (z r k))) := by
  funext i; idx_vars i
  pointwise [k0_pay25, k0_pay26, k0_pay27, k0_pay28, k0_pay29, k0_pay30, k0_pay31, k0_pay32, k0_pay33, k0_pay34, k0_pay35, k0_pay36]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the second gate, columns from 0. -/
theorem dau0_eq (u b z dy ca w0 w1 w2 : ℕ → ℕ → ℝ) : k0_pay45 (F := Ideal) (lift2 b) (lift2 u) (k0_pay29 (lift2 w0)) (k0_pay30 (lift2 w1)) (k0_pay31 (lift2 w2)) (k0_pay39 (lift2 dy) (lift2 z)) (lift2 ca)
    = lift2 (fun r k => dal b z (fun r k => dy r (0 + k)) ca w0 w1 w2 r k * u r k) := by
  funext i; idx_vars i
  pointwise [k0_pay29, k0_pay30, k0_pay31, k0_pay34, k0_pay35, k0_pay37, k0_pay39, k0_pay42, k0_pay44, k0_pay45]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the values, columns from 0. -/
theorem dac0_eq (c b z dy ca w0 w1 w2 : ℕ → ℕ → ℝ) : k0_pay46 (F := Ideal) (lift2 b) (lift2 c) (k0_pay29 (lift2 w0)) (k0_pay30 (lift2 w1)) (k0_pay31 (lift2 w2)) (k0_pay39 (lift2 dy) (lift2 z)) (lift2 ca)
    = lift2 (fun r k => dal b z (fun r k => dy r (0 + k)) ca w0 w1 w2 r k * c r k) := by
  funext i; idx_vars i
  pointwise [k0_pay29, k0_pay30, k0_pay31, k0_pay34, k0_pay35, k0_pay37, k0_pay39, k0_pay42, k0_pay44, k0_pay46]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The last tap's weight gradient, columns from 0. -/
theorem w20_eq (c u b z dy acc : ℕ → ℕ → ℝ) : k0_pay49 (F := Ideal) (k0_pay25 (lift2 c) (lift2 u)) (k0_pay42 (lift2 b) (k0_pay39 (lift2 dy) (lift2 z))) (lift2 acc)
    = lift2 (fun r k => acc r k + ∑ s : Fin 512, dcl b z (fun r k => dy r (0 + k)) s.val k * (c s.val k * u s.val k)) := by
  funext i; idx_vars i
  pointwise [k0_pay25, k0_pay34, k0_pay35, k0_pay37, k0_pay39, k0_pay42, k0_pay49]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]

/-- The middle tap's weight gradient, columns from 0. -/
theorem w10_eq (x : BitVec 32) (c u cp up b z dy acc : ℕ → ℕ → ℝ) : k0_pay48 (F := Ideal) (k0_pay27 x (lift2 c) (lift2 u) (lift2 cp) (lift2 up)) (k0_pay42 (lift2 b) (k0_pay39 (lift2 dy) (lift2 z))) (lift2 acc)
    = lift2 (fun r k => acc r k + ∑ s : Fin 512, dcl b z (fun r k => dy r (0 + k)) s.val k * t1 x c u cp up s.val k) := by
  funext i; idx_vars i
  pointwise [k0_pay25, k0_pay26, k0_pay27, k0_pay34, k0_pay35, k0_pay37, k0_pay39, k0_pay42, k0_pay48]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The first tap's weight gradient, columns from 0. -/
theorem w00_eq (x : BitVec 32) (c u cp up b z dy acc : ℕ → ℕ → ℝ) : k0_pay47 (F := Ideal) (k0_pay28 x (lift2 c) (lift2 u) (lift2 cp) (lift2 up)) (k0_pay42 (lift2 b) (k0_pay39 (lift2 dy) (lift2 z))) (lift2 acc)
    = lift2 (fun r k => acc r k + ∑ s : Fin 512, dcl b z (fun r k => dy r (0 + k)) s.val k * t2 x c u cp up s.val k) := by
  funext i; idx_vars i
  pointwise [k0_pay25, k0_pay26, k0_pay28, k0_pay34, k0_pay35, k0_pay37, k0_pay39, k0_pay42, k0_pay47]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The rows kept for the next tile, columns from 0. -/
theorem carry0_eq (b z dy : ℕ → ℕ → ℝ) : k0_pay43 (F := Ideal) (lift2 b) (k0_pay39 (lift2 dy) (lift2 z))
    = lift2 (dcl b z (fun r k => dy r (0 + k))) := by
  funext i; idx_vars i
  pointwise [k0_pay34, k0_pay35, k0_pay37, k0_pay39, k0_pay42, k0_pay43]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]

/-- The columns of the first gate, columns from 256. -/
theorem conv1_eq (x : BitVec 32) (c u cp up z dy w0 w1 w2 : ℕ → ℕ → ℝ) : k0_pay69 (F := Ideal) (lift2 dy) (k0_pay59 (Scalar.cmpi .eq x 3#32) (k0_pay50 (lift2 c) (lift2 u)) (k0_pay51 (lift2 cp) (lift2 up)) k0_pay52 (lift2 w0) (lift2 w1) (lift2 w2)) (lift2 z) (k0_pay61 (lift2 z)) k0_pay62
    = lift2 (fun r k => dy r (256 + k) * (z r k * lgst (z r k)) * cv x c u cp up w0 w1 w2 r k) := by
  funext i; idx_vars i
  pointwise [k0_pay50, k0_pay51, k0_pay52, k0_pay53, k0_pay54, k0_pay55, k0_pay56, k0_pay57, k0_pay58, k0_pay59, k0_pay61, k0_pay62, k0_pay63, k0_pay64, k0_pay66, k0_pay68, k0_pay69]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the output gate, columns from 256. -/
theorem dz1_eq (x : BitVec 32) (c u cp up b z dy w0 w1 w2 : ℕ → ℕ → ℝ) : k0_pay67 (F := Ideal) (lift2 dy) (k0_pay60 (Scalar.cmpi .eq x 3#32) (lift2 b) (k0_pay50 (lift2 c) (lift2 u)) (k0_pay51 (lift2 cp) (lift2 up)) k0_pay52 (lift2 w0) (lift2 w1) (lift2 w2)) (lift2 z) (k0_pay61 (lift2 z)) k0_pay62
    = lift2 (fun r k => dy r (256 + k) * (b r k * cv x c u cp up w0 w1 w2 r k) * dsilu (z r k)) := by
  funext i; idx_vars i
  pointwise [k0_pay50, k0_pay51, k0_pay52, k0_pay53, k0_pay54, k0_pay55, k0_pay56, k0_pay57, k0_pay58, k0_pay59, k0_pay60, k0_pay61, k0_pay62, k0_pay63, k0_pay66, k0_pay67]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The gated output, columns from 256. -/
theorem y1_eq (x : BitVec 32) (c u cp up b z w0 w1 w2 : ℕ → ℕ → ℝ) : k0_pay65 (F := Ideal) (k0_pay60 (Scalar.cmpi .eq x 3#32) (lift2 b) (k0_pay50 (lift2 c) (lift2 u)) (k0_pay51 (lift2 cp) (lift2 up)) k0_pay52 (lift2 w0) (lift2 w1) (lift2 w2)) (lift2 z) (k0_pay61 (lift2 z)) k0_pay62
    = lift2 (fun r k => b r k * cv x c u cp up w0 w1 w2 r k * (z r k * lgst (z r k))) := by
  funext i; idx_vars i
  pointwise [k0_pay50, k0_pay51, k0_pay52, k0_pay53, k0_pay54, k0_pay55, k0_pay56, k0_pay57, k0_pay58, k0_pay59, k0_pay60, k0_pay61, k0_pay62, k0_pay63, k0_pay64, k0_pay65]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the second gate, columns from 256. -/
theorem dau1_eq (u b z dy ca w0 w1 w2 : ℕ → ℕ → ℝ) : k0_pay77 (F := Ideal) (lift2 u) (k0_pay56 (lift2 w0)) (k0_pay57 (lift2 w1)) (k0_pay58 (lift2 w2)) (k0_pay70 (lift2 dy) (lift2 b) (lift2 z) (k0_pay61 (lift2 z)) k0_pay62) (k0_pay71 (lift2 dy) (lift2 b) (lift2 z) (k0_pay61 (lift2 z)) k0_pay62 (lift2 ca)) k0_pay72 (k0_pay73 (lift2 ca)) (k0_pay74 (lift2 dy) (lift2 b) (lift2 z) (k0_pay61 (lift2 z)) k0_pay62 (lift2 ca))
    = lift2 (fun r k => dal b z (fun r k => dy r (256 + k)) ca w0 w1 w2 r k * u r k) := by
  funext i; idx_vars i
  pointwise [k0_pay56, k0_pay57, k0_pay58, k0_pay61, k0_pay62, k0_pay63, k0_pay64, k0_pay66, k0_pay68, k0_pay70, k0_pay71, k0_pay72, k0_pay73, k0_pay74, k0_pay76, k0_pay77]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the values, columns from 256. -/
theorem dac1_eq (c b z dy ca w0 w1 w2 : ℕ → ℕ → ℝ) : k0_pay78 (F := Ideal) (lift2 c) (k0_pay56 (lift2 w0)) (k0_pay57 (lift2 w1)) (k0_pay58 (lift2 w2)) (k0_pay70 (lift2 dy) (lift2 b) (lift2 z) (k0_pay61 (lift2 z)) k0_pay62) (k0_pay71 (lift2 dy) (lift2 b) (lift2 z) (k0_pay61 (lift2 z)) k0_pay62 (lift2 ca)) k0_pay72 (k0_pay73 (lift2 ca)) (k0_pay74 (lift2 dy) (lift2 b) (lift2 z) (k0_pay61 (lift2 z)) k0_pay62 (lift2 ca))
    = lift2 (fun r k => dal b z (fun r k => dy r (256 + k)) ca w0 w1 w2 r k * c r k) := by
  funext i; idx_vars i
  pointwise [k0_pay56, k0_pay57, k0_pay58, k0_pay61, k0_pay62, k0_pay63, k0_pay64, k0_pay66, k0_pay68, k0_pay70, k0_pay71, k0_pay72, k0_pay73, k0_pay74, k0_pay76, k0_pay78]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The last tap's weight gradient, columns from 256. -/
theorem w21_eq (c u b z dy acc : ℕ → ℕ → ℝ) : k0_pay82 (F := Ideal) (k0_pay50 (lift2 c) (lift2 u)) (k0_pay70 (lift2 dy) (lift2 b) (lift2 z) (k0_pay61 (lift2 z)) k0_pay62) (k0_pay81 (lift2 acc))
    = lift2 (fun r k => acc r k + ∑ s : Fin 512, dcl b z (fun r k => dy r (256 + k)) s.val k * (c s.val k * u s.val k)) := by
  funext i; idx_vars i
  pointwise [k0_pay50, k0_pay61, k0_pay62, k0_pay63, k0_pay64, k0_pay66, k0_pay68, k0_pay70, k0_pay81, k0_pay82]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]

/-- The middle tap's weight gradient, columns from 256. -/
theorem w11_eq (x : BitVec 32) (c u cp up b z dy acc : ℕ → ℕ → ℝ) : k0_pay80 (F := Ideal) (k0_pay54 (Scalar.cmpi .eq x 3#32) (k0_pay50 (lift2 c) (lift2 u)) (k0_pay51 (lift2 cp) (lift2 up)) k0_pay52) (k0_pay70 (lift2 dy) (lift2 b) (lift2 z) (k0_pay61 (lift2 z)) k0_pay62) (lift2 acc)
    = lift2 (fun r k => acc r k + ∑ s : Fin 512, dcl b z (fun r k => dy r (256 + k)) s.val k * t1 x c u cp up s.val k) := by
  funext i; idx_vars i
  pointwise [k0_pay50, k0_pay51, k0_pay52, k0_pay53, k0_pay54, k0_pay61, k0_pay62, k0_pay63, k0_pay64, k0_pay66, k0_pay68, k0_pay70, k0_pay80]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The first tap's weight gradient, columns from 256. -/
theorem w01_eq (x : BitVec 32) (c u cp up b z dy acc : ℕ → ℕ → ℝ) : k0_pay79 (F := Ideal) (k0_pay55 (Scalar.cmpi .eq x 3#32) (k0_pay50 (lift2 c) (lift2 u)) (k0_pay51 (lift2 cp) (lift2 up)) k0_pay52) (k0_pay70 (lift2 dy) (lift2 b) (lift2 z) (k0_pay61 (lift2 z)) k0_pay62) (lift2 acc)
    = lift2 (fun r k => acc r k + ∑ s : Fin 512, dcl b z (fun r k => dy r (256 + k)) s.val k * t2 x c u cp up s.val k) := by
  funext i; idx_vars i
  pointwise [k0_pay50, k0_pay51, k0_pay52, k0_pay53, k0_pay55, k0_pay61, k0_pay62, k0_pay63, k0_pay64, k0_pay66, k0_pay68, k0_pay70, k0_pay79]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The rows kept for the next tile, columns from 256. -/
theorem carry1_eq (b z dy : ℕ → ℕ → ℝ) : k0_pay75 (F := Ideal) (k0_pay70 (lift2 dy) (lift2 b) (lift2 z) (k0_pay61 (lift2 z)) k0_pay62)
    = lift2 (dcl b z (fun r k => dy r (256 + k))) := by
  funext i; idx_vars i
  pointwise [k0_pay61, k0_pay62, k0_pay63, k0_pay64, k0_pay66, k0_pay68, k0_pay70, k0_pay75]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]

/-- The columns of the first gate, columns from 512. -/
theorem conv2_eq (x : BitVec 32) (c u cp up z dy w0 w1 w2 : ℕ → ℕ → ℝ) : k0_pay98 (F := Ideal) (lift2 dy) (k0_pay83 (lift2 c) (lift2 u)) (k0_pay85 (Scalar.cmpi .eq x 3#32) (lift2 c) (lift2 u) (lift2 cp) (lift2 up)) (k0_pay86 (Scalar.cmpi .eq x 3#32) (lift2 c) (lift2 u) (lift2 cp) (lift2 up)) (k0_pay87 (lift2 w0)) (lift2 w1) (lift2 w2) (lift2 z)
    = lift2 (fun r k => dy r (512 + k) * (z r k * lgst (z r k)) * cv x c u cp up w0 w1 w2 r k) := by
  funext i; idx_vars i
  pointwise [k0_pay83, k0_pay84, k0_pay85, k0_pay86, k0_pay87, k0_pay88, k0_pay89, k0_pay90, k0_pay92, k0_pay93, k0_pay95, k0_pay97, k0_pay98]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the output gate, columns from 512. -/
theorem dz2_eq (x : BitVec 32) (c u cp up b z dy w0 w1 w2 : ℕ → ℕ → ℝ) : k0_pay96 (F := Ideal) (lift2 dy) (lift2 b) (k0_pay83 (lift2 c) (lift2 u)) (k0_pay85 (Scalar.cmpi .eq x 3#32) (lift2 c) (lift2 u) (lift2 cp) (lift2 up)) (k0_pay86 (Scalar.cmpi .eq x 3#32) (lift2 c) (lift2 u) (lift2 cp) (lift2 up)) (k0_pay87 (lift2 w0)) (lift2 w1) (lift2 w2) (lift2 z)
    = lift2 (fun r k => dy r (512 + k) * (b r k * cv x c u cp up w0 w1 w2 r k) * dsilu (z r k)) := by
  funext i; idx_vars i
  pointwise [k0_pay83, k0_pay84, k0_pay85, k0_pay86, k0_pay87, k0_pay88, k0_pay89, k0_pay90, k0_pay91, k0_pay92, k0_pay95, k0_pay96]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The gated output, columns from 512. -/
theorem y2_eq (x : BitVec 32) (c u cp up b z w0 w1 w2 : ℕ → ℕ → ℝ) : k0_pay94 (F := Ideal) (lift2 b) (k0_pay83 (lift2 c) (lift2 u)) (k0_pay85 (Scalar.cmpi .eq x 3#32) (lift2 c) (lift2 u) (lift2 cp) (lift2 up)) (k0_pay86 (Scalar.cmpi .eq x 3#32) (lift2 c) (lift2 u) (lift2 cp) (lift2 up)) (k0_pay87 (lift2 w0)) (lift2 w1) (lift2 w2) (lift2 z)
    = lift2 (fun r k => b r k * cv x c u cp up w0 w1 w2 r k * (z r k * lgst (z r k))) := by
  funext i; idx_vars i
  pointwise [k0_pay83, k0_pay84, k0_pay85, k0_pay86, k0_pay87, k0_pay88, k0_pay89, k0_pay90, k0_pay91, k0_pay92, k0_pay93, k0_pay94]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the second gate, columns from 512. -/
theorem dau2_eq (u b z dy ca w0 w1 w2 : ℕ → ℕ → ℝ) : k0_pay102 (F := Ideal) (lift2 b) (lift2 u) (k0_pay87 (lift2 w0)) (k0_pay88 (lift2 w1)) (k0_pay89 (lift2 w2)) (k0_pay97 (lift2 dy) (lift2 z)) (lift2 ca)
    = lift2 (fun r k => dal b z (fun r k => dy r (512 + k)) ca w0 w1 w2 r k * u r k) := by
  funext i; idx_vars i
  pointwise [k0_pay87, k0_pay88, k0_pay89, k0_pay92, k0_pay93, k0_pay95, k0_pay97, k0_pay99, k0_pay101, k0_pay102]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the values, columns from 512. -/
theorem dac2_eq (c b z dy ca w0 w1 w2 : ℕ → ℕ → ℝ) : k0_pay103 (F := Ideal) (lift2 b) (lift2 c) (k0_pay87 (lift2 w0)) (k0_pay88 (lift2 w1)) (k0_pay89 (lift2 w2)) (k0_pay97 (lift2 dy) (lift2 z)) (lift2 ca)
    = lift2 (fun r k => dal b z (fun r k => dy r (512 + k)) ca w0 w1 w2 r k * c r k) := by
  funext i; idx_vars i
  pointwise [k0_pay87, k0_pay88, k0_pay89, k0_pay92, k0_pay93, k0_pay95, k0_pay97, k0_pay99, k0_pay101, k0_pay103]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The last tap's weight gradient, columns from 512. -/
theorem w22_eq (c u b z dy acc : ℕ → ℕ → ℝ) : k0_pay106 (F := Ideal) (k0_pay83 (lift2 c) (lift2 u)) (k0_pay99 (lift2 b) (k0_pay97 (lift2 dy) (lift2 z))) (lift2 acc)
    = lift2 (fun r k => acc r k + ∑ s : Fin 512, dcl b z (fun r k => dy r (512 + k)) s.val k * (c s.val k * u s.val k)) := by
  funext i; idx_vars i
  pointwise [k0_pay83, k0_pay92, k0_pay93, k0_pay95, k0_pay97, k0_pay99, k0_pay106]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]

/-- The middle tap's weight gradient, columns from 512. -/
theorem w12_eq (x : BitVec 32) (c u cp up b z dy acc : ℕ → ℕ → ℝ) : k0_pay105 (F := Ideal) (k0_pay85 (Scalar.cmpi .eq x 3#32) (lift2 c) (lift2 u) (lift2 cp) (lift2 up)) (k0_pay99 (lift2 b) (k0_pay97 (lift2 dy) (lift2 z))) (lift2 acc)
    = lift2 (fun r k => acc r k + ∑ s : Fin 512, dcl b z (fun r k => dy r (512 + k)) s.val k * t1 x c u cp up s.val k) := by
  funext i; idx_vars i
  pointwise [k0_pay83, k0_pay84, k0_pay85, k0_pay92, k0_pay93, k0_pay95, k0_pay97, k0_pay99, k0_pay105]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The first tap's weight gradient, columns from 512. -/
theorem w02_eq (x : BitVec 32) (c u cp up b z dy acc : ℕ → ℕ → ℝ) : k0_pay104 (F := Ideal) (k0_pay86 (Scalar.cmpi .eq x 3#32) (lift2 c) (lift2 u) (lift2 cp) (lift2 up)) (k0_pay99 (lift2 b) (k0_pay97 (lift2 dy) (lift2 z))) (lift2 acc)
    = lift2 (fun r k => acc r k + ∑ s : Fin 512, dcl b z (fun r k => dy r (512 + k)) s.val k * t2 x c u cp up s.val k) := by
  funext i; idx_vars i
  pointwise [k0_pay83, k0_pay84, k0_pay86, k0_pay92, k0_pay93, k0_pay95, k0_pay97, k0_pay99, k0_pay104]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The rows kept for the next tile, columns from 512. -/
theorem carry2_eq (b z dy : ℕ → ℕ → ℝ) : k0_pay100 (F := Ideal) (lift2 b) (k0_pay97 (lift2 dy) (lift2 z))
    = lift2 (dcl b z (fun r k => dy r (512 + k))) := by
  funext i; idx_vars i
  pointwise [k0_pay92, k0_pay93, k0_pay95, k0_pay97, k0_pay99, k0_pay100]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]

/-- The columns of the first gate, columns from 768. -/
theorem conv3_eq (x : BitVec 32) (c u cp up z dy w0 w1 w2 : ℕ → ℕ → ℝ) : k0_pay124 (F := Ideal) (lift2 dy) (k0_pay115 (k0_pay107 (lift2 c) (lift2 u)) (k0_pay108 (Scalar.cmpi .eq x 3#32) (lift2 cp) (lift2 up)) (iota Kind.tc S512x256 32 [0] iota_S512x256_d0_w32) k0_pay109 (lift2 w0) (lift2 w1) (lift2 w2)) (k0_pay118 (lift2 z))
    = lift2 (fun r k => dy r (768 + k) * (z r k * lgst (z r k)) * cv x c u cp up w0 w1 w2 r k) := by
  funext i; idx_vars i
  pointwise [k0_pay107, k0_pay108, k0_pay109, k0_pay110, k0_pay111, k0_pay112, k0_pay113, k0_pay114, k0_pay115, k0_pay117, k0_pay118, k0_pay121, k0_pay123, k0_pay124]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the output gate, columns from 768. -/
theorem dz3_eq (x : BitVec 32) (c u cp up b z dy w0 w1 w2 : ℕ → ℕ → ℝ) : k0_pay122 (F := Ideal) (lift2 dy) (k0_pay116 (lift2 b) (k0_pay107 (lift2 c) (lift2 u)) (k0_pay108 (Scalar.cmpi .eq x 3#32) (lift2 cp) (lift2 up)) (iota Kind.tc S512x256 32 [0] iota_S512x256_d0_w32) k0_pay109 (lift2 w0) (lift2 w1) (lift2 w2)) (lift2 z) (k0_pay117 (lift2 z)) k0_pay119
    = lift2 (fun r k => dy r (768 + k) * (b r k * cv x c u cp up w0 w1 w2 r k) * dsilu (z r k)) := by
  funext i; idx_vars i
  pointwise [k0_pay107, k0_pay108, k0_pay109, k0_pay110, k0_pay111, k0_pay112, k0_pay113, k0_pay114, k0_pay115, k0_pay116, k0_pay117, k0_pay119, k0_pay121, k0_pay122]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The gated output, columns from 768. -/
theorem y3_eq (x : BitVec 32) (c u cp up b z w0 w1 w2 : ℕ → ℕ → ℝ) : k0_pay120 (F := Ideal) (k0_pay116 (lift2 b) (k0_pay107 (lift2 c) (lift2 u)) (k0_pay108 (Scalar.cmpi .eq x 3#32) (lift2 cp) (lift2 up)) (iota Kind.tc S512x256 32 [0] iota_S512x256_d0_w32) k0_pay109 (lift2 w0) (lift2 w1) (lift2 w2)) (k0_pay118 (lift2 z))
    = lift2 (fun r k => b r k * cv x c u cp up w0 w1 w2 r k * (z r k * lgst (z r k))) := by
  funext i; idx_vars i
  pointwise [k0_pay107, k0_pay108, k0_pay109, k0_pay110, k0_pay111, k0_pay112, k0_pay113, k0_pay114, k0_pay115, k0_pay116, k0_pay117, k0_pay118, k0_pay120]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the second gate, columns from 768. -/
theorem dau3_eq (u b z dy ca w0 w1 w2 : ℕ → ℕ → ℝ) : k0_pay131 (F := Ideal) (lift2 u) (k0_pay112 (lift2 w0)) (k0_pay113 (lift2 w1)) (k0_pay114 (lift2 w2)) (k0_pay125 (lift2 dy) (lift2 b) (k0_pay118 (lift2 z))) (k0_pay126 (lift2 dy) (lift2 b) (k0_pay118 (lift2 z)) (lift2 ca)) (k0_pay127 (lift2 dy) (lift2 b) (k0_pay118 (lift2 z)) (lift2 ca))
    = lift2 (fun r k => dal b z (fun r k => dy r (768 + k)) ca w0 w1 w2 r k * u r k) := by
  funext i; idx_vars i
  pointwise [k0_pay112, k0_pay113, k0_pay114, k0_pay117, k0_pay118, k0_pay121, k0_pay123, k0_pay125, k0_pay126, k0_pay127, k0_pay130, k0_pay131]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The columns of the values, columns from 768. -/
theorem dac3_eq (c b z dy ca w0 w1 w2 : ℕ → ℕ → ℝ) : k0_pay132 (F := Ideal) (lift2 c) (k0_pay112 (lift2 w0)) (k0_pay113 (lift2 w1)) (k0_pay114 (lift2 w2)) (k0_pay125 (lift2 dy) (lift2 b) (k0_pay118 (lift2 z))) (k0_pay126 (lift2 dy) (lift2 b) (k0_pay118 (lift2 z)) (lift2 ca)) (k0_pay127 (lift2 dy) (lift2 b) (k0_pay118 (lift2 z)) (lift2 ca))
    = lift2 (fun r k => dal b z (fun r k => dy r (768 + k)) ca w0 w1 w2 r k * c r k) := by
  funext i; idx_vars i
  pointwise [k0_pay112, k0_pay113, k0_pay114, k0_pay117, k0_pay118, k0_pay121, k0_pay123, k0_pay125, k0_pay126, k0_pay127, k0_pay130, k0_pay132]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The last tap's weight gradient, columns from 768. -/
theorem w23_eq (c u b z dy acc : ℕ → ℕ → ℝ) : k0_pay137 (F := Ideal) (k0_pay135 (lift2 acc)) (k0_pay136 (k0_pay107 (lift2 c) (lift2 u)) (k0_pay125 (lift2 dy) (lift2 b) (k0_pay118 (lift2 z))))
    = lift2 (fun r k => acc r k + ∑ s : Fin 512, dcl b z (fun r k => dy r (768 + k)) s.val k * (c s.val k * u s.val k)) := by
  funext i; idx_vars i
  pointwise [k0_pay107, k0_pay117, k0_pay118, k0_pay121, k0_pay123, k0_pay125, k0_pay135, k0_pay136, k0_pay137]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]

/-- The middle tap's weight gradient, columns from 768. -/
theorem w13_eq (x : BitVec 32) (c u cp up b z dy acc : ℕ → ℕ → ℝ) : k0_pay134 (F := Ideal) (k0_pay110 (k0_pay107 (lift2 c) (lift2 u)) (k0_pay108 (Scalar.cmpi .eq x 3#32) (lift2 cp) (lift2 up)) (iota Kind.tc S512x256 32 [0] iota_S512x256_d0_w32) k0_pay109) (k0_pay125 (lift2 dy) (lift2 b) (k0_pay118 (lift2 z))) (lift2 acc)
    = lift2 (fun r k => acc r k + ∑ s : Fin 512, dcl b z (fun r k => dy r (768 + k)) s.val k * t1 x c u cp up s.val k) := by
  funext i; idx_vars i
  pointwise [k0_pay107, k0_pay108, k0_pay109, k0_pay110, k0_pay117, k0_pay118, k0_pay121, k0_pay123, k0_pay125, k0_pay134]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The first tap's weight gradient, columns from 768. -/
theorem w03_eq (x : BitVec 32) (c u cp up b z dy acc : ℕ → ℕ → ℝ) : k0_pay133 (F := Ideal) (k0_pay111 (k0_pay107 (lift2 c) (lift2 u)) (k0_pay108 (Scalar.cmpi .eq x 3#32) (lift2 cp) (lift2 up)) (iota Kind.tc S512x256 32 [0] iota_S512x256_d0_w32)) (k0_pay125 (lift2 dy) (lift2 b) (k0_pay118 (lift2 z))) (lift2 acc)
    = lift2 (fun r k => acc r k + ∑ s : Fin 512, dcl b z (fun r k => dy r (768 + k)) s.val k * t2 x c u cp up s.val k) := by
  funext i; idx_vars i
  pointwise [k0_pay107, k0_pay108, k0_pay111, k0_pay117, k0_pay118, k0_pay121, k0_pay123, k0_pay125, k0_pay133]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]
  rfl

/-- The rows kept for the next tile, columns from 768. -/
theorem carry3_eq (b z dy : ℕ → ℕ → ℝ) : k0_pay129 (F := Ideal) (k0_pay128 (lift2 dy) (lift2 b) (k0_pay118 (lift2 z)))
    = lift2 (dcl b z (fun r k => dy r (768 + k))) := by
  funext i; idx_vars i
  pointwise [k0_pay117, k0_pay118, k0_pay121, k0_pay123, k0_pay125, k0_pay128, k0_pay129]
  simp only [lift2_at, half_tanh, row_at0, row_at1, row_at510, row_at511, sel_first, ← EReal.coe_zero, ← EReal.coe_one, ← EReal.coe_mul, ← EReal.coe_add, ← EReal.coe_sub,
    coe_ite, coe_sum, Nat.zero_add, cv, t1, t2, dal, dcl, dsilu]

/-! ## The columns of the memory attention, and the products -/

section Memory
variable (D WO dy z M acc y Q KV P S DM : ℕ → ℕ → ℝ)

/-- The gradient of the gated output. -/
theorem pay7_eq : k0_pay7 (F := Ideal) (lift2 D) (lift2 WO) = lift2 (Grad.dy D WO) := by
  funext i; idx_vars i
  pointwise [k0_pay7, k0_pay6]
  simp only [lift2_at, ← EReal.coe_mul, coe_sum, Grad.dy]

/-- The gradient of the attention's output. -/
def dmo (r k : ℕ) : ℝ := dy r (1024 + k) * (z r k * lgst (z r k))

/-- The gradient of the memory's output. -/
theorem pay139_eq : k0_pay139 (F := Ideal) (k0_pay19 (lift2 z)) (k0_pay23 (lift2 dy)) = lift2 (dmo dy z) := by
  funext i; idx_vars i
  pointwise [k0_pay139, k0_pay19, k0_pay18, k0_pay23]
  simp only [lift2_at, half_tanh, ← EReal.coe_mul, dmo]

/-- … times the output. -/
theorem pay141_eq : k0_pay141 (F := Ideal) (lift2 M) (k0_pay19 (lift2 z)) (k0_pay23 (lift2 dy)) = lift2 (fun r j => dmo dy z r j * M r j) := by
  funext i; idx_vars i
  pointwise [k0_pay141, k0_pay139, k0_pay19, k0_pay18, k0_pay23]
  simp only [lift2_at, half_tanh, ← EReal.coe_mul, dmo]

/-- Its sums over each head's columns. -/
theorem pay142_eq : k0_pay142 (F := Ideal) (lift2 M) (k0_pay19 (lift2 z)) (k0_pay23 (lift2 dy))
    = lift2 (fun r j => if j / 64 = 0 then dmo dy z r j * M r j else 0) := by
  funext i; idx_vars i
  pointwise [k0_pay142, k0_pay141, k0_pay140, k0_pay139, k0_pay19, k0_pay18, k0_pay23]
  simp only [floor_head, sel_head0, lift2_at, half_tanh, ← EReal.coe_mul, ← EReal.coe_zero, coe_ite, dmo]

/-- The gradient of the memory's gate. -/
theorem pay24_eq : k0_pay24 (F := Ideal) (lift2 dy) (lift2 M) (k0_pay20 (lift2 z))
    = lift2 (fun r k => dy r (1024 + k) * M r k * dsilu (z r k)) := by
  funext i; idx_vars i
  pointwise [k0_pay24, k0_pay20, k0_pay18, k0_pay23]
  simp only [lift2_at, half_tanh, ← EReal.coe_mul, ← EReal.coe_one, ← EReal.coe_sub, ← EReal.coe_add, dsilu]

/-- The gated output of the memory. -/
theorem pay22_eq : k0_pay22 (F := Ideal) (k0_pay21 (k0_pay14 (lift2 KV) (k0_pay8 (lift2 Q)) k0_pay9 k0_pay10 k0_pay11)
      (iota Kind.tc S512x256 32 [1] iota_S512x256_d1_w32) (64#32) k0_pay15 k0_pay16 1#1 (lift2 z))
    = lift2 (fun r k => mo Q KV r k * (z r k * lgst (z r k))) := by
  funext i; idx_vars i
  pointwise [k0_pay22, k0_pay21, k0_pay19, k0_pay18]
  rw [pay17_eq]
  simp only [lift2_at, half_tanh, ← EReal.coe_mul]

/-- A tile's share of the output weights' gradient, added. -/
theorem pay138_eq : k0_pay138 (F := Ideal) (k0_pay6 (lift2 D)) (lift2 acc) (lift2 y)
    = lift2 (fun i k => acc i k + ∑ r : Fin 512, y r.val i * D r.val k) := by
  funext i; idx_vars i
  pointwise [k0_pay138, k0_pay6]
  simp only [lift2_at, ← EReal.coe_mul, coe_sum, ← EReal.coe_add]

/-- The copy of the weights' gradient that is rounded is the same over the reals. -/
theorem pay1_eq : k0_pay1 (F := Ideal) (lift2 y) = lift2 y := by
  funext i; idx_vars i
  pointwise [k0_pay1]

/-- A tile's share of the keys' gradient, added. -/
theorem keys_eq : k0_pay149 (F := Ideal) (lift2 KV) (lift2 (stack Q)) (k0_pay13 (lift2 KV) (k0_pay8 (lift2 Q)) k0_pay9 k0_pay10 k0_pay11) (lift2 DM)
      (k0_pay143 k0_pay140 (lift2 (fun r j => DM r j * mo Q KV r j)) (lift2 (fun r j => if j / 64 = 0 then DM r j * mo Q KV r j else 0)))
      k0_pay144 k0_pay145 k0_pay146 (lift2 acc)
    = lift2 (fun k j => acc k j + ∑ r : Fin 512, dsl Q KV DM (j / 64) r.val k * Q r.val j) := by
  funext i; idx_vars i
  pointwise [k0_pay149, scores_eq]
  simp only [lift2_at, ← EReal.coe_mul, coe_sum, ← EReal.coe_add]
  rw [sum_stack_row Q (fun R => dsl Q KV DM (R / 512) (R % 512) i0) i1 i1.isLt]
  congr 2
  refine Finset.sum_congr rfl fun r _ => ?_
  have hr := r.isLt
  rw [show ((i1 : ℕ) / 64 * 512 + r) / 512 = i1 / 64 by omega, show ((i1 : ℕ) / 64 * 512 + r) % 512 = r by omega]

/-- A tile's share of the values' gradient, added. -/
theorem values_eq : k0_pay150 (F := Ideal) (k0_pay13 (lift2 KV) (k0_pay8 (lift2 Q)) k0_pay9 k0_pay10 k0_pay11) (lift2 DM)
      k0_pay144 k0_pay145 k0_pay146 (lift2 acc)
    = lift2 (fun k j => acc k j + ∑ r : Fin 512, pw Q KV (j / 64) r.val k * DM r.val j) := by
  funext i; idx_vars i
  pointwise [k0_pay150, pay13_eq, pay147_eq]
  simp only [lift2_at, ← EReal.coe_mul, coe_sum, ← EReal.coe_add]
  rw [sum_stack_row DM (fun R => pw Q KV (R / 512) (R % 512) i0) i1 i1.isLt]
  congr 2
  refine Finset.sum_congr rfl fun r _ => ?_
  have hr := r.isLt
  rw [show ((i1 : ℕ) / 64 * 512 + r) / 512 = i1 / 64 by omega, show ((i1 : ℕ) / 64 * 512 + r) % 512 = r by omega]

end Memory

end Cert.Grad.Ker
end
-- ==== Proof.Tile.lean ====
module

public import proofs.«01_k».proof.Proof.Chunks

@[expose] public section

set_option maxRecDepth 16384

noncomputable section

/-! # One tile of rows inside the whole arrays

`At` says which rows of the whole arrays the tile's blocks are. Every quantity of the tile is then the one of the whole
step at the tile's rows. -/

namespace Cert.Grad.Ker

open Idealize.ShloMosaic

/-- The tile numbered `x` has the rows from `s0`; the blocks `D` to `UP` are those rows of the whole arrays (`CP`, `UP` the
eight rows before), and `CA` holds the convolution's gradient on the two rows after the tile. -/
structure At (DH BG CG UG CW QM ZG WO : ℕ → ℕ → ℝ) (x : BitVec 32) (s0 : ℕ) (D B C U CP UP W Q Z CA : ℕ → ℕ → ℝ) : Prop where
  first : x = 3#32 ↔ s0 = 0
  low : s0 ≠ 0 → 512 ≤ s0
  top : s0 + 512 ≤ 2048
  hD : ∀ r k, D r k = DH (s0 + r) k
  hB : ∀ r k, B r k = BG (s0 + r) k
  hC : ∀ r k, C r k = CG (s0 + r) k
  hU : ∀ r k, U r k = UG (s0 + r) k
  hQ : ∀ r k, Q r k = QM (s0 + r) k
  hZ : ∀ r k, Z r k = ZG (s0 + r) k
  hCP : s0 ≠ 0 → ∀ r k, CP r k = CG (s0 - 8 + r) k
  hUP : s0 ≠ 0 → ∀ r k, UP r k = UG (s0 - 8 + r) k
  hW : ∀ r k, r < 3 → W r k = CW r k
  hCA : ∀ r k, r < 2 → CA r k = if s0 + 512 + r < 2048 then dc DH BG ZG WO (s0 + 512 + r) k else 0

variable {DH BG CG UG CW QM KV ZG WO : ℕ → ℕ → ℝ} {x : BitVec 32} {s0 : ℕ} {D B C U CP UP W Q Z CA : ℕ → ℕ → ℝ}

namespace At
variable (h : At DH BG CG UG CW QM ZG WO x s0 D B C U CP UP W Q Z CA)
include h

/-- The gradient of the gated branches, on the tile. -/
theorem dy_eq (r j : ℕ) : Grad.dy D WO r j = Grad.dy DH WO (s0 + r) j := by
  simp only [Grad.dy, h.hD]

/-- The product one row earlier, on the tile. -/
theorem t1_eq (o r k : ℕ) (hr : r < 512) :
    t1 x (fun r k => C (0 + r) (o + k)) (fun r k => U (0 + r) (o + k)) (fun r k => CP (0 + r) (o + k)) (fun r k => UP (0 + r) (o + k)) r k
      = tap1 CG UG (s0 + r) (o + k) := by
  unfold t1 tap1 av
  beta_reduce
  by_cases h0 : s0 = 0
  · have hx := h.first.mpr h0
    rw [if_pos hx]
    by_cases hr0 : r = 0
    · rw [if_pos hr0, if_pos (by omega)]
    · rw [if_neg hr0, if_neg (by omega), h.hC, h.hU, show s0 + (0 + (r + 512 - 1) % 512) = s0 + r - 1 by omega]
  · have hx : ¬x = 3#32 := fun e => h0 (h.first.mp e)
    have hl := h.low h0
    rw [if_neg hx, if_neg (by omega : ¬s0 + r < 1)]
    by_cases hr0 : r = 0
    · rw [if_pos hr0, h.hCP h0, h.hUP h0, show s0 - 8 + (0 + 7) = s0 + r - 1 by omega]
    · rw [if_neg hr0, h.hC, h.hU, show s0 + (0 + (r + 512 - 1) % 512) = s0 + r - 1 by omega]

/-- The product two rows earlier, on the tile. -/
theorem t2_eq (o r k : ℕ) (hr : r < 512) :
    t2 x (fun r k => C (0 + r) (o + k)) (fun r k => U (0 + r) (o + k)) (fun r k => CP (0 + r) (o + k)) (fun r k => UP (0 + r) (o + k)) r k
      = tap2 CG UG (s0 + r) (o + k) := by
  unfold t2 tap2 av
  beta_reduce
  by_cases h0 : s0 = 0
  · have hx := h.first.mpr h0
    rw [if_pos hx, if_pos hx]
    by_cases hr0 : r = 0
    · rw [if_pos hr0, if_pos (by omega)]
    · rw [if_neg hr0]
      by_cases hr1 : r = 1
      · rw [if_pos hr1, if_pos (by omega)]
      · rw [if_neg hr1, if_neg (by omega), h.hC, h.hU, show s0 + (0 + (r + 512 - 2) % 512) = s0 + r - 2 by omega]
  · have hx : ¬x = 3#32 := fun e => h0 (h.first.mp e)
    have hl := h.low h0
    rw [if_neg hx, if_neg hx, if_neg (by omega : ¬s0 + r < 2)]
    by_cases hr0 : r = 0
    · rw [if_pos hr0, h.hCP h0, h.hUP h0, show s0 - 8 + (0 + 6) = s0 + r - 2 by omega]
    · rw [if_neg hr0]
      by_cases hr1 : r = 1
      · rw [if_pos hr1, h.hCP h0, h.hUP h0, show s0 - 8 + (0 + 7) = s0 + r - 2 by omega]
      · rw [if_neg hr1, h.hC, h.hU, show s0 + (0 + (r + 512 - 2) % 512) = s0 + r - 2 by omega]

/-- The convolution, on the tile. -/
theorem cv_eq (o r k : ℕ) (hr : r < 512) :
    cv x (fun r k => C (0 + r) (o + k)) (fun r k => U (0 + r) (o + k)) (fun r k => CP (0 + r) (o + k)) (fun r k => UP (0 + r) (o + k))
      (fun r k => W (0 + r) (o + k)) (fun r k => W (1 + r) (o + k)) (fun r k => W (2 + r) (o + k)) r k
      = conv CG UG CW (s0 + r) (o + k) := by
  unfold cv conv av
  beta_reduce
  rw [h.t1_eq o r k hr, h.t2_eq o r k hr, h.hC, h.hU, h.hW _ _ (by omega), h.hW _ _ (by omega), h.hW _ _ (by omega), Nat.zero_add r]

/-- The gradient of the convolution's output, on the tile. -/
theorem dcl_eq (o r k : ℕ) :
    dcl (fun r k => B (0 + r) (o + k)) (fun r k => Z (0 + r) (o + k)) (fun r k => Grad.dy D WO r (o + k)) r k
      = dc DH BG ZG WO (s0 + r) (o + k) := by
  unfold dcl dc dm
  beta_reduce
  rw [h.dy_eq, h.hB, h.hZ, Nat.zero_add r]

/-- The gradient of the convolved product, on the tile. -/
theorem dal_eq (o r k : ℕ) (hr : r < 512) :
    dal (fun r k => B (0 + r) (o + k)) (fun r k => Z (0 + r) (o + k)) (fun r k => Grad.dy D WO r (o + k)) (fun r k => CA (0 + r) (o + k))
      (fun r k => W (0 + r) (o + k)) (fun r k => W (1 + r) (o + k)) (fun r k => W (2 + r) (o + k)) r k
      = da DH BG CW ZG WO (s0 + r) (o + k) := by
  have ht := h.top
  unfold dal da later
  beta_reduce
  rw [h.dcl_eq o, h.dcl_eq o, h.dcl_eq o, h.hW _ _ (by omega), h.hW _ _ (by omega), h.hW _ _ (by omega), h.hCA _ _ (by omega), h.hCA _ _ (by omega)]
  congr 2
  · congr 1
    by_cases h1 : r = 511
    · rw [if_pos h1, show s0 + 512 + (0 + 0) = s0 + r + 1 by omega]
    · rw [if_neg h1, if_pos (by omega), show s0 + (r + 512 - 511) % 512 = s0 + r + 1 by omega]
  · by_cases h0 : r = 510
    · rw [if_pos h0, show s0 + 512 + (0 + 0) = s0 + r + 2 by omega]
    · rw [if_neg h0]
      by_cases h1 : r = 511
      · rw [if_pos h1, show s0 + 512 + (0 + 1) = s0 + r + 2 by omega]
      · rw [if_neg h1, if_pos (by omega), show s0 + (r + 512 - 510) % 512 = s0 + r + 2 by omega]

/-- The softmax, on the tile. -/
theorem pw_eq (g r k : ℕ) : pw Q KV g r k = pw QM KV g (s0 + r) k := by
  simp only [pw, den, sc, h.hQ]

/-- The memory's output, on the tile. -/
theorem mo_eq (r j : ℕ) : mo Q KV r j = mo QM KV (s0 + r) j := by
  simp only [mo, h.pw_eq]

/-- The gradient of the memory's output, on the tile. -/
theorem dmo_eq (r k : ℕ) : dmo (Grad.dy D WO) (fun r k => Z (0 + r) (1024 + k)) r k = dm DH ZG WO (s0 + r) (1024 + k) := by
  unfold dmo dm
  beta_reduce
  rw [h.dy_eq, h.hZ, Nat.zero_add r]

/-- The gradient of the scores, on the tile. -/
theorem dsl_eq (g r k : ℕ) :
    dsl Q KV (dmo (Grad.dy D WO) (fun r k => Z (0 + r) (1024 + k))) g r k = ds DH QM KV ZG WO g (s0 + r) k := by
  simp only [dsl, dpl, ds, dp, h.pw_eq, h.dmo_eq]

end At

/-! ## The parts of the projection's gradient -/

/-- The columns of the gate B. -/
theorem dproj_gate {s j : ℕ} (hj : j < 1024) :
    Grad.dy DH WO s j * (ZG s j * lgst (ZG s j)) * conv CG UG CW s j = dproj DH BG CG UG CW QM KV ZG WO s j := by
  unfold dproj dm; rw [if_pos hj]

/-- The columns of the gate C. -/
theorem dproj_in {s j k : ℕ} (hk : k < 1024) (hj : j = 1024 + k) :
    da DH BG CW ZG WO s k * UG s k = dproj DH BG CG UG CW QM KV ZG WO s j := by
  subst hj; unfold dproj
  rw [if_neg (by omega), if_pos (by omega), Nat.add_sub_cancel_left]

/-- The columns of u. -/
theorem dproj_val {s j k : ℕ} (hk : k < 1024) (hj : j = 2048 + k) :
    da DH BG CW ZG WO s k * CG s k = dproj DH BG CG UG CW QM KV ZG WO s j := by
  subst hj; unfold dproj
  rw [if_neg (by omega), if_neg (by omega), if_pos (by omega), Nat.add_sub_cancel_left]

/-- The columns of the queries. -/
theorem dproj_query {s j k : ℕ} (hk : k < 256) (hj : j = 3072 + k) :
    ∑ i : Fin 256, ds DH QM KV ZG WO (k / 64) s i.val * KV i.val k = dproj DH BG CG UG CW QM KV ZG WO s j := by
  subst hj; unfold dproj
  rw [if_neg (by omega), if_neg (by omega), if_neg (by omega), if_pos (by omega), Nat.add_sub_cancel_left]; rfl

/-- The columns of the convolution's SiLU gate. -/
theorem dproj_out {s j k : ℕ} (hk : k < 1024) (hj : j = 3328 + k) :
    Grad.dy DH WO s k * (BG s k * conv CG UG CW s k) * dsilu (ZG s k) = dproj DH BG CG UG CW QM KV ZG WO s j := by
  subst hj; unfold dproj dz y0
  rw [if_neg (by omega), if_neg (by omega), if_neg (by omega), if_neg (by omega), Nat.add_sub_cancel_left, if_pos hk]

/-- The columns of the memory's SiLU gate. -/
theorem dproj_mem {s j k : ℕ} (hj : j = 4352 + k) :
    Grad.dy DH WO s (1024 + k) * mo QM KV s k * dsilu (ZG s (1024 + k)) = dproj DH BG CG UG CW QM KV ZG WO s j := by
  subst hj; unfold dproj dz y0
  rw [if_neg (by omega), if_neg (by omega), if_neg (by omega), if_neg (by omega), show 4352 + k - 3328 = 1024 + k by omega,
    if_neg (by omega), Nat.add_sub_cancel_left]

/-- The gated convolution. -/
theorem yv_gate {s j : ℕ} (hj : j < 1024) : BG s j * conv CG UG CW s j * (ZG s j * lgst (ZG s j)) = yv BG CG UG CW QM KV ZG s j := by
  unfold yv y0; rw [if_pos hj]

/-- The gated output of the memory. -/
theorem yv_mem {s j k : ℕ} (hj : j = 1024 + k) :
    mo QM KV s k * (ZG s (1024 + k) * lgst (ZG s (1024 + k))) = yv BG CG UG CW QM KV ZG s j := by
  subst hj; unfold yv y0; rw [if_neg (by omega), Nat.add_sub_cancel_left]

/-- Two arrays of numbers agree at a pair of places. -/
theorem lift2_eq {n m n' m' : ℕ} {X Y : ℕ → ℕ → ℝ} {i : (⟨2, ![n, m]⟩ : Shape).Idx} {j : (⟨2, ![n', m']⟩ : Shape).Idx}
    (h : X (i 0).val (i 1).val = Y (j 0).val (j 1).val) : (lift2 X i : EReal) = lift2 Y j := by
  unfold lift2
  exact congrArg _ h

end Cert.Grad.Ker
end
-- ==== Proof.Points.lean ====
module

public import proofs.«01_k».proof.Proof.Tile
public import proofs.«01_k».proof.Proof.Gen.KernelIdeal.Value
public import Idealize.ShloMosaic.Lib.Pipeline.ReadBack

@[expose] public section

set_option maxRecDepth 16384

noncomputable section

/-! # What one grid point leaves in its blocks -/

namespace Cert.Grad.Ker

open Idealize.ShloMosaic Idealize.ShloMosaic.TcCoe Cert.KernelIdeal Cert.KernelIdeal.Gen

variable (m : (ℓ : Loc nD τ sig) → Buf (Elt Ideal) ℓ) (c : Dev nD)

/-- The eleven blocks a grid point reads, as arrays of numbers. -/
structure Blocks (D B C U CP UP W Q KV Z WO : ℕ → ℕ → ℝ) (t : Fin cfg0.N) : Prop where
  b0 : iblk m c 0 t = lift2 D
  b1 : iblk m c 1 t = lift2 B
  b2 : iblk m c 2 t = lift2 C
  b3 : iblk m c 3 t = lift2 U
  b4 : iblk m c 4 t = lift2 CP
  b5 : iblk m c 5 t = lift2 UP
  b6 : iblk m c 6 t = lift2 W
  b7 : iblk m c 7 t = lift2 Q
  b8 : iblk m c 8 t = lift2 KV
  b9 : iblk m c 9 t = lift2 Z
  b10 : iblk m c 10 t = lift2 WO

/-- The weights' gradient begins at zero. -/
theorem zero2 : k0_pay2 (F := Ideal) = lift2 (fun _ _ => 0) := by funext i; unfold k0_pay2; simp [lift2]; rfl
/-- The taps' gradient begins at zero. -/
theorem zero3 : k0_pay3 (F := Ideal) = lift2 (fun _ _ => 0) := by funext i; unfold k0_pay3; simp [lift2]; rfl
/-- The memory's gradient begins at zero. -/
theorem zero4 : k0_pay4 (F := Ideal) = lift2 (fun _ _ => 0) := by funext i; unfold k0_pay4; simp [lift2]; rfl
/-- The carried rows begin at zero. -/
theorem zero5 : k0_pay5 (F := Ideal) = lift2 (fun _ _ => 0) := by funext i; unfold k0_pay5; simp [lift2]; rfl

variable {DH BG CG UG CW QM KV ZG WO : ℕ → ℕ → ℝ} {s0 : ℕ} {D B C U CP UP W Q Z CA : ℕ → ℕ → ℝ}

/-- The row numbers of a tile, in the form the lemmas about the tile use. -/
theorem rows_norm : iota Kind.tc S512x256 32 (@List.cons (Fin 2) (0 : Fin S512x256.rank) (@List.nil (Fin 2))) iota_S512x256_d0_w32
    = iota Kind.tc S512x256 32 [0] iota_S512x256_d0_w32 := rfl
/-- The column numbers likewise. -/
theorem cols_norm : iota Kind.tc S512x256 32 (@List.cons (Fin 2) (1 : Fin S512x256.rank) (@List.nil (Fin 2))) iota_S512x256_d1_w32
    = iota Kind.tc S512x256 32 [1] iota_S512x256_d1_w32 := rfl

/-! ## Reading stores back one at a time -/

section Steps
variable {Val : EltTy → Type} {S : Shape} {e : EltTy} [∀ e, Nonempty (Val e)] {y : S.Idx} {v : Val e}

/-- An element of a list of stores: it is the last store's where that store holds it, else the earlier ones'. -/
theorem canon_step {off size : Fin S.rank → ℕ} {inb : ∀ a, off a + size a ≤ S.size a} {w : (Rect.unit off size inb).shape.Idx → Val e}
    {L : List (View.Piece Val S e)} (h1 : View.TileAt y off size w v)
    (h2 : (¬∀ a, off a ≤ (y a).val ∧ (y a).val < off a + size a) → View.canon L y = v) :
    View.canon (⟨Rect.unit off size inb, w⟩ :: L) y = v := by
  by_cases hm : y ∈ (Rect.unit off size inb).set
  · obtain ⟨x, rfl⟩ := (Rect.unit off size inb).exists_idx_of_mem hm
    refine (View.canon_cons_emb _ w L x).trans (h1 x fun a => ?_)
    show off a + 1 * (x a : ℕ) = _
    omega
  · rw [View.canon_cons_of_not_mem _ _ hm]
    exact h2 fun h => hm (Rect.mem_set_unit.mpr h)

/-- The same where the stores lie over contents that were there before. -/
theorem writes_step {sig : RefSig} {κ : Kind} {sp : Space} {u : View sig κ sp S e} {f : u.ty.Contents Val}
    {off size : Fin S.rank → ℕ} {inb : ∀ a, off a + size a ≤ S.size a} {w : (Rect.unit off size inb).shape.Idx → Val e}
    {L : List (View.Piece Val S e)} (h1 : View.TileAt y off size w v)
    (h2 : (¬∀ a, off a ≤ (y a).val ∧ (y a).val < off a + size a) → u.read Val (u.writes Val f L) y = v) :
    u.read Val (u.writes Val f (⟨Rect.unit off size inb, w⟩ :: L)) y = v := by
  by_cases hm : y ∈ (Rect.unit off size inb).set
  · obtain ⟨x, rfl⟩ := (Rect.unit off size inb).exists_idx_of_mem hm
    refine (View.read_writes_cons_emb u f _ w L x).trans (h1 x fun a => ?_)
    show off a + 1 * (x a : ℕ) = _
    omega
  · rw [View.writes_cons, View.read_slice_write_of_not_mem _ _ _ _ (by rwa [Rect.map_emb_univ])]
    exact h2 fun h => hm (Rect.mem_set_unit.mpr h)

end Steps

/-- A load of the whole gated output reads what the stores left. -/
theorem readCov_all (L : List (View.Piece (Elt Ideal) S512x1280 .bf16)) (h) :
    (View.whole cc0_scratch0).readCov L (Rect.unit (s := S512x1280) ![0, 0] ![512, 1280] h).toLoadRect = View.canon L := by
  rw [View.readCov_eq_canon']
  funext j
  refine congrArg (View.canon L) (funext fun a => Fin.ext ?_)
  show (![0, 0] : Fin 2 → ℕ) a + 1 * (j a : ℕ) = _
  fin_cases a <;> simp

/-! ## A tile's shares of the sums over all rows -/

section Shares
variable (DH BG CG UG CW QM KV ZG WO : ℕ → ℕ → ℝ) (s0 : ℕ)
/-- The share of the output weights' gradient. -/
def dwPart (i k : ℕ) : ℝ := ∑ r : Fin 512, yv BG CG UG CW QM KV ZG (s0 + r.val) i * DH (s0 + r.val) k
/-- The share of the taps' gradient. -/
def dcwPart (n c : ℕ) : ℝ :=
  if n = 0 then ∑ r : Fin 512, dc DH BG ZG WO (s0 + r.val) c * tap2 CG UG (s0 + r.val) c
  else if n = 1 then ∑ r : Fin 512, dc DH BG ZG WO (s0 + r.val) c * tap1 CG UG (s0 + r.val) c
  else if n = 2 then ∑ r : Fin 512, dc DH BG ZG WO (s0 + r.val) c * av CG UG (s0 + r.val) c
  else 0
/-- The share of the keys' and values' gradient. -/
def dkvPart (k j : ℕ) : ℝ :=
  if j < 256 then ∑ r : Fin 512, ds DH QM KV ZG WO (j / 64) (s0 + r.val) k * QM (s0 + r.val) j
  else ∑ r : Fin 512, pw QM KV ((j - 256) / 64) (s0 + r.val) k * dm DH ZG WO (s0 + r.val) (1024 + (j - 256))
end Shares

/-- A tile's part of the first tap's gradient. -/
theorem dcwPart_zero (c : ℕ) : dcwPart DH BG CG UG ZG WO s0 0 c = ∑ r : Fin 512, dc DH BG ZG WO (s0 + r.val) c * tap2 CG UG (s0 + r.val) c :=
  if_pos rfl
/-- A tile's part of the second tap's gradient. -/
theorem dcwPart_one (c : ℕ) : dcwPart DH BG CG UG ZG WO s0 1 c = ∑ r : Fin 512, dc DH BG ZG WO (s0 + r.val) c * tap1 CG UG (s0 + r.val) c :=
  (if_neg (by omega)).trans (if_pos rfl)
/-- A tile's part of the third tap's gradient. -/
theorem dcwPart_two (c : ℕ) : dcwPart DH BG CG UG ZG WO s0 2 c = ∑ r : Fin 512, dc DH BG ZG WO (s0 + r.val) c * (CG (s0 + r.val) c * UG (s0 + r.val) c) :=
  (if_neg (by omega)).trans ((if_neg (by omega)).trans (if_pos rfl))
/-- The padding rows get nothing. -/
theorem dcwPart_rest {n : ℕ} (c : ℕ) (h : 3 ≤ n) : dcwPart DH BG CG UG ZG WO s0 n c = 0 :=
  (if_neg (by omega)).trans ((if_neg (by omega)).trans (if_neg (by omega)))
/-- A tile's part of the keys' gradient stands in the first half of the columns. -/
theorem dkvPart_keys {z : ℝ} {k j : ℕ} (hj : j < 256) :
    z + ∑ r : Fin 512, ds DH QM KV ZG WO (j / 64) (s0 + r.val) k * QM (s0 + r.val) j = z + dkvPart DH QM KV ZG WO s0 k j := congrArg (z + ·) (if_pos hj).symm
/-- A tile's part of the values' gradient stands in the second half. -/
theorem dkvPart_values {z : ℝ} {k j i : ℕ} (hj : j = 256 + i) :
    z + ∑ r : Fin 512, pw QM KV (i / 64) (s0 + r.val) k * dm DH ZG WO (s0 + r.val) (1024 + i) = z + dkvPart DH QM KV ZG WO s0 k j := by
  subst hj; unfold dkvPart; rw [if_neg (by omega), Nat.add_sub_cancel_left]

/-- The output weights' share, whatever the gated output's buffer is called. -/
theorem acc_step {acc y : ℕ → ℕ → ℝ} {buf : S512x1280.Idx → Elt Ideal .bf16} (h : buf = lift2 y) :
    k0_pay138 (F := Ideal) (k0_pay6 (lift2 D)) (lift2 acc) buf = lift2 fun i k => acc i k + ∑ r : Fin 512, y r.val i * D r.val k := by
  rw [h, pay138_eq]

/-- The projection's gradient, at the first point. -/
theorem outA11 (t : Fin cfg0.N) (h0 : t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z (fun _ _ => 0))
    : (outsAt0 m c t.val t.isLt).1 = lift2 fun r j => dproj DH BG CG UG CW QM KV ZG WO (s0 + r) j := by
  rw [outsAt0_A m c t h0 h1]
  frame_open
  simp (disch := decide) only [↓View.readCov_skip, ↓View.readCov_cons_toLoadRect, ↓View.readCov_fill]
  frame_out
  simp only [zero2, zero3, zero4, zero5, b.b0, b.b1, b.b2, b.b3, b.b4, b.b5, b.b6, b.b7, b.b8, b.b9, b.b10, read_unread_whole, ld_lift2, rows_norm, cols_norm, pay7_eq,
    conv0_eq, conv1_eq, conv2_eq, conv3_eq, dz0_eq, dz1_eq, dz2_eq, dz3_eq, dau0_eq, dau1_eq, dau2_eq, dau3_eq, dac0_eq, dac1_eq, dac2_eq, dac3_eq, pay12_eq, pay17_eq, pay139_eq, pay141_eq, pay142_eq, pay24_eq, scores_eq, queries_eq]
  clear b
  funext y
  canon_tiles x hx
  all_goals
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]
    first
      | with_reducible exact dproj_gate (by omega)
      | with_reducible exact dproj_in (by omega) (by omega)
      | with_reducible exact dproj_val (by omega) (by omega)
      | with_reducible exact dproj_query (by omega) (by omega)
      | with_reducible exact dproj_out (by omega) (by omega)
      | with_reducible exact dproj_mem (by omega)

/-- The projection's gradient, at a point between. -/
theorem outB11 (t : Fin cfg0.N) (h0 : ¬t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z CA)
    (ca : (outsAt0 m c (t.val - 1) (Nat.lt_of_le_of_lt (Nat.sub_le _ _) t.isLt)).2.2.2.2.2 = lift2 CA)
    : (outsAt0 m c t.val t.isLt).1 = lift2 fun r j => dproj DH BG CG UG CW QM KV ZG WO (s0 + r) j := by
  rw [outsAt0_B m c t h0 h1]
  frame_out
  simp only [b.b0, b.b1, b.b2, b.b3, b.b4, b.b5, b.b6, b.b7, b.b8, b.b9, b.b10, ca, read_unread_whole, ld_lift2, rows_norm, cols_norm, pay7_eq,
    conv0_eq, conv1_eq, conv2_eq, conv3_eq, dz0_eq, dz1_eq, dz2_eq, dz3_eq, dau0_eq, dau1_eq, dau2_eq, dau3_eq, dac0_eq, dac1_eq, dac2_eq, dac3_eq, pay12_eq, pay17_eq, pay139_eq, pay141_eq, pay142_eq, pay24_eq, scores_eq, queries_eq]
  clear b ca
  funext y
  canon_tiles x hx
  all_goals
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]
    first
      | with_reducible exact dproj_gate (by omega)
      | with_reducible exact dproj_in (by omega) (by omega)
      | with_reducible exact dproj_val (by omega) (by omega)
      | with_reducible exact dproj_query (by omega) (by omega)
      | with_reducible exact dproj_out (by omega) (by omega)
      | with_reducible exact dproj_mem (by omega)

/-- The projection's gradient, at the last point. -/
theorem outC11 (t : Fin cfg0.N) (h0 : ¬t.val % 4 = 0) (h1 : t.val % 4 = 3) (b : Blocks m c D B C U CP UP W Q KV Z WO t)
    (h : At DH BG CG UG CW QM ZG WO (BitVec.ofNat 32 ↑(grid0.coords t 0)) s0 D B C U CP UP W Q Z CA)
    (ca : (outsAt0 m c (t.val - 1) (Nat.lt_of_le_of_lt (Nat.sub_le _ _) t.isLt)).2.2.2.2.2 = lift2 CA)
    : (outsAt0 m c t.val t.isLt).1 = lift2 fun r j => dproj DH BG CG UG CW QM KV ZG WO (s0 + r) j := by
  rw [outsAt0_C m c t h0 h1]
  frame_out
  simp only [b.b0, b.b1, b.b2, b.b3, b.b4, b.b5, b.b6, b.b7, b.b8, b.b9, b.b10, ca, read_unread_whole, ld_lift2, rows_norm, cols_norm, pay7_eq,
    conv0_eq, conv1_eq, conv2_eq, conv3_eq, dz0_eq, dz1_eq, dz2_eq, dz3_eq, dau0_eq, dau1_eq, dau2_eq, dau3_eq, dac0_eq, dac1_eq, dac2_eq, dac3_eq, pay12_eq, pay17_eq, pay139_eq, pay141_eq, pay142_eq, pay24_eq, scores_eq, queries_eq]
  clear b ca
  funext y
  canon_tiles x hx
  all_goals
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]
    first
      | with_reducible exact dproj_gate (by omega)
      | with_reducible exact dproj_in (by omega) (by omega)
      | with_reducible exact dproj_val (by omega) (by omega)
      | with_reducible exact dproj_query (by omega) (by omega)
      | with_reducible exact dproj_out (by omega) (by omega)
      | with_reducible exact dproj_mem (by omega)

/-- The output weights' gradient, summed so far, at the first point. -/
theorem outA12 (t : Fin cfg0.N) (h0 : t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z (fun _ _ => 0))
    : (outsAt0 m c t.val t.isLt).2.1 = lift2 fun i k => 0 + dwPart DH BG CG UG CW QM KV ZG s0 i k := by
  rw [outsAt0_A m c t h0 h1]
  frame_open
  simp (disch := decide) only [↓View.readCov_skip, ↓View.readCov_cons_toLoadRect, ↓View.readCov_fill]
  frame_out
  simp only [zero2, zero3, zero4, zero5, b.b0, b.b1, b.b2, b.b3, b.b4, b.b5, b.b6, b.b7, b.b8, b.b9, b.b10, read_unread_whole, ld_lift2, rows_norm, cols_norm, pay7_eq,
    y0_eq, y1_eq, y2_eq, y3_eq, pay22_eq]
  clear b
  refine (acc_step (y := fun r i => yv BG CG UG CW QM KV ZG (s0 + r) i) ?_).trans ?_
  · rw [readCov_all]
    funext y
    canon_tiles x hx
    all_goals
      refine lift2_eq ?_
      simp (disch := first | omega | exact Fin.isLt _) only [hx0, hx1, h.cv_eq, h.dal_eq, h.dcl_eq, h.t1_eq, h.t2_eq, h.dsl_eq, h.mo_eq, h.pw_eq, h.dmo_eq]
      try simp only [h.dy_eq, h.hD, h.hB, h.hC, h.hU, h.hZ, h.hQ, Nat.zero_add]
      first
        | with_reducible exact yv_gate (by omega)
        | with_reducible exact yv_mem (by omega)
  · simp only [h.hD, dwPart]

/-- The output weights' gradient, summed so far, at a point between. -/
theorem outB12 (t : Fin cfg0.N) (h0 : ¬t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z CA)
    {acc : ℕ → ℕ → ℝ} (hacc : (outsAt0 m c (t.val - 1) (Nat.lt_of_le_of_lt (Nat.sub_le _ _) t.isLt)).2.1 = lift2 acc)
    : (outsAt0 m c t.val t.isLt).2.1 = lift2 fun i k => acc i k + dwPart DH BG CG UG CW QM KV ZG s0 i k := by
  rw [outsAt0_B m c t h0 h1]
  frame_out
  simp only [b.b0, b.b1, b.b2, b.b3, b.b4, b.b5, b.b6, b.b7, b.b8, b.b9, b.b10, hacc, read_unread_whole, ld_lift2, rows_norm, cols_norm, pay7_eq,
    y0_eq, y1_eq, y2_eq, y3_eq, pay22_eq]
  clear b hacc
  refine (acc_step (y := fun r i => yv BG CG UG CW QM KV ZG (s0 + r) i) ?_).trans ?_
  · rw [readCov_all]
    funext y
    canon_tiles x hx
    all_goals
      refine lift2_eq ?_
      simp (disch := first | omega | exact Fin.isLt _) only [hx0, hx1, h.cv_eq, h.dal_eq, h.dcl_eq, h.t1_eq, h.t2_eq, h.dsl_eq, h.mo_eq, h.pw_eq, h.dmo_eq]
      try simp only [h.dy_eq, h.hD, h.hB, h.hC, h.hU, h.hZ, h.hQ, Nat.zero_add]
      first
        | with_reducible exact yv_gate (by omega)
        | with_reducible exact yv_mem (by omega)
  · simp only [h.hD, dwPart]

/-- The output weights' gradient, summed so far, at the last point. -/
theorem outC12 (t : Fin cfg0.N) (h0 : ¬t.val % 4 = 0) (h1 : t.val % 4 = 3) (b : Blocks m c D B C U CP UP W Q KV Z WO t)
    (h : At DH BG CG UG CW QM ZG WO (BitVec.ofNat 32 ↑(grid0.coords t 0)) s0 D B C U CP UP W Q Z CA)
    {acc : ℕ → ℕ → ℝ} (hacc : (outsAt0 m c (t.val - 1) (Nat.lt_of_le_of_lt (Nat.sub_le _ _) t.isLt)).2.1 = lift2 acc)
    : (outsAt0 m c t.val t.isLt).2.1 = lift2 fun i k => acc i k + dwPart DH BG CG UG CW QM KV ZG s0 i k := by
  rw [outsAt0_C m c t h0 h1]
  frame_out
  simp only [b.b0, b.b1, b.b2, b.b3, b.b4, b.b5, b.b6, b.b7, b.b8, b.b9, b.b10, hacc, read_unread_whole, ld_lift2, rows_norm, cols_norm, pay7_eq,
    y0_eq, y1_eq, y2_eq, y3_eq, pay22_eq]
  clear b hacc
  refine (acc_step (y := fun r i => yv BG CG UG CW QM KV ZG (s0 + r) i) ?_).trans ?_
  · rw [readCov_all]
    funext y
    canon_tiles x hx
    all_goals
      refine lift2_eq ?_
      simp (disch := first | omega | exact Fin.isLt _) only [hx0, hx1, h.cv_eq, h.dal_eq, h.dcl_eq, h.t1_eq, h.t2_eq, h.dsl_eq, h.mo_eq, h.pw_eq, h.dmo_eq]
      try simp only [h.dy_eq, h.hD, h.hB, h.hC, h.hU, h.hZ, h.hQ, Nat.zero_add]
      first
        | with_reducible exact yv_gate (by omega)
        | with_reducible exact yv_mem (by omega)
  · simp only [h.hD, dwPart]

/-- The taps' gradient, summed so far, at the first point. -/
theorem outA13 (t : Fin cfg0.N) (h0 : t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z (fun _ _ => 0))
    : (outsAt0 m c t.val t.isLt).2.2.1 = lift2 fun i k => 0 + dcwPart DH BG CG UG ZG WO s0 i k := by
  rw [outsAt0_A m c t h0 h1]
  frame_open
  simp (disch := decide) only [↓View.readCov_skip, ↓View.readCov_cons_toLoadRect, ↓View.readCov_fill]
  frame_out
  simp only [zero2, zero3, zero4, zero5, b.b0, b.b1, b.b2, b.b3, b.b4, b.b5, b.b6, b.b7, b.b8, b.b9, b.b10, read_unread_whole, ld_lift2, rows_norm, cols_norm, pay7_eq,
    w00_eq, w01_eq, w02_eq, w03_eq, w10_eq, w11_eq, w12_eq, w13_eq, w20_eq, w21_eq, w22_eq, w23_eq]
  clear b
  funext y
  refine canon_step ?_ fun n0 => ?_
  rotate_left
  refine canon_step ?_ fun n1 => ?_
  rotate_left
  refine canon_step ?_ fun n2 => ?_
  rotate_left
  refine canon_step ?_ fun n3 => ?_
  rotate_left
  refine canon_step ?_ fun n4 => ?_
  rotate_left
  refine canon_step ?_ fun n5 => ?_
  rotate_left
  refine canon_step ?_ fun n6 => ?_
  rotate_left
  refine canon_step ?_ fun n7 => ?_
  rotate_left
  refine canon_step ?_ fun n8 => ?_
  rotate_left
  refine canon_step ?_ fun n9 => ?_
  rotate_left
  refine canon_step ?_ fun n10 => ?_
  rotate_left
  refine canon_step ?_ fun n11 => ?_
  rotate_left
  · refine canon_step ?_ fun n12 => ?_
    · tile_intro x hx
      refine lift2_eq ?_
      have hr : 3 ≤ (y 0).val := by
        have hy1 := (y 1).isLt
        simp [Fin.forall_fin_two] at n0 n1 n2 n3 n4 n5 n6 n7 n8 n9 n10 n11 hy1
        omega
      rw [dcwPart_rest _ hr, add_zero]
    · exfalso
      have hy0 := (y 0).isLt
      have hy1 := (y 1).isLt
      simp [Fin.forall_fin_two] at n12 hy0 hy1
      omega
  all_goals
    tile_intro x hx
    refine lift2_eq ?_
    have z0 : (x 0).val = 0 := by omega
    simp (disch := first | omega | exact Fin.isLt _) only [hx0, hx1, z0, h.dcl_eq, h.t1_eq, h.t2_eq]
    try simp only [h.hC, h.hU, Nat.zero_add, Nat.add_zero]
    first
      | rw [dcwPart_zero]
      | rw [dcwPart_one]
      | rw [dcwPart_two]

/-- The taps' gradient, summed so far, at a point between. -/
theorem outB13 (t : Fin cfg0.N) (h0 : ¬t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z CA)
    {acc : ℕ → ℕ → ℝ} (hacc : (outsAt0 m c (t.val - 1) (Nat.lt_of_le_of_lt (Nat.sub_le _ _) t.isLt)).2.2.1 = lift2 acc)
    : (outsAt0 m c t.val t.isLt).2.2.1 = lift2 fun i k => acc i k + dcwPart DH BG CG UG ZG WO s0 i k := by
  rw [outsAt0_B m c t h0 h1]
  frame_out
  simp only [b.b0, b.b1, b.b2, b.b3, b.b4, b.b5, b.b6, b.b7, b.b8, b.b9, b.b10, hacc, read_unread_whole, ld_lift2, rows_norm, cols_norm, pay7_eq,
    w00_eq, w01_eq, w02_eq, w03_eq, w10_eq, w11_eq, w12_eq, w13_eq, w20_eq, w21_eq, w22_eq, w23_eq]
  clear b hacc
  funext y
  refine writes_step ?_ fun n0 => ?_
  rotate_left
  refine writes_step ?_ fun n1 => ?_
  rotate_left
  refine writes_step ?_ fun n2 => ?_
  rotate_left
  refine writes_step ?_ fun n3 => ?_
  rotate_left
  refine writes_step ?_ fun n4 => ?_
  rotate_left
  refine writes_step ?_ fun n5 => ?_
  rotate_left
  refine writes_step ?_ fun n6 => ?_
  rotate_left
  refine writes_step ?_ fun n7 => ?_
  rotate_left
  refine writes_step ?_ fun n8 => ?_
  rotate_left
  refine writes_step ?_ fun n9 => ?_
  rotate_left
  refine writes_step ?_ fun n10 => ?_
  rotate_left
  refine writes_step ?_ fun n11 => ?_
  rotate_left
  · rw [View.writes_nil, Memref.IsWhole.read_unread]
    refine lift2_eq ?_
    have hr : 3 ≤ (y 0).val := by
      have hy1 := (y 1).isLt
      simp [Fin.forall_fin_two] at n0 n1 n2 n3 n4 n5 n6 n7 n8 n9 n10 n11 hy1
      omega
    rw [dcwPart_rest _ hr, add_zero]
  all_goals
    tile_intro x hx
    refine lift2_eq ?_
    have z0 : (x 0).val = 0 := by omega
    simp (disch := first | omega | exact Fin.isLt _) only [hx0, hx1, z0, h.dcl_eq, h.t1_eq, h.t2_eq]
    try simp only [h.hC, h.hU, Nat.zero_add, Nat.add_zero]
    first
      | rw [dcwPart_zero]
      | rw [dcwPart_one]
      | rw [dcwPart_two]

/-- The taps' gradient, summed so far, at the last point. -/
theorem outC13 (t : Fin cfg0.N) (h0 : ¬t.val % 4 = 0) (h1 : t.val % 4 = 3) (b : Blocks m c D B C U CP UP W Q KV Z WO t)
    (h : At DH BG CG UG CW QM ZG WO (BitVec.ofNat 32 ↑(grid0.coords t 0)) s0 D B C U CP UP W Q Z CA)
    {acc : ℕ → ℕ → ℝ} (hacc : (outsAt0 m c (t.val - 1) (Nat.lt_of_le_of_lt (Nat.sub_le _ _) t.isLt)).2.2.1 = lift2 acc)
    : (outsAt0 m c t.val t.isLt).2.2.1 = lift2 fun i k => acc i k + dcwPart DH BG CG UG ZG WO s0 i k := by
  rw [outsAt0_C m c t h0 h1]
  frame_out
  simp only [b.b0, b.b1, b.b2, b.b3, b.b4, b.b5, b.b6, b.b7, b.b8, b.b9, b.b10, hacc, read_unread_whole, ld_lift2, rows_norm, cols_norm, pay7_eq,
    w00_eq, w01_eq, w02_eq, w03_eq, w10_eq, w11_eq, w12_eq, w13_eq, w20_eq, w21_eq, w22_eq, w23_eq]
  clear b hacc
  funext y
  refine writes_step ?_ fun n0 => ?_
  rotate_left
  refine writes_step ?_ fun n1 => ?_
  rotate_left
  refine writes_step ?_ fun n2 => ?_
  rotate_left
  refine writes_step ?_ fun n3 => ?_
  rotate_left
  refine writes_step ?_ fun n4 => ?_
  rotate_left
  refine writes_step ?_ fun n5 => ?_
  rotate_left
  refine writes_step ?_ fun n6 => ?_
  rotate_left
  refine writes_step ?_ fun n7 => ?_
  rotate_left
  refine writes_step ?_ fun n8 => ?_
  rotate_left
  refine writes_step ?_ fun n9 => ?_
  rotate_left
  refine writes_step ?_ fun n10 => ?_
  rotate_left
  refine writes_step ?_ fun n11 => ?_
  rotate_left
  · rw [View.writes_nil, Memref.IsWhole.read_unread]
    refine lift2_eq ?_
    have hr : 3 ≤ (y 0).val := by
      have hy1 := (y 1).isLt
      simp [Fin.forall_fin_two] at n0 n1 n2 n3 n4 n5 n6 n7 n8 n9 n10 n11 hy1
      omega
    rw [dcwPart_rest _ hr, add_zero]
  all_goals
    tile_intro x hx
    refine lift2_eq ?_
    have z0 : (x 0).val = 0 := by omega
    simp (disch := first | omega | exact Fin.isLt _) only [hx0, hx1, z0, h.dcl_eq, h.t1_eq, h.t2_eq]
    try simp only [h.hC, h.hU, Nat.zero_add, Nat.add_zero]
    first
      | rw [dcwPart_zero]
      | rw [dcwPart_one]
      | rw [dcwPart_two]

/-- The keys' and values' gradient, summed so far, at the first point. -/
theorem outA14 (t : Fin cfg0.N) (h0 : t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z (fun _ _ => 0))
    : (outsAt0 m c t.val t.isLt).2.2.2.1 = lift2 fun i k => 0 + dkvPart DH QM KV ZG WO s0 i k := by
  rw [outsAt0_A m c t h0 h1]
  frame_open
  simp (disch := decide) only [↓View.readCov_skip, ↓View.readCov_cons_toLoadRect, ↓View.readCov_fill]
  frame_out
  simp only [zero2, zero3, zero4, zero5, b.b0, b.b1, b.b2, b.b3, b.b4, b.b5, b.b6, b.b7, b.b8, b.b9, b.b10, read_unread_whole, ld_lift2, rows_norm, cols_norm, pay7_eq,
    pay12_eq, pay17_eq, pay139_eq, pay141_eq, pay142_eq, keys_eq, values_eq]
  clear b
  funext y
  refine canon_step ?_ fun n0 => ?_
  rotate_left
  refine canon_step ?_ fun n1 => ?_
  rotate_left
  · exfalso
    have hy0 := (y 0).isLt
    have hy1 := (y 1).isLt
    simp [Fin.forall_fin_two] at n0 n1 hy0 hy1
    omega
  all_goals
    tile_intro x hx
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]
    first
      | with_reducible exact dkvPart_keys (by omega)
      | with_reducible exact dkvPart_values (by omega)

/-- The keys' and values' gradient, summed so far, at a point between. -/
theorem outB14 (t : Fin cfg0.N) (h0 : ¬t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z CA)
    {acc : ℕ → ℕ → ℝ} (hacc : (outsAt0 m c (t.val - 1) (Nat.lt_of_le_of_lt (Nat.sub_le _ _) t.isLt)).2.2.2.1 = lift2 acc)
    : (outsAt0 m c t.val t.isLt).2.2.2.1 = lift2 fun i k => acc i k + dkvPart DH QM KV ZG WO s0 i k := by
  rw [outsAt0_B m c t h0 h1]
  frame_out
  simp only [b.b0, b.b1, b.b2, b.b3, b.b4, b.b5, b.b6, b.b7, b.b8, b.b9, b.b10, hacc, read_unread_whole, ld_lift2, rows_norm, cols_norm, pay7_eq,
    pay12_eq, pay17_eq, pay139_eq, pay141_eq, pay142_eq, keys_eq, values_eq]
  clear b hacc
  funext y
  canon_tiles x hx
  all_goals
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]
    first
      | with_reducible exact dkvPart_keys (by omega)
      | with_reducible exact dkvPart_values (by omega)

/-- The keys' and values' gradient, summed so far, at the last point. -/
theorem outC14 (t : Fin cfg0.N) (h0 : ¬t.val % 4 = 0) (h1 : t.val % 4 = 3) (b : Blocks m c D B C U CP UP W Q KV Z WO t)
    (h : At DH BG CG UG CW QM ZG WO (BitVec.ofNat 32 ↑(grid0.coords t 0)) s0 D B C U CP UP W Q Z CA)
    {acc : ℕ → ℕ → ℝ} (hacc : (outsAt0 m c (t.val - 1) (Nat.lt_of_le_of_lt (Nat.sub_le _ _) t.isLt)).2.2.2.1 = lift2 acc)
    : (outsAt0 m c t.val t.isLt).2.2.2.1 = lift2 fun i k => acc i k + dkvPart DH QM KV ZG WO s0 i k := by
  rw [outsAt0_C m c t h0 h1]
  frame_out
  simp only [b.b0, b.b1, b.b2, b.b3, b.b4, b.b5, b.b6, b.b7, b.b8, b.b9, b.b10, hacc, read_unread_whole, ld_lift2, rows_norm, cols_norm, pay7_eq,
    pay12_eq, pay17_eq, pay139_eq, pay141_eq, pay142_eq, keys_eq, values_eq]
  clear b hacc
  funext y
  canon_tiles x hx
  all_goals
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]
    first
      | with_reducible exact dkvPart_keys (by omega)
      | with_reducible exact dkvPart_values (by omega)

/-- The output weights' gradient, written out, at the last point. -/
theorem outC15 (t : Fin cfg0.N) (h0 : ¬t.val % 4 = 0) (h1 : t.val % 4 = 3) (b : Blocks m c D B C U CP UP W Q KV Z WO t)
    (h : At DH BG CG UG CW QM ZG WO (BitVec.ofNat 32 ↑(grid0.coords t 0)) s0 D B C U CP UP W Q Z CA)
    {acc : ℕ → ℕ → ℝ} (hacc : (outsAt0 m c (t.val - 1) (Nat.lt_of_le_of_lt (Nat.sub_le _ _) t.isLt)).2.1 = lift2 acc)
    : (outsAt0 m c t.val t.isLt).2.2.2.2.1 = lift2 fun i k => acc i k + dwPart DH BG CG UG CW QM KV ZG s0 i k := by
  rw [outsAt0_C m c t h0 h1]
  frame_out
  simp only [b.b0, b.b1, b.b2, b.b3, b.b4, b.b5, b.b6, b.b7, b.b8, b.b9, b.b10, hacc, read_unread_whole, ld_lift2, rows_norm, cols_norm, pay7_eq,
    y0_eq, y1_eq, y2_eq, y3_eq, pay22_eq, pay1_eq]
  clear b hacc
  refine (congrArg (k0_pay1 (F := Ideal)) (acc_step (y := fun r i => yv BG CG UG CW QM KV ZG (s0 + r) i) ?_)).trans ?_
  · rw [readCov_all]
    funext y
    canon_tiles x hx
    all_goals
      refine lift2_eq ?_
      simp (disch := first | omega | exact Fin.isLt _) only [hx0, hx1, h.cv_eq, h.dal_eq, h.dcl_eq, h.t1_eq, h.t2_eq, h.dsl_eq, h.mo_eq, h.pw_eq, h.dmo_eq]
      try simp only [h.dy_eq, h.hD, h.hB, h.hC, h.hU, h.hZ, h.hQ, Nat.zero_add]
      first
        | with_reducible exact yv_gate (by omega)
        | with_reducible exact yv_mem (by omega)
  · rw [pay1_eq]
    simp only [h.hD, dwPart]

/-- The rows kept for the tile before, at the first point. -/
theorem outA16 (t : Fin cfg0.N) (h0 : t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z (fun _ _ => 0))
    : (outsAt0 m c t.val t.isLt).2.2.2.2.2 = lift2 fun r k => dc DH BG ZG WO (s0 + r) k := by
  rw [outsAt0_A m c t h0 h1]
  frame_open
  simp (disch := decide) only [↓View.readCov_skip, ↓View.readCov_cons_toLoadRect, ↓View.readCov_fill]
  frame_out
  simp only [zero2, zero3, zero4, zero5, b.b0, b.b1, b.b2, b.b3, b.b4, b.b5, b.b6, b.b7, b.b8, b.b9, b.b10, read_unread_whole, ld_lift2, rows_norm, cols_norm, pay7_eq,
    carry0_eq, carry1_eq, carry2_eq, carry3_eq]
  clear b
  funext y
  refine canon_step ?_ fun n0 => ?_
  rotate_left
  refine canon_step ?_ fun n1 => ?_
  rotate_left
  refine canon_step ?_ fun n2 => ?_
  rotate_left
  refine canon_step ?_ fun n3 => ?_
  rotate_left
  · exfalso
    have hy0 := (y 0).isLt
    have hy1 := (y 1).isLt
    simp [Fin.forall_fin_two] at n0 n1 n2 n3 hy0 hy1
    omega
  all_goals
    tile_intro x hx
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]

/-- The rows kept for the tile before, at a point between. -/
theorem outB16 (t : Fin cfg0.N) (h0 : ¬t.val % 4 = 0) (h1 : ¬t.val % 4 = 3) (b : Blocks m c D B C U CP UP W Q KV Z WO t)
    (h : At DH BG CG UG CW QM ZG WO (BitVec.ofNat 32 ↑(grid0.coords t 0)) s0 D B C U CP UP W Q Z CA)
    : (outsAt0 m c t.val t.isLt).2.2.2.2.2 = lift2 fun r k => dc DH BG ZG WO (s0 + r) k := by
  rw [outsAt0_B m c t h0 h1]
  frame_out
  simp only [b.b0, b.b1, b.b2, b.b3, b.b4, b.b5, b.b6, b.b7, b.b8, b.b9, b.b10, read_unread_whole, ld_lift2, rows_norm, cols_norm, pay7_eq,
    carry0_eq, carry1_eq, carry2_eq, carry3_eq]
  clear b
  funext y
  canon_tiles x hx
  all_goals
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]

/-- The rows kept for the tile before, at the last point. -/
theorem outC16 (t : Fin cfg0.N) (h0 : ¬t.val % 4 = 0) (h1 : t.val % 4 = 3) (b : Blocks m c D B C U CP UP W Q KV Z WO t)
    (h : At DH BG CG UG CW QM ZG WO (BitVec.ofNat 32 ↑(grid0.coords t 0)) s0 D B C U CP UP W Q Z CA)
    : (outsAt0 m c t.val t.isLt).2.2.2.2.2 = lift2 fun r k => dc DH BG ZG WO (s0 + r) k := by
  rw [outsAt0_C m c t h0 h1]
  frame_out
  simp only [b.b0, b.b1, b.b2, b.b3, b.b4, b.b5, b.b6, b.b7, b.b8, b.b9, b.b10, read_unread_whole, ld_lift2, rows_norm, cols_norm, pay7_eq,
    carry0_eq, carry1_eq, carry2_eq, carry3_eq]
  clear b
  funext y
  canon_tiles x hx
  all_goals
    refine lift2_eq ?_
    simp (disch := first | omega | exact Fin.isLt _) only [hx0, hx1, h.cv_eq, h.dal_eq, h.dcl_eq, h.t1_eq, h.t2_eq, h.dsl_eq, h.mo_eq, h.pw_eq, h.dmo_eq]
    try simp only [h.dy_eq, h.hD, h.hB, h.hC, h.hU, h.hZ, h.hQ, Nat.zero_add]

end Cert.Grad.Ker

end
-- ==== Proof.Assemble.lean ====
module

public import proofs.«01_k».proof.Proof.Points
public import Idealize.ShloMosaic.Lib.Pipeline.ValueKit

@[expose] public section

set_option maxRecDepth 16384

noncomputable section

/-! # From the grid points to the five result arrays -/

namespace Cert.Grad.Ker

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- The first row of the tile a grid point works on: the last tile comes first. -/
def row0 (t : Fin cfg0.N) : ℕ := (3 - t.val) * 512
/-- The first of the eight rows just above the tile (the array's own first rows for the top tile). -/
def row8 (t : Fin cfg0.N) : ℕ := (64 * (3 - t.val) - 1) * 8

/-- Which block each row-tiled window shows at a point. -/
theorem idxRows : ∀ t : Fin cfg0.N, win0_0.index t = ![3 - t.val, 0] ∧ win0_1.index t = ![3 - t.val, 0] ∧ win0_2.index t = ![3 - t.val, 0]
    ∧ win0_3.index t = ![3 - t.val, 0] ∧ win0_7.index t = ![3 - t.val, 0] ∧ win0_9.index t = ![3 - t.val, 0] ∧ win0_11.index t = ![3 - t.val, 0] :=
  (by decide +kernel : ∀ t : Fin grid0.N, _)
/-- Which block the two windows of the rows above show. -/
theorem idxAbove : ∀ t : Fin cfg0.N, win0_4.index t = ![64 * (3 - t.val) - 1, 0] ∧ win0_5.index t = ![64 * (3 - t.val) - 1, 0] :=
  (by decide +kernel : ∀ t : Fin grid0.N, _)
/-- The windows that show their whole array at every point. -/
theorem idxWhole : ∀ t : Fin cfg0.N, win0_6.index t = ![0, 0] ∧ win0_8.index t = ![0, 0] ∧ win0_10.index t = ![0, 0] :=
  (by decide +kernel : ∀ t : Fin grid0.N, _)

variable {DH BG CG UG CW QM KV ZG WO : ℕ → ℕ → ℝ}

/-- What window 0 shows at a point. -/
theorem blk0 (h : m ((c : Thread nD τ).loc main_arg0) = lift2 DH) (t : Fin cfg0.N) : iblk m c 0 t = lift2 fun r k => DH (row0 t + r) k := by
  funext y
  blk_simp [iblk]
  rw [V_main_arg0, h]
  unfold lift2
  blk_simp [(idxRows t).1]
  rfl

/-- What window 1 shows at a point. -/
theorem blk1 (h : m ((c : Thread nD τ).loc main_arg1) = lift2 BG) (t : Fin cfg0.N) : iblk m c 1 t = lift2 fun r k => BG (row0 t + r) k := by
  funext y
  blk_simp [iblk]
  rw [V_main_arg1, h]
  unfold lift2
  blk_simp [(idxRows t).2.1]
  rfl

/-- What window 2 shows at a point. -/
theorem blk2 (h : m ((c : Thread nD τ).loc main_arg2) = lift2 CG) (t : Fin cfg0.N) : iblk m c 2 t = lift2 fun r k => CG (row0 t + r) k := by
  funext y
  blk_simp [iblk]
  rw [V_main_arg2, h]
  unfold lift2
  blk_simp [(idxRows t).2.2.1]
  rfl

/-- What window 3 shows at a point. -/
theorem blk3 (h : m ((c : Thread nD τ).loc main_arg3) = lift2 UG) (t : Fin cfg0.N) : iblk m c 3 t = lift2 fun r k => UG (row0 t + r) k := by
  funext y
  blk_simp [iblk]
  rw [V_main_arg3, h]
  unfold lift2
  blk_simp [(idxRows t).2.2.2.1]
  rfl

/-- What window 4 shows at a point. -/
theorem blk4 (h : m ((c : Thread nD τ).loc main_arg2) = lift2 CG) (t : Fin cfg0.N) : iblk m c 4 t = lift2 fun r k => CG (row8 t + r) k := by
  funext y
  blk_simp [iblk]
  rw [V_main_arg2, h]
  unfold lift2
  blk_simp [(idxAbove t).1]
  rfl

/-- What window 5 shows at a point. -/
theorem blk5 (h : m ((c : Thread nD τ).loc main_arg3) = lift2 UG) (t : Fin cfg0.N) : iblk m c 5 t = lift2 fun r k => UG (row8 t + r) k := by
  funext y
  blk_simp [iblk]
  rw [V_main_arg3, h]
  unfold lift2
  blk_simp [(idxAbove t).2]
  rfl

/-- What window 7 shows at a point. -/
theorem blk7 (h : m ((c : Thread nD τ).loc main_arg5) = lift2 QM) (t : Fin cfg0.N) : iblk m c 7 t = lift2 fun r k => QM (row0 t + r) k := by
  funext y
  blk_simp [iblk]
  rw [V_main_arg5, h]
  unfold lift2
  blk_simp [(idxRows t).2.2.2.2.1]
  rfl

/-- What window 9 shows at a point. -/
theorem blk9 (h : m ((c : Thread nD τ).loc main_arg7) = lift2 ZG) (t : Fin cfg0.N) : iblk m c 9 t = lift2 fun r k => ZG (row0 t + r) k := by
  funext y
  blk_simp [iblk]
  rw [V_main_arg7, h]
  unfold lift2
  blk_simp [(idxRows t).2.2.2.2.2.1]
  rfl

/-- What window 8 shows at a point. -/
theorem blk8 (h : m ((c : Thread nD τ).loc main_arg6) = lift2 KV) (t : Fin cfg0.N) : iblk m c 8 t = lift2 KV := by
  funext y
  blk_simp [iblk]
  rw [V_main_arg6, h]
  unfold lift2
  blk_simp [(idxWhole t).2.1]

/-- What window 10 shows at a point. -/
theorem blk10 (h : m ((c : Thread nD τ).loc main_arg8) = lift2 WO) (t : Fin cfg0.N) : iblk m c 10 t = lift2 WO := by
  funext y
  blk_simp [iblk]
  rw [V_main_arg8, h]
  unfold lift2
  blk_simp [(idxWhole t).2.2]

/-- The taps' weights, padded to eight rows before the call. -/
theorem pad0 (h : m ((c : Thread nD τ).loc main_arg4) = lift2 CW) : V m c main_v0 = lift2 fun r k => if r < 3 then CW r k else 0 := by
  entry_read
  simp only [List.flatten_cons, List.flatten_nil, List.append_nil, List.cons_append, List.nil_append]
  after_results
  show pad S8x1024 ![0, 0] ![5, 0] ![0, 0] (m ((c : Thread nD τ).loc main_arg4)) (sitofp (F := Ideal) .f32 (constantI S_ 32 0#32))
    pads_S3x1024_S8x1024_050_000 h_S_ = _
  rw [h]
  funext y
  have hy : (y 1).val < 1024 := (y 1).isLt
  unfold pad
  split
  · rename_i hin
    have h0 : (y 0).val < 3 := by simpa using (hin 0).2.2
    simp [lift2, h0]
  · rename_i hout
    have h0 : ¬(y 0).val < 3 := fun h3 => hout fun a => by
      match a with
      | ⟨0, _⟩ => exact ⟨Nat.zero_le _, Nat.mod_one _, by simpa using h3⟩
      | ⟨1, _⟩ => exact ⟨Nat.zero_le _, Nat.mod_one _, by simpa using hy⟩
    simp [lift2, h0, sitofp, constantI]
    show (((0#32 : BitVec 32).toInt : ℝ) : EReal) = 0
    simp

/-- What the taps' window shows at a point. -/
theorem blk6 (h : m ((c : Thread nD τ).loc main_arg4) = lift2 CW) (t : Fin cfg0.N) :
    iblk m c 6 t = lift2 fun r k => if r < 3 then CW r k else 0 := by
  funext y
  blk_simp [iblk]
  rw [pad0 m c h]
  unfold lift2
  blk_simp [(idxWhole t).1]

/-- The nine arguments, as arrays of numbers. -/
structure Args (DH BG CG UG CW QM KV ZG WO : ℕ → ℕ → ℝ) : Prop where
  a0 : m ((c : Thread nD τ).loc main_arg0) = lift2 DH
  a1 : m ((c : Thread nD τ).loc main_arg1) = lift2 BG
  a2 : m ((c : Thread nD τ).loc main_arg2) = lift2 CG
  a3 : m ((c : Thread nD τ).loc main_arg3) = lift2 UG
  a4 : m ((c : Thread nD τ).loc main_arg4) = lift2 CW
  a5 : m ((c : Thread nD τ).loc main_arg5) = lift2 QM
  a6 : m ((c : Thread nD τ).loc main_arg6) = lift2 KV
  a7 : m ((c : Thread nD τ).loc main_arg7) = lift2 ZG
  a8 : m ((c : Thread nD τ).loc main_arg8) = lift2 WO

variable {m c}
variable (a : Args m c DH BG CG UG CW QM KV ZG WO)
include a

/-- The blocks at each point, from the arguments. -/
theorem Args.blocks (t : Fin cfg0.N) : Blocks m c (fun r k => DH (row0 t + r) k) (fun r k => BG (row0 t + r) k) (fun r k => CG (row0 t + r) k)
    (fun r k => UG (row0 t + r) k) (fun r k => CG (row8 t + r) k) (fun r k => UG (row8 t + r) k) (fun r k => if r < 3 then CW r k else 0)
    (fun r k => QM (row0 t + r) k) KV (fun r k => ZG (row0 t + r) k) WO t :=
  ⟨blk0 m c a.a0 t, blk1 m c a.a1 t, blk2 m c a.a2 t, blk3 m c a.a3 t, blk4 m c a.a2 t, blk5 m c a.a3 t, blk6 m c a.a4 t, blk7 m c a.a5 t,
    blk8 m c a.a6 t, blk9 m c a.a7 t, blk10 m c a.a8 t⟩
omit a

/-- Only the last point works on the array's first rows. -/
theorem top_iff : ∀ t : Fin cfg0.N, BitVec.ofNat 32 (grid0.coords t 0).val = 3#32 ↔ row0 t = 0 :=
  (by decide +kernel : ∀ t : Fin grid0.N, BitVec.ofNat 32 (grid0.coords t 0).val = 3#32 ↔ (3 - t.val) * 512 = 0)

/-- What the lemmas about a tile need, at each point: only the rows carried over from the point before are left open. -/
theorem at_point (t : Fin cfg0.N) {CA : ℕ → ℕ → ℝ}
    (hca : ∀ r k, r < 2 → CA r k = if row0 t + 512 + r < 2048 then dc DH BG ZG WO (row0 t + 512 + r) k else 0) :
    At DH BG CG UG CW QM ZG WO (BitVec.ofNat 32 (grid0.coords t 0).val) (row0 t) (fun r k => DH (row0 t + r) k) (fun r k => BG (row0 t + r) k)
      (fun r k => CG (row0 t + r) k) (fun r k => UG (row0 t + r) k) (fun r k => CG (row8 t + r) k) (fun r k => UG (row8 t + r) k)
      (fun r k => if r < 3 then CW r k else 0) (fun r k => QM (row0 t + r) k) (fun r k => ZG (row0 t + r) k) CA where
  first := top_iff t
  low h := by unfold row0 at *; omega
  top := by unfold row0; omega
  hD _ _ := rfl
  hB _ _ := rfl
  hC _ _ := rfl
  hU _ _ := rfl
  hQ _ _ := rfl
  hZ _ _ := rfl
  hCP h r k := by
    have e : row8 t = row0 t - 8 := by unfold row8 row0 at *; omega
    rw [e]
  hUP h r k := by
    have e : row8 t = row0 t - 8 := by unfold row8 row0 at *; omega
    rw [e]
  hW r k hr := if_pos hr
  hCA := hca

/-- Nothing is carried into the first point, which has no rows below its tile. -/
theorem at_first : At DH BG CG UG CW QM ZG WO (BitVec.ofNat 32 (grid0.coords t0_0 0).val) (row0 t0_0) (fun r k => DH (row0 t0_0 + r) k) (fun r k => BG (row0 t0_0 + r) k)
      (fun r k => CG (row0 t0_0 + r) k) (fun r k => UG (row0 t0_0 + r) k) (fun r k => CG (row8 t0_0 + r) k) (fun r k => UG (row8 t0_0 + r) k)
      (fun r k => if r < 3 then CW r k else 0) (fun r k => QM (row0 t0_0 + r) k) (fun r k => ZG (row0 t0_0 + r) k) (fun _ _ => 0) :=
  at_point t0_0 fun r k _ => by
    have e : row0 t0_0 = 1536 := rfl
    rw [if_neg (by omega)]

/-- A later point carries in the rows just below its tile, left by the point before. -/
theorem at_later (t : Fin cfg0.N) (h : t.val ≠ 0) : At DH BG CG UG CW QM ZG WO (BitVec.ofNat 32 (grid0.coords t 0).val) (row0 t) (fun r k => DH (row0 t + r) k) (fun r k => BG (row0 t + r) k)
      (fun r k => CG (row0 t + r) k) (fun r k => UG (row0 t + r) k) (fun r k => CG (row8 t + r) k) (fun r k => UG (row8 t + r) k)
      (fun r k => if r < 3 then CW r k else 0) (fun r k => QM (row0 t + r) k) (fun r k => ZG (row0 t + r) k)
      (fun r k => dc DH BG ZG WO (row0 t + 512 + r) k) :=
  at_point t fun r k hr => by
    rw [if_pos (by unfold row0; omega)]

include a

/-- The rows that the first point leaves for the second. -/
theorem carry0 : (outsAt0 m c t0_0.val t0_0.isLt).2.2.2.2.2 = lift2 fun r k => dc DH BG ZG WO (row0 t0_1 + 512 + r) k :=
  outA16 m c t0_0 rfl (by decide) (a.blocks t0_0) at_first
/-- The rows that the second point leaves for the third. -/
theorem carry1 : (outsAt0 m c t0_1.val t0_1.isLt).2.2.2.2.2 = lift2 fun r k => dc DH BG ZG WO (row0 t0_2 + 512 + r) k :=
  outB16 m c t0_1 (by decide) (by decide) (a.blocks t0_1) (at_later t0_1 (by decide))
/-- The rows that the third point leaves for the fourth. -/
theorem carry2 : (outsAt0 m c t0_2.val t0_2.isLt).2.2.2.2.2 = lift2 fun r k => dc DH BG ZG WO (row0 t0_3 + 512 + r) k :=
  outB16 m c t0_2 (by decide) (by decide) (a.blocks t0_2) (at_later t0_2 (by decide))

/-- The rows of the projection's gradient that each point writes. -/
theorem proj_point (t : Fin cfg0.N) : (outsAt0 m c t.val t.isLt).1 = lift2 fun r j => dproj DH BG CG UG CW QM KV ZG WO (row0 t + r) j := by
  rcases fin_N0 t with rfl | rfl | rfl | rfl
  · exact outA11 m c t0_0 rfl (by decide) (a.blocks t0_0) at_first
  · exact outB11 m c t0_1 (by decide) (by decide) (a.blocks t0_1) (at_later t0_1 (by decide)) (carry0 a)
  · exact outB11 m c t0_2 (by decide) (by decide) (a.blocks t0_2) (at_later t0_2 (by decide)) (carry1 a)
  · exact outC11 m c t0_3 (by decide) (by decide) (a.blocks t0_3) (at_later t0_3 (by decide)) (carry2 a)

/-- The projection's gradient. -/
theorem proj_array : (dats m 0 c).arrAt 11 cfg0.N = lift2 fun s j => dproj DH BG CG UG CW QM KV ZG WO s j := by
  refine (dats m 0 c).arrAt_eq_of_covers 11 _ (by decide +kernel) fun t hf y => ?_
  blk_simp
  rw [after0_11, proj_point a t]
  unfold lift2
  blk_simp [(idxRows t).2.2.2.2.2.2]
  rfl

omit a in
/-- A sum over all rows, as the four points add it up. -/
theorem sum_four (f : ℕ → ℝ) : (((0 + ∑ r : Fin 512, f (row0 t0_0 + r.val)) + ∑ r : Fin 512, f (row0 t0_1 + r.val))
    + ∑ r : Fin 512, f (row0 t0_2 + r.val)) + ∑ r : Fin 512, f (row0 t0_3 + r.val) = ∑ s : Fin 2048, f s.val := by
  rw [← Fin.sum_univ_univ_mul_add 4 512 f, Fin.sum_univ_four]
  show (((0 + ∑ r : Fin 512, f (3 * 512 + r.val)) + ∑ r : Fin 512, f (2 * 512 + r.val))
    + ∑ r : Fin 512, f (1 * 512 + r.val)) + ∑ r : Fin 512, f (0 * 512 + r.val) = (((∑ r : Fin 512, f (0 * 512 + r.val)) + ∑ r : Fin 512, f (1 * 512 + r.val))
    + ∑ r : Fin 512, f (2 * 512 + r.val)) + ∑ r : Fin 512, f (3 * 512 + r.val)
  ring

/-! ## The output weights' gradient -/

/-- What the points have added up of the output weights' gradient: after the first, the second and the third. -/
theorem acc12_0 : (outsAt0 m c t0_0.val t0_0.isLt).2.1 = lift2 fun i k => 0 + dwPart DH BG CG UG CW QM KV ZG (row0 t0_0) i k :=
  outA12 m c t0_0 rfl (by decide) (a.blocks t0_0) at_first
/-- After the second point. -/
theorem acc12_1 : (outsAt0 m c t0_1.val t0_1.isLt).2.1 = lift2 fun i k => (0 + dwPart DH BG CG UG CW QM KV ZG (row0 t0_0) i k) + dwPart DH BG CG UG CW QM KV ZG (row0 t0_1) i k :=
  outB12 m c t0_1 (by decide) (by decide) (a.blocks t0_1) (at_later t0_1 (by decide)) (acc12_0 a)
/-- After the third point. -/
theorem acc12_2 : (outsAt0 m c t0_2.val t0_2.isLt).2.1 = lift2 fun i k => ((0 + dwPart DH BG CG UG CW QM KV ZG (row0 t0_0) i k) + dwPart DH BG CG UG CW QM KV ZG (row0 t0_1) i k) + dwPart DH BG CG UG CW QM KV ZG (row0 t0_2) i k :=
  outB12 m c t0_2 (by decide) (by decide) (a.blocks t0_2) (at_later t0_2 (by decide)) (acc12_1 a)

omit a in
/-- The four shares are the whole sum. -/
theorem shares12 : (fun i k => (((0 + dwPart DH BG CG UG CW QM KV ZG (row0 t0_0) i k) + dwPart DH BG CG UG CW QM KV ZG (row0 t0_1) i k) + dwPart DH BG CG UG CW QM KV ZG (row0 t0_2) i k) + dwPart DH BG CG UG CW QM KV ZG (row0 t0_3) i k) = fun i k => dw DH BG CG UG CW QM KV ZG i k := by
  funext i k
  exact sum_four fun s => yv BG CG UG CW QM KV ZG s i * DH s k

/-- The array of the output weights' gradient. -/
theorem array12 : (dats m 0 c).arrAt 12 cfg0.N = lift2 fun i k => dw DH BG CG UG CW QM KV ZG i k := by
  refine (dats m 0 c).arrAt_eq_of_after_last 12 t0_3 (by decide +kernel) _ fun j => ?_
  blk_simp
  rw [after0_12]
  refine (congrFun (outC12 m c t0_3 (by decide) (by decide) (a.blocks t0_3) (at_later t0_3 (by decide)) (acc12_2 a)) j).trans ?_
  rw [shares12]

/-- The same gradient, rounded once at the last point. -/
theorem array15 : (dats m 0 c).arrAt 15 cfg0.N = lift2 fun i k => dw DH BG CG UG CW QM KV ZG i k := by
  refine (dats m 0 c).arrAt_eq_of_after_last 15 t0_3 (by decide +kernel) _ fun j => ?_
  blk_simp
  rw [after0_15]
  refine (congrFun (outC15 m c t0_3 (by decide) (by decide) (a.blocks t0_3) (at_later t0_3 (by decide)) (acc12_2 a)) j).trans ?_
  rw [shares12]

/-! ## The taps' gradient -/

/-- What the points have added up of the taps' gradient: after the first, the second and the third. -/
theorem acc13_0 : (outsAt0 m c t0_0.val t0_0.isLt).2.2.1 = lift2 fun i k => 0 + dcwPart DH BG CG UG ZG WO (row0 t0_0) i k :=
  outA13 m c t0_0 rfl (by decide) (a.blocks t0_0) at_first
/-- After the second point. -/
theorem acc13_1 : (outsAt0 m c t0_1.val t0_1.isLt).2.2.1 = lift2 fun i k => (0 + dcwPart DH BG CG UG ZG WO (row0 t0_0) i k) + dcwPart DH BG CG UG ZG WO (row0 t0_1) i k :=
  outB13 m c t0_1 (by decide) (by decide) (a.blocks t0_1) (at_later t0_1 (by decide)) (acc13_0 a)
/-- After the third point. -/
theorem acc13_2 : (outsAt0 m c t0_2.val t0_2.isLt).2.2.1 = lift2 fun i k => ((0 + dcwPart DH BG CG UG ZG WO (row0 t0_0) i k) + dcwPart DH BG CG UG ZG WO (row0 t0_1) i k) + dcwPart DH BG CG UG ZG WO (row0 t0_2) i k :=
  outB13 m c t0_2 (by decide) (by decide) (a.blocks t0_2) (at_later t0_2 (by decide)) (acc13_1 a)

omit a in
/-- The four shares are the whole sum. -/
theorem shares13 : (fun i k => (((0 + dcwPart DH BG CG UG ZG WO (row0 t0_0) i k) + dcwPart DH BG CG UG ZG WO (row0 t0_1) i k) + dcwPart DH BG CG UG ZG WO (row0 t0_2) i k) + dcwPart DH BG CG UG ZG WO (row0 t0_3) i k) = fun i k => dcw DH BG CG UG ZG WO i k := by
  funext i k
  unfold dcwPart dcw
  split
  · exact sum_four fun s => dc DH BG ZG WO s k * tap2 CG UG s k
  split
  · exact sum_four fun s => dc DH BG ZG WO s k * tap1 CG UG s k
  split
  · exact sum_four fun s => dc DH BG ZG WO s k * av CG UG s k
  · simp

/-- The array of the taps' gradient. -/
theorem array13 : (dats m 0 c).arrAt 13 cfg0.N = lift2 fun i k => dcw DH BG CG UG ZG WO i k := by
  refine (dats m 0 c).arrAt_eq_of_after_last 13 t0_3 (by decide +kernel) _ fun j => ?_
  blk_simp
  rw [after0_13]
  refine (congrFun (outC13 m c t0_3 (by decide) (by decide) (a.blocks t0_3) (at_later t0_3 (by decide)) (acc13_2 a)) j).trans ?_
  rw [shares13]

/-! ## The keys' and values' gradient -/

/-- What the points have added up of the keys' and values' gradient: after the first, the second and the third. -/
theorem acc14_0 : (outsAt0 m c t0_0.val t0_0.isLt).2.2.2.1 = lift2 fun i k => 0 + dkvPart DH QM KV ZG WO (row0 t0_0) i k :=
  outA14 m c t0_0 rfl (by decide) (a.blocks t0_0) at_first
/-- After the second point. -/
theorem acc14_1 : (outsAt0 m c t0_1.val t0_1.isLt).2.2.2.1 = lift2 fun i k => (0 + dkvPart DH QM KV ZG WO (row0 t0_0) i k) + dkvPart DH QM KV ZG WO (row0 t0_1) i k :=
  outB14 m c t0_1 (by decide) (by decide) (a.blocks t0_1) (at_later t0_1 (by decide)) (acc14_0 a)
/-- After the third point. -/
theorem acc14_2 : (outsAt0 m c t0_2.val t0_2.isLt).2.2.2.1 = lift2 fun i k => ((0 + dkvPart DH QM KV ZG WO (row0 t0_0) i k) + dkvPart DH QM KV ZG WO (row0 t0_1) i k) + dkvPart DH QM KV ZG WO (row0 t0_2) i k :=
  outB14 m c t0_2 (by decide) (by decide) (a.blocks t0_2) (at_later t0_2 (by decide)) (acc14_1 a)

omit a in
/-- The four shares are the whole sum. -/
theorem shares14 : (fun i k => (((0 + dkvPart DH QM KV ZG WO (row0 t0_0) i k) + dkvPart DH QM KV ZG WO (row0 t0_1) i k) + dkvPart DH QM KV ZG WO (row0 t0_2) i k) + dkvPart DH QM KV ZG WO (row0 t0_3) i k) = fun i k => dkv DH QM KV ZG WO i k := by
  funext i k
  unfold dkvPart dkv
  split
  · exact sum_four fun s => ds DH QM KV ZG WO (k / 64) s i * QM s k
  · exact sum_four fun s => pw QM KV ((k - 256) / 64) s i * dm DH ZG WO s (1024 + (k - 256))

/-- The array of the keys' and values' gradient. -/
theorem array14 : (dats m 0 c).arrAt 14 cfg0.N = lift2 fun i k => dkv DH QM KV ZG WO i k := by
  refine (dats m 0 c).arrAt_eq_of_after_last 14 t0_3 (by decide +kernel) _ fun j => ?_
  blk_simp
  rw [after0_14]
  refine (congrFun (outC14 m c t0_3 (by decide) (by decide) (a.blocks t0_3) (at_later t0_3 (by decide)) (acc14_2 a)) j).trans ?_
  rw [shares14]

end Cert.Grad.Ker
-- ==== Proof.Reference.lean ====
module

public import proofs.«01_k».proof.Proof.Gen.ReferenceIdeal.Read
public import proofs.«01_k».proof.Proof.Spec

@[expose] public section

set_option maxRecDepth 16384

noncomputable section

namespace Cert.Grad.Ref

open Idealize.ShloMosaic Cert.ReferenceIdeal Cert.ReferenceIdeal.Read

variable (DH BG CG U CW QM KV Z WO : ℕ → ℕ → ℝ)

/-! ## The forward part of the reference, stage by stage -/

/-- The product that is convolved. -/
theorem v3_eq : val_main_v3 (F := Ideal) (lift2 CG) (lift2 U) = lift2 (av CG U) := by
  funext i; idx_vars i; pointwise [val_main_v3]
  simp only [lift2_at, ← EReal.coe_mul, av]

/-- The product one row earlier. -/
theorem v6_eq : val_main_v6 (F := Ideal) (lift2 CG) (lift2 U) = lift2 (tap1 CG U) := by
  funext i; idx_vars i; pointwise [val_main_v6, val_main_v5, v3_eq, val_main_v4, val_main_cst]
  by_cases h : (i0 : ℕ) < 1 <;> simp [lift2_at, tap1, h]

/-- The product two rows earlier. -/
theorem v10_eq : val_main_v10 (F := Ideal) (lift2 CG) (lift2 U) = lift2 (tap2 CG U) := by
  funext i; idx_vars i; pointwise [val_main_v10, val_main_v9, v3_eq, val_main_v8, val_main_cst_1]
  by_cases h : (i0 : ℕ) < 2 <;> simp [lift2_at, tap2, h]

/-- The convolution. -/
theorem v28_eq : val_main_v28 (F := Ideal) (lift2 CG) (lift2 U) (lift2 CW) = lift2 (conv CG U CW) := by
  funext i; idx_vars i
  pointwise [val_main_v28, val_main_v27, val_main_v22, val_main_v16, val_main_v15, val_main_v14, val_main_v13, val_main_v12,
    val_main_v21, val_main_v20, val_main_v19, val_main_v18, val_main_v17, val_main_v26, val_main_v25, val_main_v24,
    val_main_v23, v3_eq, v6_eq, v10_eq]
  simp only [lift2_at, ← EReal.coe_mul, ← EReal.coe_add]
  rfl

/-- The scores over the memory. -/
theorem v37_eq : val_main_v37 (F := Ideal) (lift2 QM) (lift2 KV) = lift3 (sc QM KV) := by
  funext i; idx_vars i
  pointwise [val_main_v37, val_main_v35, val_main_v34, val_main_v32, val_main_v30, val_main_v0, val_main_v1, val_main_v36,
    val_main_cst_3]
  simp only [lift2_at, lift3_at, ofBits_eighth, ← EReal.coe_mul, coe_sum]
  rfl

/-- Their largest in each row. -/
theorem v38_eq : val_main_v38 (F := Ideal) (lift2 QM) (lift2 KV) = lift2 (mx QM KV) := by
  funext i; idx_vars i
  pointwise [val_main_v38, v37_eq, val_main_cst_4]
  simp only [lift2_at, lift3_at, ofBits_negInf]
  exact mx_eq QM KV i0 i1

/-- Their exponentials. -/
theorem v58_eq : val_main_v58 (F := Ideal) (lift2 QM) (lift2 KV)
    = lift3 (fun h s k => Real.exp (sc QM KV h s k - mx QM KV h s)) := by
  funext i; idx_vars i
  pointwise [val_main_v58, val_main_v57, val_main_v56, val_main_v55, val_main_v45, val_main_v44, val_main_cst_6, v37_eq, v38_eq]
  simp only [lift2_at, lift3_at, ofBits_negInf, bot_sup_eq, ← EReal.coe_sub, Ideal.exp_coe]

/-- The sums of the exponentials. -/
theorem v59_eq : val_main_v59 (F := Ideal) (lift2 QM) (lift2 KV)
    = lift2 (fun h s => ∑ k : Fin 256, Real.exp (sc QM KV h s k.val - mx QM KV h s)) := by
  funext i; idx_vars i
  pointwise [val_main_v59, v58_eq, val_main_cst_12]
  simp only [lift2_at, lift3_at, coe_sum]

/-- The softmax. -/
theorem v62_eq : val_main_v62 (F := Ideal) (lift2 QM) (lift2 KV) = lift3 (pw QM KV) := by
  funext i; idx_vars i
  pointwise [val_main_v62, val_main_v61, val_main_v60, v58_eq, v59_eq]
  simp only [lift2_at, lift3_at]
  rw [div_real _ _ (den_shift_ne QM KV _ _ _), pw_shift]

/-- The memory's output. -/
theorem v68_eq : val_main_v68 (F := Ideal) (lift2 QM) (lift2 KV) = lift2 (mo QM KV) := by
  funext i; idx_vars i
  pointwise [val_main_v68, val_main_v67, val_main_v66, val_main_v33, val_main_v31, val_main_v1, v62_eq]
  simp only [lift2_at, lift3_at, ← EReal.coe_mul, coe_sum]
  unfold mo
  congr 1
  exact Finset.sum_congr rfl fun k _ => mul_comm _ _

/-- The branches side by side. -/
theorem v69_eq : val_main_v69 (F := Ideal) (lift2 BG) (lift2 CG) (lift2 U) (lift2 CW) (lift2 QM) (lift2 KV)
    = lift2 (y0 BG CG U CW QM KV) := by
  funext i; idx_vars i
  pointwise [val_main_v69, val_main_v29, v28_eq, v68_eq]
  simp only [lift2_at, ← EReal.coe_mul, y0]
  split <;> rfl

/-! ## The gate -/

/-- The logistic function of the gate. -/
theorem v70_2_eq : val_main_v70_2 (F := Ideal) (lift2 Z) = lift2 (fun s j => lgst (Z s j)) := by
  funext i; idx_vars i
  pointwise [val_main_v70_2, val_main_call0_v4, val_main_call0_v3, val_main_call0_v2, val_main_call0_v1, val_main_call0_v0,
    val_main_call0_cst, val_main_call0_cst_0]
  simp only [lift2_at, ← EReal.coe_one, ← EReal.coe_neg, Ideal.exp_coe, ← EReal.coe_add]
  rw [div_real _ _ (by positivity), lgst, one_div]

/-- Its derivative. -/
theorem v70_1_eq : val_main_v70_1 (F := Ideal) (lift2 Z) = lift2 (fun s j => lgst (Z s j) * (1 - lgst (Z s j))) := by
  funext i; idx_vars i
  pointwise [val_main_v70_1, val_main_call0_v7, val_main_call0_v6, val_main_call0_cst_1, v70_2_eq]
  simp only [lift2_at, ← EReal.coe_one, ← EReal.coe_sub, ← EReal.coe_mul]

/-- The SiLU of the gate. -/
theorem v70_0_eq : val_main_v70_0 (F := Ideal) (lift2 Z) = lift2 (fun s j => Z s j * lgst (Z s j)) := by
  funext i; idx_vars i
  pointwise [val_main_v70_0, v70_2_eq]
  simp only [lift2_at, ← EReal.coe_mul]

/-- The gated branches. -/
theorem v71_eq : val_main_v71 (F := Ideal) (lift2 BG) (lift2 CG) (lift2 U) (lift2 CW) (lift2 QM) (lift2 KV) (lift2 Z)
    = lift2 (yv BG CG U CW QM KV Z) := by
  funext i; idx_vars i
  pointwise [val_main_v71, v69_eq, v70_0_eq]
  simp only [lift2_at, ← EReal.coe_mul, yv]

/-! ## The backward part -/

/-- The gradient of the output projection's weights. -/
theorem v74_eq : val_main_v74 (F := Ideal) (lift2 DH) (lift2 BG) (lift2 CG) (lift2 U) (lift2 CW) (lift2 QM) (lift2 KV) (lift2 Z)
    = lift2 (dw DH BG CG U CW QM KV Z) := by
  funext i; idx_vars i
  pointwise [val_main_v74, val_main_v73, v71_eq]
  simp only [lift2_at, ← EReal.coe_mul, coe_sum, dw]
  congr 1
  exact Finset.sum_congr rfl fun k _ => mul_comm _ _

/-- The gradient of the gated branches. -/
theorem v75_eq : val_main_v75 (F := Ideal) (lift2 DH) (lift2 WO) = lift2 (dy DH WO) := by
  funext i; idx_vars i
  pointwise [val_main_v75, val_main_v2]
  simp only [lift2_at, ← EReal.coe_mul, coe_sum, dy]

/-- The gradient of the branches. -/
theorem v77_eq : val_main_v77 (F := Ideal) (lift2 DH) (lift2 Z) (lift2 WO) = lift2 (dm DH Z WO) := by
  funext i; idx_vars i
  pointwise [val_main_v77, v75_eq, v70_0_eq]
  simp only [lift2_at, ← EReal.coe_mul, dm]

/-- The gradient of the gate. -/
theorem v78_eq : val_main_v78 (F := Ideal) (lift2 DH) (lift2 BG) (lift2 CG) (lift2 U) (lift2 CW) (lift2 QM) (lift2 KV) (lift2 Z)
    (lift2 WO) = lift2 (dz DH BG CG U CW QM KV Z WO) := by
  funext i; idx_vars i
  pointwise [val_main_v78, val_main_call1_v2, val_main_call1_v1, val_main_call1_v0, val_main_v76, v69_eq, v75_eq, v70_1_eq,
    v70_2_eq]
  simp only [lift2_at, ← EReal.coe_mul, ← EReal.coe_add, dz, dsilu]
  congr 1
  ring

/-- The gradient of the softmax. -/
theorem v83_eq : val_main_v83 (F := Ideal) (lift2 DH) (lift2 KV) (lift2 Z) (lift2 WO) = lift3 (dp DH KV Z WO) := by
  funext i; idx_vars i
  pointwise [val_main_v83, val_main_v82, val_main_v81, val_main_v80, val_main_v33, val_main_v31, val_main_v1, v77_eq]
  simp only [lift2_at, lift3_at, ← EReal.coe_mul, coe_sum, dp]

/-- The gradient of the scores. -/
theorem v99_eq : val_main_v99 (F := Ideal) (lift2 DH) (lift2 QM) (lift2 KV) (lift2 Z) (lift2 WO)
    = lift3 (ds DH QM KV Z WO) := by
  funext i; idx_vars i
  pointwise [val_main_v99, val_main_v98, val_main_v97, val_main_v96, val_main_v95, val_main_v94, val_main_v93, val_main_v92,
    val_main_v91, val_main_v90, val_main_v89, val_main_v88, val_main_v87, val_main_v86, val_main_v65, val_main_v64,
    val_main_v63, val_main_v60, val_main_cst_13, val_main_cst_14, val_main_cst_15, val_main_cst_16, v83_eq, v58_eq, v59_eq]
  simp only [lift2_at, lift3_at, ← EReal.coe_one, ofBits_eighth, ← EReal.coe_mul]
  have hne := den_shift_ne QM KV i0 i1 (mx QM KV i0 i1)
  simp only [div_real _ _ hne, div_real _ _ (mul_ne_zero hne hne), ← EReal.coe_mul, coe_sum, ← EReal.coe_neg, ← EReal.coe_add]
  congr 1
  simp only [ds, ← pw_shift QM KV _ _ _ (mx QM KV i0 i1)]
  generalize (∑ k : Fin 256, Real.exp (sc QM KV i0 i1 k.val - mx QM KV i0 i1)) = S at hne ⊢
  rw [Finset.sum_const, Finset.card_univ, Fintype.card_fin, one_smul]
  have hs : ∑ x : Fin 256, dp DH KV Z WO i0 i1 x * (1 / (S * S)) * Real.exp (sc QM KV i0 i1 x - mx QM KV i0 i1)
      = (∑ x : Fin 256, Real.exp (sc QM KV i0 i1 x - mx QM KV i0 i1) / S * dp DH KV Z WO i0 i1 x) / S := by
    rw [Finset.sum_div]
    exact Finset.sum_congr rfl fun x _ => by field_simp
  rw [hs]
  ring

/-- The gradient of the queries. -/
theorem v104_eq : val_main_v104 (F := Ideal) (lift2 DH) (lift2 QM) (lift2 KV) (lift2 Z) (lift2 WO)
    = lift2 (dq DH QM KV Z WO) := by
  funext i; idx_vars i
  pointwise [val_main_v104, val_main_v103, val_main_v102, val_main_v32, val_main_v30, val_main_v1, v99_eq]
  simp only [lift2_at, lift3_at, ← EReal.coe_mul, coe_sum, dq]

/-- The gradient of keys and values. -/
theorem v107_eq : val_main_v107 (F := Ideal) (lift2 DH) (lift2 QM) (lift2 KV) (lift2 Z) (lift2 WO)
    = lift2 (dkv DH QM KV Z WO) := by
  funext i; idx_vars i
  pointwise [val_main_v107, val_main_v106, val_main_v101, val_main_v100, val_main_v34, val_main_v0, val_main_v105,
    val_main_v85, val_main_v84, val_main_v82, val_main_v81, val_main_v80, v77_eq, v62_eq, v99_eq]
  simp only [lift2_at, lift3_at, ← EReal.coe_mul, coe_sum, dkv, Nat.div_add_mod']
  split <;> congr 1
  exact Finset.sum_congr rfl fun k _ => mul_comm _ _

/-- The gradient of the convolution's output. -/
theorem v108_eq : val_main_v108 (F := Ideal) (lift2 DH) (lift2 BG) (lift2 Z) (lift2 WO) = lift2 (dc DH BG Z WO) := by
  funext i; idx_vars i
  pointwise [val_main_v108, val_main_v79, v77_eq]
  simp only [lift2_at, ← EReal.coe_mul, dc]
  congr 1
  exact mul_comm _ _

/-- The gradient of the convolved product. -/
theorem v143_eq : val_main_v143 (F := Ideal) (lift2 DH) (lift2 BG) (lift2 CW) (lift2 Z) (lift2 WO)
    = lift2 (da DH BG CW Z WO) := by
  funext i; idx_vars i
  pointwise [val_main_v143, val_main_v142, val_main_v141, val_main_v139, val_main_v138, val_main_v137, val_main_v128,
    val_main_v127, val_main_v14, val_main_v13, val_main_v12, val_main_v119, val_main_v118, val_main_v19, val_main_v18,
    val_main_v17, val_main_v111, val_main_v110, val_main_v25, val_main_v24, val_main_v23, val_main_cst_26, val_main_cst_27,
    v108_eq]
  simp only [lift2_at, da, later, ← EReal.coe_mul, Nat.add_comm _ (i0 : ℕ), show ((0 : Fin 3) : ℕ) = 0 from rfl,
    show ((1 : Fin 3) : ℕ) = 1 from rfl, show ((2 : Fin 3) : ℕ) = 2 from rfl]
  have h2 : (i0 : ℕ) + 2 < 2048 ↔ (i0 : ℕ) < 2046 := by omega
  have h1 : (i0 : ℕ) + 1 < 2048 ↔ (i0 : ℕ) < 2047 := by omega
  simp only [h1, h2, dite_eq_ite]
  split <;> split <;> simp only [← EReal.coe_zero, ← EReal.coe_add, ← EReal.coe_mul] <;> congr 1 <;> ring

/-- The gradient of the taps, padded to eight rows. -/
theorem v148_eq : val_main_v148 (F := Ideal) (lift2 DH) (lift2 BG) (lift2 CG) (lift2 U) (lift2 Z) (lift2 WO)
    = lift2 (dcw DH BG CG U Z WO) := by
  funext i; idx_vars i
  pointwise [val_main_v148, val_main_v135, val_main_v134, val_main_v133, val_main_v132, val_main_v131, val_main_v130,
    val_main_v129, val_main_v126, val_main_v125, val_main_v124, val_main_v123, val_main_v122, val_main_v121, val_main_v120,
    val_main_v117, val_main_v116, val_main_v115, val_main_v114, val_main_v113, val_main_v112, v3_eq, v6_eq, v10_eq, v108_eq,
    val_main_cst_17, val_main_cst_18, val_main_cst_19, val_main_cst_20, val_main_cst_21, val_main_cst_22, val_main_cst_23,
    val_main_cst_24, val_main_cst_25, val_main_call2_v0, val_main_c]
  simp only [lift2_at, ← EReal.coe_mul, coe_sum, dcw, Finset.sum_const, Finset.card_univ, Fintype.card_fin, one_smul,
    dite_eq_ite]
  obtain ⟨t, ht⟩ := i0
  have hz : (FloatOps.sitofp FTy.f32 0#32 : Ideal .f32) = (0 : EReal) := by
    show (((0#32 : BitVec 32).toInt : ℝ) : EReal) = 0
    simp
  interval_cases t <;> simp [hz]

/-- The gradient of all columns of the input projection. -/
theorem v147_eq : val_main_v147 (F := Ideal) (lift2 DH) (lift2 BG) (lift2 CG) (lift2 U) (lift2 CW) (lift2 QM) (lift2 KV)
    (lift2 Z) (lift2 WO) = lift2 (dproj DH BG CG U CW QM KV Z WO) := by
  funext i; idx_vars i
  pointwise [val_main_v147, val_main_v146, val_main_v145, val_main_v144, val_main_v109, val_main_v79, v77_eq, v28_eq, v143_eq,
    v104_eq, v78_eq]
  simp only [lift2_at, ← EReal.coe_mul, dproj, dite_eq_ite, Nat.sub_sub]
  have e1 : (i1 : ℕ) - 1024 < 1024 ↔ (i1 : ℕ) < 2048 := by omega
  have e2 : (i1 : ℕ) - (1024 + 1024) < 1024 ↔ (i1 : ℕ) < 3072 := by omega
  have e3 : (i1 : ℕ) - (1024 + 1024 + 1024) < 256 ↔ (i1 : ℕ) < 3328 := by omega
  simp only [e1, e2, e3]
  split_ifs <;> congr 1
  exact mul_comm _ _

/-- The rounded copy of the weights' gradient. -/
theorem v149_eq : val_main_v149 (F := Ideal) (lift2 DH) (lift2 BG) (lift2 CG) (lift2 U) (lift2 CW) (lift2 QM) (lift2 KV) (lift2 Z)
    = lift2 (dw DH BG CG U CW QM KV Z) := by
  funext i; idx_vars i
  pointwise [val_main_v149, v74_eq]

end Cert.Grad.Ref

end
-- ==== Proof.Norm.lean ====
module

public import proofs.«01_k».proof.Proof.Spec
public import Idealize.ShloMosaic.Lib.Pipeline.ValueKit

@[expose] public section

noncomputable section

/-! # The input projection behind an RMS norm, and its gradient, over the reals -/

namespace Cert.Grad

open Idealize.ShloMosaic

/-- The small constant of the norm, as the rational that its word is. -/
theorem ofBits_eps : Ideal.ofBits .f32 0x358637BD#32 = ((8796093 / 8796093022208 : ℝ) : EReal) := by
  simp [Ideal.ofBits, Ideal.ieee, -EReal.coe_mul]; norm_num

/-- The word of 1024. -/
theorem ofBits_1024 : Ideal.ofBits .f32 0x44800000#32 = ((1024 : ℝ) : EReal) := by
  simp [Ideal.ofBits, Ideal.ieee, -EReal.coe_mul]; norm_num

/-- The word of minus one half. -/
theorem ofBits_neg_half : Ideal.ofBits .f32 0xBF000000#32 = ((-(1 / 2) : ℝ) : EReal) := by
  simp [Ideal.ofBits, Ideal.ieee, -EReal.coe_mul, -EReal.coe_neg]; norm_num

/-- The reciprocal square root of a positive real. -/
theorem rsqrt_real (x : ℝ) (h : 0 < x) : Ideal.rsqrt (x : EReal) = (((Real.sqrt x)⁻¹ : ℝ) : EReal) := by
  rw [Ideal.rsqrt_coe, if_neg h.le.not_gt, if_neg h.ne']

/-- A shard of columns stacked on the first axis, put side by side. -/
def side (sh : ℕ) (W : ℕ → ℕ → ℕ → ℝ) (d j : ℕ) : ℝ := W (j / sh) d (j % sh)

section
variable (n : ℕ) (X G DP WT DR : ℕ → ℕ → ℝ)

/-- The mean of a row's squares, with the small constant added. -/
def ms (s : ℕ) : ℝ := (∑ k : Fin 1024, X s k.val * X s k.val) / 1024 + 8796093 / 8796093022208
/-- The reciprocal of its root. -/
def rs (s : ℕ) : ℝ := (Real.sqrt (ms X s))⁻¹
/-- The normalised row. -/
def nrm (s d : ℕ) : ℝ := X s d * rs X s
/-- The gradient of the norm's output. -/
def dhn (s d : ℕ) : ℝ := ∑ j : Fin n, DP s j.val * WT d j.val
/-- … times the gain. -/
def dnv (s d : ℕ) : ℝ := dhn n DP WT s d * G 0 d
/-- The gradient of the residual stream. -/
def dxv (s d : ℕ) : ℝ :=
  DR s d + rs X s * (dnv n G DP WT s d - nrm X s d * ((∑ k : Fin 1024, dnv n G DP WT s k.val * nrm X s k.val) / 1024))
/-- The gradient of the gain. -/
def dgv (d : ℕ) : ℝ := ∑ s : Fin 2048, dhn n DP WT s.val d * nrm X s.val d

/-- The gradient of the norm's output is added up over the four blocks of columns. -/
theorem dhn_side (m : ℕ) (hm : 0 < m) (W : ℕ → ℕ → ℕ → ℝ) (s d : ℕ) :
    dhn (4 * m) DP (side m W) s d = (∑ j : Fin m, DP s (0 * m + j.val) * W 0 d j.val) + (∑ j : Fin m, DP s (1 * m + j.val) * W 1 d j.val)
      + (∑ j : Fin m, DP s (2 * m + j.val) * W 2 d j.val) + ∑ j : Fin m, DP s (3 * m + j.val) * W 3 d j.val := by
  unfold dhn side
  rw [← Fin.sum_univ_univ_mul_add 4 m fun j => DP s j * W (j / m) d (j % m), Fin.sum_univ_four]
  have q (a : ℕ) (k : Fin m) : (a * m + k.val) / m = a ∧ (a * m + k.val) % m = k.val := by
    have hk := k.isLt
    rw [mul_comm]
    exact ⟨by rw [Nat.mul_add_div hm, Nat.div_eq_of_lt hk, add_zero], by rw [Nat.mul_add_mod, Nat.mod_eq_of_lt hk]⟩
  simp only [q]
  rfl

/-- The mean of squares with the small constant added is positive. -/
theorem ms_pos (s : ℕ) : 0 < ms X s := by
  unfold ms
  have : 0 ≤ ∑ k : Fin 1024, X s k.val * X s k.val := Finset.sum_nonneg fun k _ => mul_self_nonneg _
  positivity

/-- The square of the reciprocal root is the reciprocal. -/
theorem rs_sq (s : ℕ) : rs X s * rs X s = (ms X s)⁻¹ := by
  unfold rs
  rw [← mul_inv, Real.mul_self_sqrt (ms_pos X s).le]

/-- The derivative of the norm, written with the derivative of the reciprocal root, in the form the call computes. -/
theorem dx_form (s d : ℕ) :
    DR s d + dnv n G DP WT s d * rs X s
        + X s d * ((∑ k : Fin 1024, X s k.val * dnv n G DP WT s k.val) * (-(1 / 2) * (rs X s / ms X s)) / 1024)
        + (∑ k : Fin 1024, X s k.val * dnv n G DP WT s k.val) * (-(1 / 2) * (rs X s / ms X s)) / 1024 * X s d
      = dxv n X G DP WT DR s d := by
  have e : (∑ k : Fin 1024, dnv n G DP WT s k.val * nrm X s k.val)
      = (∑ k : Fin 1024, X s k.val * dnv n G DP WT s k.val) * rs X s := by
    rw [Finset.sum_mul]
    exact Finset.sum_congr rfl fun k _ => by unfold nrm; ring
  unfold dxv
  rw [e, div_eq_mul_inv (rs X s), ← rs_sq X s]
  unfold nrm
  ring

end

end Cert.Grad

end
-- ==== Proof.Loads.lean ====
module

public import proofs.«01_k».proof.Proof.Norm
public import Idealize.ShloMosaic.Lib.Pipeline.ReadBack
public import Idealize.ShloMosaic.Lib.Pipeline.ValueKit

@[expose] public section

noncomputable section

/-! # Parts of real arrays -/

namespace Cert.Grad

open Idealize.ShloMosaic

/-- A part of an array of two axes. -/
theorem part2 {n m : ℕ} (X : ℕ → ℕ → ℝ) (a b n' m' : ℕ)
    (h : ∀ x : Fin 2, ![a, b] x + ![n', m'] x ≤ (⟨2, ![n, m]⟩ : Shape).size x) :
    View.ld (Val := Elt Ideal) (S := ⟨2, ![n, m]⟩) (e' := .f32) (lift2 X) (Rect.unit ![a, b] ![n', m'] h)
      = lift2 (n := n') (m := m') (fun r k => X (a + r) (b + k)) := by
  funext i
  rw [View.ld_apply]
  simp [lift2]

/-- A part of an array of three axes. -/
theorem part3 {n m l : ℕ} (X : ℕ → ℕ → ℕ → ℝ) (a b c n' m' l' : ℕ)
    (h : ∀ x : Fin 3, ![a, b, c] x + ![n', m', l'] x ≤ (⟨3, ![n, m, l]⟩ : Shape).size x) :
    View.ld (Val := Elt Ideal) (S := ⟨3, ![n, m, l]⟩) (e' := .f32) (lift3 X) (Rect.unit ![a, b, c] ![n', m', l'] h)
      = lift3 (n := n') (m := m') (k := l') (fun r k j => X (a + r) (b + k) (c + j)) := by
  funext i
  rw [View.ld_apply]
  simp [lift3]

/-- A part of an array of two axes, of the shorter type. -/
theorem part2b {n m : ℕ} (X : ℕ → ℕ → ℝ) (a b n' m' : ℕ)
    (h : ∀ x : Fin 2, ![a, b] x + ![n', m'] x ≤ (⟨2, ![n, m]⟩ : Shape).size x) :
    View.ld (Val := Elt Ideal) (S := ⟨2, ![n, m]⟩) (e' := .bf16) (lift2 X) (Rect.unit ![a, b] ![n', m'] h)
      = lift2 (n := n') (m := m') (fun r k => X (a + r) (b + k)) := by
  funext i
  rw [View.ld_apply]
  simp [lift2]

/-- A part of an array of three axes, of the shorter type. -/
theorem part3b {n m l : ℕ} (X : ℕ → ℕ → ℕ → ℝ) (a b c n' m' l' : ℕ)
    (h : ∀ x : Fin 3, ![a, b, c] x + ![n', m', l'] x ≤ (⟨3, ![n, m, l]⟩ : Shape).size x) :
    View.ld (Val := Elt Ideal) (S := ⟨3, ![n, m, l]⟩) (e' := .bf16) (lift3 X) (Rect.unit ![a, b, c] ![n', m', l'] h)
      = lift3 (n := n') (m := m') (k := l') (fun r k j => X (a + r) (b + k) (c + j)) := by
  funext i
  rw [View.ld_apply]
  simp [lift3]

/-- Two arrays whose numbers agree. -/
theorem lift2_congr {n m : ℕ} {X Y : ℕ → ℕ → ℝ} (h : ∀ a b, a < n → b < m → X a b = Y a b) :
    (lift2 X : (⟨2, ![n, m]⟩ : Shape).Idx → EReal) = lift2 Y := by
  funext i
  exact congrArg _ (h _ _ (i 0).isLt (i 1).isLt)

end Cert.Grad

end
-- ==== Proof.InFwd6.lean ====
module

public import proofs.«01_k».proof.Proof.Loads
public import proofs.«01_k».proof.Proof.Gen.Kernel6Ideal.Value
public import proofs.«01_k».proof.Proof.Gen.Reference6Ideal.Read

@[expose] public section

set_option maxRecDepth 16384

noncomputable section

/-! # The convolution layer's norm and input projection

Both sides take the same reciprocal root of the same mean of squares and the same sums of products, so this holds of every argument, infinities
among them. -/

namespace Cert.Grad.InFwd6

open Idealize.ShloMosaic Idealize.ShloMosaic.TcCoe Cert.Kernel6Ideal Cert.Kernel6Ideal.Gen
open Idealize.ShloMosaic.Pipeline (Dat)

/-! ## A tile of the product, chunk by chunk -/

/-- A tile of the product: its columns are the four shards' columns, side by side. -/
def tile (h : S256x1024.Idx → EReal) (w : S4x1024x1152.Idx → EReal) : S256x4608.Idx → EReal := fun i =>
  ∑ d : Fin 1024, h (ix2 ⟨(i 0).val, (i 0).isLt⟩ d) * w (ix3 ⟨(i 1).val / 1152, by
    have h1 : (i 1).val < 4608 := (i 1).isLt
    omega⟩ d ⟨(i 1).val % 1152, Nat.mod_lt _ (by decide)⟩)

/-- The tile at an entry whose shard and column within the shard are known. -/
theorem tile_at (h : S256x1024.Idx → EReal) (w : S4x1024x1152.Idx → EReal) (i : S256x4608.Idx) (s : Fin 256) (a : Fin 4) (j : Fin 1152)
    (h0 : (i 0).val = s.val) (h1 : (i 1).val = 1152 * a.val + j.val) :
    tile h w i = ∑ d : Fin 1024, h (ix2 s d) * w (ix3 a d j) := by
  refine Finset.sum_congr rfl fun d _ => congrArg₂ (· * ·) ?_ ?_
  · exact congrArg (fun r => h (ix2 r d)) (Fin.ext h0)
  · refine congrArg₂ (fun b k => w (ix3 b d k)) (Fin.ext ?_) (Fin.ext ?_)
    · show (i 1).val / 1152 = a.val
      have := j.isLt
      omega
    · show (i 1).val % 1152 = j.val
      have := j.isLt
      omega

/-- Four chunks of columns written side by side are the tile. -/
theorem chunks (h : S256x1024.Idx → EReal) (w : S4x1024x1152.Idx → EReal) (p0 p1 p2 p3 : S256x1152.Idx → EReal)
    (e0 : ∀ s j, p0 (ix2 s j) = ∑ d : Fin 1024, h (ix2 s d) * w (ix3 0 d j)) (e1 : ∀ s j, p1 (ix2 s j) = ∑ d : Fin 1024, h (ix2 s d) * w (ix3 1 d j))
    (e2 : ∀ s j, p2 (ix2 s j) = ∑ d : Fin 1024, h (ix2 s d) * w (ix3 2 d j)) (e3 : ∀ s j, p3 (ix2 s j) = ∑ d : Fin 1024, h (ix2 s d) * w (ix3 3 d j))
    (v : View sig .tc .vmem S256x4608 .f32) (r : Rect S256x4608) :
    v.readCov (Val := Elt Ideal) [⟨Rect.unit ![0, 3456] ![256, 1152] inb_S256x4608_S256x1152_0_3456, p3⟩,
      ⟨Rect.unit ![0, 2304] ![256, 1152] inb_S256x4608_S256x1152_0_2304, p2⟩, ⟨Rect.unit ![0, 1152] ![256, 1152] inb_S256x4608_S256x1152_0_1152, p1⟩,
      ⟨Rect.unit ![0, 0] ![256, 1152] inb_S256x4608_S256x1152_0_0, p0⟩] r.toLoadRect = View.ld (Val := Elt Ideal) (e' := .f32) (tile h w) r := by
  rw [View.readCov_eq_canon']
  funext x
  refine View.canon_apply_of_pieces (Val := Elt Ideal) (S := S256x4608) (e := .f32) (tile h w) _ ?_ _ ?_
  swap
  · exact View.cover_of_tiledL _ ![256, 1152] (by rfl) _
  intro p hp
  rcases List.mem_cons.mp hp with rfl | hp
  · intro x
    obtain ⟨s, j, rfl⟩ : ∃ (s : Fin 256) (j : Fin 1152), x = ix2 s j := ⟨x 0, x 1, (ix2_eta x).symm⟩
    exact (e3 s j).trans (tile_at h w _ s 3 j (by simp) (by simp)).symm
  rcases List.mem_cons.mp hp with rfl | hp
  · intro x
    obtain ⟨s, j, rfl⟩ : ∃ (s : Fin 256) (j : Fin 1152), x = ix2 s j := ⟨x 0, x 1, (ix2_eta x).symm⟩
    exact (e2 s j).trans (tile_at h w _ s 2 j (by simp) (by simp)).symm
  rcases List.mem_cons.mp hp with rfl | hp
  · intro x
    obtain ⟨s, j, rfl⟩ : ∃ (s : Fin 256) (j : Fin 1152), x = ix2 s j := ⟨x 0, x 1, (ix2_eta x).symm⟩
    exact (e1 s j).trans (tile_at h w _ s 1 j (by simp) (by simp)).symm
  rcases List.mem_cons.mp hp with rfl | hp
  · intro x
    obtain ⟨s, j, rfl⟩ : ∃ (s : Fin 256) (j : Fin 1152), x = ix2 s j := ⟨x 0, x 1, (ix2_eta x).symm⟩
    exact (e0 s j).trans (tile_at h w _ s 0 j (by simp) (by simp)).symm
  nomatch hp

/-- A shard of the weights, as the call loads it. -/
theorem shard (w : S4x1024x1152.Idx → EReal) (a : Fin 4) (inb) (d : Fin 1024) (j : Fin 1152) :
    View.ld (Val := Elt Ideal) (S := S4x1024x1152) (e' := .bf16) w (Rect.unit ![a.val, 0, 0] ![1, 1024, 1152] inb) (ix3 0 d j) = w (ix3 a d j) := by
  rw [View.ld_apply]
  refine congrArg _ (funext fun b => Fin.ext ?_)
  match b with
  | ⟨0, _⟩ => simp
  | ⟨1, _⟩ => simp
  | ⟨2, _⟩ => simp

section
variable (x : S256x1024.Idx → EReal) (g : S1x1024.Idx → EReal) (h : S256x1024.Idx → EReal) (v : S1x1024x1152.Idx → EReal) (s : Fin 256) (j : Fin 1152)

/-- The first chunk of columns … -/
theorem pay5_at : k0_pay5 (F := Ideal) x g v (ix2 s j) = ∑ d : Fin 1024, k0_pay4 (F := Ideal) x g (ix2 s d) * v (ix3 0 d j) := by
  pointwise [k0_pay5]
/-- … the second … -/
theorem pay6_at : k0_pay6 (F := Ideal) x g v (ix2 s j) = ∑ d : Fin 1024, k0_pay4 (F := Ideal) x g (ix2 s d) * v (ix3 0 d j) := by
  pointwise [k0_pay6]
/-- … the third … -/
theorem pay7_at : k0_pay1 (F := Ideal) (k0_pay7 (F := Ideal) x g v) (ix2 s j) = ∑ d : Fin 1024, k0_pay4 (F := Ideal) x g (ix2 s d) * v (ix3 0 d j) := by
  pointwise [k0_pay1, k0_pay7]
/-- … and the last. -/
theorem pay2_at : k0_pay2 (F := Ideal) h v (ix2 s j) = ∑ d : Fin 1024, h (ix2 s d) * v (ix3 0 d j) := by
  pointwise [k0_pay2]
end

/-- Rounding to the shorter type changes nothing here. -/
theorem pay3_eq (z : S256x256.Idx → EReal) : k0_pay3 (F := Ideal) z = z := rfl

/-! ## What a grid point leaves -/

variable (m : (ℓ : Loc nD τ sig) → Buf (Elt Ideal) ℓ) (c : Dev nD)

/-- Where a part of the columns lies in the tile. -/
theorem part {wd : ℕ} (s : Fin 256) (j : Fin wd) (off : ℕ) (inb) (h : off + j.val < 4608) :
    (Rect.unit (s := S256x4608) ![0, off] ![256, wd] inb).emb (ix2 s j) = ix2 s (⟨off + j.val, h⟩ : Fin 4608) := by
  refine funext fun b => Fin.ext ?_
  match b with
  | ⟨0, _⟩ => simp
  | ⟨1, _⟩ => simp

/-- The first part of the columns that a point leaves … -/
theorem point4 (t : Fin cfg0.N) (s : Fin 256) (j : Fin 1024) : (outsAt0 m c t).2.1 (ix2 s j)
    = tile (k0_pay4 (F := Ideal) (iblk m c 0 t) (iblk m c 1 t)) (iblk m c 2 t) (ix2 s (⟨0 + j.val, by have := j.isLt; omega⟩ : Fin 4608)) := by
  refine Eq.trans ?_ (congrArg (tile _ _) (part s j 0 inb_S256x4608_S256x1024_0_0 _))
  refine Eq.trans ?_ (View.ld_apply (Val := Elt Ideal) (e := .f32) _ _ _)
  refine congrFun (?_ : (outsAt0 m c t).2.1 = View.ld (Val := Elt Ideal) (e' := .f32) (tile (k0_pay4 (F := Ideal) (iblk m c 0 t) (iblk m c 1 t)) (iblk m c 2 t))
      (Rect.unit ![0, 0] ![256, 1024] inb_S256x4608_S256x1024_0_0)) (ix2 s j)
  unfold outsAt0
  frame_open
  frame_out
  refine chunks _ _ _ _ _ _ ?_ ?_ ?_ ?_ _ _ <;> intro s j
  · exact (pay5_at _ _ _ s j).trans (Finset.sum_congr rfl fun d _ => congrArg _ (shard _ 0 _ d j))
  · exact (pay6_at _ _ _ s j).trans (Finset.sum_congr rfl fun d _ => congrArg _ (shard _ 1 _ d j))
  · exact (pay7_at _ _ _ s j).trans (Finset.sum_congr rfl fun d _ => congrArg _ (shard _ 2 _ d j))
  · exact (pay2_at _ _ s j).trans (Finset.sum_congr rfl fun d _ => congrArg _ (shard _ 3 _ d j))

/-- … the second … -/
theorem point5 (t : Fin cfg0.N) (s : Fin 256) (j : Fin 1024) : (outsAt0 m c t).2.2.1 (ix2 s j)
    = tile (k0_pay4 (F := Ideal) (iblk m c 0 t) (iblk m c 1 t)) (iblk m c 2 t) (ix2 s (⟨1024 + j.val, by have := j.isLt; omega⟩ : Fin 4608)) := by
  refine Eq.trans ?_ (congrArg (tile _ _) (part s j 1024 inb_S256x4608_S256x1024_0_1024 _))
  refine Eq.trans ?_ (View.ld_apply (Val := Elt Ideal) (e := .f32) _ _ _)
  refine congrFun (?_ : (outsAt0 m c t).2.2.1 = View.ld (Val := Elt Ideal) (e' := .f32) (tile (k0_pay4 (F := Ideal) (iblk m c 0 t) (iblk m c 1 t)) (iblk m c 2 t))
      (Rect.unit ![0, 1024] ![256, 1024] inb_S256x4608_S256x1024_0_1024)) (ix2 s j)
  unfold outsAt0
  frame_open
  frame_out
  refine chunks _ _ _ _ _ _ ?_ ?_ ?_ ?_ _ _ <;> intro s j
  · exact (pay5_at _ _ _ s j).trans (Finset.sum_congr rfl fun d _ => congrArg _ (shard _ 0 _ d j))
  · exact (pay6_at _ _ _ s j).trans (Finset.sum_congr rfl fun d _ => congrArg _ (shard _ 1 _ d j))
  · exact (pay7_at _ _ _ s j).trans (Finset.sum_congr rfl fun d _ => congrArg _ (shard _ 2 _ d j))
  · exact (pay2_at _ _ s j).trans (Finset.sum_congr rfl fun d _ => congrArg _ (shard _ 3 _ d j))

/-- … the third … -/
theorem point6 (t : Fin cfg0.N) (s : Fin 256) (j : Fin 1024) : (outsAt0 m c t).2.2.2.1 (ix2 s j)
    = tile (k0_pay4 (F := Ideal) (iblk m c 0 t) (iblk m c 1 t)) (iblk m c 2 t) (ix2 s (⟨2048 + j.val, by have := j.isLt; omega⟩ : Fin 4608)) := by
  refine Eq.trans ?_ (congrArg (tile _ _) (part s j 2048 inb_S256x4608_S256x1024_0_2048 _))
  refine Eq.trans ?_ (View.ld_apply (Val := Elt Ideal) (e := .f32) _ _ _)
  refine congrFun (?_ : (outsAt0 m c t).2.2.2.1 = View.ld (Val := Elt Ideal) (e' := .f32) (tile (k0_pay4 (F := Ideal) (iblk m c 0 t) (iblk m c 1 t)) (iblk m c 2 t))
      (Rect.unit ![0, 2048] ![256, 1024] inb_S256x4608_S256x1024_0_2048)) (ix2 s j)
  unfold outsAt0
  frame_open
  frame_out
  refine chunks _ _ _ _ _ _ ?_ ?_ ?_ ?_ _ _ <;> intro s j
  · exact (pay5_at _ _ _ s j).trans (Finset.sum_congr rfl fun d _ => congrArg _ (shard _ 0 _ d j))
  · exact (pay6_at _ _ _ s j).trans (Finset.sum_congr rfl fun d _ => congrArg _ (shard _ 1 _ d j))
  · exact (pay7_at _ _ _ s j).trans (Finset.sum_congr rfl fun d _ => congrArg _ (shard _ 2 _ d j))
  · exact (pay2_at _ _ s j).trans (Finset.sum_congr rfl fun d _ => congrArg _ (shard _ 3 _ d j))

/-- … the memory's query … -/
theorem point7 (t : Fin cfg0.N) (s : Fin 256) (j : Fin 256) : (outsAt0 m c t).2.2.2.2.1 (ix2 s j)
    = tile (k0_pay4 (F := Ideal) (iblk m c 0 t) (iblk m c 1 t)) (iblk m c 2 t) (ix2 s (⟨3072 + j.val, by have := j.isLt; omega⟩ : Fin 4608)) := by
  refine Eq.trans ?_ (congrArg (tile _ _) (part s j 3072 inb_S256x4608_S256x256_0_3072 _))
  refine Eq.trans ?_ (View.ld_apply (Val := Elt Ideal) (e := .f32) _ _ _)
  refine congrFun (?_ : (outsAt0 m c t).2.2.2.2.1 = View.ld (Val := Elt Ideal) (e' := .f32) (tile (k0_pay4 (F := Ideal) (iblk m c 0 t) (iblk m c 1 t)) (iblk m c 2 t))
      (Rect.unit ![0, 3072] ![256, 256] inb_S256x4608_S256x256_0_3072)) (ix2 s j)
  unfold outsAt0
  frame_open
  frame_out
  refine (pay3_eq _).trans ?_
  refine chunks _ _ _ _ _ _ ?_ ?_ ?_ ?_ _ _ <;> intro s j
  · exact (pay5_at _ _ _ s j).trans (Finset.sum_congr rfl fun d _ => congrArg _ (shard _ 0 _ d j))
  · exact (pay6_at _ _ _ s j).trans (Finset.sum_congr rfl fun d _ => congrArg _ (shard _ 1 _ d j))
  · exact (pay7_at _ _ _ s j).trans (Finset.sum_congr rfl fun d _ => congrArg _ (shard _ 2 _ d j))
  · exact (pay2_at _ _ s j).trans (Finset.sum_congr rfl fun d _ => congrArg _ (shard _ 3 _ d j))

/-- … and the gate. -/
theorem point8 (t : Fin cfg0.N) (s : Fin 256) (j : Fin 1280) : (outsAt0 m c t).2.2.2.2.2 (ix2 s j)
    = tile (k0_pay4 (F := Ideal) (iblk m c 0 t) (iblk m c 1 t)) (iblk m c 2 t) (ix2 s (⟨3328 + j.val, by have := j.isLt; omega⟩ : Fin 4608)) := by
  refine Eq.trans ?_ (congrArg (tile _ _) (part s j 3328 inb_S256x4608_S256x1280_0_3328 _))
  refine Eq.trans ?_ (View.ld_apply (Val := Elt Ideal) (e := .f32) _ _ _)
  refine congrFun (?_ : (outsAt0 m c t).2.2.2.2.2 = View.ld (Val := Elt Ideal) (e' := .f32) (tile (k0_pay4 (F := Ideal) (iblk m c 0 t) (iblk m c 1 t)) (iblk m c 2 t))
      (Rect.unit ![0, 3328] ![256, 1280] inb_S256x4608_S256x1280_0_3328)) (ix2 s j)
  unfold outsAt0
  frame_open
  frame_out
  refine chunks _ _ _ _ _ _ ?_ ?_ ?_ ?_ _ _ <;> intro s j
  · exact (pay5_at _ _ _ s j).trans (Finset.sum_congr rfl fun d _ => congrArg _ (shard _ 0 _ d j))
  · exact (pay6_at _ _ _ s j).trans (Finset.sum_congr rfl fun d _ => congrArg _ (shard _ 1 _ d j))
  · exact (pay7_at _ _ _ s j).trans (Finset.sum_congr rfl fun d _ => congrArg _ (shard _ 2 _ d j))
  · exact (pay2_at _ _ s j).trans (Finset.sum_congr rfl fun d _ => congrArg _ (shard _ 3 _ d j))

/-- The normed rows that a point leaves. -/
theorem point3 (t : Fin cfg0.N) : (outsAt0 m c t).1 = k0_pay4 (F := Ideal) (iblk m c 0 t) (iblk m c 1 t) := by
  unfold outsAt0
  frame_open
  frame_out

/-! ## The blocks -/

/-- Which block each window shows at a point. -/
theorem idx : ∀ t : Fin cfg0.N, win0_0.index t = ![t.val, 0] ∧ win0_1.index t = ![0, 0] ∧ win0_2.index t = ![0, 0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] :=
  (by decide +kernel : ∀ t : Fin grid0.N, _)

/-- A row of a tile, as a row of the whole array. -/
def row (t : Fin cfg0.N) (s : Fin 256) : Fin 2048 := ⟨t.val * 256 + s.val, by
  have h0 : t.val < 8 := t.isLt
  have := s.isLt
  omega⟩

/-- The activations' block is a tile of rows. -/
theorem blk0 (t : Fin cfg0.N) (s : Fin 256) (d : Fin 1024) : iblk m c 0 t (ix2 s d) = m ((c : Thread nD τ).loc main_arg0) (ix2 (row t s) d) := by
  blk_simp [iblk]
  rw [V_main_arg0]
  refine congrArg _ (funext fun a => Fin.ext ?_)
  match a with
  | ⟨0, _⟩ => blk_simp [(idx t).1, row]
  | ⟨1, _⟩ => blk_simp [(idx t).1]

/-- The gain's block is the whole array. -/
theorem blk1 (t : Fin cfg0.N) : iblk m c 1 t = m ((c : Thread nD τ).loc main_arg1) := by
  funext y
  blk_simp [iblk]
  rw [V_main_arg1]
  refine congrArg _ (funext fun a => Fin.ext ?_)
  match a with
  | ⟨0, _⟩ => blk_simp [(idx t).2.1]
  | ⟨1, _⟩ => blk_simp [(idx t).2.1]

/-- The weights' block is the whole array. -/
theorem blk2 (t : Fin cfg0.N) : iblk m c 2 t = m ((c : Thread nD τ).loc main_arg2) := by
  funext y
  blk_simp [iblk]
  rw [V_main_arg2]
  refine congrArg _ (funext fun a => Fin.ext ?_)
  match a with
  | ⟨0, _⟩ => blk_simp [(idx t).2.2.1]
  | ⟨1, _⟩ => blk_simp [(idx t).2.2.1]
  | ⟨2, _⟩ => blk_simp [(idx t).2.2.1]

/-! ## The results are the reference's -/

open Cert.Reference6Ideal.Read

/-- The normed rows of a tile are the reference's. -/
theorem hn_eq (t : Fin cfg0.N) (s : Fin 256) (d : Fin 1024) : k0_pay4 (F := Ideal) (iblk m c 0 t) (iblk m c 1 t) (ix2 s d)
    = val_main_v11 (F := Ideal) (m ((c : Thread nD τ).loc main_arg0)) (m ((c : Thread nD τ).loc main_arg1)) (ix2 (row t s) d) := by
  rw [blk1]
  generalize hg : m ((c : Thread nD τ).loc main_arg1) = g
  have hb := blk0 m c t
  generalize iblk m c 0 t = x at hb ⊢
  pointwise [k0_pay4, val_main_v11, val_main_v10, val_main_v9, val_main_v8, val_main_v7, val_main_v6, val_main_v5, val_main_v4, val_main_v3,
    val_main_v2, val_main_v1, val_main_v0, val_main_cst, val_main_cst_0, val_main_cst_1]
  simp only [hb]

/-- A tile of the product is the reference's. -/
theorem proj_eq (t : Fin cfg0.N) (s : Fin 256) (j : Fin 4608) : tile (k0_pay4 (F := Ideal) (iblk m c 0 t) (iblk m c 1 t)) (iblk m c 2 t) (ix2 s j)
    = val_main_v15 (F := Ideal) (m ((c : Thread nD τ).loc main_arg0)) (m ((c : Thread nD τ).loc main_arg1)) (m ((c : Thread nD τ).loc main_arg2))
      (ix2 (row t s) j) := by
  rw [blk2]
  pointwise [val_main_v15, val_main_v14, val_main_v13, val_main_v12]
  exact Finset.sum_congr rfl fun d _ => congrArg₂ (· * ·) (hn_eq m c t s d) rfl

/-- The normed activations. -/
theorem array3 : (dats m 0 c).arrAt 3 cfg0.N = val_main_v21 (F := Ideal) (m ((c : Thread nD τ).loc main_arg0)) (m ((c : Thread nD τ).loc main_arg1)) := by
  refine (dats m 0 c).arrAt_eq_of_covers 3 _ (by decide +kernel) fun t hf y => ?_
  blk_simp
  obtain ⟨s, j, rfl⟩ : ∃ (s : Fin 256) (j : Fin 1024), y = ix2 s j := ⟨y 0, y 1, (ix2_eta y).symm⟩
  have e : (win0_3.blk t).view.emb (ix2 s j) = ix2 (row t s) j := by
    refine funext fun b => Fin.ext ?_
    match b with
    | ⟨0, _⟩ => blk_simp [(idx t).2.2.2.1, row]
    | ⟨1, _⟩ => blk_simp [(idx t).2.2.2.1]
  refine Eq.trans ?_ (congrArg _ e.symm)
  rw [after0_3]
  rw [point3]
  exact hn_eq m c t s j

/-- The first part of the projection's columns … -/
theorem array4 : (dats m 0 c).arrAt 4 cfg0.N = val_main_v16 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  obtain ⟨s, j, rfl⟩ : ∃ (s : Fin 256) (j : Fin 1024), y = ix2 s j := ⟨y 0, y 1, (ix2_eta y).symm⟩
  have e : (win0_4.blk t).view.emb (ix2 s j) = ix2 (row t s) j := by
    refine funext fun b => Fin.ext ?_
    match b with
    | ⟨0, _⟩ => blk_simp [(idx t).2.2.2.2.1, row]
    | ⟨1, _⟩ => blk_simp [(idx t).2.2.2.2.1]
  refine Eq.trans ?_ (congrArg _ e.symm)
  rw [after0_4]
  refine (point4 m c t s j).trans ((proj_eq m c t s _).trans ?_)
  pointwise [val_main_v16]

/-- … the second … -/
theorem array5 : (dats m 0 c).arrAt 5 cfg0.N = val_main_v17 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  obtain ⟨s, j, rfl⟩ : ∃ (s : Fin 256) (j : Fin 1024), y = ix2 s j := ⟨y 0, y 1, (ix2_eta y).symm⟩
  have e : (win0_5.blk t).view.emb (ix2 s j) = ix2 (row t s) j := by
    refine funext fun b => Fin.ext ?_
    match b with
    | ⟨0, _⟩ => blk_simp [(idx t).2.2.2.2.2.1, row]
    | ⟨1, _⟩ => blk_simp [(idx t).2.2.2.2.2.1]
  refine Eq.trans ?_ (congrArg _ e.symm)
  rw [after0_5]
  refine (point5 m c t s j).trans ((proj_eq m c t s _).trans ?_)
  pointwise [val_main_v17]

/-- … the third … -/
theorem array6 : (dats m 0 c).arrAt 6 cfg0.N = val_main_v18 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  obtain ⟨s, j, rfl⟩ : ∃ (s : Fin 256) (j : Fin 1024), y = ix2 s j := ⟨y 0, y 1, (ix2_eta y).symm⟩
  have e : (win0_6.blk t).view.emb (ix2 s j) = ix2 (row t s) j := by
    refine funext fun b => Fin.ext ?_
    match b with
    | ⟨0, _⟩ => blk_simp [(idx t).2.2.2.2.2.2.1, row]
    | ⟨1, _⟩ => blk_simp [(idx t).2.2.2.2.2.2.1]
  refine Eq.trans ?_ (congrArg _ e.symm)
  rw [after0_6]
  refine (point6 m c t s j).trans ((proj_eq m c t s _).trans ?_)
  pointwise [val_main_v18]

/-- … the memory's query … -/
theorem array7 : (dats m 0 c).arrAt 7 cfg0.N = val_main_v22 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  obtain ⟨s, j, rfl⟩ : ∃ (s : Fin 256) (j : Fin 256), y = ix2 s j := ⟨y 0, y 1, (ix2_eta y).symm⟩
  have e : (win0_7.blk t).view.emb (ix2 s j) = ix2 (row t s) j := by
    refine funext fun b => Fin.ext ?_
    match b with
    | ⟨0, _⟩ => blk_simp [(idx t).2.2.2.2.2.2.2.1, row]
    | ⟨1, _⟩ => blk_simp [(idx t).2.2.2.2.2.2.2.1]
  refine Eq.trans ?_ (congrArg _ e.symm)
  rw [after0_7]
  refine (point7 m c t s j).trans ((proj_eq m c t s _).trans ?_)
  pointwise [val_main_v22, val_main_v19]

/-- … and the gate. -/
theorem array8 : (dats m 0 c).arrAt 8 cfg0.N = val_main_v20 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  obtain ⟨s, j, rfl⟩ : ∃ (s : Fin 256) (j : Fin 1280), y = ix2 s j := ⟨y 0, y 1, (ix2_eta y).symm⟩
  have e : (win0_8.blk t).view.emb (ix2 s j) = ix2 (row t s) j := by
    refine funext fun b => Fin.ext ?_
    match b with
    | ⟨0, _⟩ => blk_simp [(idx t).2.2.2.2.2.2.2.2, row]
    | ⟨1, _⟩ => blk_simp [(idx t).2.2.2.2.2.2.2.2]
  refine Eq.trans ?_ (congrArg _ e.symm)
  rw [after0_8]
  refine (point8 m c t s j).trans ((proj_eq m c t s _).trans ?_)
  pointwise [val_main_v20]

end Cert.Grad.InFwd6

end
-- ==== Proof.WGrad5.lean ====
module

public import proofs.«01_k».proof.Proof.Loads
public import proofs.«01_k».proof.Proof.Gen.Kernel5Ideal.Value
public import proofs.«01_k».proof.Proof.Gen.Reference5Ideal.Read

@[expose] public section

set_option maxRecDepth 16384

noncomputable section

/-! # The gradient of an input projection's weights (the attention layer's width)

Both sides are the same sum over the positions of a sequence, of the normed activations times the projection's gradient, so this holds of every
argument, infinities among them. -/

namespace Cert.Grad.WGrad5

open Idealize.ShloMosaic Idealize.ShloMosaic.TcCoe Cert.Kernel5Ideal Cert.Kernel5Ideal.Gen
open Idealize.ShloMosaic.Pipeline (Dat)
open Cert.Reference5Ideal.Read
open Cert.Kernel5Ideal.Value (canon2_eq canon3_eq)

variable (x : S2048x1024.Idx → EReal) (g : S1x1024.Idx → EReal) (dp : S2048x5632.Idx → EReal)

/-- The weights' gradient: for shard `a` of the columns, the sum over the positions. -/
def total (h : S2048x1024.Idx → EReal) (p : S2048x5632.Idx → EReal) : S4x1024x1408.Idx → EReal := fun i =>
  ∑ s : Fin 2048, h (ix2 s ⟨(i 1).val, (i 1).isLt⟩) * p (ix2 s ⟨(i 0).val * 1408 + (i 2).val, by
    have h0 : (i 0).val < 4 := (i 0).isLt
    have h2 : (i 2).val < 1408 := (i 2).isLt
    omega⟩)

/-! ## The reference -/

/-- The reference's gradient is that sum, the factors in the other order. -/
theorem v18_eq : val_main_v18 (F := Ideal) x g dp = total (val_main_v12 (F := Ideal) x g) dp := by
  funext i; idx_vars i
  pointwise [val_main_v18, val_main_v17, val_main_v16, val_main_v15, val_main_v14]
  unfold total
  refine Finset.sum_congr rfl fun k _ => ?_
  exact mul_comm _ _

/-- Rounding to the shorter type changes nothing here. -/
theorem v19_eq : val_main_v19 (F := Ideal) x g dp = total (val_main_v12 (F := Ideal) x g) dp := v18_eq x g dp

/-! ## The call -/

variable (m : (ℓ : Loc nD τ sig) → Buf (Elt Ideal) ℓ) (c : Dev nD)

/-- The activations that the call is given are the reference's normed activations. -/
theorem hn_eq : V m c main_v12 = val_main_v12 (F := Ideal) (m ((c : Thread nD τ).loc main_arg0)) (m ((c : Thread nD τ).loc main_arg1)) := by
  entry_read
  rfl

/-- One product of the call. -/
theorem pay1_eq (h : S2048x1024.Idx → EReal) (p : S2048x1408.Idx → EReal) (d : Fin 1024) (j : Fin 1408) :
    k0_pay1 (F := Ideal) h p (ix2 d j) = ∑ s : Fin 2048, h (ix2 s d) * p (ix2 s j) := by
  pointwise [k0_pay1]

/-- Which block each window shows at a point. -/
theorem idx : ∀ t : Fin cfg0.N, win0_0.index t = ![0, 0] ∧ win0_1.index t = ![0, t.val] ∧ win0_2.index t = ![t.val, 0, 0]
    ∧ win0_3.index t = ![t.val, 0, 0] :=
  (by decide +kernel : ∀ t : Fin grid0.N, _)

/-- The activations' block is the whole array. -/
theorem blk0 (t : Fin cfg0.N) : iblk m c 0 t = val_main_v12 (F := Ideal) (m ((c : Thread nD τ).loc main_arg0)) (m ((c : Thread nD τ).loc main_arg1)) := by
  funext y
  blk_simp [iblk]
  rw [hn_eq]
  refine congrArg _ (funext fun a => Fin.ext ?_)
  match a with
  | ⟨0, _⟩ => blk_simp [(idx t).1]
  | ⟨1, _⟩ => blk_simp [(idx t).1]

/-- The gradient's block is a shard of its columns. -/
theorem blk1 (t : Fin cfg0.N) (s : Fin 2048) (j : Fin 1408) : iblk m c 1 t (ix2 s j) = m ((c : Thread nD τ).loc main_arg2) (ix2 s ⟨t.val * 1408 + j.val, by
    have h0 : t.val < 4 := t.isLt
    omega⟩) := by
  blk_simp [iblk]
  rw [V_main_arg2]
  refine congrArg _ (funext fun a => Fin.ext ?_)
  match a with
  | ⟨0, _⟩ => blk_simp [(idx t).2.1]
  | ⟨1, _⟩ => blk_simp [(idx t).2.1]

/-- What a point leaves in its block, from the two blocks it is given. -/
theorem out2_eq (h : S2048x1024.Idx → EReal) (p : S2048x1408.Idx → EReal) (a : Fin 1) (d : Fin 1024) (j : Fin 1408) :
    out0_2 (F := Ideal) h p (ix3 a d j) = ∑ s : Fin 2048, h (ix2 s d) * p (ix2 s j) := by
  rw [out0_2, canon2_eq, View.ld_unit_lit _ _ (by decide), View.ld_unit_lit _ _ (by decide)]
  exact (congrArg _ (ix2_eta _).symm).trans (pay1_eq _ _ _ _)

/-- Where that block lies in the array. -/
theorem emb2 (t : Fin cfg0.N) (a : Fin 1) (d : Fin 1024) (j : Fin 1408) :
    (win0_2.blk t).view.emb (ix3 a d j) = ix3 (⟨t.val, t.isLt⟩ : Fin 4) d j := by
  refine funext fun b => Fin.ext ?_
  match b with
  | ⟨0, _⟩ => blk_simp [(idx t).2.2.1]
  | ⟨1, _⟩ => blk_simp [(idx t).2.2.1]
  | ⟨2, _⟩ => blk_simp [(idx t).2.2.1]

/-- The gradient that the call leaves. -/
theorem array2 : (dats m 0 c).arrAt 2 cfg0.N
    = total (val_main_v12 (F := Ideal) (m ((c : Thread nD τ).loc main_arg0)) (m ((c : Thread nD τ).loc main_arg1))) (m ((c : Thread nD τ).loc main_arg2)) := by
  refine (dats m 0 c).arrAt_eq_of_covers 2 _ (by decide +kernel) fun t hf y => ?_
  blk_simp
  obtain ⟨a, d, j, rfl⟩ : ∃ (a : Fin 1) (d : Fin 1024) (j : Fin 1408), y = ix3 a d j := ⟨y 0, y 1, y 2, (ix3_eta y).symm⟩
  rw [after0_2, blk0]
  refine (out2_eq _ _ a d j).trans (Eq.trans ?_ (congrArg _ (emb2 t a d j).symm))
  exact Finset.sum_congr rfl fun s _ => congrArg _ (blk1 m c t s j)

/-- What a point leaves in the block of the shorter type. -/
theorem out3_eq (h : S2048x1024.Idx → EReal) (p : S2048x1408.Idx → EReal) (a : Fin 1) (d : Fin 1024) (j : Fin 1408) :
    out0_3 (F := Ideal) h p (ix3 a d j) = ∑ s : Fin 2048, h (ix2 s d) * p (ix2 s j) := by
  rw [out0_3, canon3_eq, View.ld_unit_lit _ _ (by decide), View.ld_unit_lit _ _ (by decide)]
  exact (congrArg _ (ix2_eta _).symm).trans (pay1_eq _ _ _ _)

/-- Where the block of the shorter type lies in the array. -/
theorem emb3 (t : Fin cfg0.N) (a : Fin 1) (d : Fin 1024) (j : Fin 1408) :
    (win0_3.blk t).view.emb (ix3 a d j) = ix3 (⟨t.val, t.isLt⟩ : Fin 4) d j := by
  refine funext fun b => Fin.ext ?_
  match b with
  | ⟨0, _⟩ => blk_simp [(idx t).2.2.2]
  | ⟨1, _⟩ => blk_simp [(idx t).2.2.2]
  | ⟨2, _⟩ => blk_simp [(idx t).2.2.2]

/-- The gradient in the shorter type. -/
theorem array3 : (dats m 0 c).arrAt 3 cfg0.N
    = total (val_main_v12 (F := Ideal) (m ((c : Thread nD τ).loc main_arg0)) (m ((c : Thread nD τ).loc main_arg1))) (m ((c : Thread nD τ).loc main_arg2)) := by
  refine (dats m 0 c).arrAt_eq_of_covers 3 _ (by decide +kernel) fun t hf y => ?_
  blk_simp
  obtain ⟨a, d, j, rfl⟩ : ∃ (a : Fin 1) (d : Fin 1024) (j : Fin 1408), y = ix3 a d j := ⟨y 0, y 1, y 2, (ix3_eta y).symm⟩
  rw [after0_3, blk0]
  refine (out3_eq _ _ a d j).trans (Eq.trans ?_ (congrArg _ (emb3 t a d j).symm))
  exact Finset.sum_congr rfl fun s _ => congrArg _ (blk1 m c t s j)

end Cert.Grad.WGrad5

end
-- ==== Proof.WGrad4.lean ====
module

public import proofs.«01_k».proof.Proof.Loads
public import proofs.«01_k».proof.Proof.Gen.Kernel4Ideal.Value
public import proofs.«01_k».proof.Proof.Gen.Reference4Ideal.Read

@[expose] public section

set_option maxRecDepth 16384

noncomputable section

/-! # The gradient of an input projection's weights (the convolution layer's width)

Both sides are the same sum over the positions of a sequence, of the normed activations times the projection's gradient, so this holds of every
argument, infinities among them. -/

namespace Cert.Grad.WGrad4

open Idealize.ShloMosaic Idealize.ShloMosaic.TcCoe Cert.Kernel4Ideal Cert.Kernel4Ideal.Gen
open Idealize.ShloMosaic.Pipeline (Dat)
open Cert.Reference4Ideal.Read
open Cert.Kernel4Ideal.Value (canon2_eq canon3_eq)

variable (x : S2048x1024.Idx → EReal) (g : S1x1024.Idx → EReal) (dp : S2048x4608.Idx → EReal)

/-- The weights' gradient: for shard `a` of the columns, the sum over the positions. -/
def total (h : S2048x1024.Idx → EReal) (p : S2048x4608.Idx → EReal) : S4x1024x1152.Idx → EReal := fun i =>
  ∑ s : Fin 2048, h (ix2 s ⟨(i 1).val, (i 1).isLt⟩) * p (ix2 s ⟨(i 0).val * 1152 + (i 2).val, by
    have h0 : (i 0).val < 4 := (i 0).isLt
    have h2 : (i 2).val < 1152 := (i 2).isLt
    omega⟩)

/-! ## The reference -/

/-- The reference's gradient is that sum, the factors in the other order. -/
theorem v18_eq : val_main_v18 (F := Ideal) x g dp = total (val_main_v12 (F := Ideal) x g) dp := by
  funext i; idx_vars i
  pointwise [val_main_v18, val_main_v17, val_main_v16, val_main_v15, val_main_v14]
  unfold total
  refine Finset.sum_congr rfl fun k _ => ?_
  exact mul_comm _ _

/-- Rounding to the shorter type changes nothing here. -/
theorem v19_eq : val_main_v19 (F := Ideal) x g dp = total (val_main_v12 (F := Ideal) x g) dp := v18_eq x g dp

/-! ## The call -/

variable (m : (ℓ : Loc nD τ sig) → Buf (Elt Ideal) ℓ) (c : Dev nD)

/-- The activations that the call is given are the reference's normed activations. -/
theorem hn_eq : V m c main_v12 = val_main_v12 (F := Ideal) (m ((c : Thread nD τ).loc main_arg0)) (m ((c : Thread nD τ).loc main_arg1)) := by
  entry_read
  rfl

/-- One product of the call. -/
theorem pay1_eq (h : S2048x1024.Idx → EReal) (p : S2048x1152.Idx → EReal) (d : Fin 1024) (j : Fin 1152) :
    k0_pay1 (F := Ideal) h p (ix2 d j) = ∑ s : Fin 2048, h (ix2 s d) * p (ix2 s j) := by
  pointwise [k0_pay1]

/-- Which block each window shows at a point. -/
theorem idx : ∀ t : Fin cfg0.N, win0_0.index t = ![0, 0] ∧ win0_1.index t = ![0, t.val] ∧ win0_2.index t = ![t.val, 0, 0]
    ∧ win0_3.index t = ![t.val, 0, 0] :=
  (by decide +kernel : ∀ t : Fin grid0.N, _)

/-- The activations' block is the whole array. -/
theorem blk0 (t : Fin cfg0.N) : iblk m c 0 t = val_main_v12 (F := Ideal) (m ((c : Thread nD τ).loc main_arg0)) (m ((c : Thread nD τ).loc main_arg1)) := by
  funext y
  blk_simp [iblk]
  rw [hn_eq]
  refine congrArg _ (funext fun a => Fin.ext ?_)
  match a with
  | ⟨0, _⟩ => blk_simp [(idx t).1]
  | ⟨1, _⟩ => blk_simp [(idx t).1]

/-- The gradient's block is a shard of its columns. -/
theorem blk1 (t : Fin cfg0.N) (s : Fin 2048) (j : Fin 1152) : iblk m c 1 t (ix2 s j) = m ((c : Thread nD τ).loc main_arg2) (ix2 s ⟨t.val * 1152 + j.val, by
    have h0 : t.val < 4 := t.isLt
    omega⟩) := by
  blk_simp [iblk]
  rw [V_main_arg2]
  refine congrArg _ (funext fun a => Fin.ext ?_)
  match a with
  | ⟨0, _⟩ => blk_simp [(idx t).2.1]
  | ⟨1, _⟩ => blk_simp [(idx t).2.1]

/-- What a point leaves in its block, from the two blocks it is given. -/
theorem out2_eq (h : S2048x1024.Idx → EReal) (p : S2048x1152.Idx → EReal) (a : Fin 1) (d : Fin 1024) (j : Fin 1152) :
    out0_2 (F := Ideal) h p (ix3 a d j) = ∑ s : Fin 2048, h (ix2 s d) * p (ix2 s j) := by
  rw [out0_2, canon2_eq, View.ld_unit_lit _ _ (by decide), View.ld_unit_lit _ _ (by decide)]
  exact (congrArg _ (ix2_eta _).symm).trans (pay1_eq _ _ _ _)

/-- Where that block lies in the array. -/
theorem emb2 (t : Fin cfg0.N) (a : Fin 1) (d : Fin 1024) (j : Fin 1152) :
    (win0_2.blk t).view.emb (ix3 a d j) = ix3 (⟨t.val, t.isLt⟩ : Fin 4) d j := by
  refine funext fun b => Fin.ext ?_
  match b with
  | ⟨0, _⟩ => blk_simp [(idx t).2.2.1]
  | ⟨1, _⟩ => blk_simp [(idx t).2.2.1]
  | ⟨2, _⟩ => blk_simp [(idx t).2.2.1]

/-- The gradient that the call leaves. -/
theorem array2 : (dats m 0 c).arrAt 2 cfg0.N
    = total (val_main_v12 (F := Ideal) (m ((c : Thread nD τ).loc main_arg0)) (m ((c : Thread nD τ).loc main_arg1))) (m ((c : Thread nD τ).loc main_arg2)) := by
  refine (dats m 0 c).arrAt_eq_of_covers 2 _ (by decide +kernel) fun t hf y => ?_
  blk_simp
  obtain ⟨a, d, j, rfl⟩ : ∃ (a : Fin 1) (d : Fin 1024) (j : Fin 1152), y = ix3 a d j := ⟨y 0, y 1, y 2, (ix3_eta y).symm⟩
  rw [after0_2, blk0]
  refine (out2_eq _ _ a d j).trans (Eq.trans ?_ (congrArg _ (emb2 t a d j).symm))
  exact Finset.sum_congr rfl fun s _ => congrArg _ (blk1 m c t s j)

/-- What a point leaves in the block of the shorter type. -/
theorem out3_eq (h : S2048x1024.Idx → EReal) (p : S2048x1152.Idx → EReal) (a : Fin 1) (d : Fin 1024) (j : Fin 1152) :
    out0_3 (F := Ideal) h p (ix3 a d j) = ∑ s : Fin 2048, h (ix2 s d) * p (ix2 s j) := by
  rw [out0_3, canon3_eq, View.ld_unit_lit _ _ (by decide), View.ld_unit_lit _ _ (by decide)]
  exact (congrArg _ (ix2_eta _).symm).trans (pay1_eq _ _ _ _)

/-- Where the block of the shorter type lies in the array. -/
theorem emb3 (t : Fin cfg0.N) (a : Fin 1) (d : Fin 1024) (j : Fin 1152) :
    (win0_3.blk t).view.emb (ix3 a d j) = ix3 (⟨t.val, t.isLt⟩ : Fin 4) d j := by
  refine funext fun b => Fin.ext ?_
  match b with
  | ⟨0, _⟩ => blk_simp [(idx t).2.2.2]
  | ⟨1, _⟩ => blk_simp [(idx t).2.2.2]
  | ⟨2, _⟩ => blk_simp [(idx t).2.2.2]

/-- The gradient in the shorter type. -/
theorem array3 : (dats m 0 c).arrAt 3 cfg0.N
    = total (val_main_v12 (F := Ideal) (m ((c : Thread nD τ).loc main_arg0)) (m ((c : Thread nD τ).loc main_arg1))) (m ((c : Thread nD τ).loc main_arg2)) := by
  refine (dats m 0 c).arrAt_eq_of_covers 3 _ (by decide +kernel) fun t hf y => ?_
  blk_simp
  obtain ⟨a, d, j, rfl⟩ : ∃ (a : Fin 1) (d : Fin 1024) (j : Fin 1152), y = ix3 a d j := ⟨y 0, y 1, y 2, (ix3_eta y).symm⟩
  rw [after0_3, blk0]
  refine (out3_eq _ _ a d j).trans (Eq.trans ?_ (congrArg _ (emb3 t a d j).symm))
  exact Finset.sum_congr rfl fun s _ => congrArg _ (blk1 m c t s j)

end Cert.Grad.WGrad4

end
-- ==== Proof.InBwdRef3.lean ====
module

public import proofs.«01_k».proof.Proof.Gen.Reference3Ideal.Read
public import proofs.«01_k».proof.Proof.Norm

@[expose] public section

set_option maxRecDepth 16384

noncomputable section

/-! # The derivative of norm and input projection, as the reference computes it (the attention layer's width) -/

namespace Cert.Grad.InBwd3.Ref

open Idealize.ShloMosaic Cert.Reference3Ideal Cert.Reference3Ideal.Read

variable (DP : ℕ → ℕ → ℝ) (W : ℕ → ℕ → ℕ → ℝ) (X G DR : ℕ → ℕ → ℝ)

/-- The weights, their four blocks of columns side by side. -/
theorem v2_eq : val_main_v2 (F := Ideal) (lift3 W) = lift2 (side 1408 W) := by
  funext i; idx_vars i; pointwise [val_main_v2, val_main_v1, val_main_v0]
  simp only [lift2_at, lift3_at]
  rfl

/-- The reciprocal root. -/
theorem v10_eq : val_main_v10 (F := Ideal) (lift2 X) = lift2 (fun s _ => rs X s) := by
  funext i; idx_vars i
  pointwise [val_main_v10, val_main_v9, val_main_v8, val_main_v7, val_main_v6, val_main_v5, val_main_v4, val_main_v3,
    val_main_cst, val_main_cst_0, val_main_cst_1]
  simp only [lift2_at, ofBits_eps, ofBits_1024, ← EReal.coe_mul, coe_sum, div_real _ _ (by norm_num : (1024 : ℝ) ≠ 0), ← EReal.coe_add]
  exact rsqrt_real _ (ms_pos X _)

theorem v9_eq : val_main_v9 (F := Ideal) (lift2 X) = lift2 (fun s _ => ms X s) := by
  funext i; idx_vars i
  pointwise [val_main_v9, val_main_v8, val_main_v7, val_main_v6, val_main_v5, val_main_v4, val_main_v3,
    val_main_cst, val_main_cst_0, val_main_cst_1]
  simp only [lift2_at, ofBits_eps, ofBits_1024, ← EReal.coe_mul, coe_sum, div_real _ _ (by norm_num : (1024 : ℝ) ≠ 0), ← EReal.coe_add]
  rfl

/-- The gradient of the norm's output. -/
theorem v20_eq : val_main_v20 (F := Ideal) (lift2 DP) (lift3 W) = lift2 (dhn 5632 DP (side 1408 W)) := by
  funext i; idx_vars i
  pointwise [val_main_v20, val_main_v19, v2_eq]
  simp only [lift2_at, ← EReal.coe_mul, coe_sum, dhn]

/-- The gradient of the gain. -/
theorem v23_eq : val_main_v23 (F := Ideal) (lift2 DP) (lift3 W) (lift2 X) = lift2 (fun _ d => dgv 5632 X DP (side 1408 W) d) := by
  funext i; idx_vars i
  pointwise [val_main_v23, val_main_v22, val_main_v21, val_main_v15, val_main_v14, val_main_cst_3, v10_eq, v20_eq]
  simp only [lift2_at, ← EReal.coe_mul, coe_sum, dgv]
  congr 1
  exact Finset.sum_congr rfl fun k _ => mul_comm _ _

theorem v25_eq : val_main_v25 (F := Ideal) (lift2 DP) (lift3 W) (lift2 G) = lift2 (dnv 5632 G DP (side 1408 W)) := by
  funext i; idx_vars i
  pointwise [val_main_v25, val_main_v24, v20_eq]
  simp only [lift2_at, ← EReal.coe_mul, dnv]
  rfl

/-- The gradient of the residual stream. -/
theorem v40_eq : val_main_v40 (F := Ideal) (lift2 DP) (lift3 W) (lift2 X) (lift2 G) (lift2 DR)
    = lift2 (dxv 5632 X G DP (side 1408 W) DR) := by
  funext i; idx_vars i
  pointwise [val_main_v40, val_main_v39, val_main_v38, val_main_v37, val_main_v36, val_main_v35, val_main_v34, val_main_v33,
    val_main_v32, val_main_v31, val_main_v30, val_main_v29, val_main_v28, val_main_v27, val_main_v26, val_main_v13, val_main_v12, val_main_v11,
    val_main_cst_2, val_main_cst_4, val_main_cst_5, val_main_cst_6, v9_eq, v10_eq, v25_eq]
  simp only [lift2_at, ofBits_neg_half, ofBits_1024, div_real _ _ (ms_pos X _).ne', div_real _ _ (by norm_num : (1024 : ℝ) ≠ 0),
    ← EReal.coe_mul, coe_sum, ← EReal.coe_add, Finset.univ_unique, Finset.sum_singleton]
  congr 1
  exact dx_form ..

end Cert.Grad.InBwd3.Ref

end
-- ==== Proof.InBwdRef2.lean ====
module

public import proofs.«01_k».proof.Proof.Gen.Reference2Ideal.Read
public import proofs.«01_k».proof.Proof.Norm

@[expose] public section

set_option maxRecDepth 16384

noncomputable section

/-! # The derivative of norm and input projection, as the reference computes it (the convolution layer's width) -/

namespace Cert.Grad.InBwd2.Ref

open Idealize.ShloMosaic Cert.Reference2Ideal Cert.Reference2Ideal.Read

variable (DP : ℕ → ℕ → ℝ) (W : ℕ → ℕ → ℕ → ℝ) (X G DR : ℕ → ℕ → ℝ)

/-- The weights, their four blocks of columns side by side. -/
theorem v2_eq : val_main_v2 (F := Ideal) (lift3 W) = lift2 (side 1152 W) := by
  funext i; idx_vars i; pointwise [val_main_v2, val_main_v1, val_main_v0]
  simp only [lift2_at, lift3_at]
  rfl

/-- The reciprocal root. -/
theorem v10_eq : val_main_v10 (F := Ideal) (lift2 X) = lift2 (fun s _ => rs X s) := by
  funext i; idx_vars i
  pointwise [val_main_v10, val_main_v9, val_main_v8, val_main_v7, val_main_v6, val_main_v5, val_main_v4, val_main_v3,
    val_main_cst, val_main_cst_0, val_main_cst_1]
  simp only [lift2_at, ofBits_eps, ofBits_1024, ← EReal.coe_mul, coe_sum, div_real _ _ (by norm_num : (1024 : ℝ) ≠ 0), ← EReal.coe_add]
  exact rsqrt_real _ (ms_pos X _)

/-- The mean of each row's squares, with the small constant. -/
theorem v9_eq : val_main_v9 (F := Ideal) (lift2 X) = lift2 (fun s _ => ms X s) := by
  funext i; idx_vars i
  pointwise [val_main_v9, val_main_v8, val_main_v7, val_main_v6, val_main_v5, val_main_v4, val_main_v3,
    val_main_cst, val_main_cst_0, val_main_cst_1]
  simp only [lift2_at, ofBits_eps, ofBits_1024, ← EReal.coe_mul, coe_sum, div_real _ _ (by norm_num : (1024 : ℝ) ≠ 0), ← EReal.coe_add]
  rfl

/-- The gradient of the norm's output. -/
theorem v20_eq : val_main_v20 (F := Ideal) (lift2 DP) (lift3 W) = lift2 (dhn 4608 DP (side 1152 W)) := by
  funext i; idx_vars i
  pointwise [val_main_v20, val_main_v19, v2_eq]
  simp only [lift2_at, ← EReal.coe_mul, coe_sum, dhn]

/-- The gradient of the gain. -/
theorem v23_eq : val_main_v23 (F := Ideal) (lift2 DP) (lift3 W) (lift2 X) = lift2 (fun _ d => dgv 4608 X DP (side 1152 W) d) := by
  funext i; idx_vars i
  pointwise [val_main_v23, val_main_v22, val_main_v21, val_main_v15, val_main_v14, val_main_cst_3, v10_eq, v20_eq]
  simp only [lift2_at, ← EReal.coe_mul, coe_sum, dgv]
  congr 1
  exact Finset.sum_congr rfl fun k _ => mul_comm _ _

/-- The gradient of the norm's output, times the gain. -/
theorem v25_eq : val_main_v25 (F := Ideal) (lift2 DP) (lift3 W) (lift2 G) = lift2 (dnv 4608 G DP (side 1152 W)) := by
  funext i; idx_vars i
  pointwise [val_main_v25, val_main_v24, v20_eq]
  simp only [lift2_at, ← EReal.coe_mul, dnv]
  rfl

/-- The gradient of the residual stream. -/
theorem v40_eq : val_main_v40 (F := Ideal) (lift2 DP) (lift3 W) (lift2 X) (lift2 G) (lift2 DR)
    = lift2 (dxv 4608 X G DP (side 1152 W) DR) := by
  funext i; idx_vars i
  pointwise [val_main_v40, val_main_v39, val_main_v38, val_main_v37, val_main_v36, val_main_v35, val_main_v34, val_main_v33,
    val_main_v32, val_main_v31, val_main_v30, val_main_v29, val_main_v28, val_main_v27, val_main_v26, val_main_v13, val_main_v12, val_main_v11,
    val_main_cst_2, val_main_cst_4, val_main_cst_5, val_main_cst_6, v9_eq, v10_eq, v25_eq]
  simp only [lift2_at, ofBits_neg_half, ofBits_1024, div_real _ _ (ms_pos X _).ne', div_real _ _ (by norm_num : (1024 : ℝ) ≠ 0),
    ← EReal.coe_mul, coe_sum, ← EReal.coe_add, Finset.univ_unique, Finset.sum_singleton]
  congr 1
  exact dx_form ..

end Cert.Grad.InBwd2.Ref

end
-- ==== Proof.InBwdKer3.lean ====
module

public import proofs.«01_k».proof.Proof.Loads
public import proofs.«01_k».proof.Proof.Gen.Kernel3Ideal.Value

@[expose] public section

set_option maxRecDepth 16384

noncomputable section

/-! # The call for the derivative of norm and input projection (the attention layer's width) -/

namespace Cert.Grad.InBwd3.Ker

open Idealize.ShloMosaic Idealize.ShloMosaic.TcCoe Cert.Kernel3Ideal Cert.Kernel3Ideal.Gen
open Idealize.ShloMosaic.Pipeline (Dat)

variable (x g d dr acc : ℕ → ℕ → ℝ)

/-! ## One tile of rows -/

/-- The reciprocal roots of the tile's rows. -/
theorem pay5_eq : k0_pay5 (F := Ideal) (lift2 x) = lift2 (fun r _ => rs x r) := by
  funext i; idx_vars i; pointwise [k0_pay5]
  simp only [lift2_at, ofBits_eps, ofBits_1024, ← EReal.coe_mul, coe_sum, div_real _ _ (by norm_num : (1024 : ℝ) ≠ 0), ← EReal.coe_add]
  exact rsqrt_real _ (ms_pos x _)

/-- The normalised rows. -/
theorem pay6_eq : k0_pay6 (F := Ideal) (lift2 x) = lift2 (nrm x) := by
  funext i; idx_vars i; pointwise [k0_pay6, pay5_eq]
  simp only [lift2_at, ← EReal.coe_mul, nrm]

/-- The gradient of the norm's output: four products, one for each block of columns, added up. -/
theorem pay4_eq (p : ℕ → ℕ → ℝ) (W : ℕ → ℕ → ℕ → ℝ) :
    k0_pay4 (F := Ideal) (lift2 fun r j => p (0 + r) (0 + j)) (lift3 fun a d j => W (0 + a) (0 + d) (0 + j))
      (lift2 fun r j => p (0 + r) (1408 + j)) (lift3 fun a d j => W (1 + a) (0 + d) (0 + j))
      (lift2 fun r j => p (0 + r) (2816 + j)) (lift3 fun a d j => W (2 + a) (0 + d) (0 + j))
      (lift2 fun r j => p (0 + r) (4224 + j)) (lift3 fun a d j => W (3 + a) (0 + d) (0 + j))
      = lift2 (dhn 5632 p (side 1408 W)) := by
  funext i; idx_vars i; pointwise [k0_pay4]
  simp only [lift2_at, lift3_at, ← EReal.coe_mul, coe_sum, ← EReal.coe_add]
  congr 1
  refine Eq.trans ?_ (dhn_side p 1408 (by decide) W i0 i1).symm
  simp only [Nat.zero_add, Nat.add_zero, Nat.zero_mul, Nat.reduceMul, Fin.val_zero]

/-- The same, with the parts taken from the two blocks. -/
theorem pay4_ld (p : ℕ → ℕ → ℝ) (W : ℕ → ℕ → ℕ → ℝ) :
    k0_pay4 (F := Ideal) (View.ld (Val := Elt Ideal) (S := S256x5632) (e' := .bf16) (lift2 p) (Rect.unit ![0, 0] ![256, 1408] inb_S256x5632_S256x1408_0_0))
      (View.ld (Val := Elt Ideal) (S := S4x1024x1408) (e' := .bf16) (lift3 W) (Rect.unit ![0, 0, 0] ![1, 1024, 1408] inb_S4x1024x1408_S1x1024x1408_0_0_0))
      (View.ld (Val := Elt Ideal) (S := S256x5632) (e' := .bf16) (lift2 p) (Rect.unit ![0, 1408] ![256, 1408] inb_S256x5632_S256x1408_0_1408))
      (View.ld (Val := Elt Ideal) (S := S4x1024x1408) (e' := .bf16) (lift3 W) (Rect.unit ![1, 0, 0] ![1, 1024, 1408] inb_S4x1024x1408_S1x1024x1408_1_0_0))
      (View.ld (Val := Elt Ideal) (S := S256x5632) (e' := .bf16) (lift2 p) (Rect.unit ![0, 2816] ![256, 1408] inb_S256x5632_S256x1408_0_2816))
      (View.ld (Val := Elt Ideal) (S := S4x1024x1408) (e' := .bf16) (lift3 W) (Rect.unit ![2, 0, 0] ![1, 1024, 1408] inb_S4x1024x1408_S1x1024x1408_2_0_0))
      (View.ld (Val := Elt Ideal) (S := S256x5632) (e' := .bf16) (lift2 p) (Rect.unit ![0, 4224] ![256, 1408] inb_S256x5632_S256x1408_0_4224))
      (View.ld (Val := Elt Ideal) (S := S4x1024x1408) (e' := .bf16) (lift3 W) (Rect.unit ![3, 0, 0] ![1, 1024, 1408] inb_S4x1024x1408_S1x1024x1408_3_0_0))
      = lift2 (dhn 5632 p (side 1408 W)) := by
  refine Eq.trans ?_ (pay4_eq p W)
  exact congr (congr (congr (congr (congr (congr (congr (congrArg _ (part2b ..)) (part3b ..)) (part2b ..)) (part3b ..)) (part2b ..)) (part3b ..))
    (part2b ..)) (part3b ..)

/-- The tile's rows of the residual stream's gradient. -/
theorem pay1_eq : k0_pay1 (F := Ideal) (lift2 d) (lift2 fun r _ => rs x r) (lift2 (nrm x)) (lift2 g) (lift2 dr)
    = lift2 (fun r k => dr r k + rs x r * (d r k * g 0 k - nrm x r k * ((∑ l : Fin 1024, d r l.val * g 0 l.val * nrm x r l.val) / 1024))) := by
  funext i; idx_vars i; pointwise [k0_pay1]
  simp only [lift2_at, ofBits_1024, ← EReal.coe_mul, coe_sum, div_real _ _ (by norm_num : (1024 : ℝ) ≠ 0), ← EReal.coe_add, ← EReal.coe_sub]
  rfl

/-- The gain's gradient starts at zero … -/
theorem pay2_eq : k0_pay2 (F := Ideal) = lift2 (fun _ _ => 0) := by
  funext i; unfold k0_pay2; simp [lift2]; rfl

/-- … and the tile's share is added. -/
theorem pay3_eq : k0_pay3 (F := Ideal) (lift2 d) (lift2 (nrm x)) (lift2 acc)
    = lift2 (fun r k => acc r k + ∑ s : Fin 256, d s.val k * nrm x s.val k) := by
  funext i; idx_vars i; pointwise [k0_pay3]
  simp only [lift2_at, ← EReal.coe_mul, coe_sum, ← EReal.coe_add]

/-! ## The blocks at a grid point -/

variable (m : (ℓ : Loc nD τ sig) → Buf (Elt Ideal) ℓ) (c : Dev nD)

/-- Which block each row-tiled window shows at a point. -/
theorem idxRows : ∀ t : Fin cfg0.N, win0_0.index t = ![t.val, 0] ∧ win0_2.index t = ![t.val, 0] ∧ win0_4.index t = ![t.val, 0]
    ∧ win0_5.index t = ![t.val, 0] :=
  (by decide +kernel : ∀ t : Fin grid0.N, _)
/-- The windows that show their whole array at every point. -/
theorem idxWhole : ∀ t : Fin cfg0.N, win0_1.index t = ![0, 0, 0] ∧ win0_3.index t = ![0, 0] :=
  (by decide +kernel : ∀ t : Fin grid0.N, _)

/-- The arguments, as arrays of numbers. -/
structure Args (DP : ℕ → ℕ → ℝ) (W : ℕ → ℕ → ℕ → ℝ) (X G DR : ℕ → ℕ → ℝ) : Prop where
  a0 : m ((c : Thread nD τ).loc main_arg0) = lift2 DP
  a1 : m ((c : Thread nD τ).loc main_arg1) = lift3 W
  a2 : m ((c : Thread nD τ).loc main_arg2) = lift2 X
  a3 : m ((c : Thread nD τ).loc main_arg3) = lift2 G
  a4 : m ((c : Thread nD τ).loc main_arg4) = lift2 DR

variable {DP X G DR : ℕ → ℕ → ℝ} {W : ℕ → ℕ → ℕ → ℝ}

section
variable {m c}
variable (a : Args m c DP W X G DR) (t : Fin cfg0.N)
include a

theorem blk0 : iblk m c 0 t = lift2 fun r k => DP (t.val * 256 + r) k := by
  funext y
  blk_simp [iblk]
  rw [V_main_arg0, a.a0]
  unfold lift2
  blk_simp [(idxRows t).1]
theorem blk1 : iblk m c 1 t = lift3 W := by
  funext y
  blk_simp [iblk]
  rw [V_main_arg1, a.a1]
  unfold lift3
  blk_simp [(idxWhole t).1]
theorem blk2 : iblk m c 2 t = lift2 fun r k => X (t.val * 256 + r) k := by
  funext y
  blk_simp [iblk]
  rw [V_main_arg2, a.a2]
  unfold lift2
  blk_simp [(idxRows t).2.1]
theorem blk3 : iblk m c 3 t = lift2 G := by
  funext y
  blk_simp [iblk]
  rw [V_main_arg3, a.a3]
  unfold lift2
  blk_simp [(idxWhole t).2]
theorem blk4 : iblk m c 4 t = lift2 fun r k => DR (t.val * 256 + r) k := by
  funext y
  blk_simp [iblk]
  rw [V_main_arg4, a.a4]
  unfold lift2
  blk_simp [(idxRows t).2.2.1]

/-! ## What a grid point leaves in its blocks -/

/-- The rows of the residual stream's gradient that each point writes. -/
theorem point5 : (outsAt0 m c t.val t.isLt).1 = lift2 fun r k => dxv 5632 X G DP (side 1408 W) DR (t.val * 256 + r) k := by
  by_cases h0 : t.val % 8 = 0
  · rw [outsAt0_A m c t h0]
    frame_open
    frame_out
    simp only [blk0 a, blk1 a, blk2 a, blk3 a, blk4 a, read_unread_whole, pay4_ld, pay5_eq, pay6_eq, pay1_eq]
    rfl
  · rw [outsAt0_B m c t h0]
    frame_out
    simp only [blk0 a, blk1 a, blk2 a, blk3 a, blk4 a, read_unread_whole, pay4_ld, pay5_eq, pay6_eq, pay1_eq]
    rfl

/-- The tile's share of the gain's gradient. -/
def share (X DP : ℕ → ℕ → ℝ) (W : ℕ → ℕ → ℕ → ℝ) (t k : ℕ) : ℝ :=
  ∑ s : Fin 256, dhn 5632 DP (side 1408 W) (t * 256 + s.val) k * nrm X (t * 256 + s.val) k

/-- The gain's gradient after a point: the shares of the points so far. -/
theorem point6 : ∀ (n : ℕ) (h : n < cfg0.N), (outsAt0 m c n h).2 = lift2 fun _ k => ∑ t ∈ Finset.range (n + 1), share X DP W t k := by
  intro n
  induction n with
  | zero =>
    intro h
    rw [outsAt0_A m c ⟨0, h⟩ rfl]
    frame_open
    simp (disch := decide) only [↓View.readCov_skip, ↓View.readCov_cons_toLoadRect, ↓View.readCov_fill]
    frame_out
    simp only [blk0 a, blk1 a, blk2 a, blk3 a, blk4 a, read_unread_whole, pay4_ld, pay2_eq, pay6_eq, pay3_eq]
    refine lift2_congr fun i k _ _ => ?_
    rw [Finset.sum_range_one]
    show (0 : ℝ) + share X DP W 0 k = _
    rw [zero_add]
  | succ n ih =>
    intro h
    have h0 : ¬(n + 1) % 8 = 0 := by have : n + 1 < 8 := h; omega
    rw [outsAt0_B m c ⟨n + 1, h⟩ h0]
    frame_out
    have e := ih (Nat.lt_of_succ_lt h)
    simp only [Nat.add_sub_cancel, e, blk0 a, blk1 a, blk2 a, blk3 a, blk4 a, read_unread_whole, pay4_ld, pay2_eq, pay6_eq, pay3_eq]
    refine lift2_congr fun i k _ _ => ?_
    rw [Finset.sum_range_succ _ (n + 1)]
    rfl

end

/-! ## The two results -/

section
variable {m c}
variable (a : Args m c DP W X G DR)
include a

/-- The residual stream's gradient. -/
theorem array5 : (dats m 0 c).arrAt 5 cfg0.N = lift2 (dxv 5632 X G DP (side 1408 W) DR) := by
  refine (dats m 0 c).arrAt_eq_of_covers 5 _ (by decide +kernel) fun t hf y => ?_
  blk_simp
  rw [after0_5, point5 a t]
  unfold lift2
  blk_simp [(idxRows t).2.2.2]

/-- The gain's gradient. -/
theorem array6 : (dats m 0 c).arrAt 6 cfg0.N = lift2 (fun _ d => dgv 5632 X DP (side 1408 W) d) := by
  refine (dats m 0 c).arrAt_eq_of_after_last 6 t0_7 (by decide +kernel) _ fun j => ?_
  blk_simp
  rw [after0_6, point6 a]
  refine congrFun (lift2_congr fun i k _ _ => ?_) j
  exact (Finset.sum_range _).trans (Fin.sum_univ_univ_mul_add 8 256 fun s => dhn 5632 DP (side 1408 W) s k * nrm X s k)

end

end Cert.Grad.InBwd3.Ker

end
-- ==== Proof.InBwdKer2.lean ====
module

public import proofs.«01_k».proof.Proof.Loads
public import proofs.«01_k».proof.Proof.Gen.Kernel2Ideal.Value

@[expose] public section

set_option maxRecDepth 16384

noncomputable section

/-! # The call for the derivative of norm and input projection (the convolution layer's width) -/

namespace Cert.Grad.InBwd2.Ker

open Idealize.ShloMosaic Idealize.ShloMosaic.TcCoe Cert.Kernel2Ideal Cert.Kernel2Ideal.Gen
open Idealize.ShloMosaic.Pipeline (Dat)

variable (x g d dr acc : ℕ → ℕ → ℝ)

/-! ## One tile of rows -/

/-- The reciprocal roots of the tile's rows. -/
theorem pay5_eq : k0_pay5 (F := Ideal) (lift2 x) = lift2 (fun r _ => rs x r) := by
  funext i; idx_vars i; pointwise [k0_pay5]
  simp only [lift2_at, ofBits_eps, ofBits_1024, ← EReal.coe_mul, coe_sum, div_real _ _ (by norm_num : (1024 : ℝ) ≠ 0), ← EReal.coe_add]
  exact rsqrt_real _ (ms_pos x _)

/-- The normalised rows. -/
theorem pay6_eq : k0_pay6 (F := Ideal) (lift2 x) = lift2 (nrm x) := by
  funext i; idx_vars i; pointwise [k0_pay6, pay5_eq]
  simp only [lift2_at, ← EReal.coe_mul, nrm]

/-- The gradient of the norm's output: four products, one for each block of columns, added up. -/
theorem pay4_eq (p : ℕ → ℕ → ℝ) (W : ℕ → ℕ → ℕ → ℝ) :
    k0_pay4 (F := Ideal) (lift2 fun r j => p (0 + r) (0 + j)) (lift3 fun a d j => W (0 + a) (0 + d) (0 + j))
      (lift2 fun r j => p (0 + r) (1152 + j)) (lift3 fun a d j => W (1 + a) (0 + d) (0 + j))
      (lift2 fun r j => p (0 + r) (2304 + j)) (lift3 fun a d j => W (2 + a) (0 + d) (0 + j))
      (lift2 fun r j => p (0 + r) (3456 + j)) (lift3 fun a d j => W (3 + a) (0 + d) (0 + j))
      = lift2 (dhn 4608 p (side 1152 W)) := by
  funext i; idx_vars i; pointwise [k0_pay4]
  simp only [lift2_at, lift3_at, ← EReal.coe_mul, coe_sum, ← EReal.coe_add]
  congr 1
  refine Eq.trans ?_ (dhn_side p 1152 (by decide) W i0 i1).symm
  simp only [Nat.zero_add, Nat.add_zero, Nat.zero_mul, Nat.reduceMul, Fin.val_zero]

/-- The same, with the parts taken from the two blocks. -/
theorem pay4_ld (p : ℕ → ℕ → ℝ) (W : ℕ → ℕ → ℕ → ℝ) :
    k0_pay4 (F := Ideal) (View.ld (Val := Elt Ideal) (S := S256x4608) (e' := .bf16) (lift2 p) (Rect.unit ![0, 0] ![256, 1152] inb_S256x4608_S256x1152_0_0))
      (View.ld (Val := Elt Ideal) (S := S4x1024x1152) (e' := .bf16) (lift3 W) (Rect.unit ![0, 0, 0] ![1, 1024, 1152] inb_S4x1024x1152_S1x1024x1152_0_0_0))
      (View.ld (Val := Elt Ideal) (S := S256x4608) (e' := .bf16) (lift2 p) (Rect.unit ![0, 1152] ![256, 1152] inb_S256x4608_S256x1152_0_1152))
      (View.ld (Val := Elt Ideal) (S := S4x1024x1152) (e' := .bf16) (lift3 W) (Rect.unit ![1, 0, 0] ![1, 1024, 1152] inb_S4x1024x1152_S1x1024x1152_1_0_0))
      (View.ld (Val := Elt Ideal) (S := S256x4608) (e' := .bf16) (lift2 p) (Rect.unit ![0, 2304] ![256, 1152] inb_S256x4608_S256x1152_0_2304))
      (View.ld (Val := Elt Ideal) (S := S4x1024x1152) (e' := .bf16) (lift3 W) (Rect.unit ![2, 0, 0] ![1, 1024, 1152] inb_S4x1024x1152_S1x1024x1152_2_0_0))
      (View.ld (Val := Elt Ideal) (S := S256x4608) (e' := .bf16) (lift2 p) (Rect.unit ![0, 3456] ![256, 1152] inb_S256x4608_S256x1152_0_3456))
      (View.ld (Val := Elt Ideal) (S := S4x1024x1152) (e' := .bf16) (lift3 W) (Rect.unit ![3, 0, 0] ![1, 1024, 1152] inb_S4x1024x1152_S1x1024x1152_3_0_0))
      = lift2 (dhn 4608 p (side 1152 W)) := by
  refine Eq.trans ?_ (pay4_eq p W)
  exact congr (congr (congr (congr (congr (congr (congr (congrArg _ (part2b ..)) (part3b ..)) (part2b ..)) (part3b ..)) (part2b ..)) (part3b ..))
    (part2b ..)) (part3b ..)

/-- The tile's rows of the residual stream's gradient. -/
theorem pay1_eq : k0_pay1 (F := Ideal) (lift2 d) (lift2 fun r _ => rs x r) (lift2 (nrm x)) (lift2 g) (lift2 dr)
    = lift2 (fun r k => dr r k + rs x r * (d r k * g 0 k - nrm x r k * ((∑ l : Fin 1024, d r l.val * g 0 l.val * nrm x r l.val) / 1024))) := by
  funext i; idx_vars i; pointwise [k0_pay1]
  simp only [lift2_at, ofBits_1024, ← EReal.coe_mul, coe_sum, div_real _ _ (by norm_num : (1024 : ℝ) ≠ 0), ← EReal.coe_add, ← EReal.coe_sub]
  rfl

/-- The gain's gradient starts at zero … -/
theorem pay2_eq : k0_pay2 (F := Ideal) = lift2 (fun _ _ => 0) := by
  funext i; unfold k0_pay2; simp [lift2]; rfl

/-- … and the tile's share is added. -/
theorem pay3_eq : k0_pay3 (F := Ideal) (lift2 d) (lift2 (nrm x)) (lift2 acc)
    = lift2 (fun r k => acc r k + ∑ s : Fin 256, d s.val k * nrm x s.val k) := by
  funext i; idx_vars i; pointwise [k0_pay3]
  simp only [lift2_at, ← EReal.coe_mul, coe_sum, ← EReal.coe_add]

/-! ## The blocks at a grid point -/

variable (m : (ℓ : Loc nD τ sig) → Buf (Elt Ideal) ℓ) (c : Dev nD)

/-- Which block each row-tiled window shows at a point. -/
theorem idxRows : ∀ t : Fin cfg0.N, win0_0.index t = ![t.val, 0] ∧ win0_2.index t = ![t.val, 0] ∧ win0_4.index t = ![t.val, 0]
    ∧ win0_5.index t = ![t.val, 0] :=
  (by decide +kernel : ∀ t : Fin grid0.N, _)
/-- The windows that show their whole array at every point. -/
theorem idxWhole : ∀ t : Fin cfg0.N, win0_1.index t = ![0, 0, 0] ∧ win0_3.index t = ![0, 0] :=
  (by decide +kernel : ∀ t : Fin grid0.N, _)

/-- The arguments, as arrays of numbers. -/
structure Args (DP : ℕ → ℕ → ℝ) (W : ℕ → ℕ → ℕ → ℝ) (X G DR : ℕ → ℕ → ℝ) : Prop where
  a0 : m ((c : Thread nD τ).loc main_arg0) = lift2 DP
  a1 : m ((c : Thread nD τ).loc main_arg1) = lift3 W
  a2 : m ((c : Thread nD τ).loc main_arg2) = lift2 X
  a3 : m ((c : Thread nD τ).loc main_arg3) = lift2 G
  a4 : m ((c : Thread nD τ).loc main_arg4) = lift2 DR

variable {DP X G DR : ℕ → ℕ → ℝ} {W : ℕ → ℕ → ℕ → ℝ}

section
variable {m c}
variable (a : Args m c DP W X G DR) (t : Fin cfg0.N)
include a

/-- The block of the projection's gradient is the point's tile of rows. -/
theorem blk0 : iblk m c 0 t = lift2 fun r k => DP (t.val * 256 + r) k := by
  funext y
  blk_simp [iblk]
  rw [V_main_arg0, a.a0]
  unfold lift2
  blk_simp [(idxRows t).1]
/-- The block of the weights is all of them. -/
theorem blk1 : iblk m c 1 t = lift3 W := by
  funext y
  blk_simp [iblk]
  rw [V_main_arg1, a.a1]
  unfold lift3
  blk_simp [(idxWhole t).1]
/-- The block of the residual stream is the point's tile of rows. -/
theorem blk2 : iblk m c 2 t = lift2 fun r k => X (t.val * 256 + r) k := by
  funext y
  blk_simp [iblk]
  rw [V_main_arg2, a.a2]
  unfold lift2
  blk_simp [(idxRows t).2.1]
/-- The block of the gain is all of it. -/
theorem blk3 : iblk m c 3 t = lift2 G := by
  funext y
  blk_simp [iblk]
  rw [V_main_arg3, a.a3]
  unfold lift2
  blk_simp [(idxWhole t).2]
/-- The block of the gradient that came past the layer is the point's tile of rows. -/
theorem blk4 : iblk m c 4 t = lift2 fun r k => DR (t.val * 256 + r) k := by
  funext y
  blk_simp [iblk]
  rw [V_main_arg4, a.a4]
  unfold lift2
  blk_simp [(idxRows t).2.2.1]

/-! ## What a grid point leaves in its blocks -/

/-- The rows of the residual stream's gradient that each point writes. -/
theorem point5 : (outsAt0 m c t.val t.isLt).1 = lift2 fun r k => dxv 4608 X G DP (side 1152 W) DR (t.val * 256 + r) k := by
  by_cases h0 : t.val % 8 = 0
  · rw [outsAt0_A m c t h0]
    frame_open
    frame_out
    simp only [blk0 a, blk1 a, blk2 a, blk3 a, blk4 a, read_unread_whole, pay4_ld, pay5_eq, pay6_eq, pay1_eq]
    rfl
  · rw [outsAt0_B m c t h0]
    frame_out
    simp only [blk0 a, blk1 a, blk2 a, blk3 a, blk4 a, read_unread_whole, pay4_ld, pay5_eq, pay6_eq, pay1_eq]
    rfl

/-- The tile's share of the gain's gradient. -/
def share (X DP : ℕ → ℕ → ℝ) (W : ℕ → ℕ → ℕ → ℝ) (t k : ℕ) : ℝ :=
  ∑ s : Fin 256, dhn 4608 DP (side 1152 W) (t * 256 + s.val) k * nrm X (t * 256 + s.val) k

/-- The gain's gradient after a point: the shares of the points so far. -/
theorem point6 : ∀ (n : ℕ) (h : n < cfg0.N), (outsAt0 m c n h).2 = lift2 fun _ k => ∑ t ∈ Finset.range (n + 1), share X DP W t k := by
  intro n
  induction n with
  | zero =>
    intro h
    rw [outsAt0_A m c ⟨0, h⟩ rfl]
    frame_open
    simp (disch := decide) only [↓View.readCov_skip, ↓View.readCov_cons_toLoadRect, ↓View.readCov_fill]
    frame_out
    simp only [blk0 a, blk1 a, blk2 a, blk3 a, blk4 a, read_unread_whole, pay4_ld, pay2_eq, pay6_eq, pay3_eq]
    refine lift2_congr fun i k _ _ => ?_
    rw [Finset.sum_range_one]
    show (0 : ℝ) + share X DP W 0 k = _
    rw [zero_add]
  | succ n ih =>
    intro h
    have h0 : ¬(n + 1) % 8 = 0 := by have : n + 1 < 8 := h; omega
    rw [outsAt0_B m c ⟨n + 1, h⟩ h0]
    frame_out
    have e := ih (Nat.lt_of_succ_lt h)
    simp only [Nat.add_sub_cancel, e, blk0 a, blk1 a, blk2 a, blk3 a, blk4 a, read_unread_whole, pay4_ld, pay2_eq, pay6_eq, pay3_eq]
    refine lift2_congr fun i k _ _ => ?_
    rw [Finset.sum_range_succ _ (n + 1)]
    rfl

end

/-! ## The two results -/

section
variable {m c}
variable (a : Args m c DP W X G DR)
include a

/-- The residual stream's gradient. -/
theorem array5 : (dats m 0 c).arrAt 5 cfg0.N = lift2 (dxv 4608 X G DP (side 1152 W) DR) := by
  refine (dats m 0 c).arrAt_eq_of_covers 5 _ (by decide +kernel) fun t hf y => ?_
  blk_simp
  rw [after0_5, point5 a t]
  unfold lift2
  blk_simp [(idxRows t).2.2.2]

/-- The gain's gradient. -/
theorem array6 : (dats m 0 c).arrAt 6 cfg0.N = lift2 (fun _ d => dgv 4608 X DP (side 1152 W) d) := by
  refine (dats m 0 c).arrAt_eq_of_after_last 6 t0_7 (by decide +kernel) _ fun j => ?_
  blk_simp
  rw [after0_6, point6 a]
  refine congrFun (lift2_congr fun i k _ _ => ?_) j
  exact (Finset.sum_range _).trans (Fin.sum_univ_univ_mul_add 8 256 fun s => dhn 4608 DP (side 1152 W) s k * nrm X s k)

end

end Cert.Grad.InBwd2.Ker

end
-- ==== Proof.FiniteIn.lean ====
module

public import proofs.«01_k».proof.Proof.Finite
public import proofs.«01_k».proof.Proof.Gen.Pre_finite2
public import proofs.«01_k».proof.Proof.Gen.Pre_finite3

@[expose] public section

noncomputable section

/-! # Finite arguments of the projection's derivative are arrays of numbers -/

namespace Cert.Grad

open Idealize.ShloMosaic

/-- An array of three axes, every entry of which compares below +∞ in absolute value, is an array of numbers. -/
theorem real3_of_finite {n k l : ℕ} (x : (⟨3, ![n, k, l]⟩ : Shape).Idx → EReal)
    (h : ∀ i, Ideal.cmp .olt (max (x i) (-(x i))) (Ideal.ofBits .f32 0x7F800000#32) = 1#1) :
    ∃ X : ℕ → ℕ → ℕ → ℝ, x = lift3 X := by
  classical
  have htop : Ideal.ofBits .f32 0x7F800000#32 = ⊤ := by simp [Ideal.ofBits, Ideal.ieee]
  refine ⟨fun a b d => if ha : a < n then if hb : b < k then if hd : d < l then (x (ix3 ⟨a, ha⟩ ⟨b, hb⟩ ⟨d, hd⟩)).toReal else 0 else 0 else 0, ?_⟩
  funext i
  have hi := h i
  rw [htop] at hi
  have hlt : max (x i) (-(x i)) < ⊤ := by
    by_contra hn
    simp [Ideal.cmp, hn] at hi
  rw [max_lt_iff] at hlt
  have h1 : x i ≠ ⊤ := hlt.1.ne
  have h2 : x i ≠ ⊥ := fun e => by
    rw [e] at hlt
    exact absurd hlt.2 (by simp)
  have ha : (i 0).val < n := (i 0).isLt
  have hb : (i 1).val < k := (i 1).isLt
  have hd : (i 2).val < l := (i 2).isLt
  have e : (ix3 ⟨(i 0).val, ha⟩ ⟨(i 1).val, hb⟩ ⟨(i 2).val, hd⟩ : (⟨3, ![n, k, l]⟩ : Shape).Idx) = i := ix3_eta i
  simp only [lift3, ha, hb, hd, dite_true]
  rw [e, EReal.coe_toReal h1 h2]

open Cert.Pre_finite2 in
/-- What the precondition says of the arguments, at the convolution layer's width. -/
theorem args_real2 (x0 : FVec Ideal S2048x4608 .bf16) (x1 : FVec Ideal S4x1024x1152 .bf16) (x2 : FVec Ideal S2048x1024 .f32)
    (x3 : FVec Ideal S1x1024 .f32) (x4 : FVec Ideal S2048x1024 .f32) (x5 : FVec Ideal S8x128 .f32)
    (h : (fn (F := Ideal) x0 x1 x2 x3 x4 x5).1 = (fun _ => 1#1)
      ∧ (fn (F := Ideal) x0 x1 x2 x3 x4 x5).2.1 = (fun _ => 1#1)
      ∧ (fn (F := Ideal) x0 x1 x2 x3 x4 x5).2.2.1 = (fun _ => 1#1)
      ∧ (fn (F := Ideal) x0 x1 x2 x3 x4 x5).2.2.2.1 = (fun _ => 1#1)
      ∧ (fn (F := Ideal) x0 x1 x2 x3 x4 x5).2.2.2.2 = (fun _ => 1#1)) :
    ∃ (DP : ℕ → ℕ → ℝ) (W : ℕ → ℕ → ℕ → ℝ) (X G DR : ℕ → ℕ → ℝ), x0 = lift2 DP ∧ x1 = lift3 W ∧ x2 = lift2 X ∧ x3 = lift2 G ∧ x4 = lift2 DR := by
  obtain ⟨h0, h1, h2, h3, h4⟩ := h
  obtain ⟨DP, e0⟩ := real_of_finite x0 fun i => congrFun h0 i
  obtain ⟨W, e1⟩ := real3_of_finite x1 fun i => congrFun h1 i
  obtain ⟨X, e2⟩ := real_of_finite x2 fun i => congrFun h2 i
  obtain ⟨G, e3⟩ := real_of_finite x3 fun i => congrFun h3 i
  obtain ⟨DR, e4⟩ := real_of_finite x4 fun i => congrFun h4 i
  exact ⟨DP, W, X, G, DR, e0, e1, e2, e3, e4⟩

open Cert.Pre_finite3 in
/-- What the precondition says of the arguments, at the attention layer's width. -/
theorem args_real3 (x0 : FVec Ideal S2048x5632 .bf16) (x1 : FVec Ideal S4x1024x1408 .bf16) (x2 : FVec Ideal S2048x1024 .f32)
    (x3 : FVec Ideal S1x1024 .f32) (x4 : FVec Ideal S2048x1024 .f32) (x5 : FVec Ideal S8x128 .f32)
    (h : (fn (F := Ideal) x0 x1 x2 x3 x4 x5).1 = (fun _ => 1#1)
      ∧ (fn (F := Ideal) x0 x1 x2 x3 x4 x5).2.1 = (fun _ => 1#1)
      ∧ (fn (F := Ideal) x0 x1 x2 x3 x4 x5).2.2.1 = (fun _ => 1#1)
      ∧ (fn (F := Ideal) x0 x1 x2 x3 x4 x5).2.2.2.1 = (fun _ => 1#1)
      ∧ (fn (F := Ideal) x0 x1 x2 x3 x4 x5).2.2.2.2 = (fun _ => 1#1)) :
    ∃ (DP : ℕ → ℕ → ℝ) (W : ℕ → ℕ → ℕ → ℝ) (X G DR : ℕ → ℕ → ℝ), x0 = lift2 DP ∧ x1 = lift3 W ∧ x2 = lift2 X ∧ x3 = lift2 G ∧ x4 = lift2 DR := by
  obtain ⟨h0, h1, h2, h3, h4⟩ := h
  obtain ⟨DP, e0⟩ := real_of_finite x0 fun i => congrFun h0 i
  obtain ⟨W, e1⟩ := real3_of_finite x1 fun i => congrFun h1 i
  obtain ⟨X, e2⟩ := real_of_finite x2 fun i => congrFun h2 i
  obtain ⟨G, e3⟩ := real_of_finite x3 fun i => congrFun h3 i
  obtain ⟨DR, e4⟩ := real_of_finite x4 fun i => congrFun h4 i
  exact ⟨DP, W, X, G, DR, e0, e1, e2, e3, e4⟩

end Cert.Grad
-- ==== Proof.InFwd7.lean ====
module

public import proofs.«01_k».proof.Proof.Loads
public import proofs.«01_k».proof.Proof.Gen.Kernel7Ideal.Value
public import proofs.«01_k».proof.Proof.Gen.Reference7Ideal.Read

@[expose] public section

set_option maxRecDepth 16384

noncomputable section

/-! # The attention layer's norm, input projection and rotation

Both sides take the same reciprocal root of the same mean of squares and the same sums of products. The call rotates a query's and a key's first
sixteen entries by three tables of 128 columns, whose entries are the cosines, the sines with either sign, ones and noughts; nought times anything is
nought and nothing is changed by adding it, so this holds of every argument, infinities among them. -/

namespace Cert.Grad.InFwd7

open Idealize.ShloMosaic Idealize.ShloMosaic.TcCoe Cert.Kernel7Ideal Cert.Kernel7Ideal.Gen
open Idealize.ShloMosaic.Pipeline (Dat)

/-! ## A tile of the product, chunk by chunk -/

/-- A tile of the product: its columns are the four shards' columns, side by side. -/
def tile (h : S256x1024.Idx → EReal) (w : S4x1024x1408.Idx → EReal) : S256x5632.Idx → EReal := fun i =>
  ∑ d : Fin 1024, h (ix2 ⟨(i 0).val, (i 0).isLt⟩ d) * w (ix3 ⟨(i 1).val / 1408, by
    have h1 : (i 1).val < 5632 := (i 1).isLt
    omega⟩ d ⟨(i 1).val % 1408, Nat.mod_lt _ (by decide)⟩)

/-- The tile at an entry whose shard and column within the shard are known. -/
theorem tile_at (h : S256x1024.Idx → EReal) (w : S4x1024x1408.Idx → EReal) (i : S256x5632.Idx) (s : Fin 256) (a : Fin 4) (j : Fin 1408)
    (h0 : (i 0).val = s.val) (h1 : (i 1).val = 1408 * a.val + j.val) :
    tile h w i = ∑ d : Fin 1024, h (ix2 s d) * w (ix3 a d j) := by
  refine Finset.sum_congr rfl fun d _ => congrArg₂ (· * ·) ?_ ?_
  · exact congrArg (fun r => h (ix2 r d)) (Fin.ext h0)
  · refine congrArg₂ (fun b k => w (ix3 b d k)) (Fin.ext ?_) (Fin.ext ?_)
    · show (i 1).val / 1408 = a.val
      have := j.isLt
      omega
    · show (i 1).val % 1408 = j.val
      have := j.isLt
      omega

/-- Four chunks of columns written side by side are the tile. -/
theorem chunks (h : S256x1024.Idx → EReal) (w : S4x1024x1408.Idx → EReal) (p0 p1 p2 p3 : S256x1408.Idx → EReal)
    (e0 : ∀ s j, p0 (ix2 s j) = ∑ d : Fin 1024, h (ix2 s d) * w (ix3 0 d j)) (e1 : ∀ s j, p1 (ix2 s j) = ∑ d : Fin 1024, h (ix2 s d) * w (ix3 1 d j))
    (e2 : ∀ s j, p2 (ix2 s j) = ∑ d : Fin 1024, h (ix2 s d) * w (ix3 2 d j)) (e3 : ∀ s j, p3 (ix2 s j) = ∑ d : Fin 1024, h (ix2 s d) * w (ix3 3 d j))
    (v : View sig .tc .vmem S256x5632 .f32) (r : Rect S256x5632) :
    v.readCov (Val := Elt Ideal) [⟨Rect.unit ![0, 4224] ![256, 1408] inb_S256x5632_S256x1408_0_4224, p3⟩,
      ⟨Rect.unit ![0, 2816] ![256, 1408] inb_S256x5632_S256x1408_0_2816, p2⟩, ⟨Rect.unit ![0, 1408] ![256, 1408] inb_S256x5632_S256x1408_0_1408, p1⟩,
      ⟨Rect.unit ![0, 0] ![256, 1408] inb_S256x5632_S256x1408_0_0, p0⟩] r.toLoadRect = View.ld (Val := Elt Ideal) (e' := .f32) (tile h w) r := by
  rw [View.readCov_eq_canon']
  funext x
  refine View.canon_apply_of_pieces (Val := Elt Ideal) (S := S256x5632) (e := .f32) (tile h w) _ ?_ _ ?_
  swap
  · exact View.cover_of_tiledL _ ![256, 1408] (by rfl) _
  intro p hp
  rcases List.mem_cons.mp hp with rfl | hp
  · intro x
    obtain ⟨s, j, rfl⟩ : ∃ (s : Fin 256) (j : Fin 1408), x = ix2 s j := ⟨x 0, x 1, (ix2_eta x).symm⟩
    exact (e3 s j).trans (tile_at h w _ s 3 j (by simp) (by simp)).symm
  rcases List.mem_cons.mp hp with rfl | hp
  · intro x
    obtain ⟨s, j, rfl⟩ : ∃ (s : Fin 256) (j : Fin 1408), x = ix2 s j := ⟨x 0, x 1, (ix2_eta x).symm⟩
    exact (e2 s j).trans (tile_at h w _ s 2 j (by simp) (by simp)).symm
  rcases List.mem_cons.mp hp with rfl | hp
  · intro x
    obtain ⟨s, j, rfl⟩ : ∃ (s : Fin 256) (j : Fin 1408), x = ix2 s j := ⟨x 0, x 1, (ix2_eta x).symm⟩
    exact (e1 s j).trans (tile_at h w _ s 1 j (by simp) (by simp)).symm
  rcases List.mem_cons.mp hp with rfl | hp
  · intro x
    obtain ⟨s, j, rfl⟩ : ∃ (s : Fin 256) (j : Fin 1408), x = ix2 s j := ⟨x 0, x 1, (ix2_eta x).symm⟩
    exact (e0 s j).trans (tile_at h w _ s 0 j (by simp) (by simp)).symm
  nomatch hp

/-- A shard of the weights, as the call loads it. -/
theorem shard (w : S4x1024x1408.Idx → EReal) (a : Fin 4) (inb) (d : Fin 1024) (j : Fin 1408) :
    View.ld (Val := Elt Ideal) (S := S4x1024x1408) (e' := .bf16) w (Rect.unit ![a.val, 0, 0] ![1, 1024, 1408] inb) (ix3 0 d j) = w (ix3 a d j) := by
  rw [View.ld_apply]
  refine congrArg _ (funext fun b => Fin.ext ?_)
  match b with
  | ⟨0, _⟩ => simp
  | ⟨1, _⟩ => simp
  | ⟨2, _⟩ => simp

/-- Where a part of the columns lies in the tile. -/
theorem part {wd : ℕ} (s : Fin 256) (j : Fin wd) (off : ℕ) (inb) (h : off + j.val < 5632) :
    (Rect.unit (s := S256x5632) ![0, off] ![256, wd] inb).emb (ix2 s j) = ix2 s (⟨off + j.val, h⟩ : Fin 5632) := by
  refine funext fun b => Fin.ext ?_
  match b with
  | ⟨0, _⟩ => simp
  | ⟨1, _⟩ => simp

section
variable (x : S256x1024.Idx → EReal) (g : S1x1024.Idx → EReal) (h : S256x1024.Idx → EReal) (v : S1x1024x1408.Idx → EReal) (s : Fin 256) (j : Fin 1408)

/-- The first chunk of columns … -/
theorem pay3_at : k0_pay3 (F := Ideal) x g v (ix2 s j) = ∑ d : Fin 1024, k0_pay2 (F := Ideal) x g (ix2 s d) * v (ix3 0 d j) := by
  pointwise [k0_pay3]
/-- … the second … -/
theorem pay4_at : k0_pay4 (F := Ideal) x g v (ix2 s j) = ∑ d : Fin 1024, k0_pay2 (F := Ideal) x g (ix2 s d) * v (ix3 0 d j) := by
  pointwise [k0_pay4]
/-- … the third … -/
theorem pay6_at : k0_pay6 (F := Ideal) (k0_pay5 (F := Ideal) x g v) (ix2 s j) = ∑ d : Fin 1024, k0_pay2 (F := Ideal) x g (ix2 s d) * v (ix3 0 d j) := by
  pointwise [k0_pay6, k0_pay5]
/-- … and the last. -/
theorem pay7_at : k0_pay7 (F := Ideal) h v (ix2 s j) = ∑ d : Fin 1024, h (ix2 s d) * v (ix3 0 d j) := by
  pointwise [k0_pay7]
end

/-- Rounding to the shorter type changes nothing here. -/
theorem pay1_eq (z : S256x256.Idx → EReal) : k0_pay1 (F := Ideal) z = z := rfl

/-- The same of the wider part. -/
theorem pay40_eq (z : S256x1536.Idx → EReal) : k0_pay40 (F := Ideal) z = z := rfl

/-! ## The rotation of 128 columns -/

/-- The entry `k` columns on, around 128. -/
def on (l : Fin 128) (k : ℕ) : Fin 128 := ⟨(l.val + k) % 128, Nat.mod_lt _ (by decide)⟩

/-- 128 columns rotated by the three tables. -/
def rot (p a b e : S256x128.Idx → EReal) (s : Fin 256) (l : Fin 128) : EReal :=
  p (ix2 s l) * a (ix2 s l) + p (ix2 s (on l 8)) * b (ix2 s l) + p (ix2 s (on l 120)) * e (ix2 s l)

/-- A key's columns. -/
theorem key_at (p a b e : S256x128.Idx → EReal) (s : Fin 256) (l : Fin 128) :
    k0_pay15 (F := Ideal) (k0_pay8 (F := Ideal) a) (k0_pay9 (F := Ideal) b) (k0_pay10 (F := Ideal) e) p (ix2 s l) = rot p a b e s l := by
  have e1 : l.val + 128 - 120 = l.val + 8 := by omega
  have e2 : l.val + 128 - 8 = l.val + 120 := by omega
  pointwise [k0_pay15, k0_pay8, k0_pay9, k0_pay10, rot, on]
  simp only [e1, e2]

/-- A query's columns. -/
theorem query_at (p a b e : S256x128.Idx → EReal) (s : Fin 256) (l : Fin 128) :
    k0_pay14 (F := Ideal) (k0_pay8 (F := Ideal) a) (k0_pay9 (F := Ideal) b) (k0_pay10 (F := Ideal) e) p (ix2 s l)
      = rot p a b e s l * Ideal.ofBits .f32 0x3E000000#32 := by
  have e1 : l.val + 128 - 120 = l.val + 8 := by omega
  have e2 : l.val + 128 - 8 = l.val + 120 := by omega
  pointwise [k0_pay14, k0_pay8, k0_pay9, k0_pay10, rot, on]
  simp only [e1, e2]

/-- 128 columns of a tile from column `o` on. -/
def cols (T : S256x5632.Idx → EReal) (o : ℕ) (ho : o + 128 ≤ 5632) : S256x128.Idx → EReal := fun y =>
  T (ix2 ⟨(y 0).val, (y 0).isLt⟩ ⟨o + (y 1).val, by
    have h1 : (y 1).val < 128 := (y 1).isLt
    omega⟩)

/-- All columns from column `o` on, 128 by 128 rotated by the three tables. -/
def wide (T : S256x5632.Idx → EReal) (o : ℕ) (ho : o ≤ 1536) (a b e : S256x128.Idx → EReal) : S256x1536.Idx → EReal := fun i =>
  rot (cols T (o + 128 * ((i 1).val / 128)) (by
    have h1 : (i 1).val < 1536 := (i 1).isLt
    omega)) a b e ⟨(i 0).val, (i 0).isLt⟩ ⟨(i 1).val % 128, Nat.mod_lt _ (by decide)⟩

/-- The columns loaded for a rotation. -/
theorem cols_eq (T : S256x5632.Idx → EReal) (o : ℕ) (ho : o + 128 ≤ 5632) (inb) :
    View.ld (Val := Elt Ideal) (S := S256x5632) (e' := .f32) T (Rect.unit ![0, o] ![256, 128] inb) = cols T o ho := by
  funext y
  rw [View.ld_apply]
  refine congrArg T (funext fun b => Fin.ext ?_)
  match b with
  | ⟨0, _⟩ => simp
  | ⟨1, _⟩ => simp

/-- The `k`-th 128 columns of them. -/
theorem wide_at (T : S256x5632.Idx → EReal) (o : ℕ) (ho : o ≤ 1536) (a b e p : S256x128.Idx → EReal) (k : ℕ) (hk : k < 12) (q : ℕ) (hq : q = o + 128 * k) (inb)
    (hp : p = View.ld (Val := Elt Ideal) (S := S256x5632) (e' := .f32) T (Rect.unit ![0, q] ![256, 128] inb)) (s : Fin 256) (l : Fin 128)
    (i : S256x1536.Idx) (h0 : (i 0).val = s.val) (h1 : (i 1).val = 128 * k + l.val) : rot p a b e s l = wide T o ho a b e i := by
  subst hq
  have hl := l.isLt
  rw [hp, cols_eq T (o + 128 * k) (by omega)]
  have e0 : (⟨(i 0).val, (i 0).isLt⟩ : Fin 256) = s := Fin.ext h0
  have e1 : (⟨(i 1).val % 128, Nat.mod_lt _ (by decide)⟩ : Fin 128) = l := Fin.ext (show (i 1).val % 128 = l.val by omega)
  have e2 : (i 1).val / 128 = k := by omega
  have same : ∀ (u v : ℕ) (hu : u + 128 ≤ 5632) (hv : v + 128 ≤ 5632), u = v → cols T u hu = cols T v hv := by
    rintro u v hu hv rfl
    rfl
  unfold wide
  rw [e0, e1]
  exact congrArg (fun p => rot p a b e s l) (same _ _ _ _ (by rw [e2]))

/-! ## What a grid point leaves -/

variable (m : (ℓ : Loc nD τ sig) → Buf (Elt Ideal) ℓ) (c : Dev nD)

/-- The normed rows that a point leaves. -/
theorem point6 (t : Fin cfg0.N) : (outsAt0 m c t).1 = k0_pay2 (F := Ideal) (iblk m c 0 t) (iblk m c 1 t) := by
  unfold outsAt0
  frame_open
  frame_out

/-- The tile of the product at a grid point. -/
def tileAt (t : Fin cfg0.N) : S256x5632.Idx → EReal := tile (k0_pay2 (F := Ideal) (iblk m c 0 t) (iblk m c 1 t)) (iblk m c 2 t)

set_option maxHeartbeats 4000000 in
/-- The queries that a point leaves. -/
theorem point7 (t : Fin cfg0.N) : (outsAt0 m c t).2.1 = fun i => wide (tileAt m c t) 0 (by decide) (iblk m c 3 t) (iblk m c 4 t) (iblk m c 5 t) i * Ideal.ofBits .f32 0x3E000000#32 := by
  unfold outsAt0
  frame_open
  frame_out
  funext i
  refine View.canon_apply_of_pieces (Val := Elt Ideal) (S := S256x1536) (e := .bf16) (fun i => wide (tileAt m c t) 0 (by decide) (iblk m c 3 t) (iblk m c 4 t) (iblk m c 5 t) i * Ideal.ofBits .f32 0x3E000000#32) _ ?_ _ ?_
  swap
  · exact View.cover_of_tiledL _ ![256, 128] (by rfl) _
  intro p hp
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 11 (by decide) 1408 rfl inb_S256x5632_S256x128_0_1408 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 10 (by decide) 1280 rfl inb_S256x5632_S256x128_0_1280 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 9 (by decide) 1152 rfl inb_S256x5632_S256x128_0_1152 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 8 (by decide) 1024 rfl inb_S256x5632_S256x128_0_1024 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 7 (by decide) 896 rfl inb_S256x5632_S256x128_0_896 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 6 (by decide) 768 rfl inb_S256x5632_S256x128_0_768 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 5 (by decide) 640 rfl inb_S256x5632_S256x128_0_640 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 4 (by decide) 512 rfl inb_S256x5632_S256x128_0_512 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 3 (by decide) 384 rfl inb_S256x5632_S256x128_0_384 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 2 (by decide) 256 rfl inb_S256x5632_S256x128_0_256 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 1 (by decide) 128 rfl inb_S256x5632_S256x128_0_128 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (query_at _ _ _ _ s l).trans (congrArg (fun r => r * Ideal.ofBits .f32 0x3E000000#32) (wide_at _ _ _ _ _ _ _ 0 (by decide) 0 rfl inb_S256x5632_S256x128_0_0 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  nomatch hp

set_option maxHeartbeats 4000000 in
/-- The keys that a point leaves. -/
theorem point8 (t : Fin cfg0.N) : (outsAt0 m c t).2.2.1 = fun i => wide (tileAt m c t) 1536 (by decide) (iblk m c 3 t) (iblk m c 4 t) (iblk m c 5 t) i := by
  unfold outsAt0
  frame_open
  frame_out
  funext i
  refine View.canon_apply_of_pieces (Val := Elt Ideal) (S := S256x1536) (e := .bf16) (fun i => wide (tileAt m c t) 1536 (by decide) (iblk m c 3 t) (iblk m c 4 t) (iblk m c 5 t) i) _ ?_ _ ?_
  swap
  · exact View.cover_of_tiledL _ ![256, 128] (by rfl) _
  intro p hp
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 11 (by decide) 2944 rfl inb_S256x5632_S256x128_0_2944 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 10 (by decide) 2816 rfl inb_S256x5632_S256x128_0_2816 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 9 (by decide) 2688 rfl inb_S256x5632_S256x128_0_2688 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 8 (by decide) 2560 rfl inb_S256x5632_S256x128_0_2560 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 7 (by decide) 2432 rfl inb_S256x5632_S256x128_0_2432 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 6 (by decide) 2304 rfl inb_S256x5632_S256x128_0_2304 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 5 (by decide) 2176 rfl inb_S256x5632_S256x128_0_2176 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 4 (by decide) 2048 rfl inb_S256x5632_S256x128_0_2048 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 3 (by decide) 1920 rfl inb_S256x5632_S256x128_0_1920 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 2 (by decide) 1792 rfl inb_S256x5632_S256x128_0_1792 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 1 (by decide) 1664 rfl inb_S256x5632_S256x128_0_1664 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  rcases List.mem_cons.mp hp with rfl | hp
  · intro x
    obtain ⟨s, l, rfl⟩ : ∃ (s : Fin 256) (l : Fin 128), x = ix2 s l := ⟨x 0, x 1, (ix2_eta x).symm⟩
    refine (key_at _ _ _ _ s l).trans ( (wide_at _ _ _ _ _ _ _ 0 (by decide) 1536 rfl inb_S256x5632_S256x128_0_1536 (chunks _ _ _ _ _ _ ?_ ?_ ?_ ?_ _ _) s l _ (by simp) (by simp)))
    · exact fun s j => (pay3_at _ _ _ s j).trans (Finset.sum_congr rfl fun d _ => congrArg _ (shard _ 0 _ d j))
    · exact fun s j => (pay4_at _ _ _ s j).trans (Finset.sum_congr rfl fun d _ => congrArg _ (shard _ 1 _ d j))
    · exact fun s j => (pay6_at _ _ _ s j).trans (Finset.sum_congr rfl fun d _ => congrArg _ (shard _ 2 _ d j))
    · exact fun s j => (pay7_at _ _ s j).trans (Finset.sum_congr rfl fun d _ => congrArg _ (shard _ 3 _ d j))
  nomatch hp

/-- The values that a point leaves. -/
theorem point9 (t : Fin cfg0.N) (s : Fin 256) (j : Fin 1536) : (outsAt0 m c t).2.2.2.1 (ix2 s j)
    = tileAt m c t (ix2 s (⟨3072 + j.val, by have := j.isLt; omega⟩ : Fin 5632)) := by
  refine Eq.trans ?_ (congrArg (tileAt m c t) (part s j 3072 inb_S256x5632_S256x1536_0_3072 _))
  refine Eq.trans ?_ (View.ld_apply (Val := Elt Ideal) (e := .f32) _ _ _)
  refine congrFun (?_ : (outsAt0 m c t).2.2.2.1 = View.ld (Val := Elt Ideal) (e' := .f32) (tileAt m c t)
      (Rect.unit ![0, 3072] ![256, 1536] inb_S256x5632_S256x1536_0_3072)) (ix2 s j)
  unfold outsAt0
  frame_open
  frame_out
  refine (pay40_eq _).trans ?_
  refine chunks _ _ _ _ _ _ ?_ ?_ ?_ ?_ _ _
  · exact fun s j => (pay3_at _ _ _ s j).trans (Finset.sum_congr rfl fun d _ => congrArg _ (shard _ 0 _ d j))
  · exact fun s j => (pay4_at _ _ _ s j).trans (Finset.sum_congr rfl fun d _ => congrArg _ (shard _ 1 _ d j))
  · exact fun s j => (pay6_at _ _ _ s j).trans (Finset.sum_congr rfl fun d _ => congrArg _ (shard _ 2 _ d j))
  · exact fun s j => (pay7_at _ _ s j).trans (Finset.sum_congr rfl fun d _ => congrArg _ (shard _ 3 _ d j))

/-- The memory's queries that a point leaves. -/
theorem point10 (t : Fin cfg0.N) (s : Fin 256) (j : Fin 256) : (outsAt0 m c t).2.2.2.2.1 (ix2 s j)
    = tileAt m c t (ix2 s (⟨4608 + j.val, by have := j.isLt; omega⟩ : Fin 5632)) := by
  refine Eq.trans ?_ (congrArg (tileAt m c t) (part s j 4608 inb_S256x5632_S256x256_0_4608 _))
  refine Eq.trans ?_ (View.ld_apply (Val := Elt Ideal) (e := .f32) _ _ _)
  refine congrFun (?_ : (outsAt0 m c t).2.2.2.2.1 = View.ld (Val := Elt Ideal) (e' := .f32) (tileAt m c t)
      (Rect.unit ![0, 4608] ![256, 256] inb_S256x5632_S256x256_0_4608)) (ix2 s j)
  unfold outsAt0
  frame_open
  frame_out
  refine (pay1_eq _).trans ?_
  refine chunks _ _ _ _ _ _ ?_ ?_ ?_ ?_ _ _
  · exact fun s j => (pay3_at _ _ _ s j).trans (Finset.sum_congr rfl fun d _ => congrArg _ (shard _ 0 _ d j))
  · exact fun s j => (pay4_at _ _ _ s j).trans (Finset.sum_congr rfl fun d _ => congrArg _ (shard _ 1 _ d j))
  · exact fun s j => (pay6_at _ _ _ s j).trans (Finset.sum_congr rfl fun d _ => congrArg _ (shard _ 2 _ d j))
  · exact fun s j => (pay7_at _ _ s j).trans (Finset.sum_congr rfl fun d _ => congrArg _ (shard _ 3 _ d j))

/-- The gate that a point leaves. -/
theorem point11 (t : Fin cfg0.N) (s : Fin 256) (j : Fin 768) : (outsAt0 m c t).2.2.2.2.2 (ix2 s j)
    = tileAt m c t (ix2 s (⟨4864 + j.val, by have := j.isLt; omega⟩ : Fin 5632)) := by
  refine Eq.trans ?_ (congrArg (tileAt m c t) (part s j 4864 inb_S256x5632_S256x768_0_4864 _))
  refine Eq.trans ?_ (View.ld_apply (Val := Elt Ideal) (e := .f32) _ _ _)
  refine congrFun (?_ : (outsAt0 m c t).2.2.2.2.2 = View.ld (Val := Elt Ideal) (e' := .f32) (tileAt m c t)
      (Rect.unit ![0, 4864] ![256, 768] inb_S256x5632_S256x768_0_4864)) (ix2 s j)
  unfold outsAt0
  frame_open
  frame_out
  refine chunks _ _ _ _ _ _ ?_ ?_ ?_ ?_ _ _
  · exact fun s j => (pay3_at _ _ _ s j).trans (Finset.sum_congr rfl fun d _ => congrArg _ (shard _ 0 _ d j))
  · exact fun s j => (pay4_at _ _ _ s j).trans (Finset.sum_congr rfl fun d _ => congrArg _ (shard _ 1 _ d j))
  · exact fun s j => (pay6_at _ _ _ s j).trans (Finset.sum_congr rfl fun d _ => congrArg _ (shard _ 2 _ d j))
  · exact fun s j => (pay7_at _ _ s j).trans (Finset.sum_congr rfl fun d _ => congrArg _ (shard _ 3 _ d j))

/-! ## The blocks -/

/-- Which block each window shows at a point. -/
theorem idx : ∀ t : Fin cfg0.N, win0_0.index t = ![t.val, 0] ∧ win0_1.index t = ![0, 0] ∧ win0_2.index t = ![0, 0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

/-- A row of a tile, as a row of the whole array. -/
def row (t : Fin cfg0.N) (s : Fin 256) : Fin 2048 := ⟨t.val * 256 + s.val, by
  have h0 : t.val < 8 := t.isLt
  have := s.isLt
  omega⟩

/-- The activations' block is a tile of rows. -/
theorem blk0 (t : Fin cfg0.N) (s : Fin 256) (d : Fin 1024) : iblk m c 0 t (ix2 s d) = m ((c : Thread nD τ).loc main_arg0) (ix2 (row t s) d) := by
  blk_simp [iblk]
  rw [V_main_arg0]
  refine congrArg _ (funext fun a => Fin.ext ?_)
  match a with
  | ⟨0, _⟩ => blk_simp [(idx t).1, row]
  | ⟨1, _⟩ => blk_simp [(idx t).1]

/-- The gain's block is the whole array. -/
theorem blk1 (t : Fin cfg0.N) : iblk m c 1 t = m ((c : Thread nD τ).loc main_arg1) := by
  funext y
  blk_simp [iblk]
  rw [V_main_arg1]
  refine congrArg _ (funext fun a => Fin.ext ?_)
  match a with
  | ⟨0, _⟩ => blk_simp [(idx t).2.1]
  | ⟨1, _⟩ => blk_simp [(idx t).2.1]

/-- The weights' block is the whole array. -/
theorem blk2 (t : Fin cfg0.N) : iblk m c 2 t = m ((c : Thread nD τ).loc main_arg2) := by
  funext y
  blk_simp [iblk]
  rw [V_main_arg2]
  refine congrArg _ (funext fun a => Fin.ext ?_)
  match a with
  | ⟨0, _⟩ => blk_simp [(idx t).2.2.1]
  | ⟨1, _⟩ => blk_simp [(idx t).2.2.1]
  | ⟨2, _⟩ => blk_simp [(idx t).2.2.1]

/-! ## The results are the reference's -/

open Cert.Reference7Ideal.Read

/-- The normed rows of a tile are the reference's. -/
theorem hn_eq (t : Fin cfg0.N) (s : Fin 256) (d : Fin 1024) : k0_pay2 (F := Ideal) (iblk m c 0 t) (iblk m c 1 t) (ix2 s d)
    = val_main_v11 (F := Ideal) (m ((c : Thread nD τ).loc main_arg0)) (m ((c : Thread nD τ).loc main_arg1)) (ix2 (row t s) d) := by
  rw [blk1]
  generalize hg : m ((c : Thread nD τ).loc main_arg1) = g
  have hb := blk0 m c t
  generalize iblk m c 0 t = x at hb ⊢
  pointwise [k0_pay2, val_main_v11, val_main_v10, val_main_v9, val_main_v8, val_main_v7, val_main_v6, val_main_v5, val_main_v4, val_main_v3,
    val_main_v2, val_main_v1, val_main_v0, val_main_cst, val_main_cst_0, val_main_cst_1]
  simp only [hb]

/-- A tile of the product is the reference's. -/
theorem proj_eq (t : Fin cfg0.N) (s : Fin 256) (j : Fin 5632) : tileAt m c t (ix2 s j)
    = val_main_v15 (F := Ideal) (m ((c : Thread nD τ).loc main_arg0)) (m ((c : Thread nD τ).loc main_arg1)) (m ((c : Thread nD τ).loc main_arg2))
      (ix2 (row t s) j) := by
  unfold tileAt
  rw [blk2]
  pointwise [val_main_v15, val_main_v14, val_main_v13, val_main_v12]
  exact Finset.sum_congr rfl fun d _ => congrArg₂ (· * ·) (hn_eq m c t s d) rfl

/-! ## The tables -/

/-- The angle of a position at one of the eight frequencies. -/
def angle (x : S2048.Idx → BitVec 32) (s : Fin 2048) (e : ℕ) : EReal :=
  FloatOps.sitofp (F := Ideal) FTy.f32 (x (ix1 s)) * Ideal.pow (Ideal.ofBits FTy.f32 1223959552#32)
    (-FloatOps.sitofp (F := Ideal) FTy.f32 (BitVec.ofNat 32 e) * Ideal.ofBits FTy.f32 1040187392#32)

/-- The last three bits of a column. -/
theorem and7 : ∀ l : Fin 128, IntOp.andi (BitVec.ofNat 32 l.val) 7#32 = BitVec.ofNat 32 (l.val % 8) := by decide +kernel

/-- Whether a column of a head is one of the first sixteen … -/
theorem below16 : ∀ l : Fin 128, IntOp.cmpi CmpIPredicate.slt (IntOp.andi (BitVec.ofNat 32 l.val) 63#32) 16#32 = if l.val % 64 < 16 then 1#1 else 0#1 := by
  decide +kernel

/-- … or one of the first eight. -/
theorem below8 : ∀ l : Fin 128, IntOp.cmpi CmpIPredicate.slt (IntOp.andi (BitVec.ofNat 32 l.val) 63#32) 8#32 = if l.val % 64 < 8 then 1#1 else 0#1 := by
  decide +kernel

/-- A choice by such a bit. -/
theorem choose (p : Prop) [Decidable p] (a b : EReal) : Scalar.select (if p then 1#1 else 0#1) a b = if p then a else b := by
  by_cases h : p
  · rw [if_pos h, if_pos h]
    rfl
  · rw [if_neg h, if_neg h]
    rfl

set_option maxHeartbeats 2000000 in
/-- The first table: the cosines, and ones past the rotated columns. -/
theorem table3 (s : Fin 2048) (l : Fin 128) : (V m c main_v27 : S2048x128.Idx → EReal) (ix2 s l) = if l.val % 64 < 16 then Ideal.cos (angle (m ((c : Thread nD τ).loc main_arg3)) s (l.val % 8)) else 1 := by
  have h : (V m c main_v27 : S2048x128.Idx → EReal) = fun i => (fun (s : Fin 2048) (l : Fin 128) => if l.val % 64 < 16 then Ideal.cos (angle (m ((c : Thread nD τ).loc main_arg3)) s (l.val % 8)) else 1) (i 0) (i 1) := by
    entry_read
    funext i
    idx_vars i
    pointwise []
    rw [and7, below16, choose]
    rfl
  exact congrFun h (ix2 s l)

set_option maxHeartbeats 2000000 in
/-- The second: the negated sines in the first eight columns of a head. -/
theorem table4 (s : Fin 2048) (l : Fin 128) : (V m c main_v29 : S2048x128.Idx → EReal) (ix2 s l) = if l.val % 64 < 8 then -Ideal.sin (angle (m ((c : Thread nD τ).loc main_arg3)) s (l.val % 8)) else 0 := by
  have h : (V m c main_v29 : S2048x128.Idx → EReal) = fun i => (fun (s : Fin 2048) (l : Fin 128) => if l.val % 64 < 8 then -Ideal.sin (angle (m ((c : Thread nD τ).loc main_arg3)) s (l.val % 8)) else 0) (i 0) (i 1) := by
    entry_read
    funext i
    idx_vars i
    pointwise []
    rw [and7, below8, choose]
    rfl
  exact congrFun h (ix2 s l)

set_option maxHeartbeats 2000000 in
/-- The third: the sines in the next eight. -/
theorem table5 (s : Fin 2048) (l : Fin 128) : (V m c main_v31 : S2048x128.Idx → EReal) (ix2 s l) = if l.val % 64 < 8 then 0 else if l.val % 64 < 16 then Ideal.sin (angle (m ((c : Thread nD τ).loc main_arg3)) s (l.val % 8)) else 0 := by
  have h : (V m c main_v31 : S2048x128.Idx → EReal) = fun i => (fun (s : Fin 2048) (l : Fin 128) => if l.val % 64 < 8 then 0 else if l.val % 64 < 16 then Ideal.sin (angle (m ((c : Thread nD τ).loc main_arg3)) s (l.val % 8)) else 0) (i 0) (i 1) := by
    entry_read
    funext i
    idx_vars i
    pointwise []
    rw [and7, below8, choose, below16, choose]
    rfl
  exact congrFun h (ix2 s l)

/-- A point's block of it is its rows of the table. -/
theorem blk3 (t : Fin cfg0.N) (s : Fin 256) (l : Fin 128) : iblk m c 3 t (ix2 s l) = (V m c main_v27 : S2048x128.Idx → EReal) (ix2 (row t s) l) := by
  blk_simp [iblk]
  refine congrArg _ (funext fun a => Fin.ext ?_)
  match a with
  | ⟨0, _⟩ => blk_simp [(idx t).2.2.2.1, row]
  | ⟨1, _⟩ => blk_simp [(idx t).2.2.2.1]

/-- A point's block of it is its rows of the table. -/
theorem blk4 (t : Fin cfg0.N) (s : Fin 256) (l : Fin 128) : iblk m c 4 t (ix2 s l) = (V m c main_v29 : S2048x128.Idx → EReal) (ix2 (row t s) l) := by
  blk_simp [iblk]
  refine congrArg _ (funext fun a => Fin.ext ?_)
  match a with
  | ⟨0, _⟩ => blk_simp [(idx t).2.2.2.2.1, row]
  | ⟨1, _⟩ => blk_simp [(idx t).2.2.2.2.1]

/-- A point's block of it is its rows of the table. -/
theorem blk5 (t : Fin cfg0.N) (s : Fin 256) (l : Fin 128) : iblk m c 5 t (ix2 s l) = (V m c main_v31 : S2048x128.Idx → EReal) (ix2 (row t s) l) := by
  blk_simp [iblk]
  refine congrArg _ (funext fun a => Fin.ext ?_)
  match a with
  | ⟨0, _⟩ => blk_simp [(idx t).2.2.2.2.2.1, row]
  | ⟨1, _⟩ => blk_simp [(idx t).2.2.2.2.2.1]

/-! ## The rotated columns of the reference -/

/-- What the rotation makes of the columns from column `o` on. -/
def turned (A : Reference7Ideal.S2048x5632.Idx → EReal) (x : S2048.Idx → BitVec 32) (o : ℕ) (ho : o ≤ 1536) (s : Fin 2048) (e : Fin 1536) : EReal :=
  if h : e.val % 64 < 16 then
    if h' : e.val % 64 < 8 then
      A (ix2 s ⟨o + e.val, by omega⟩) * Ideal.cos (angle x s (e.val % 64)) - A (ix2 s ⟨o + (e.val + 8), by omega⟩) * Ideal.sin (angle x s (e.val % 64))
    else
      A (ix2 s ⟨o + e.val, by omega⟩) * Ideal.cos (angle x s (e.val % 64 - 8)) + A (ix2 s ⟨o + (e.val - 8), by omega⟩) * Ideal.sin (angle x s (e.val % 64 - 8))
  else A (ix2 s ⟨o + e.val, by omega⟩)

/-- The reference's cosines of the queries. -/
theorem cos_q (x : (⟨S2048, .i32⟩ : BufTy).Contents (Elt Ideal)) (s : Fin 2048) (e : Fin 8) : val_main_v34 (F := Ideal) x (ix2 s e) = Ideal.cos (angle x s e.val) := by
  pointwise [val_main_v34, val_main_v33, val_main_v32, val_main_v31, val_main_v30, val_main_v29, val_main_v28, val_main_v27, val_main_v26, val_main_v25, val_main_v24, val_main_v23, val_main_v22, val_main_cst, val_main_cst_0, val_main_cst_1, val_main_cst_2, val_main_cst_3, val_main_cst_4, val_main_cst_5, val_main_cst_6]
  rfl

/-- The reference's sines of the queries. -/
theorem sin_q (x : (⟨S2048, .i32⟩ : BufTy).Contents (Elt Ideal)) (s : Fin 2048) (e : Fin 8) : val_main_v36 (F := Ideal) x (ix2 s e) = Ideal.sin (angle x s e.val) := by
  pointwise [val_main_v36, val_main_v33, val_main_v32, val_main_v31, val_main_v30, val_main_v29, val_main_v28, val_main_v27, val_main_v26, val_main_v25, val_main_v24, val_main_v23, val_main_v22, val_main_cst, val_main_cst_0, val_main_cst_1, val_main_cst_2, val_main_cst_3, val_main_cst_4, val_main_cst_5, val_main_cst_6]
  rfl

/-- The reference's cosines of the keys. -/
theorem cos_k (x : (⟨S2048, .i32⟩ : BufTy).Contents (Elt Ideal)) (s : Fin 2048) (e : Fin 8) : val_main_v70 (F := Ideal) x (ix2 s e) = Ideal.cos (angle x s e.val) := by
  pointwise [val_main_v70, val_main_v69, val_main_v68, val_main_v67, val_main_v66, val_main_v65, val_main_v64, val_main_v63, val_main_v62, val_main_v61, val_main_v60, val_main_v59, val_main_v58, val_main_cst, val_main_cst_0, val_main_cst_1, val_main_cst_2, val_main_cst_3, val_main_cst_4, val_main_cst_5, val_main_cst_6]
  rfl

/-- The reference's sines of the keys. -/
theorem sin_k (x : (⟨S2048, .i32⟩ : BufTy).Contents (Elt Ideal)) (s : Fin 2048) (e : Fin 8) : val_main_v72 (F := Ideal) x (ix2 s e) = Ideal.sin (angle x s e.val) := by
  pointwise [val_main_v72, val_main_v69, val_main_v68, val_main_v67, val_main_v66, val_main_v65, val_main_v64, val_main_v63, val_main_v62, val_main_v61, val_main_v60, val_main_v59, val_main_v58, val_main_cst, val_main_cst_0, val_main_cst_1, val_main_cst_2, val_main_cst_3, val_main_cst_4, val_main_cst_5, val_main_cst_6]
  rfl

/-- The reference's queries. -/
theorem query_ref (x0 : (⟨S2048x1024, .f32⟩ : BufTy).Contents (Elt Ideal)) (x1 : (⟨S1x1024, .f32⟩ : BufTy).Contents (Elt Ideal)) (x2 : (⟨S4x1024x1408, .bf16⟩ : BufTy).Contents (Elt Ideal)) (x : (⟨S2048, .i32⟩ : BufTy).Contents (Elt Ideal)) (s : Fin 2048) (e : Fin 1536) :
    val_main_v92 (F := Ideal) x0 x1 x2 x (ix2 s e) = turned (val_main_v15 (F := Ideal) x0 x1 x2) x 0 (by decide) s e * Ideal.ofBits .f32 0x3E000000#32 := by
  generalize hA : val_main_v15 (F := Ideal) x0 x1 x2 = A
  pointwise [val_main_v92, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v35, val_main_v21, val_main_v16]
  simp only [hA, cos_q, sin_q]
  unfold turned
  refine congrArg₂ (fun a b : EReal => a * b) ?_ rfl
  split
  · split
    · refine congrArg₂ (fun a b : EReal => a - b) (congrArg (fun a : EReal => a * _) ?_) (congrArg (fun a : EReal => a * _) ?_)
      · exact congrArg A (congrArg (ix2 s) (Fin.ext (by simp only [] <;> omega)))
      · exact congrArg A (congrArg (ix2 s) (Fin.ext (by simp only [] <;> omega)))
    · refine congrArg₂ (fun a b : EReal => a + b) (congrArg (fun a : EReal => a * _) ?_) (congrArg (fun a : EReal => a * _) ?_)
      · exact congrArg A (congrArg (ix2 s) (Fin.ext (by simp only [] <;> omega)))
      · exact congrArg A (congrArg (ix2 s) (Fin.ext (by simp only [] <;> omega)))
  · exact congrArg A (congrArg (ix2 s) (Fin.ext (by simp only [] <;> omega)))

/-- The reference's keys. -/
theorem key_ref (x0 : (⟨S2048x1024, .f32⟩ : BufTy).Contents (Elt Ideal)) (x1 : (⟨S1x1024, .f32⟩ : BufTy).Contents (Elt Ideal)) (x2 : (⟨S4x1024x1408, .bf16⟩ : BufTy).Contents (Elt Ideal)) (x : (⟨S2048, .i32⟩ : BufTy).Contents (Elt Ideal)) (s : Fin 2048) (e : Fin 1536) :
    val_main_v93 (F := Ideal) x0 x1 x2 x (ix2 s e) = turned (val_main_v15 (F := Ideal) x0 x1 x2) x 1536 (by decide) s e := by
  generalize hA : val_main_v15 (F := Ideal) x0 x1 x2 = A
  pointwise [val_main_v93, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v71, val_main_v57, val_main_v17]
  simp only [hA, cos_k, sin_k]
  unfold turned
  split
  · split
    · refine congrArg₂ (fun a b : EReal => a - b) (congrArg (fun a : EReal => a * _) ?_) (congrArg (fun a : EReal => a * _) ?_)
      · exact congrArg A (congrArg (ix2 s) (Fin.ext (by simp only [] <;> omega)))
      · exact congrArg A (congrArg (ix2 s) (Fin.ext (by simp only [] <;> omega)))
    · refine congrArg₂ (fun a b : EReal => a + b) (congrArg (fun a : EReal => a * _) ?_) (congrArg (fun a : EReal => a * _) ?_)
      · exact congrArg A (congrArg (ix2 s) (Fin.ext (by simp only [] <;> omega)))
      · exact congrArg A (congrArg (ix2 s) (Fin.ext (by simp only [] <;> omega)))
  · exact congrArg A (congrArg (ix2 s) (Fin.ext (by simp only [] <;> omega)))

/-- The kernel's rotation of a tile's columns is the same. -/
theorem turn (t : Fin cfg0.N) (o : ℕ) (ho : o ≤ 1536) (s : Fin 256) (e : Fin 1536) :
    wide (tileAt m c t) o ho (iblk m c 3 t) (iblk m c 4 t) (iblk m c 5 t) (ix2 s e)
      = turned (val_main_v15 (F := Ideal) (m ((c : Thread nD τ).loc main_arg0)) (m ((c : Thread nD τ).loc main_arg1)) (m ((c : Thread nD τ).loc main_arg2))) (m ((c : Thread nD τ).loc main_arg3)) o ho (row t s) e := by
  have he := e.isLt
  have hT := proj_eq m c t s
  generalize tileAt m c t = T at hT ⊢
  generalize val_main_v15 (F := Ideal) (m ((c : Thread nD τ).loc main_arg0)) (m ((c : Thread nD τ).loc main_arg1)) (m ((c : Thread nD τ).loc main_arg2)) = A at hT ⊢
  have hl : e.val % 128 < 128 := Nat.mod_lt _ (by decide)
  have h64 : e.val % 128 % 64 = e.val % 64 := by omega
  have h8 : e.val % 128 % 8 = e.val % 64 % 8 := by omega
  have h3 := (blk3 m c t s ⟨e.val % 128, hl⟩).trans (table3 m c (row t s) ⟨e.val % 128, hl⟩)
  have h4 := (blk4 m c t s ⟨e.val % 128, hl⟩).trans (table4 m c (row t s) ⟨e.val % 128, hl⟩)
  have h5 := (blk5 m c t s ⟨e.val % 128, hl⟩).trans (table5 m c (row t s) ⟨e.val % 128, hl⟩)
  simp only [h64, h8] at h3 h4 h5
  have hc (k : ℕ) (hk : k < 128) (q : ℕ) (hq : q < 5632) (eq : o + 128 * (e.val / 128) + k = q) (ho' : o + 128 * (e.val / 128) + 128 ≤ 5632) :
      cols T (o + 128 * (e.val / 128)) ho' (ix2 s ⟨k, hk⟩) = A (ix2 (row t s) ⟨q, hq⟩) := by
    subst eq
    exact hT _
  have hb : o + 128 * (e.val / 128) + 128 ≤ 5632 := by omega
  show cols T (o + 128 * (e.val / 128)) hb (ix2 s ⟨e.val % 128, hl⟩) * iblk m c 3 t (ix2 s ⟨e.val % 128, hl⟩)
    + cols T (o + 128 * (e.val / 128)) hb (ix2 s ⟨(e.val % 128 + 8) % 128, Nat.mod_lt _ (by decide)⟩) * iblk m c 4 t (ix2 s ⟨e.val % 128, hl⟩)
    + cols T (o + 128 * (e.val / 128)) hb (ix2 s ⟨(e.val % 128 + 120) % 128, Nat.mod_lt _ (by decide)⟩) * iblk m c 5 t (ix2 s ⟨e.val % 128, hl⟩) = _
  rw [h3, h4, h5, hc (e.val % 128) hl (o + e.val) (by omega) (by omega)]
  unfold turned
  by_cases a : e.val % 64 < 16
  · by_cases b : e.val % 64 < 8
    · have r : e.val % 64 % 8 = e.val % 64 := by omega
      rw [if_pos a, if_pos b, if_pos b, dif_pos a, dif_pos b, hc _ _ (o + (e.val + 8)) (by omega) (by omega), r, mul_zero, add_zero, mul_neg, ← sub_eq_add_neg]
    · have r : e.val % 64 % 8 = e.val % 64 - 8 := by omega
      rw [if_pos a, if_neg b, if_neg b, if_pos a, dif_pos a, dif_neg b, hc ((e.val % 128 + 120) % 128) _ (o + (e.val - 8)) (by omega) (by omega), r, mul_zero, add_zero]
  · have b : ¬ e.val % 64 < 8 := by omega
    rw [if_neg a, if_neg b, if_neg b, if_neg a, dif_neg a, mul_zero, mul_zero, add_zero, add_zero, mul_one]

/-- The normed activations … -/
theorem array6 : (dats m 0 c).arrAt 6 cfg0.N = val_main_v91 (F := Ideal) (m ((c : Thread nD τ).loc main_arg0)) (m ((c : Thread nD τ).loc main_arg1)) := by
  refine (dats m 0 c).arrAt_eq_of_covers 6 _ (by decide +kernel) fun t hf y => ?_
  blk_simp
  obtain ⟨s, j, rfl⟩ : ∃ (s : Fin 256) (j : Fin 1024), y = ix2 s j := ⟨y 0, y 1, (ix2_eta y).symm⟩
  have e : (win0_6.blk t).view.emb (ix2 s j) = ix2 (row t s) j := by
    refine funext fun b => Fin.ext ?_
    match b with
    | ⟨0, _⟩ => blk_simp [(idx t).2.2.2.2.2.2.1, row]
    | ⟨1, _⟩ => blk_simp [(idx t).2.2.2.2.2.2.1]
  refine Eq.trans ?_ (congrArg _ e.symm)
  rw [after0_6]
  rw [point6]
  refine (hn_eq m c t s j).trans ?_
  pointwise [val_main_v91]

/-- … the queries … -/
theorem array7 : (dats m 0 c).arrAt 7 cfg0.N = val_main_v92 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  obtain ⟨s, j, rfl⟩ : ∃ (s : Fin 256) (j : Fin 1536), y = ix2 s j := ⟨y 0, y 1, (ix2_eta y).symm⟩
  have e : (win0_7.blk t).view.emb (ix2 s j) = ix2 (row t s) j := by
    refine funext fun b => Fin.ext ?_
    match b with
    | ⟨0, _⟩ => blk_simp [(idx t).2.2.2.2.2.2.2.1, row]
    | ⟨1, _⟩ => blk_simp [(idx t).2.2.2.2.2.2.2.1]
  refine Eq.trans ?_ (congrArg _ e.symm)
  rw [after0_7]
  rw [point7]
  refine Eq.trans ?_ (query_ref _ _ _ _ (row t s) j).symm
  exact congrArg (fun r : EReal => r * _) (turn m c t 0 _ s j)

/-- … the keys … -/
theorem array8 : (dats m 0 c).arrAt 8 cfg0.N = val_main_v93 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  obtain ⟨s, j, rfl⟩ : ∃ (s : Fin 256) (j : Fin 1536), y = ix2 s j := ⟨y 0, y 1, (ix2_eta y).symm⟩
  have e : (win0_8.blk t).view.emb (ix2 s j) = ix2 (row t s) j := by
    refine funext fun b => Fin.ext ?_
    match b with
    | ⟨0, _⟩ => blk_simp [(idx t).2.2.2.2.2.2.2.2.1, row]
    | ⟨1, _⟩ => blk_simp [(idx t).2.2.2.2.2.2.2.2.1]
  refine Eq.trans ?_ (congrArg _ e.symm)
  rw [after0_8]
  rw [point8]
  exact (turn m c t 1536 _ s j).trans (key_ref _ _ _ _ (row t s) j).symm

/-- … the values … -/
theorem array9 : (dats m 0 c).arrAt 9 cfg0.N = val_main_v94 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  obtain ⟨s, j, rfl⟩ : ∃ (s : Fin 256) (j : Fin 1536), y = ix2 s j := ⟨y 0, y 1, (ix2_eta y).symm⟩
  have e : (win0_9.blk t).view.emb (ix2 s j) = ix2 (row t s) j := by
    refine funext fun b => Fin.ext ?_
    match b with
    | ⟨0, _⟩ => blk_simp [(idx t).2.2.2.2.2.2.2.2.2.1, row]
    | ⟨1, _⟩ => blk_simp [(idx t).2.2.2.2.2.2.2.2.2.1]
  refine Eq.trans ?_ (congrArg _ e.symm)
  rw [after0_9]
  refine (point9 m c t s j).trans ((proj_eq m c t s _).trans ?_)
  pointwise [val_main_v94, val_main_v18]

/-- … the memory's queries … -/
theorem array10 : (dats m 0 c).arrAt 10 cfg0.N = val_main_v95 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  obtain ⟨s, j, rfl⟩ : ∃ (s : Fin 256) (j : Fin 256), y = ix2 s j := ⟨y 0, y 1, (ix2_eta y).symm⟩
  have e : (win0_10.blk t).view.emb (ix2 s j) = ix2 (row t s) j := by
    refine funext fun b => Fin.ext ?_
    match b with
    | ⟨0, _⟩ => blk_simp [(idx t).2.2.2.2.2.2.2.2.2.2.1, row]
    | ⟨1, _⟩ => blk_simp [(idx t).2.2.2.2.2.2.2.2.2.2.1]
  refine Eq.trans ?_ (congrArg _ e.symm)
  rw [after0_10]
  refine (point10 m c t s j).trans ((proj_eq m c t s _).trans ?_)
  pointwise [val_main_v95, val_main_v19]

/-- … and the gate. -/
theorem array11 : (dats m 0 c).arrAt 11 cfg0.N = val_main_v20 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  obtain ⟨s, j, rfl⟩ : ∃ (s : Fin 256) (j : Fin 768), y = ix2 s j := ⟨y 0, y 1, (ix2_eta y).symm⟩
  have e : (win0_11.blk t).view.emb (ix2 s j) = ix2 (row t s) j := by
    refine funext fun b => Fin.ext ?_
    match b with
    | ⟨0, _⟩ => blk_simp [(idx t).2.2.2.2.2.2.2.2.2.2.2, row]
    | ⟨1, _⟩ => blk_simp [(idx t).2.2.2.2.2.2.2.2.2.2.2]
  refine Eq.trans ?_ (congrArg _ e.symm)
  rw [after0_11]
  refine (point11 m c t s j).trans ((proj_eq m c t s _).trans ?_)
  pointwise [val_main_v20]

end Cert.Grad.InFwd7

end
-- ==== Proof.AdamW8.lean ====
module

public import proofs.«01_k».proof.Proof.Loads
public import proofs.«01_k».proof.Proof.Gen.Kernel8Ideal.Value
public import proofs.«01_k».proof.Proof.Gen.Reference8Ideal.Read

@[expose] public section

set_option maxRecDepth 16384

noncomputable section

/-! # The optimizer's step on one layer's weights

Both sides do the same to each entry on its own, so this holds of every argument, infinities among them: a block of a weight is changed as the whole
weight is, at the entries where the block lies. -/

namespace Cert.Grad.AdamW8

open Idealize.ShloMosaic Idealize.ShloMosaic.TcCoe Cert.Kernel8Ideal Cert.Kernel8Ideal.Gen
open Idealize.ShloMosaic.Pipeline (Dat)
open Cert.Reference8Ideal.Read

variable (m : (ℓ : Loc nD τ sig) → Buf (Elt Ideal) ℓ) (c : Dev nD)

/-- A block of weight 0 lies where the block of its result does. -/
theorem blk0 (t : Fin cfg0.N) (y : S1x256x1152.Idx) : iblk m c 0 t y = m ((c : Thread nD τ).loc main_arg0) ((win0_8.blk t).view.emb y) := by
  blk_simp [iblk]
  rw [V_main_arg0]
  rfl

/-- A block of gradient 0 lies where the block of its result does. -/
theorem blk2 (t : Fin cfg0.N) (y : S1x256x1152.Idx) : iblk m c 2 t y = m ((c : Thread nD τ).loc main_arg2) ((win0_8.blk t).view.emb y) := by
  blk_simp [iblk]
  rw [V_main_arg2]
  rfl

/-- A block of first moment 0 lies where the block of its result does. -/
theorem blk4 (t : Fin cfg0.N) (y : S1x256x1152.Idx) : iblk m c 4 t y = m ((c : Thread nD τ).loc main_arg4) ((win0_8.blk t).view.emb y) := by
  blk_simp [iblk]
  rw [V_main_arg4]
  rfl

/-- A block of second moment 0 lies where the block of its result does. -/
theorem blk6 (t : Fin cfg0.N) (y : S1x256x1152.Idx) : iblk m c 6 t y = m ((c : Thread nD τ).loc main_arg6) ((win0_8.blk t).view.emb y) := by
  blk_simp [iblk]
  rw [V_main_arg6]
  rfl

/-- A block of weight 1 lies where the block of its result does. -/
theorem blk1 (t : Fin cfg0.N) (y : S1x80x1024.Idx) : iblk m c 1 t y = m ((c : Thread nD τ).loc main_arg1) ((win0_9.blk t).view.emb y) := by
  blk_simp [iblk]
  rw [V_main_arg1]
  rfl

/-- A block of gradient 1 lies where the block of its result does. -/
theorem blk3 (t : Fin cfg0.N) (y : S1x80x1024.Idx) : iblk m c 3 t y = m ((c : Thread nD τ).loc main_arg3) ((win0_9.blk t).view.emb y) := by
  blk_simp [iblk]
  rw [V_main_arg3]
  rfl

/-- A block of first moment 1 lies where the block of its result does. -/
theorem blk5 (t : Fin cfg0.N) (y : S1x80x1024.Idx) : iblk m c 5 t y = m ((c : Thread nD τ).loc main_arg5) ((win0_9.blk t).view.emb y) := by
  blk_simp [iblk]
  rw [V_main_arg5]
  rfl

/-- A block of second moment 1 lies where the block of its result does. -/
theorem blk7 (t : Fin cfg0.N) (y : S1x80x1024.Idx) : iblk m c 7 t y = m ((c : Thread nD τ).loc main_arg7) ((win0_9.blk t).view.emb y) := by
  blk_simp [iblk]
  rw [V_main_arg7]
  rfl

/-- What the call leaves of the change of weight 0. -/
theorem array8 : (dats m 0 c).arrAt 8 cfg0.N
    = val_main_v23 (F := Ideal) (m ((c : Thread nD τ).loc main_arg0)) (m ((c : Thread nD τ).loc main_arg2)) (m ((c : Thread nD τ).loc main_arg4)) (m ((c : Thread nD τ).loc main_arg6)) := by
  refine (dats m 0 c).arrAt_eq_of_covers 8 _ (by decide +kernel) fun t hf y => ?_
  blk_simp
  rw [after0_8]
  unfold out0_8
  rw [View.canon_cons_unit_lit _ _ _ (by decide), View.ld_unit_lit _ _ (by decide), View.ld_unit_lit _ _ (by decide), View.ld_unit_lit _ _ (by decide), View.ld_unit_lit _ _ (by decide)]
  pointwise [k0_pay3, k0_pay1, k0_pay2, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  rw [blk0, blk2, blk4, blk6]

/-- What the call leaves of first moment 0. -/
theorem array10 : (dats m 0 c).arrAt 10 cfg0.N
    = val_main_v4 (F := Ideal) (m ((c : Thread nD τ).loc main_arg2)) (m ((c : Thread nD τ).loc main_arg4)) := by
  refine (dats m 0 c).arrAt_eq_of_covers 10 _ (by decide +kernel) fun t hf y => ?_
  blk_simp
  rw [after0_10]
  unfold out0_10
  rw [View.canon_cons_unit_lit _ _ _ (by decide), View.ld_unit_lit _ _ (by decide), View.ld_unit_lit _ _ (by decide)]
  pointwise [k0_pay1, val_main_v4, val_main_v1, val_main_v0, val_main_cst, val_main_v3, val_main_v2, val_main_cst_0]
  rw [blk2, blk4]
  rfl

/-- What the call leaves of second moment 0. -/
theorem array12 : (dats m 0 c).arrAt 12 cfg0.N
    = val_main_v10 (F := Ideal) (m ((c : Thread nD τ).loc main_arg2)) (m ((c : Thread nD τ).loc main_arg6)) := by
  refine (dats m 0 c).arrAt_eq_of_covers 12 _ (by decide +kernel) fun t hf y => ?_
  blk_simp
  rw [after0_12]
  unfold out0_12
  rw [View.canon_cons_unit_lit _ _ _ (by decide), View.ld_unit_lit _ _ (by decide), View.ld_unit_lit _ _ (by decide)]
  pointwise [k0_pay2, val_main_v10, val_main_v6, val_main_v5, val_main_cst_1, val_main_v9, val_main_v8, val_main_cst_2, val_main_v7]
  rw [blk2, blk6]
  rfl

/-- What the call leaves of the change of weight 1. -/
theorem array9 : (dats m 0 c).arrAt 9 cfg0.N
    = val_main_v47 (F := Ideal) (m ((c : Thread nD τ).loc main_arg1)) (m ((c : Thread nD τ).loc main_arg3)) (m ((c : Thread nD τ).loc main_arg5)) (m ((c : Thread nD τ).loc main_arg7)) := by
  refine (dats m 0 c).arrAt_eq_of_covers 9 _ (by decide +kernel) fun t hf y => ?_
  blk_simp
  rw [after0_9]
  unfold out0_9
  rw [View.canon_cons_unit_lit _ _ _ (by decide), View.ld_unit_lit _ _ (by decide), View.ld_unit_lit _ _ (by decide), View.ld_unit_lit _ _ (by decide), View.ld_unit_lit _ _ (by decide)]
  pointwise [k0_pay6, k0_pay4, k0_pay5, val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15]
  rw [blk1, blk3, blk5, blk7]

/-- What the call leaves of first moment 1. -/
theorem array11 : (dats m 0 c).arrAt 11 cfg0.N
    = val_main_v28 (F := Ideal) (m ((c : Thread nD τ).loc main_arg3)) (m ((c : Thread nD τ).loc main_arg5)) := by
  refine (dats m 0 c).arrAt_eq_of_covers 11 _ (by decide +kernel) fun t hf y => ?_
  blk_simp
  rw [after0_11]
  unfold out0_11
  rw [View.canon_cons_unit_lit _ _ _ (by decide), View.ld_unit_lit _ _ (by decide), View.ld_unit_lit _ _ (by decide)]
  pointwise [k0_pay4, val_main_v28, val_main_v25, val_main_v24, val_main_cst_8, val_main_v27, val_main_v26, val_main_cst_9]
  rw [blk3, blk5]
  rfl

/-- What the call leaves of second moment 1. -/
theorem array13 : (dats m 0 c).arrAt 13 cfg0.N
    = val_main_v34 (F := Ideal) (m ((c : Thread nD τ).loc main_arg3)) (m ((c : Thread nD τ).loc main_arg7)) := by
  refine (dats m 0 c).arrAt_eq_of_covers 13 _ (by decide +kernel) fun t hf y => ?_
  blk_simp
  rw [after0_13]
  unfold out0_13
  rw [View.canon_cons_unit_lit _ _ _ (by decide), View.ld_unit_lit _ _ (by decide), View.ld_unit_lit _ _ (by decide)]
  pointwise [k0_pay5, val_main_v34, val_main_v30, val_main_v29, val_main_cst_10, val_main_v33, val_main_v32, val_main_cst_11, val_main_v31]
  rw [blk3, blk7]
  rfl

end Cert.Grad.AdamW8

end
-- ==== Proof.AdamW9.lean ====
module

public import proofs.«01_k».proof.Proof.Loads
public import proofs.«01_k».proof.Proof.Gen.Kernel9Ideal.Value
public import proofs.«01_k».proof.Proof.Gen.Reference9Ideal.Read

@[expose] public section

set_option maxRecDepth 16384

noncomputable section

/-! # The optimizer's step on one layer's weights

Both sides do the same to each entry on its own, so this holds of every argument, infinities among them: a block of a weight is changed as the whole
weight is, at the entries where the block lies. -/

namespace Cert.Grad.AdamW9

open Idealize.ShloMosaic Idealize.ShloMosaic.TcCoe Cert.Kernel9Ideal Cert.Kernel9Ideal.Gen
open Idealize.ShloMosaic.Pipeline (Dat)
open Cert.Reference9Ideal.Read

variable (m : (ℓ : Loc nD τ sig) → Buf (Elt Ideal) ℓ) (c : Dev nD)

/-- A block of weight 0 lies where the block of its result does. -/
theorem blk0 (t : Fin cfg0.N) (y : S2x64x512.Idx) : iblk m c 0 t y = m ((c : Thread nD τ).loc main_arg0) ((win0_12.blk t).view.emb y) := by
  blk_simp [iblk]
  rw [V_main_arg0]
  rfl

/-- A block of gradient 0 lies where the block of its result does. -/
theorem blk3 (t : Fin cfg0.N) (y : S2x64x512.Idx) : iblk m c 3 t y = m ((c : Thread nD τ).loc main_arg3) ((win0_12.blk t).view.emb y) := by
  blk_simp [iblk]
  rw [V_main_arg3]
  rfl

/-- A block of first moment 0 lies where the block of its result does. -/
theorem blk6 (t : Fin cfg0.N) (y : S2x64x512.Idx) : iblk m c 6 t y = m ((c : Thread nD τ).loc main_arg6) ((win0_12.blk t).view.emb y) := by
  blk_simp [iblk]
  rw [V_main_arg6]
  rfl

/-- A block of second moment 0 lies where the block of its result does. -/
theorem blk9 (t : Fin cfg0.N) (y : S2x64x512.Idx) : iblk m c 9 t y = m ((c : Thread nD τ).loc main_arg9) ((win0_12.blk t).view.emb y) := by
  blk_simp [iblk]
  rw [V_main_arg9]
  rfl

/-- A block of weight 1 lies where the block of its result does. -/
theorem blk1 (t : Fin cfg0.N) (y : S1x256x1408.Idx) : iblk m c 1 t y = m ((c : Thread nD τ).loc main_arg1) ((win0_13.blk t).view.emb y) := by
  blk_simp [iblk]
  rw [V_main_arg1]
  rfl

/-- A block of gradient 1 lies where the block of its result does. -/
theorem blk4 (t : Fin cfg0.N) (y : S1x256x1408.Idx) : iblk m c 4 t y = m ((c : Thread nD τ).loc main_arg4) ((win0_13.blk t).view.emb y) := by
  blk_simp [iblk]
  rw [V_main_arg4]
  rfl

/-- A block of first moment 1 lies where the block of its result does. -/
theorem blk7 (t : Fin cfg0.N) (y : S1x256x1408.Idx) : iblk m c 7 t y = m ((c : Thread nD τ).loc main_arg7) ((win0_13.blk t).view.emb y) := by
  blk_simp [iblk]
  rw [V_main_arg7]
  rfl

/-- A block of second moment 1 lies where the block of its result does. -/
theorem blk10 (t : Fin cfg0.N) (y : S1x256x1408.Idx) : iblk m c 10 t y = m ((c : Thread nD τ).loc main_arg10) ((win0_13.blk t).view.emb y) := by
  blk_simp [iblk]
  rw [V_main_arg10]
  rfl

/-- A block of weight 2 lies where the block of its result does. -/
theorem blk2 (t : Fin cfg0.N) (y : S1x192x256.Idx) : iblk m c 2 t y = m ((c : Thread nD τ).loc main_arg2) ((win0_14.blk t).view.emb y) := by
  blk_simp [iblk]
  rw [V_main_arg2]
  rfl

/-- A block of gradient 2 lies where the block of its result does. -/
theorem blk5 (t : Fin cfg0.N) (y : S1x192x256.Idx) : iblk m c 5 t y = m ((c : Thread nD τ).loc main_arg5) ((win0_14.blk t).view.emb y) := by
  blk_simp [iblk]
  rw [V_main_arg5]
  rfl

/-- A block of first moment 2 lies where the block of its result does. -/
theorem blk8 (t : Fin cfg0.N) (y : S1x192x256.Idx) : iblk m c 8 t y = m ((c : Thread nD τ).loc main_arg8) ((win0_14.blk t).view.emb y) := by
  blk_simp [iblk]
  rw [V_main_arg8]
  rfl

/-- A block of second moment 2 lies where the block of its result does. -/
theorem blk11 (t : Fin cfg0.N) (y : S1x192x256.Idx) : iblk m c 11 t y = m ((c : Thread nD τ).loc main_arg11) ((win0_14.blk t).view.emb y) := by
  blk_simp [iblk]
  rw [V_main_arg11]
  rfl

/-- What the call leaves of the change of weight 0. -/
theorem array12 : (dats m 0 c).arrAt 12 cfg0.N
    = val_main_v23 (F := Ideal) (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t hf y => ?_
  blk_simp
  rw [after0_12]
  unfold out0_12
  rw [View.canon_cons_unit_lit _ _ _ (by decide), View.ld_unit_lit _ _ (by decide), View.ld_unit_lit _ _ (by decide), View.ld_unit_lit _ _ (by decide), View.ld_unit_lit _ _ (by decide)]
  pointwise [k0_pay4, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  rw [blk0, blk3, blk6, blk9]

/-- What the call leaves of first moment 0. -/
theorem array15 : (dats m 0 c).arrAt 15 cfg0.N
    = val_main_v4 (F := Ideal) (m ((c : Thread nD τ).loc main_arg3)) (m ((c : Thread nD τ).loc main_arg6)) := by
  refine (dats m 0 c).arrAt_eq_of_covers 15 _ (by decide +kernel) fun t hf y => ?_
  blk_simp
  rw [after0_15]
  unfold out0_15
  rw [View.canon_cons_unit_lit _ _ _ (by decide), View.ld_unit_lit _ _ (by decide), View.ld_unit_lit _ _ (by decide)]
  pointwise [k0_pay2, val_main_v4, val_main_v1, val_main_v0, val_main_cst, val_main_v3, val_main_v2, val_main_cst_0]
  rw [blk3, blk6]
  rfl

/-- What the call leaves of second moment 0. -/
theorem array18 : (dats m 0 c).arrAt 18 cfg0.N
    = val_main_v10 (F := Ideal) (m ((c : Thread nD τ).loc main_arg3)) (m ((c : Thread nD τ).loc main_arg9)) := by
  refine (dats m 0 c).arrAt_eq_of_covers 18 _ (by decide +kernel) fun t hf y => ?_
  blk_simp
  rw [after0_18]
  unfold out0_18
  rw [View.canon_cons_unit_lit _ _ _ (by decide), View.ld_unit_lit _ _ (by decide), View.ld_unit_lit _ _ (by decide)]
  pointwise [k0_pay3, val_main_v10, val_main_v6, val_main_v5, val_main_cst_1, val_main_v9, val_main_v8, val_main_cst_2, val_main_v7]
  rw [blk3, blk9]
  rfl

/-- What the call leaves of the change of weight 1. -/
theorem array13 : (dats m 0 c).arrAt 13 cfg0.N
    = val_main_v47 (F := Ideal) (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t hf y => ?_
  blk_simp
  rw [after0_13]
  unfold out0_13
  rw [View.canon_cons_unit_lit _ _ _ (by decide), View.ld_unit_lit _ _ (by decide), View.ld_unit_lit _ _ (by decide), View.ld_unit_lit _ _ (by decide), View.ld_unit_lit _ _ (by decide)]
  pointwise [k0_pay7, k0_pay5, k0_pay6, val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15]
  rw [blk1, blk4, blk7, blk10]

/-- What the call leaves of first moment 1. -/
theorem array16 : (dats m 0 c).arrAt 16 cfg0.N
    = val_main_v28 (F := Ideal) (m ((c : Thread nD τ).loc main_arg4)) (m ((c : Thread nD τ).loc main_arg7)) := by
  refine (dats m 0 c).arrAt_eq_of_covers 16 _ (by decide +kernel) fun t hf y => ?_
  blk_simp
  rw [after0_16]
  unfold out0_16
  rw [View.canon_cons_unit_lit _ _ _ (by decide), View.ld_unit_lit _ _ (by decide), View.ld_unit_lit _ _ (by decide)]
  pointwise [k0_pay5, val_main_v28, val_main_v25, val_main_v24, val_main_cst_8, val_main_v27, val_main_v26, val_main_cst_9]
  rw [blk4, blk7]
  rfl

/-- What the call leaves of second moment 1. -/
theorem array19 : (dats m 0 c).arrAt 19 cfg0.N
    = val_main_v34 (F := Ideal) (m ((c : Thread nD τ).loc main_arg4)) (m ((c : Thread nD τ).loc main_arg10)) := by
  refine (dats m 0 c).arrAt_eq_of_covers 19 _ (by decide +kernel) fun t hf y => ?_
  blk_simp
  rw [after0_19]
  unfold out0_19
  rw [View.canon_cons_unit_lit _ _ _ (by decide), View.ld_unit_lit _ _ (by decide), View.ld_unit_lit _ _ (by decide)]
  pointwise [k0_pay6, val_main_v34, val_main_v30, val_main_v29, val_main_cst_10, val_main_v33, val_main_v32, val_main_cst_11, val_main_v31]
  rw [blk4, blk10]
  rfl

/-- What the call leaves of the change of weight 2. -/
theorem array14 : (dats m 0 c).arrAt 14 cfg0.N
    = val_main_v71 (F := Ideal) (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t hf y => ?_
  blk_simp
  rw [after0_14]
  unfold out0_14
  rw [View.canon_cons_unit_lit _ _ _ (by decide), View.ld_unit_lit _ _ (by decide), View.ld_unit_lit _ _ (by decide), View.ld_unit_lit _ _ (by decide), View.ld_unit_lit _ _ (by decide)]
  pointwise [k0_pay1, k0_pay10, k0_pay8, k0_pay11, k0_pay9, val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24]
  rw [blk2, blk5, blk8, blk11]

/-- What the call leaves of first moment 2. -/
theorem array17 : (dats m 0 c).arrAt 17 cfg0.N
    = val_main_v52 (F := Ideal) (m ((c : Thread nD τ).loc main_arg5)) (m ((c : Thread nD τ).loc main_arg8)) := by
  refine (dats m 0 c).arrAt_eq_of_covers 17 _ (by decide +kernel) fun t hf y => ?_
  blk_simp
  rw [after0_17]
  unfold out0_17
  rw [View.canon_cons_unit_lit _ _ _ (by decide), View.ld_unit_lit _ _ (by decide), View.ld_unit_lit _ _ (by decide)]
  pointwise [k0_pay8, val_main_v52, val_main_v49, val_main_v48, val_main_cst_17, val_main_v51, val_main_v50, val_main_cst_18]
  rw [blk5, blk8]
  rfl

/-- What the call leaves of second moment 2. -/
theorem array20 : (dats m 0 c).arrAt 20 cfg0.N
    = val_main_v58 (F := Ideal) (m ((c : Thread nD τ).loc main_arg5)) (m ((c : Thread nD τ).loc main_arg11)) := by
  refine (dats m 0 c).arrAt_eq_of_covers 20 _ (by decide +kernel) fun t hf y => ?_
  blk_simp
  rw [after0_20]
  unfold out0_20
  rw [View.canon_cons_unit_lit _ _ _ (by decide), View.ld_unit_lit _ _ (by decide), View.ld_unit_lit _ _ (by decide)]
  pointwise [k0_pay9, val_main_v58, val_main_v54, val_main_v53, val_main_cst_19, val_main_v57, val_main_v56, val_main_cst_20, val_main_v55]
  rw [blk5, blk11]
  rfl

end Cert.Grad.AdamW9

end
-- ==== Proof.Small10.lean ====
module

public import proofs.«01_k».proof.Proof.Loads
public import proofs.«01_k».proof.Proof.Gen.Kernel10Ideal.Value
public import proofs.«01_k».proof.Proof.Gen.Reference10Ideal.Read

@[expose] public section

set_option maxRecDepth 16384

noncomputable section

/-! # The small arrays of eight devices summed, and the optimizer's step on three small weights

The kernel adds what the seven other devices sent to its own rows one after another, the reference adds the sum of the
seven; after that both sides do the same to each entry. It holds of every argument, infinities among them. -/

namespace Cert.Grad.Small10

open Idealize.ShloMosaic Idealize.ShloMosaic.TcCoe Cert.Kernel10Ideal Cert.Kernel10Ideal.Gen
open Idealize.ShloMosaic.Pipeline (Dat)
open Cert.Reference10Ideal.Read

variable (m : (ℓ : Loc nD τ sig) → Buf (Elt Ideal) ℓ) (c : Dev nD)

/-! ## The blocks: every window shows its whole array -/

/-- The one block of each input is the first. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- The one block of each result is the first. -/
theorem idx' : ∀ t : Fin cfg0.N, win0_11.index t = ![0, 0] ∧ win0_12.index t = ![0, 0] ∧ win0_13.index t = ![0, 0] ∧ win0_14.index t = ![0]
    ∧ win0_15.index t = ![0, 0] ∧ win0_16.index t = ![0, 0] ∧ win0_17.index t = ![0] ∧ win0_18.index t = ![0, 0] ∧ win0_19.index t = ![0, 0]
    ∧ win0_20.index t = ![0] ∧ win0_21.index t = ![0, 0] ∧ win0_22.index t = ![0, 0] ∧ win0_23.index t = ![0] :=
  (by decide +kernel : ∀ t : Fin grid0.N, _)

/-- The device's own rows. -/
theorem blk0 (t : Fin cfg0.N) : iblk m c 0 t = m ((c : Thread nD τ).loc main_arg0) := by
  funext y
  blk_simp [iblk]
  rw [V_main_arg0]
  refine congrArg _ (funext fun a => Fin.ext ?_)
  match a with
  | ⟨0, _⟩ => blk_simp [(idx t).1]
  | ⟨1, _⟩ => blk_simp [(idx t).1]

/-- The rows that the seven others sent. -/
theorem blk1 (t : Fin cfg0.N) : iblk m c 1 t = m ((c : Thread nD τ).loc main_arg1) := by
  funext y
  blk_simp [iblk]
  rw [V_main_arg1]
  refine congrArg _ (funext fun a => Fin.ext ?_)
  match a with
  | ⟨0, _⟩ => blk_simp [(idx t).2.1]
  | ⟨1, _⟩ => blk_simp [(idx t).2.1]
  | ⟨2, _⟩ => blk_simp [(idx t).2.1]

/-- The first weight. -/
theorem blk2 (t : Fin cfg0.N) : iblk m c 2 t = m ((c : Thread nD τ).loc main_arg2) := by
  funext y
  blk_simp [iblk]
  rw [V_main_arg2]
  refine congrArg _ (funext fun a => Fin.ext ?_)
  match a with
  | ⟨0, _⟩ => blk_simp [(idx t).2.2.1]
  | ⟨1, _⟩ => blk_simp [(idx t).2.2.1]

/-- The second weight. -/
theorem blk3 (t : Fin cfg0.N) : iblk m c 3 t = m ((c : Thread nD τ).loc main_arg3) := by
  funext y
  blk_simp [iblk]
  rw [V_main_arg3]
  refine congrArg _ (funext fun a => Fin.ext ?_)
  match a with
  | ⟨0, _⟩ => blk_simp [(idx t).2.2.2.1]
  | ⟨1, _⟩ => blk_simp [(idx t).2.2.2.1]

/-- The first weight's first moment. -/
theorem blk5 (t : Fin cfg0.N) : iblk m c 5 t = m ((c : Thread nD τ).loc main_arg5) := by
  funext y
  blk_simp [iblk]
  rw [V_main_arg5]
  refine congrArg _ (funext fun a => Fin.ext ?_)
  match a with
  | ⟨0, _⟩ => blk_simp [(idx t).2.2.2.2.2.1]
  | ⟨1, _⟩ => blk_simp [(idx t).2.2.2.2.2.1]

/-- The second weight's first moment. -/
theorem blk6 (t : Fin cfg0.N) : iblk m c 6 t = m ((c : Thread nD τ).loc main_arg6) := by
  funext y
  blk_simp [iblk]
  rw [V_main_arg6]
  refine congrArg _ (funext fun a => Fin.ext ?_)
  match a with
  | ⟨0, _⟩ => blk_simp [(idx t).2.2.2.2.2.2.1]
  | ⟨1, _⟩ => blk_simp [(idx t).2.2.2.2.2.2.1]

/-- The first weight's second moment. -/
theorem blk8 (t : Fin cfg0.N) : iblk m c 8 t = m ((c : Thread nD τ).loc main_arg8) := by
  funext y
  blk_simp [iblk]
  rw [V_main_arg8]
  refine congrArg _ (funext fun a => Fin.ext ?_)
  match a with
  | ⟨0, _⟩ => blk_simp [(idx t).2.2.2.2.2.2.2.2.1]
  | ⟨1, _⟩ => blk_simp [(idx t).2.2.2.2.2.2.2.2.1]

/-- The second weight's second moment. -/
theorem blk9 (t : Fin cfg0.N) : iblk m c 9 t = m ((c : Thread nD τ).loc main_arg9) := by
  funext y
  blk_simp [iblk]
  rw [V_main_arg9]
  refine congrArg _ (funext fun a => Fin.ext ?_)
  match a with
  | ⟨0, _⟩ => blk_simp [(idx t).2.2.2.2.2.2.2.2.2.1]
  | ⟨1, _⟩ => blk_simp [(idx t).2.2.2.2.2.2.2.2.2.1]

/-- The third weight, as one row. -/
theorem blk4 (t : Fin cfg0.N) : iblk m c 4 t = fun y : S1x1024.Idx => m ((c : Thread nD τ).loc main_arg4) (ix1 (y 1)) := by
  have e : V m c main_v0 = fun y : S1x1024.Idx => m ((c : Thread nD τ).loc main_arg4) (ix1 (y 1)) := by
    entry_read
    funext y
    idx_vars y
    pointwise []
  funext y
  blk_simp [iblk]
  rw [e]
  refine congrArg (fun j => m ((c : Thread nD τ).loc main_arg4) (ix1 j)) (Fin.ext ?_)
  blk_simp [(idx t).2.2.2.2.1]

/-- The third weight's first moment, as one row. -/
theorem blk7 (t : Fin cfg0.N) : iblk m c 7 t = fun y : S1x1024.Idx => m ((c : Thread nD τ).loc main_arg7) (ix1 (y 1)) := by
  have e : V m c main_v1 = fun y : S1x1024.Idx => m ((c : Thread nD τ).loc main_arg7) (ix1 (y 1)) := by
    entry_read
    funext y
    idx_vars y
    pointwise []
  funext y
  blk_simp [iblk]
  rw [e]
  refine congrArg (fun j => m ((c : Thread nD τ).loc main_arg7) (ix1 j)) (Fin.ext ?_)
  blk_simp [(idx t).2.2.2.2.2.2.2.1]

/-- The third weight's second moment, as one row. -/
theorem blk10 (t : Fin cfg0.N) : iblk m c 10 t = fun y : S1x1024.Idx => m ((c : Thread nD τ).loc main_arg10) (ix1 (y 1)) := by
  have e : V m c main_v2 = fun y : S1x1024.Idx => m ((c : Thread nD τ).loc main_arg10) (ix1 (y 1)) := by
    entry_read
    funext y
    idx_vars y
    pointwise []
  funext y
  blk_simp [iblk]
  rw [e]
  refine congrArg (fun j => m ((c : Thread nD τ).loc main_arg10) (ix1 j)) (Fin.ext ?_)
  blk_simp [(idx t).2.2.2.2.2.2.2.2.2.2]

/-! ## The sum over the devices -/

/-- One device after another, or all the others first: the sum is the same. -/
theorem tot_eq (a : S40x1024.Idx → EReal) (b : S7x40x1024.Idx → EReal) :
  k0_pay6 (F := Ideal) a
    (k0_pay5 (F := Ideal) a
      (View.ld (Val := Elt Ideal) (e' := .f32) b (Rect.unit ![0, 0, 0] ![1, 40, 1024] inb_S7x40x1024_S1x40x1024_0_0_0))
      (View.ld (Val := Elt Ideal) (e' := .f32) b (Rect.unit ![0, 0, 0] ![1, 40, 1024] inb_S7x40x1024_S1x40x1024_0_0_0))
      (View.ld (Val := Elt Ideal) (e' := .f32) b (Rect.unit ![1, 0, 0] ![1, 40, 1024] inb_S7x40x1024_S1x40x1024_1_0_0))
      (View.ld (Val := Elt Ideal) (e' := .f32) b (Rect.unit ![2, 0, 0] ![1, 40, 1024] inb_S7x40x1024_S1x40x1024_2_0_0))
      (View.ld (Val := Elt Ideal) (e' := .f32) b (Rect.unit ![3, 0, 0] ![1, 40, 1024] inb_S7x40x1024_S1x40x1024_3_0_0))
      (View.ld (Val := Elt Ideal) (e' := .f32) b (Rect.unit ![4, 0, 0] ![1, 40, 1024] inb_S7x40x1024_S1x40x1024_4_0_0))
      (View.ld (Val := Elt Ideal) (e' := .f32) b (Rect.unit ![5, 0, 0] ![1, 40, 1024] inb_S7x40x1024_S1x40x1024_5_0_0)))
    (View.ld (Val := Elt Ideal) (e' := .f32) b (Rect.unit ![6, 0, 0] ![1, 40, 1024] inb_S7x40x1024_S1x40x1024_6_0_0))
      = val_main_v1 (F := Ideal) a b := by
  funext y
  idx_vars y
  pointwise [k0_pay6, k0_pay5, val_main_v1, val_main_v0, val_main_cst]
  simp only [Fin.sum_univ_seven, ← add_assoc]

/-- What the scratch holds after the sum is stored, loaded back. -/
theorem scratch (p : S40x1024.Idx → EReal) (v : View sig .tc .vmem S40x1024 .f32) (r : Rect S40x1024) :
    v.readCov (Val := Elt Ideal) [⟨Rect.unit ![0, 0] ![40, 1024] inb_S40x1024_S40x1024_0_0, p⟩] r.toLoadRect
      = View.ld (Val := Elt Ideal) (e' := .f32) p r := by
  rw [View.readCov_eq_canon', View.canon_cons_unit_lit _ _ _ (by decide)]

/-- The first weight's gradient is rows of the sum. -/
theorem read0 (a : S40x1024.Idx → EReal) (b : S7x40x1024.Idx → EReal) :
    View.ld (Val := Elt Ideal) (e' := .f32) (val_main_v1 (F := Ideal) a b)
      (Rect.unit (s := S40x1024) ![0, 0] ![2, 1024] inb_S40x1024_S2x1024_0_0) = val_main_v2 (F := Ideal) a b := by
  funext y
  refine (View.ld_apply (Val := Elt Ideal) (e := .f32) _ _ _).trans ?_
  idx_vars y
  pointwise [val_main_v2]

/-- The second weight's gradient is rows of the sum. -/
theorem read8 (a : S40x1024.Idx → EReal) (b : S7x40x1024.Idx → EReal) :
    View.ld (Val := Elt Ideal) (e' := .f32) (val_main_v1 (F := Ideal) a b)
      (Rect.unit (s := S40x1024) ![8, 0] ![2, 1024] inb_S40x1024_S2x1024_8_0) = val_main_v3 (F := Ideal) a b := by
  funext y
  refine (View.ld_apply (Val := Elt Ideal) (e := .f32) _ _ _).trans ?_
  idx_vars y
  pointwise [val_main_v3]

/-- The third weight's gradient, as one row, is rows of the sum. -/
theorem read16 (a : S40x1024.Idx → EReal) (b : S7x40x1024.Idx → EReal) :
    View.ld (Val := Elt Ideal) (e' := .f32) (val_main_v1 (F := Ideal) a b)
      (Rect.unit (s := S40x1024) ![16, 0] ![1, 1024] inb_S40x1024_S1x1024_16_0) = val_main_v4 (F := Ideal) a b := by
  funext y
  refine (View.ld_apply (Val := Elt Ideal) (e := .f32) _ _ _).trans ?_
  idx_vars y
  pointwise [val_main_v4]

/-- The loss is rows of the sum. -/
theorem read32 (a : S40x1024.Idx → EReal) (b : S7x40x1024.Idx → EReal) :
    View.ld (Val := Elt Ideal) (e' := .f32) (val_main_v1 (F := Ideal) a b)
      (Rect.unit (s := S40x1024) ![32, 0] ![1, 128] inb_S40x1024_S1x128_32_0) = val_main_v78 (F := Ideal) a b := by
  funext y
  refine (View.ld_apply (Val := Elt Ideal) (e := .f32) _ _ _).trans ?_
  idx_vars y
  pointwise [val_main_v78]

/-- What the body leaves: the loss. -/
theorem point11 (t : Fin cfg0.N) : (outsAt0 m c t).1 = val_main_v78 (F := Ideal) (m ((c : Thread nD τ).loc main_arg0)) (m ((c : Thread nD τ).loc main_arg1)) := by
  unfold outsAt0
  frame_open
  frame_out
  simp only [blk0, blk1, scratch, tot_eq, read32]

/-- What the body leaves: the first weight's gradient. -/
theorem point12 (t : Fin cfg0.N) : (outsAt0 m c t).2.1 = val_main_v2 (F := Ideal) (m ((c : Thread nD τ).loc main_arg0)) (m ((c : Thread nD τ).loc main_arg1)) := by
  unfold outsAt0
  frame_open
  frame_out
  simp only [blk0, blk1, scratch, tot_eq, read0]

/-- What the body leaves: the second weight's gradient. -/
theorem point13 (t : Fin cfg0.N) : (outsAt0 m c t).2.2.1 = val_main_v3 (F := Ideal) (m ((c : Thread nD τ).loc main_arg0)) (m ((c : Thread nD τ).loc main_arg1)) := by
  unfold outsAt0
  frame_open
  frame_out
  simp only [blk0, blk1, scratch, tot_eq, read8]

/-- What the body leaves: the third weight's gradient. -/
theorem point14 (t : Fin cfg0.N) : (outsAt0 m c t).2.2.2.1 = val_main_v5 (F := Ideal) (m ((c : Thread nD τ).loc main_arg0)) (m ((c : Thread nD τ).loc main_arg1)) := by
  unfold outsAt0
  frame_open
  frame_out
  simp only [blk0, blk1, scratch, tot_eq, read16]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v5]

/-- What the body leaves: the change of first weight. -/
theorem point15 (t : Fin cfg0.N) : (outsAt0 m c t).2.2.2.2.1 = val_main_v29 (F := Ideal) (m ((c : Thread nD τ).loc main_arg0)) (m ((c : Thread nD τ).loc main_arg1)) (m ((c : Thread nD τ).loc main_arg2)) (m ((c : Thread nD τ).loc main_arg5)) (m ((c : Thread nD τ).loc main_arg8)) := by
  unfold outsAt0
  frame_open
  frame_out
  simp only [blk0, blk1, scratch, tot_eq, read0, blk2, blk5, blk8]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v29, val_main_v28, val_main_cst_8, val_main_v27, val_main_v26, val_main_v25, val_main_cst_7, val_main_v24, val_main_v23, val_main_v22, val_main_cst_6, val_main_v21, val_main_v20, val_main_v19, val_main_cst_5, val_main_v16, val_main_v15, val_main_v14, val_main_cst_3, val_main_v13, val_main_v12, val_main_v11, val_main_cst_2, val_main_v18, val_main_v17, val_main_cst_4, val_main_v10, val_main_v9, val_main_v8, val_main_cst_1, val_main_v7, val_main_v6, val_main_cst_0]

/-- What the body leaves: the change of second weight. -/
theorem point16 (t : Fin cfg0.N) : (outsAt0 m c t).2.2.2.2.2.1 = val_main_v53 (F := Ideal) (m ((c : Thread nD τ).loc main_arg0)) (m ((c : Thread nD τ).loc main_arg1)) (m ((c : Thread nD τ).loc main_arg3)) (m ((c : Thread nD τ).loc main_arg6)) (m ((c : Thread nD τ).loc main_arg9)) := by
  unfold outsAt0
  frame_open
  frame_out
  simp only [blk0, blk1, scratch, tot_eq, read8, blk3, blk6, blk9]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v53, val_main_v52, val_main_cst_17, val_main_v51, val_main_v50, val_main_v49, val_main_cst_16, val_main_v48, val_main_v47, val_main_v46, val_main_cst_15, val_main_v45, val_main_v44, val_main_v43, val_main_cst_14, val_main_v40, val_main_v39, val_main_v38, val_main_cst_12, val_main_v37, val_main_v36, val_main_v35, val_main_cst_11, val_main_v42, val_main_v41, val_main_cst_13, val_main_v34, val_main_v33, val_main_v32, val_main_cst_10, val_main_v31, val_main_v30, val_main_cst_9]

/-- What the body leaves: the change of third weight. -/
theorem point17 (t : Fin cfg0.N) : (outsAt0 m c t).2.2.2.2.2.2.1 = val_main_v77 (F := Ideal) (m ((c : Thread nD τ).loc main_arg0)) (m ((c : Thread nD τ).loc main_arg1)) (m ((c : Thread nD τ).loc main_arg4)) (m ((c : Thread nD τ).loc main_arg7)) (m ((c : Thread nD τ).loc main_arg10)) := by
  unfold outsAt0
  frame_open
  frame_out
  simp only [blk0, blk1, scratch, tot_eq, read16, blk4, blk7, blk10]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v77, val_main_v76, val_main_cst_26, val_main_v75, val_main_v74, val_main_v73, val_main_cst_25, val_main_v72, val_main_v71, val_main_v70, val_main_cst_24, val_main_v69, val_main_v68, val_main_v67, val_main_cst_23, val_main_v64, val_main_v63, val_main_v62, val_main_cst_21, val_main_v61, val_main_v5, val_main_v60, val_main_v59, val_main_cst_20, val_main_v66, val_main_v65, val_main_cst_22, val_main_v58, val_main_v57, val_main_v56, val_main_cst_19, val_main_v55, val_main_v54, val_main_cst_18]

/-- What the body leaves: the first weight's first moment. -/
theorem point18 (t : Fin cfg0.N) : (outsAt0 m c t).2.2.2.2.2.2.2.1 = val_main_v10 (F := Ideal) (m ((c : Thread nD τ).loc main_arg0)) (m ((c : Thread nD τ).loc main_arg1)) (m ((c : Thread nD τ).loc main_arg5)) := by
  unfold outsAt0
  frame_open
  frame_out
  simp only [blk0, blk1, scratch, tot_eq, read0, blk5]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v10, val_main_v9, val_main_v8, val_main_cst_1, val_main_v7, val_main_v6, val_main_cst_0]

/-- What the body leaves: the second weight's first moment. -/
theorem point19 (t : Fin cfg0.N) : (outsAt0 m c t).2.2.2.2.2.2.2.2.1 = val_main_v34 (F := Ideal) (m ((c : Thread nD τ).loc main_arg0)) (m ((c : Thread nD τ).loc main_arg1)) (m ((c : Thread nD τ).loc main_arg6)) := by
  unfold outsAt0
  frame_open
  frame_out
  simp only [blk0, blk1, scratch, tot_eq, read8, blk6]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v34, val_main_v33, val_main_v32, val_main_cst_10, val_main_v31, val_main_v30, val_main_cst_9]

/-- What the body leaves: the third weight's first moment. -/
theorem point20 (t : Fin cfg0.N) : (outsAt0 m c t).2.2.2.2.2.2.2.2.2.1 = val_main_v58 (F := Ideal) (m ((c : Thread nD τ).loc main_arg0)) (m ((c : Thread nD τ).loc main_arg1)) (m ((c : Thread nD τ).loc main_arg7)) := by
  unfold outsAt0
  frame_open
  frame_out
  simp only [blk0, blk1, scratch, tot_eq, read16, blk7]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v58, val_main_v57, val_main_v56, val_main_cst_19, val_main_v5, val_main_v55, val_main_v54, val_main_cst_18]

/-- What the body leaves: the first weight's second moment. -/
theorem point21 (t : Fin cfg0.N) : (outsAt0 m c t).2.2.2.2.2.2.2.2.2.2.1 = val_main_v16 (F := Ideal) (m ((c : Thread nD τ).loc main_arg0)) (m ((c : Thread nD τ).loc main_arg1)) (m ((c : Thread nD τ).loc main_arg8)) := by
  unfold outsAt0
  frame_open
  frame_out
  simp only [blk0, blk1, scratch, tot_eq, read0, blk8]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v16, val_main_v15, val_main_v14, val_main_cst_3, val_main_v13, val_main_v12, val_main_v11, val_main_cst_2]

/-- What the body leaves: the second weight's second moment. -/
theorem point22 (t : Fin cfg0.N) : (outsAt0 m c t).2.2.2.2.2.2.2.2.2.2.2.1 = val_main_v40 (F := Ideal) (m ((c : Thread nD τ).loc main_arg0)) (m ((c : Thread nD τ).loc main_arg1)) (m ((c : Thread nD τ).loc main_arg9)) := by
  unfold outsAt0
  frame_open
  frame_out
  simp only [blk0, blk1, scratch, tot_eq, read8, blk9]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v40, val_main_v39, val_main_v38, val_main_cst_12, val_main_v37, val_main_v36, val_main_v35, val_main_cst_11]

/-- What the body leaves: the third weight's second moment. -/
theorem point23 (t : Fin cfg0.N) : (outsAt0 m c t).2.2.2.2.2.2.2.2.2.2.2.2 = val_main_v64 (F := Ideal) (m ((c : Thread nD τ).loc main_arg0)) (m ((c : Thread nD τ).loc main_arg1)) (m ((c : Thread nD τ).loc main_arg10)) := by
  unfold outsAt0
  frame_open
  frame_out
  simp only [blk0, blk1, scratch, tot_eq, read16, blk10]
  funext y
  idx_vars y
  pointwise [k0_pay1, k0_pay2, k0_pay3, k0_pay4, k0_pay7, k0_pay8, k0_pay9, k0_pay10, k0_pay11, k0_pay12, k0_pay13, k0_pay14, k0_pay15, k0_pay16, k0_pay17, k0_pay18, k0_pay19, k0_pay20, k0_pay21, k0_pay22, val_main_v64, val_main_v63, val_main_v62, val_main_cst_21, val_main_v61, val_main_v5, val_main_v60, val_main_v59, val_main_cst_20]

/-! ## The call -/

/-- What the call leaves: the loss. -/
theorem array11 : (dats m 0 c).arrAt 11 cfg0.N = val_main_v78 (F := Ideal) (m ((c : Thread nD τ).loc main_arg0)) (m ((c : Thread nD τ).loc main_arg1)) := by
  refine (dats m 0 c).arrAt_eq_of_covers 11 _ (by decide +kernel) fun t hf y => ?_
  blk_simp
  rw [after0_11, point11]
  refine congrArg _ (funext fun a => Fin.ext ?_)
  match a with
  | ⟨0, _⟩ => blk_simp [(idx' t).1]
  | ⟨1, _⟩ => blk_simp [(idx' t).1]

/-- What the call leaves: the first weight's gradient. -/
theorem array12 : (dats m 0 c).arrAt 12 cfg0.N = val_main_v2 (F := Ideal) (m ((c : Thread nD τ).loc main_arg0)) (m ((c : Thread nD τ).loc main_arg1)) := by
  refine (dats m 0 c).arrAt_eq_of_covers 12 _ (by decide +kernel) fun t hf y => ?_
  blk_simp
  rw [after0_12, point12]
  refine congrArg _ (funext fun a => Fin.ext ?_)
  match a with
  | ⟨0, _⟩ => blk_simp [(idx' t).2.1]
  | ⟨1, _⟩ => blk_simp [(idx' t).2.1]

/-- What the call leaves: the second weight's gradient. -/
theorem array13 : (dats m 0 c).arrAt 13 cfg0.N = val_main_v3 (F := Ideal) (m ((c : Thread nD τ).loc main_arg0)) (m ((c : Thread nD τ).loc main_arg1)) := by
  refine (dats m 0 c).arrAt_eq_of_covers 13 _ (by decide +kernel) fun t hf y => ?_
  blk_simp
  rw [after0_13, point13]
  refine congrArg _ (funext fun a => Fin.ext ?_)
  match a with
  | ⟨0, _⟩ => blk_simp [(idx' t).2.2.1]
  | ⟨1, _⟩ => blk_simp [(idx' t).2.2.1]

/-- What the call leaves: the third weight's gradient. -/
theorem array14 : (dats m 0 c).arrAt 14 cfg0.N = val_main_v5 (F := Ideal) (m ((c : Thread nD τ).loc main_arg0)) (m ((c : Thread nD τ).loc main_arg1)) := by
  refine (dats m 0 c).arrAt_eq_of_covers 14 _ (by decide +kernel) fun t hf y => ?_
  blk_simp
  rw [after0_14, point14]
  refine congrArg _ (funext fun a => Fin.ext ?_)
  match a with
  | ⟨0, _⟩ => blk_simp [(idx' t).2.2.2.1]

/-- What the call leaves: the change of first weight. -/
theorem array15 : (dats m 0 c).arrAt 15 cfg0.N = val_main_v29 (F := Ideal) (m ((c : Thread nD τ).loc main_arg0)) (m ((c : Thread nD τ).loc main_arg1)) (m ((c : Thread nD τ).loc main_arg2)) (m ((c : Thread nD τ).loc main_arg5)) (m ((c : Thread nD τ).loc main_arg8)) := by
  refine (dats m 0 c).arrAt_eq_of_covers 15 _ (by decide +kernel) fun t hf y => ?_
  blk_simp
  rw [after0_15, point15]
  refine congrArg _ (funext fun a => Fin.ext ?_)
  match a with
  | ⟨0, _⟩ => blk_simp [(idx' t).2.2.2.2.1]
  | ⟨1, _⟩ => blk_simp [(idx' t).2.2.2.2.1]

/-- What the call leaves: the change of second weight. -/
theorem array16 : (dats m 0 c).arrAt 16 cfg0.N = val_main_v53 (F := Ideal) (m ((c : Thread nD τ).loc main_arg0)) (m ((c : Thread nD τ).loc main_arg1)) (m ((c : Thread nD τ).loc main_arg3)) (m ((c : Thread nD τ).loc main_arg6)) (m ((c : Thread nD τ).loc main_arg9)) := by
  refine (dats m 0 c).arrAt_eq_of_covers 16 _ (by decide +kernel) fun t hf y => ?_
  blk_simp
  rw [after0_16, point16]
  refine congrArg _ (funext fun a => Fin.ext ?_)
  match a with
  | ⟨0, _⟩ => blk_simp [(idx' t).2.2.2.2.2.1]
  | ⟨1, _⟩ => blk_simp [(idx' t).2.2.2.2.2.1]

/-- What the call leaves: the change of third weight. -/
theorem array17 : (dats m 0 c).arrAt 17 cfg0.N = val_main_v77 (F := Ideal) (m ((c : Thread nD τ).loc main_arg0)) (m ((c : Thread nD τ).loc main_arg1)) (m ((c : Thread nD τ).loc main_arg4)) (m ((c : Thread nD τ).loc main_arg7)) (m ((c : Thread nD τ).loc main_arg10)) := by
  refine (dats m 0 c).arrAt_eq_of_covers 17 _ (by decide +kernel) fun t hf y => ?_
  blk_simp
  rw [after0_17, point17]
  refine congrArg _ (funext fun a => Fin.ext ?_)
  match a with
  | ⟨0, _⟩ => blk_simp [(idx' t).2.2.2.2.2.2.1]

/-- What the call leaves: the first weight's first moment. -/
theorem array18 : (dats m 0 c).arrAt 18 cfg0.N = val_main_v10 (F := Ideal) (m ((c : Thread nD τ).loc main_arg0)) (m ((c : Thread nD τ).loc main_arg1)) (m ((c : Thread nD τ).loc main_arg5)) := by
  refine (dats m 0 c).arrAt_eq_of_covers 18 _ (by decide +kernel) fun t hf y => ?_
  blk_simp
  rw [after0_18, point18]
  refine congrArg _ (funext fun a => Fin.ext ?_)
  match a with
  | ⟨0, _⟩ => blk_simp [(idx' t).2.2.2.2.2.2.2.1]
  | ⟨1, _⟩ => blk_simp [(idx' t).2.2.2.2.2.2.2.1]

/-- What the call leaves: the second weight's first moment. -/
theorem array19 : (dats m 0 c).arrAt 19 cfg0.N = val_main_v34 (F := Ideal) (m ((c : Thread nD τ).loc main_arg0)) (m ((c : Thread nD τ).loc main_arg1)) (m ((c : Thread nD τ).loc main_arg6)) := by
  refine (dats m 0 c).arrAt_eq_of_covers 19 _ (by decide +kernel) fun t hf y => ?_
  blk_simp
  rw [after0_19, point19]
  refine congrArg _ (funext fun a => Fin.ext ?_)
  match a with
  | ⟨0, _⟩ => blk_simp [(idx' t).2.2.2.2.2.2.2.2.1]
  | ⟨1, _⟩ => blk_simp [(idx' t).2.2.2.2.2.2.2.2.1]

/-- What the call leaves: the third weight's first moment. -/
theorem array20 : (dats m 0 c).arrAt 20 cfg0.N = val_main_v58 (F := Ideal) (m ((c : Thread nD τ).loc main_arg0)) (m ((c : Thread nD τ).loc main_arg1)) (m ((c : Thread nD τ).loc main_arg7)) := by
  refine (dats m 0 c).arrAt_eq_of_covers 20 _ (by decide +kernel) fun t hf y => ?_
  blk_simp
  rw [after0_20, point20]
  refine congrArg _ (funext fun a => Fin.ext ?_)
  match a with
  | ⟨0, _⟩ => blk_simp [(idx' t).2.2.2.2.2.2.2.2.2.1]

/-- What the call leaves: the first weight's second moment. -/
theorem array21 : (dats m 0 c).arrAt 21 cfg0.N = val_main_v16 (F := Ideal) (m ((c : Thread nD τ).loc main_arg0)) (m ((c : Thread nD τ).loc main_arg1)) (m ((c : Thread nD τ).loc main_arg8)) := by
  refine (dats m 0 c).arrAt_eq_of_covers 21 _ (by decide +kernel) fun t hf y => ?_
  blk_simp
  rw [after0_21, point21]
  refine congrArg _ (funext fun a => Fin.ext ?_)
  match a with
  | ⟨0, _⟩ => blk_simp [(idx' t).2.2.2.2.2.2.2.2.2.2.1]
  | ⟨1, _⟩ => blk_simp [(idx' t).2.2.2.2.2.2.2.2.2.2.1]

/-- What the call leaves: the second weight's second moment. -/
theorem array22 : (dats m 0 c).arrAt 22 cfg0.N = val_main_v40 (F := Ideal) (m ((c : Thread nD τ).loc main_arg0)) (m ((c : Thread nD τ).loc main_arg1)) (m ((c : Thread nD τ).loc main_arg9)) := by
  refine (dats m 0 c).arrAt_eq_of_covers 22 _ (by decide +kernel) fun t hf y => ?_
  blk_simp
  rw [after0_22, point22]
  refine congrArg _ (funext fun a => Fin.ext ?_)
  match a with
  | ⟨0, _⟩ => blk_simp [(idx' t).2.2.2.2.2.2.2.2.2.2.2.1]
  | ⟨1, _⟩ => blk_simp [(idx' t).2.2.2.2.2.2.2.2.2.2.2.1]

/-- What the call leaves: the third weight's second moment. -/
theorem array23 : (dats m 0 c).arrAt 23 cfg0.N = val_main_v64 (F := Ideal) (m ((c : Thread nD τ).loc main_arg0)) (m ((c : Thread nD τ).loc main_arg1)) (m ((c : Thread nD τ).loc main_arg10)) := by
  refine (dats m 0 c).arrAt_eq_of_covers 23 _ (by decide +kernel) fun t hf y => ?_
  blk_simp
  rw [after0_23, point23]
  refine congrArg _ (funext fun a => Fin.ext ?_)
  match a with
  | ⟨0, _⟩ => blk_simp [(idx' t).2.2.2.2.2.2.2.2.2.2.2.2]

end Cert.Grad.Small10

end
-- ==== Proof.LossSpec11.lean ====
module

public import proofs.«01_k».proof.Proof.Norm

@[expose] public section

noncomputable section

/-! # The final norm, the loss and their gradients, over the real numbers -/

namespace Cert.Grad.Loss

open Idealize.ShloMosaic

/-- An array of one axis of real numbers. -/
def lift1 {n : ℕ} (X : ℕ → ℝ) : (⟨1, ![n]⟩ : Shape).Idx → EReal := fun j => ((X (j 0).val : ℝ) : EReal)

/-- An entry of such an array. -/
theorem lift1_at {n : ℕ} (X : ℕ → ℝ) (a : Fin n) : lift1 (n := n) X (ix1 a) = ((X a.val : ℝ) : EReal) := rfl

/-- The number 2. -/
theorem ofBits_two : Ideal.ofBits .f32 0x40000000#32 = ((2 : ℝ) : EReal) := by
  simp [Ideal.ofBits, Ideal.ieee, -EReal.coe_mul]; norm_num

/-- The number 1 / 1024. -/
theorem ofBits_inv1024 : Ideal.ofBits .f32 0x3A800000#32 = ((1 / 1024 : ℝ) : EReal) := by
  simp [Ideal.ofBits, Ideal.ieee, -EReal.coe_mul]; norm_num

/-- The number 1 / 2048. -/
theorem ofBits_inv2048 : Ideal.ofBits .f32 0x3A000000#32 = ((1 / 2048 : ℝ) : EReal) := by
  simp [Ideal.ofBits, Ideal.ieee, -EReal.coe_mul]; norm_num

variable (X T : ℕ → ℕ → ℝ) (G : ℕ → ℝ)

/-- The final norm's output minus the target. -/
def err (s d : ℕ) : ℝ := nrm X s d * G d - T s d
/-- The gradient of the final norm's output. -/
def dout (s d : ℕ) : ℝ := err X T G s d * (1 / 1024)
/-- … times the gain. -/
def dn (s d : ℕ) : ℝ := dout X T G s d * G d
/-- The gradient of the final norm's input. -/
def dh (s d : ℕ) : ℝ :=
  rs X s * (dn X T G s d - nrm X s d * ((∑ k : Fin 1024, dn X T G s k.val * nrm X s k.val) / 1024))
/-- A row's sum of squared errors. -/
def sq (s : ℕ) : ℝ := ∑ d : Fin 1024, err X T G s d.val * err X T G s d.val
/-- The loss. -/
def loss : ℝ := 1 / 2 * ∑ s : Fin 2048, sq X T G s.val / 1024
/-- The gradient of the gain. -/
def dfg (d : ℕ) : ℝ := ∑ s : Fin 2048, dout X T G s.val d * nrm X s.val d

/-- The gradient through the norm, written with the derivative of the reciprocal root, in the form the call computes. -/
theorem dh_form (s d : ℕ) :
    dn X T G s d * rs X s
        + X s d * ((∑ k : Fin 1024, X s k.val * dn X T G s k.val) * (-(1 / 2) * (rs X s / ms X s)) / 1024)
        + (∑ k : Fin 1024, X s k.val * dn X T G s k.val) * (-(1 / 2) * (rs X s / ms X s)) / 1024 * X s d
      = dh X T G s d := by
  have e : (∑ k : Fin 1024, dn X T G s k.val * nrm X s k.val)
      = (∑ k : Fin 1024, X s k.val * dn X T G s k.val) * rs X s := by
    rw [Finset.sum_mul]
    exact Finset.sum_congr rfl fun k _ => by unfold nrm; ring
  unfold dh
  rw [e, div_eq_mul_inv (rs X s), ← rs_sq X s]
  unfold nrm
  ring

/-- The residual stream behind the convolution layer: the layer's input plus its output projection. -/
def resid (BG CG U CW QM KV Z H WO : ℕ → ℕ → ℝ) (s d : ℕ) : ℝ :=
  H s d + ∑ j : Fin 1280, yv BG CG U CW QM KV Z s j.val * WO j.val d

end Cert.Grad.Loss

end
-- ==== Proof.LossTile11.lean ====
module

public import proofs.«01_k».proof.Proof.Tile
public import proofs.«01_k».proof.Proof.LossSpec11
public import proofs.«01_k».proof.Proof.Gen.Kernel11Ideal.Value

@[expose] public section

set_option maxRecDepth 16384

noncomputable section

/-! # The convolution layer's output and the loss on one tile of rows -/

namespace Cert.Grad.Loss

open Idealize.ShloMosaic Idealize.ShloMosaic.TcCoe Cert.Kernel11Ideal Cert.Kernel11Ideal.Gen
open Cert.Grad.Ker (cv t1 t2 half_tanh coe_ite row_at0 row_at1 floor_head sel_head0 sel_head1 sel_head2 sel_head3 stack sum_stack_lane)

/-- The tile's number in the form of the other call, whose last point works on the first rows. -/
def mark (x : BitVec 32) : BitVec 32 := if x = 0#32 then 3#32 else 0#32

/-- The first tile's number. -/
theorem mark_iff (x : BitVec 32) : mark x = 3#32 ↔ x = 0#32 := by
  unfold mark
  split
  · rename_i h; simp [h]
  · rename_i h; simp [h]

/-- The choice made in the first tile. -/
theorem sel_zero {α : Type} (x : BitVec 32) (a b : α) :
    Scalar.select (Scalar.cmpi .eq x 0#32) a b = if mark x = 3#32 then a else b := by
  by_cases h : x = 0#32
  · subst h; rfl
  · rw [if_neg (mt (mark_iff x).mp h)]; simp only [Scalar.cmpi, IntOp.cmpi, Scalar.select, beq_eq_false_iff_ne.mpr h]; rfl

/-! ## The gated branches -/

section
variable (i : grid0.Coords) (c u cp up b z w0 w1 w2 Q KV : ℕ → ℕ → ℝ)

/-- The columns of the convolution branch. -/
theorem gate_eq :
    k0_pay8 (F := Ideal) (k0_pay5 (lift2 c) (lift2 u)) (k0_pay6 i (lift2 c) (lift2 u) (lift2 cp) (lift2 up) (lift2 w0) (lift2 w1)) (lift2 w2)
      (lift2 z) (lift2 b)
      = lift2 (fun r k => b r k * cv (mark (BitVec.ofNat 32 (i 0).val)) c u cp up w0 w1 w2 r k * (z r k * lgst (z r k))) := by
  funext j; idx_vars j
  pointwise [k0_pay5, k0_pay6, k0_pay7, k0_pay8]
  simp only [lift2_at, half_tanh, row_at0, row_at1, sel_zero, ← EReal.coe_zero, ← EReal.coe_mul, ← EReal.coe_add,
    coe_ite, Nat.zero_add, cv, t1, t2]
  rfl

/-- The stacked queries, the choice of the block of rows and of the head written out. -/
theorem stack_eq (R : ℕ) (hR : R < 2048) (x : ℕ) :
    (if R < 512 then (if x / 64 = 0 then ((Q R x : ℝ) : EReal) else 0)
      else if R - 512 < 512 then (if x / 64 = 1 then ((Q (R - 512) x : ℝ) : EReal) else 0)
      else if R - 512 - 512 < 512 then (if x / 64 = 2 then ((Q (R - 512 - 512) x : ℝ) : EReal) else 0)
      else (if x / 64 = 3 then ((Q (R - 512 - 512 - 512) x : ℝ) : EReal) else 0)) = ((stack Q R x : ℝ) : EReal) := by
  unfold stack
  split_ifs <;> first | rfl | (exfalso; omega) | (congr 2; omega)

/-- The attention weights over the memory, heads under one another. -/
theorem weights_eq :
    k0_pay12 (F := Ideal) (lift2 KV) (k0_pay9 (lift2 Q)) (iota Kind.tc S512x256 32 [1] iota_S512x256_d1_w32) 64#32 k0_pay10 k0_pay11
      (Scalar.subi (Scalar.extui (Scalar.cmpi CmpIPredicate.sgt 64#32 0#32)) (Scalar.extui (Scalar.cmpi CmpIPredicate.slt 64#32 0#32)))
      = lift2 (fun R k => pw Q KV (R / 512) (R % 512) k) := by
  funext i; idx_vars i
  pointwise [k0_pay12, k0_pay9, k0_pay10, k0_pay11]
  have key : ∀ k : Fin 256, (∑ x : Fin 256, stack Q i0.val x.val * KV k.val x.val) * (1 / 8) = sc Q KV (i0 / 512) (i0 % 512) k := fun k => by
    rw [sum_stack_lane Q (fun x => KV k.val x) i0 i0.isLt]; rfl
  simp only [floor_head, sel_head0, sel_head1, sel_head2, sel_head3, lift2_at, dite_eq_ite, stack_eq Q _ i0.isLt]
  simp only [ofBits_eighth, ← EReal.coe_mul, coe_sum, ofBits_negInf, key, mx_eq, ← EReal.coe_sub, Ideal.exp_coe, ofBits_one, ← EReal.coe_one]
  rw [div_real _ _ (den_shift_ne Q KV _ _ _), ← EReal.coe_mul, mul_one_div, pw_shift]

/-- The same, the divisor's sign as the word it is. -/
theorem weights_one :
    k0_pay12 (F := Ideal) (lift2 KV) (k0_pay9 (lift2 Q)) (iota Kind.tc S512x256 32 [1] iota_S512x256_d1_w32) 64#32 k0_pay10 k0_pay11 1#32
      = lift2 (fun R k => pw Q KV (R / 512) (R % 512) k) := weights_eq Q KV

/-- The columns of the memory branch. -/
theorem mem_eq :
    k0_pay14 (F := Ideal) (k0_pay7 (lift2 z)) (lift2 (fun R k => pw Q KV (R / 512) (R % 512) k)) (k0_pay13 (lift2 KV))
      = lift2 (fun r j => mo Q KV r j * (z r (1024 + j) * lgst (z r (1024 + j)))) := by
  funext i; idx_vars i
  pointwise [k0_pay14, k0_pay7, k0_pay13]
  simp only [floor_head, sel_head1, sel_head2, sel_head3, lift2_at, half_tanh, ← EReal.coe_mul, coe_sum, coe_ite]
  have h0 := i0.isLt
  have h1 := i1.isLt
  refine congrArg _ (congrArg (· * _) ?_)
  unfold mo
  split_ifs with a b c
  · rw [show (1536 + (i0 : ℕ)) / 512 = i1 / 64 by omega, show (1536 + (i0 : ℕ)) % 512 = i0 by omega]
  · rw [show (1024 + (i0 : ℕ)) / 512 = i1 / 64 by omega, show (1024 + (i0 : ℕ)) % 512 = i0 by omega]
  · rw [show (512 + (i0 : ℕ)) / 512 = i1 / 64 by omega, show (512 + (i0 : ℕ)) % 512 = i0 by omega]
  · rw [show (i0 : ℕ) / 512 = i1 / 64 by omega, show (i0 : ℕ) % 512 = i0 by omega]
end

/-! ## The norm and the loss -/

section
variable (h y w g t : ℕ → ℕ → ℝ)

/-- The residual stream's rows. -/
def stream (r d : ℕ) : ℝ := h r d + ∑ j : Fin 1280, y r j.val * w j.val d

/-- The residual stream's rows, as the call computes them. -/
theorem pay15_eq : k0_pay15 (F := Ideal) (lift2 h) (lift2 y) (lift2 w) = lift2 (stream h y w) := by
  funext i; idx_vars i; pointwise [k0_pay15]
  simp only [lift2_at, ← EReal.coe_mul, coe_sum, ← EReal.coe_add, stream]

/-- The reciprocal roots. -/
theorem pay16_eq : k0_pay16 (F := Ideal) (lift2 h) (lift2 y) (lift2 w) = lift2 (fun r _ => rs (stream h y w) r) := by
  funext i; idx_vars i; pointwise [k0_pay16, pay15_eq]
  simp only [lift2_at, ofBits_eps, ofBits_1024, ← EReal.coe_mul, coe_sum, div_real _ _ (by norm_num : (1024 : ℝ) ≠ 0), ← EReal.coe_add]
  exact rsqrt_real _ (ms_pos _ _)

/-- The normalised rows. -/
theorem pay17_eq : k0_pay17 (F := Ideal) (lift2 h) (lift2 y) (lift2 w) = lift2 (nrm (stream h y w)) := by
  funext i; idx_vars i; pointwise [k0_pay17, pay15_eq, pay16_eq]
  simp only [lift2_at, ← EReal.coe_mul, nrm]

/-- The errors. -/
theorem pay19_eq : k0_pay19 (F := Ideal) (lift2 h) (lift2 y) (lift2 w) (lift2 g) (lift2 t) = lift2 (err (stream h y w) t (g 0)) := by
  funext i; idx_vars i; pointwise [k0_pay19, k0_pay18, pay17_eq]
  simp only [lift2_at, ← EReal.coe_mul, ← EReal.coe_sub, err]
  rfl

/-- The gradient of the norm's output. -/
theorem pay20_eq : k0_pay20 (F := Ideal) (lift2 h) (lift2 y) (lift2 w) (lift2 g) (lift2 t) = lift2 (dout (stream h y w) t (g 0)) := by
  funext i; idx_vars i; pointwise [k0_pay20, pay19_eq]
  simp only [lift2_at, ofBits_inv1024, ← EReal.coe_mul, dout]

/-- The gradient of the residual stream. -/
theorem pay21_eq : k0_pay21 (F := Ideal) (lift2 h) (lift2 y) (lift2 w) (lift2 g) (lift2 t) = lift2 (dh (stream h y w) t (g 0)) := by
  funext i; idx_vars i; pointwise [k0_pay21, k0_pay18, pay16_eq, pay17_eq, pay20_eq]
  simp only [lift2_at, ofBits_1024, ← EReal.coe_mul, coe_sum, div_real _ _ (by norm_num : (1024 : ℝ) ≠ 0), ← EReal.coe_sub]
  rfl

/-- The loss starts at zero … -/
theorem pay1_eq : k0_pay1 (F := Ideal) = lift2 (fun _ _ => 0) := by
  funext i; unfold k0_pay1; simp [lift2]; rfl
/-- … and so does the gain's gradient. -/
theorem pay2_eq : k0_pay2 (F := Ideal) = lift2 (fun _ _ => 0) := by
  funext i; unfold k0_pay2; simp [lift2]; rfl

/-- The sum of all entries of an array under a leading axis of one. -/
theorem total_apply {n m : ℕ} (v : FVec Ideal ⟨2, ![n, m]⟩ .f32) (hs : (⟨2, ![n, m]⟩ : Shape).ShapeCasts ⟨3, ![1, n, m]⟩)
    (hr : (⟨3, ![1, n, m]⟩ : Shape).Reduces [1, 2] ⟨1, ![1]⟩) (j : (⟨1, ![1]⟩ : Shape).Idx) :
    FloatOps.reduceAdd (F := Ideal) [1, 2] hr (shapeCast ⟨3, ![1, n, m]⟩ v hs) j = ∑ a : Fin n, ∑ b : Fin m, v (ix2 a b) := by
  idx_vars j
  pointwise []
  refine Finset.sum_congr rfl fun a _ => Finset.sum_congr rfl fun b _ => congrArg v ?_
  refine Shape.reshapeEquiv_eq_of_vals _ _ _ (a.val * m + b.val) _ (rowMajor_val2 _ m rfl) (rowMajor_val3 _ _ _ rfl rfl) ?_
  show _ = 0 * _ + a.val * m + b.val
  rw [Nat.zero_mul, Nat.zero_add]

/-- The only entry of an array of one entry. -/
theorem one_entry (v : FVec Ideal S1 .f32) : extractAt ![0, 0, 0] (shapeCast S1x1x1 v shapeCasts_S1_S1x1x1) inpos_S1x1x1_p0_0_0 = v (ix1 0) := by
  refine congrArg v ?_
  funext a
  match a with
  | ⟨0, _⟩ => exact Subsingleton.elim (α := Fin 1) _ _

/-- A tile's share of the loss is added. -/
theorem pay3_eq (e acc : ℕ → ℕ → ℝ) : k0_pay3 (F := Ideal) (lift2 e) (lift2 acc)
    = lift2 (fun r k => acc r k + (∑ s : Fin 512, ∑ d : Fin 1024, e s.val d.val * e s.val d.val) * (1 / 2048)) := by
  have key : ∀ j, FloatOps.reduceAdd (F := Ideal) [1, 2] reduces_S1x512x1024_S1
      (shapeCast S1x512x1024 (mulf (F := Ideal) (s := S512x1024) (φ := .f32) (lift2 e) (lift2 e)) shapeCasts_S512x1024_S1x512x1024) j
        = ((∑ s : Fin 512, ∑ d : Fin 1024, e s.val d.val * e s.val d.val : ℝ) : EReal) := fun j => by
    rw [total_apply]
    have h1 : ∀ (a : Fin 512) (b : Fin 1024), mulf (F := Ideal) (s := S512x1024) (φ := .f32) (lift2 e) (lift2 e) (ix2 a b)
        = ((e a.val b.val * e a.val b.val : ℝ) : EReal) := fun a b => by
      show lift2 e (ix2 a b) * lift2 e (ix2 a b) = _
      rw [lift2_at, EReal.coe_mul]
    simp only [h1, coe_sum]
  funext i
  unfold k0_pay3
  rw [shapeCast_id, one_entry]
  generalize hq : multiReduction (F := Ideal) .add [1, 2] S1 (shapeCast S1x512x1024 (mulf (F := Ideal) (s := S512x1024) (φ := .f32) (lift2 e) (lift2 e))
    shapeCasts_S512x1024_S1x512x1024) 0x00000000#32 reduces_S1x512x1024_S1 (.inl rfl) rfl (ix1 0) = q
  have e1 : q = ((∑ s : Fin 512, ∑ d : Fin 1024, e s.val d.val * e s.val d.val : ℝ) : EReal) :=
    hq.symm.trans ((multiReduction_add_apply _ _ _ _ _ _).trans (key _))
  clear hq
  idx_vars i
  pointwise [e1]
  simp only [lift2_at, ofBits_inv2048, ← EReal.coe_mul, ← EReal.coe_add]

/-- A tile's share of the gain's gradient is added. -/
theorem pay4_eq (n d acc : ℕ → ℕ → ℝ) : k0_pay4 (F := Ideal) (lift2 n) (lift2 d) (lift2 acc)
    = lift2 (fun r k => acc r k + ∑ s : Fin 512, d s.val k * n s.val k) := by
  funext i; idx_vars i; pointwise [k0_pay4]
  simp only [lift2_at, ← EReal.coe_mul, coe_sum, ← EReal.coe_add]
end

end Cert.Grad.Loss

end
-- ==== Proof.Loss11.lean ====
module

public import proofs.«01_k».proof.Proof.LossTile11
public import proofs.«01_k».proof.Proof.Assemble
public import proofs.«01_k».proof.Proof.Loads

@[expose] public section

set_option maxRecDepth 16384

noncomputable section

/-! # The call for the convolution layer's output, the final norm and the loss -/

namespace Cert.Grad.Loss

open Idealize.ShloMosaic Idealize.ShloMosaic.TcCoe Cert.Kernel11Ideal Cert.Kernel11Ideal.Gen
open Idealize.ShloMosaic.Pipeline (Dat)
open Cert.Grad.Ker (At cv canon_step)

/-! ## The blocks at a grid point -/

variable (m : (ℓ : Loc nD τ sig) → Buf (Elt Ideal) ℓ) (c : Dev nD)

/-- The first of the eight rows just above the tile (the array's own first rows for the top tile). -/
def row8 (t : ℕ) : ℕ := (64 * t - 1) * 8

/-- Which block each row-tiled window shows at a point. -/
theorem idxRows : ∀ t : Fin cfg0.N, win0_0.index t = ![t.val, 0] ∧ win0_1.index t = ![t.val, 0] ∧ win0_2.index t = ![t.val, 0]
    ∧ win0_6.index t = ![t.val, 0] ∧ win0_8.index t = ![t.val, 0] ∧ win0_9.index t = ![t.val, 0] ∧ win0_12.index t = ![t.val, 0]
    ∧ win0_13.index t = ![t.val, 0] :=
  (by decide +kernel : ∀ t : Fin grid0.N, _)
/-- Which block the two windows of the rows above show. -/
theorem idxAbove : ∀ t : Fin cfg0.N, win0_3.index t = ![64 * t.val - 1, 0] ∧ win0_4.index t = ![64 * t.val - 1, 0] :=
  (by decide +kernel : ∀ t : Fin grid0.N, _)
/-- The windows that show their whole array at every point. -/
theorem idxWhole : ∀ t : Fin cfg0.N, win0_5.index t = ![0, 0] ∧ win0_7.index t = ![0, 0] ∧ win0_10.index t = ![0, 0] ∧ win0_11.index t = ![0, 0] :=
  (by decide +kernel : ∀ t : Fin grid0.N, _)

/-- The arguments, as arrays of numbers. -/
structure Args (BG CG UG CW QM KV ZG H WO : ℕ → ℕ → ℝ) (G : ℕ → ℝ) (T : ℕ → ℕ → ℝ) : Prop where
  a0 : m ((c : Thread nD τ).loc main_arg0) = lift2 BG
  a1 : m ((c : Thread nD τ).loc main_arg1) = lift2 CG
  a2 : m ((c : Thread nD τ).loc main_arg2) = lift2 UG
  a3 : m ((c : Thread nD τ).loc main_arg3) = lift2 CW
  a4 : m ((c : Thread nD τ).loc main_arg4) = lift2 QM
  a5 : m ((c : Thread nD τ).loc main_arg5) = lift2 KV
  a6 : m ((c : Thread nD τ).loc main_arg6) = lift2 ZG
  a7 : m ((c : Thread nD τ).loc main_arg7) = lift2 H
  a8 : m ((c : Thread nD τ).loc main_arg8) = lift2 WO
  a9 : m ((c : Thread nD τ).loc main_arg9) = lift1 G
  a10 : m ((c : Thread nD τ).loc main_arg10) = lift2 T

variable {BG CG UG CW QM KV ZG H WO T : ℕ → ℕ → ℝ} {G : ℕ → ℝ}

section
variable {m c}
variable (a : Args m c BG CG UG CW QM KV ZG H WO G T) (t : Fin cfg0.N)
include a

/-- The block of the gate B is the point's tile of rows. -/
theorem blk0 : iblk m c 0 t = lift2 fun r k => BG (t.val * 512 + r) k := by
  funext y
  blk_simp [iblk]
  rw [V_main_arg0, a.a0]
  unfold lift2
  blk_simp [(idxRows t).1]

/-- The block of the gate C is the point's tile of rows. -/
theorem blk1 : iblk m c 1 t = lift2 fun r k => CG (t.val * 512 + r) k := by
  funext y
  blk_simp [iblk]
  rw [V_main_arg1, a.a1]
  unfold lift2
  blk_simp [(idxRows t).2.1]

/-- The block of the values u is the point's tile of rows. -/
theorem blk2 : iblk m c 2 t = lift2 fun r k => UG (t.val * 512 + r) k := by
  funext y
  blk_simp [iblk]
  rw [V_main_arg2, a.a2]
  unfold lift2
  blk_simp [(idxRows t).2.2.1]

/-- The block of the queries is the point's tile of rows. -/
theorem blk6 : iblk m c 6 t = lift2 fun r k => QM (t.val * 512 + r) k := by
  funext y
  blk_simp [iblk]
  rw [V_main_arg4, a.a4]
  unfold lift2
  blk_simp [(idxRows t).2.2.2.1]

/-- The block of the output gate is the point's tile of rows. -/
theorem blk8 : iblk m c 8 t = lift2 fun r k => ZG (t.val * 512 + r) k := by
  funext y
  blk_simp [iblk]
  rw [V_main_arg6, a.a6]
  unfold lift2
  blk_simp [(idxRows t).2.2.2.2.1]

/-- The block of the residual stream is the point's tile of rows. -/
theorem blk9 : iblk m c 9 t = lift2 fun r k => H (t.val * 512 + r) k := by
  funext y
  blk_simp [iblk]
  rw [V_main_arg7, a.a7]
  unfold lift2
  blk_simp [(idxRows t).2.2.2.2.2.1]

/-- The block of the target is the point's tile of rows. -/
theorem blk12 : iblk m c 12 t = lift2 fun r k => T (t.val * 512 + r) k := by
  funext y
  blk_simp [iblk]
  rw [V_main_arg10, a.a10]
  unfold lift2
  blk_simp [(idxRows t).2.2.2.2.2.2.1]

/-- The rows of the gate C above the tile. -/
theorem blk3 : iblk m c 3 t = lift2 fun r k => CG (row8 t.val + r) k := by
  funext y
  blk_simp [iblk]
  rw [V_main_arg1, a.a1]
  unfold lift2
  blk_simp [(idxAbove t).1]
  rfl

/-- The rows of the values u above the tile. -/
theorem blk4 : iblk m c 4 t = lift2 fun r k => UG (row8 t.val + r) k := by
  funext y
  blk_simp [iblk]
  rw [V_main_arg2, a.a2]
  unfold lift2
  blk_simp [(idxAbove t).2]
  rfl

/-- The block of the keys and values is all of it. -/
theorem blk7 : iblk m c 7 t = lift2 KV := by
  funext y
  blk_simp [iblk]
  rw [V_main_arg5, a.a5]
  unfold lift2
  blk_simp [(idxWhole t).2.1]

/-- The block of the output weights is all of it. -/
theorem blk10 : iblk m c 10 t = lift2 WO := by
  funext y
  blk_simp [iblk]
  rw [V_main_arg8, a.a8]
  unfold lift2
  blk_simp [(idxWhole t).2.2.1]

/-- The taps' weights, padded to eight rows before the call. -/
theorem pad0 : V m c main_v0 = lift2 fun r k => if r < 3 then CW r k else 0 := by
  entry_read
  simp only [List.flatten_cons, List.flatten_nil, List.append_nil, List.cons_append, List.nil_append]
  after_results
  show pad S8x1024 ![0, 0] ![5, 0] ![0, 0] (m ((c : Thread nD τ).loc main_arg3)) (sitofp (F := Ideal) .f32 (constantI S_ 32 0#32))
    pads_S3x1024_S8x1024_050_000 h_S_ = _
  rw [a.a3]
  funext y
  have hy : (y 1).val < 1024 := (y 1).isLt
  unfold pad
  split
  · rename_i hin
    have h0 : (y 0).val < 3 := by simpa using (hin 0).2.2
    simp [lift2, h0]
  · rename_i hout
    have h0 : ¬(y 0).val < 3 := fun h3 => hout fun a => by
      match a with
      | ⟨0, _⟩ => exact ⟨Nat.zero_le _, Nat.mod_one _, by simpa using h3⟩
      | ⟨1, _⟩ => exact ⟨Nat.zero_le _, Nat.mod_one _, by simpa using hy⟩
    simp [lift2, h0, sitofp, constantI]
    show (((0#32 : BitVec 32).toInt : ℝ) : EReal) = 0
    simp

/-- What the taps' window shows at a point. -/
theorem blk5 : iblk m c 5 t = lift2 fun r k => if r < 3 then CW r k else 0 := by
  funext y
  blk_simp [iblk]
  rw [pad0 a]
  unfold lift2
  blk_simp [(idxWhole t).1]

/-- The gain, as one row. -/
theorem blk11 : iblk m c 11 t = lift2 fun _ k => G k := by
  have e : V m c main_v1 = fun y : S1x1024.Idx => m ((c : Thread nD τ).loc main_arg9) (ix1 (y 1)) := by
    entry_read
    simp only [List.flatten_cons, List.flatten_nil, List.append_nil, List.cons_append, List.nil_append]
    after_results
    funext y
    idx_vars y
    pointwise []
  have e' : V m c main_v1 = lift2 fun _ k => G k := by
    rw [e, a.a9]
    rfl
  funext y
  blk_simp [iblk]
  rw [e']
  unfold lift2
  blk_simp [(idxWhole t).2.2.2]
end

/-- The first point works on the array's first rows. -/
theorem top_iff : ∀ t : Fin cfg0.N, mark (BitVec.ofNat 32 (grid0.coords t 0).val) = 3#32 ↔ t.val * 512 = 0 :=
  (by decide +kernel : ∀ t : Fin grid0.N, mark (BitVec.ofNat 32 (grid0.coords t 0).val) = 3#32 ↔ t.val * 512 = 0)

/-- What the lemmas about a tile need, at each point. -/
theorem at_point (t : Fin cfg0.N) :
    At (fun _ _ => 0) BG CG UG CW QM ZG WO (mark (BitVec.ofNat 32 (grid0.coords t 0).val)) (t.val * 512) (fun _ _ => 0)
      (fun r k => BG (t.val * 512 + r) k) (fun r k => CG (t.val * 512 + r) k) (fun r k => UG (t.val * 512 + r) k)
      (fun r k => CG (row8 t.val + r) k) (fun r k => UG (row8 t.val + r) k)
      (fun r k => if r < 3 then CW r k else 0) (fun r k => QM (t.val * 512 + r) k) (fun r k => ZG (t.val * 512 + r) k)
      (fun r k => if t.val * 512 + 512 + r < 2048 then dc (fun _ _ => 0) BG ZG WO (t.val * 512 + 512 + r) k else 0) where
  first := top_iff t
  low h := by omega
  top := by have : t.val < 4 := t.isLt; omega
  hD _ _ := rfl
  hB _ _ := rfl
  hC _ _ := rfl
  hU _ _ := rfl
  hQ _ _ := rfl
  hZ _ _ := rfl
  hCP h r k := by
    have e : row8 t.val = t.val * 512 - 8 := by unfold row8; omega
    rw [e]
  hUP h r k := by
    have e : row8 t.val = t.val * 512 - 8 := by unfold row8; omega
    rw [e]
  hW r k hr := if_pos hr
  hCA _ _ _ := rfl

/-- A load of the whole gated output reads what the stores left. -/
theorem readCov_all (L : List (View.Piece (Elt Ideal) S512x1280 .bf16)) (h) :
    (View.whole cc0_scratch0).readCov L (Rect.unit (s := S512x1280) ![0, 0] ![512, 1280] h).toLoadRect = View.canon L := by
  rw [View.readCov_eq_canon']
  funext j
  refine congrArg (View.canon L) (funext fun a => Fin.ext ?_)
  show (![0, 0] : Fin 2 → ℕ) a + 1 * (j a : ℕ) = _
  fin_cases a <;> simp

/-- The gated branches that a point keeps are the tile's rows. -/
theorem buf_eq (n : ℕ) (hn : n < cfg0.N) :
    (View.whole cc0_scratch0).readCov (Val := Elt Ideal)
        ([⟨Rect.unit ![0, 1024] ![512, 256] inb_S512x1280_S512x256_0_1024,
            k0_pay14 (F := Ideal) (k0_pay7 (F := Ideal) (lift2 fun r k => ZG (n * 512 + r) k))
              (k0_pay12 (F := Ideal) (lift2 KV) (k0_pay9 (F := Ideal) (lift2 fun r k => QM (n * 512 + r) k))
                (iota Kind.tc S512x256 32 [1] iota_S512x256_d1_w32) (64#32) k0_pay10 k0_pay11 1#32)
              (k0_pay13 (F := Ideal) (lift2 KV))⟩,
          ⟨Rect.unit ![0, 0] ![512, 1024] inb_S512x1280_S512x1024_0_0,
            k0_pay8 (F := Ideal) (k0_pay5 (F := Ideal) (lift2 fun r k => CG (n * 512 + r) k) (lift2 fun r k => UG (n * 512 + r) k))
              (k0_pay6 (F := Ideal) (grid0.coords ⟨n, hn⟩) (lift2 fun r k => CG (n * 512 + r) k) (lift2 fun r k => UG (n * 512 + r) k)
                (lift2 fun r k => CG (row8 n + r) k) (lift2 fun r k => UG (row8 n + r) k)
                (View.ld (Val := Elt Ideal) (S := S8x1024) (e' := .f32) (lift2 fun r k => if r < 3 then CW r k else 0)
                  (Rect.unit ![0, 0] ![1, 1024] inb_S8x1024_S1x1024_0_0))
                (View.ld (Val := Elt Ideal) (S := S8x1024) (e' := .f32) (lift2 fun r k => if r < 3 then CW r k else 0)
                  (Rect.unit ![1, 0] ![1, 1024] inb_S8x1024_S1x1024_1_0)))
              (View.ld (Val := Elt Ideal) (S := S8x1024) (e' := .f32) (lift2 fun r k => if r < 3 then CW r k else 0)
                (Rect.unit ![2, 0] ![1, 1024] inb_S8x1024_S1x1024_2_0))
              (lift2 fun r k => ZG (n * 512 + r) k) (lift2 fun r k => BG (n * 512 + r) k)⟩] : List (View.Piece (Elt Ideal) S512x1280 .bf16))
        (Rect.unit ![0, 0] ![512, 1280] inb_S512x1280_S512x1280_0_0).toLoadRect
      = lift2 fun r j => yv BG CG UG CW QM KV ZG (n * 512 + r) j := by
  have h := at_point (BG := BG) (CG := CG) (UG := UG) (CW := CW) (QM := QM) (ZG := ZG) (WO := fun _ _ => 0) ⟨n, hn⟩
  have cvq : ∀ r k, r < 512 → cv (mark (BitVec.ofNat 32 (grid0.coords ⟨n, hn⟩ 0).val)) (fun r k => CG (n * 512 + r) k) (fun r k => UG (n * 512 + r) k)
      (fun r k => CG (row8 n + r) k) (fun r k => UG (row8 n + r) k) (fun r k => if 0 + r < 3 then CW (0 + r) (0 + k) else 0)
      (fun r k => if 1 + r < 3 then CW (1 + r) (0 + k) else 0) (fun r k => if 2 + r < 3 then CW (2 + r) (0 + k) else 0) r k
        = conv CG UG CW (n * 512 + r) k := fun r k hr => by
    have e := h.cv_eq 0 r k hr
    simp only [Nat.zero_add] at e ⊢
    exact e
  rw [readCov_all, part2, part2, part2, gate_eq, weights_one, mem_eq]
  funext y
  refine canon_step (fun x hx => ?_) fun n0 => canon_step (fun x hx => ?_) fun n1 => ?_
  · have hx0 : (y 0).val = 0 + (x 0).val := hx 0
    have hx1 : (y 1).val = 1024 + (x 1).val := hx 1
    refine Cert.Grad.Ker.lift2_eq ?_
    have hr : (x 0).val < 512 := (x 0).isLt
    rw [hx0, hx1, Nat.zero_add]
    refine Eq.trans ?_ (Cert.Grad.Ker.yv_mem rfl)
    exact congrArg (· * _) (h.mo_eq _ _)
  · have hx0 : (y 0).val = 0 + (x 0).val := hx 0
    have hx1 : (y 1).val = 0 + (x 1).val := hx 1
    refine Cert.Grad.Ker.lift2_eq ?_
    have hr : (x 0).val < 512 := (x 0).isLt
    have hk : (x 1).val < 1024 := (x 1).isLt
    rw [hx0, hx1, Nat.zero_add, Nat.zero_add]
    refine Eq.trans ?_ (Cert.Grad.Ker.yv_gate hk)
    exact congrArg (fun v => BG (n * 512 + (x 0).val) (x 1).val * v * (ZG (n * 512 + (x 0).val) (x 1).val * lgst (ZG (n * 512 + (x 0).val) (x 1).val))) (cvq _ _ hr)
  · have hy0 : (y 0).val < 512 := (y 0).isLt
    have hy1 : (y 1).val < 1280 := (y 1).isLt
    refine absurd (fun a => ?_) n1
    have h1 : (y 1).val < 1024 := by
      by_contra hc
      refine n0 fun a => ?_
      match a with
      | ⟨0, _⟩ => exact ⟨Nat.zero_le _, by simpa using hy0⟩
      | ⟨1, _⟩ => exact ⟨by simpa using hc, by simpa using hy1⟩
    match a with
    | ⟨0, _⟩ => exact ⟨Nat.zero_le _, by simpa using hy0⟩
    | ⟨1, _⟩ => exact ⟨Nat.zero_le _, by simpa using h1⟩

section
variable {m c}
variable (a : Args m c BG CG UG CW QM KV ZG H WO G T)
include a

/-- The rows of the residual stream's gradient that each point writes. -/
theorem point13 (n : ℕ) (h : n < cfg0.N) :
    (outsAt0 m c n h).1 = lift2 fun r k => dh (resid BG CG UG CW QM KV ZG H WO) T G (n * 512 + r) k := by
  by_cases h0 : n % 4 = 0
  · rw [outsAt0_A m c ⟨n, h⟩ h0]
    frame_open
    simp (disch := decide) only [↓View.readCov_skip, ↓View.readCov_cons_toLoadRect, ↓View.readCov_fill]
    frame_out
    simp only [blk0 a, blk1 a, blk2 a, blk3 a, blk4 a, blk5 a, blk6 a, blk7 a, blk8 a, blk9 a, blk10 a, blk11 a, blk12 a, read_unread_whole]
    rw [buf_eq _ h, pay21_eq]
    rfl
  · rw [outsAt0_B m c ⟨n, h⟩ h0]
    frame_out
    simp only [blk0 a, blk1 a, blk2 a, blk3 a, blk4 a, blk5 a, blk6 a, blk7 a, blk8 a, blk9 a, blk10 a, blk11 a, blk12 a, read_unread_whole]
    rw [buf_eq _ h, pay21_eq]
    rfl

/-- The tile's share of the loss. -/
def lossShare (X T : ℕ → ℕ → ℝ) (G : ℕ → ℝ) (t : ℕ) : ℝ :=
  (∑ s : Fin 512, ∑ d : Fin 1024, err X T G (t * 512 + s.val) d.val * err X T G (t * 512 + s.val) d.val) * (1 / 2048)
/-- The tile's share of the gain's gradient. -/
def gainShare (X T : ℕ → ℕ → ℝ) (G : ℕ → ℝ) (t k : ℕ) : ℝ :=
  ∑ s : Fin 512, dout X T G (t * 512 + s.val) k * nrm X (t * 512 + s.val) k

/-- The loss after a point: the shares of the points so far. -/
theorem point14 : ∀ (n : ℕ) (h : n < cfg0.N), (outsAt0 m c n h).2.1
    = lift2 fun _ _ => ∑ t ∈ Finset.range (n + 1), lossShare (resid BG CG UG CW QM KV ZG H WO) T G t := by
  intro n
  induction n with
  | zero =>
    intro h
    rw [outsAt0_A m c ⟨0, h⟩ rfl]
    frame_open
    simp (disch := decide) only [↓View.readCov_skip, ↓View.readCov_cons_toLoadRect, ↓View.readCov_fill]
    frame_out
    simp only [blk0 a, blk1 a, blk2 a, blk3 a, blk4 a, blk5 a, blk6 a, blk7 a, blk8 a, blk9 a, blk10 a, blk11 a, blk12 a, read_unread_whole, pay1_eq]
    rw [buf_eq _ h, pay19_eq, pay3_eq]
    refine lift2_congr fun i k _ _ => ?_
    rw [Finset.sum_range_one]
    show (0 : ℝ) + lossShare (resid BG CG UG CW QM KV ZG H WO) T G 0 = _
    rw [zero_add]
  | succ n ih =>
    intro h
    have h0 : ¬(n + 1) % 4 = 0 := by have : n + 1 < 4 := h; omega
    rw [outsAt0_B m c ⟨n + 1, h⟩ h0]
    frame_out
    have e := ih (Nat.lt_of_succ_lt h)
    simp only [Nat.add_sub_cancel, e, blk0 a, blk1 a, blk2 a, blk3 a, blk4 a, blk5 a, blk6 a, blk7 a, blk8 a, blk9 a, blk10 a, blk11 a, blk12 a, read_unread_whole]
    rw [buf_eq _ h, pay19_eq, pay3_eq]
    refine lift2_congr fun i k _ _ => ?_
    rw [Finset.sum_range_succ _ (n + 1)]
    rfl

/-- The gain's gradient after a point: the shares of the points so far. -/
theorem point15 : ∀ (n : ℕ) (h : n < cfg0.N), (outsAt0 m c n h).2.2
    = lift2 fun _ k => ∑ t ∈ Finset.range (n + 1), gainShare (resid BG CG UG CW QM KV ZG H WO) T G t k := by
  intro n
  induction n with
  | zero =>
    intro h
    rw [outsAt0_A m c ⟨0, h⟩ rfl]
    frame_open
    simp (disch := decide) only [↓View.readCov_skip, ↓View.readCov_cons_toLoadRect, ↓View.readCov_fill]
    frame_out
    simp only [blk0 a, blk1 a, blk2 a, blk3 a, blk4 a, blk5 a, blk6 a, blk7 a, blk8 a, blk9 a, blk10 a, blk11 a, blk12 a, read_unread_whole, pay2_eq]
    rw [buf_eq _ h, pay17_eq, pay20_eq, pay4_eq]
    refine lift2_congr fun i k _ _ => ?_
    rw [Finset.sum_range_one]
    show (0 : ℝ) + gainShare (resid BG CG UG CW QM KV ZG H WO) T G 0 k = _
    rw [zero_add]
  | succ n ih =>
    intro h
    have h0 : ¬(n + 1) % 4 = 0 := by have : n + 1 < 4 := h; omega
    rw [outsAt0_B m c ⟨n + 1, h⟩ h0]
    frame_out
    have e := ih (Nat.lt_of_succ_lt h)
    simp only [Nat.add_sub_cancel, e, blk0 a, blk1 a, blk2 a, blk3 a, blk4 a, blk5 a, blk6 a, blk7 a, blk8 a, blk9 a, blk10 a, blk11 a, blk12 a, read_unread_whole]
    rw [buf_eq _ h, pay17_eq, pay20_eq, pay4_eq]
    refine lift2_congr fun i k _ _ => ?_
    rw [Finset.sum_range_succ _ (n + 1)]
    rfl

end

/-! ## The three results -/

section
variable {m c}
variable (a : Args m c BG CG UG CW QM KV ZG H WO G T)
include a

/-- The residual stream's gradient. -/
theorem array13 : (dats m 0 c).arrAt 13 cfg0.N = lift2 (dh (resid BG CG UG CW QM KV ZG H WO) T G) := by
  refine (dats m 0 c).arrAt_eq_of_covers 13 _ (by decide +kernel) fun t hf y => ?_
  blk_simp
  rw [after0_13, point13 a t.val t.isLt]
  unfold lift2
  blk_simp [(idxRows t).2.2.2.2.2.2.2]

/-- The loss. -/
theorem array14 : (dats m 0 c).arrAt 14 cfg0.N = lift2 (fun _ _ => loss (resid BG CG UG CW QM KV ZG H WO) T G) := by
  refine (dats m 0 c).arrAt_eq_of_after_last 14 t0_3 (by decide +kernel) _ fun j => ?_
  blk_simp
  rw [after0_14, point14 a]
  refine congrFun (lift2_congr fun i k _ _ => ?_) j
  unfold loss
  refine Eq.trans ?_ (congrArg (1 / 2 * ·) (Fin.sum_univ_univ_mul_add 4 512 fun s => sq (resid BG CG UG CW QM KV ZG H WO) T G s / 1024))
  rw [Finset.mul_sum]
  refine (Finset.sum_range _).trans (Finset.sum_congr rfl fun t _ => ?_)
  unfold lossShare sq
  rw [Finset.sum_mul, Finset.mul_sum]
  exact Finset.sum_congr rfl fun s _ => by ring

/-- The gain's gradient. -/
theorem array15 : (dats m 0 c).arrAt 15 cfg0.N = lift2 (fun _ d => dfg (resid BG CG UG CW QM KV ZG H WO) T G d) := by
  refine (dats m 0 c).arrAt_eq_of_after_last 15 t0_3 (by decide +kernel) _ fun j => ?_
  blk_simp
  rw [after0_15, point15 a]
  refine congrFun (lift2_congr fun i k _ _ => ?_) j
  exact (Finset.sum_range _).trans (Fin.sum_univ_univ_mul_add 4 512 fun s => dout (resid BG CG UG CW QM KV ZG H WO) T G s k * nrm (resid BG CG UG CW QM KV ZG H WO) s k)

end

end Cert.Grad.Loss

end
-- ==== Proof.LossRef11.lean ====
module

public import proofs.«01_k».proof.Proof.Gen.Reference11Ideal.Read
public import proofs.«01_k».proof.Proof.LossSpec11

@[expose] public section

set_option maxRecDepth 16384

noncomputable section

/-! # The convolution layer's output, the final norm, the loss and their gradients, as the reference computes them -/

namespace Cert.Grad.Loss.Ref

open Idealize.ShloMosaic Cert.Reference11Ideal Cert.Reference11Ideal.Read

variable (BG CG U CW QM KV Z H WO T : ℕ → ℕ → ℝ) (G : ℕ → ℝ)

/-! ## The layer -/

/-- The product that is convolved. -/
theorem v2_eq : val_main_v2 (F := Ideal) (lift2 CG) (lift2 U) = lift2 (av CG U) := by
  funext i; idx_vars i; pointwise [val_main_v2]
  simp only [lift2_at, ← EReal.coe_mul, av]

/-- The product one row earlier. -/
theorem v5_eq : val_main_v5 (F := Ideal) (lift2 CG) (lift2 U) = lift2 (tap1 CG U) := by
  funext i; idx_vars i; pointwise [val_main_v5, val_main_v4, v2_eq, val_main_v3, val_main_cst]
  by_cases h : (i0 : ℕ) < 1 <;> simp [lift2_at, tap1, h]

/-- The product two rows earlier. -/
theorem v8_eq : val_main_v8 (F := Ideal) (lift2 CG) (lift2 U) = lift2 (tap2 CG U) := by
  funext i; idx_vars i; pointwise [val_main_v8, val_main_v7, v2_eq, val_main_v6, val_main_cst_0]
  by_cases h : (i0 : ℕ) < 2 <;> simp [lift2_at, tap2, h]

/-- The convolution. -/
theorem v25_eq : val_main_v25 (F := Ideal) (lift2 CG) (lift2 U) (lift2 CW) = lift2 (conv CG U CW) := by
  funext i; idx_vars i
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, v2_eq, v5_eq, v8_eq]
  simp only [lift2_at, ← EReal.coe_mul, ← EReal.coe_add]
  rfl

/-- The scores over the memory. -/
theorem v32_eq : val_main_v32 (F := Ideal) (lift2 QM) (lift2 KV) = lift3 (sc QM KV) := by
  funext i; idx_vars i
  pointwise [val_main_v32, val_main_v31, val_main_v30, val_main_v29, val_main_v28, val_main_v26, val_main_v1, val_main_v0, val_main_cst_1]
  simp only [lift2_at, lift3_at, ofBits_eighth, ← EReal.coe_mul, coe_sum]
  rfl

/-- Their largest in each row. -/
theorem v33_eq : val_main_v33 (F := Ideal) (lift2 QM) (lift2 KV) = lift2 (mx QM KV) := by
  funext i; idx_vars i
  pointwise [val_main_v33, v32_eq, val_main_cst_2]
  simp only [lift2_at, lift3_at, ofBits_negInf]
  exact mx_eq QM KV i0 i1

/-- Their exponentials. -/
theorem v39_eq : val_main_v39 (F := Ideal) (lift2 QM) (lift2 KV)
    = lift3 (fun h s k => Real.exp (sc QM KV h s k - mx QM KV h s)) := by
  funext i; idx_vars i
  pointwise [val_main_v39, val_main_v38, val_main_v37, val_main_v36, val_main_v35, val_main_v34, val_main_cst_3, v32_eq, v33_eq]
  simp only [lift2_at, lift3_at, ofBits_negInf, bot_sup_eq, ← EReal.coe_sub, Ideal.exp_coe]

/-- The sums of the exponentials. -/
theorem v40_eq : val_main_v40 (F := Ideal) (lift2 QM) (lift2 KV)
    = lift2 (fun h s => ∑ k : Fin 256, Real.exp (sc QM KV h s k.val - mx QM KV h s)) := by
  funext i; idx_vars i
  pointwise [val_main_v40, v39_eq, val_main_cst_4]
  simp only [lift2_at, lift3_at, coe_sum]

/-- The softmax. -/
theorem v43_eq : val_main_v43 (F := Ideal) (lift2 QM) (lift2 KV) = lift3 (pw QM KV) := by
  funext i; idx_vars i
  pointwise [val_main_v43, val_main_v42, val_main_v41, v39_eq, v40_eq]
  simp only [lift2_at, lift3_at]
  rw [div_real _ _ (den_shift_ne QM KV _ _ _), pw_shift]

/-- The memory's output. -/
theorem v47_eq : val_main_v47 (F := Ideal) (lift2 QM) (lift2 KV) = lift2 (mo QM KV) := by
  funext i; idx_vars i
  pointwise [val_main_v47, val_main_v46, val_main_v45, val_main_v44, val_main_v27, val_main_v1, v43_eq]
  simp only [lift2_at, lift3_at, ← EReal.coe_mul, coe_sum]
  unfold mo
  congr 1
  exact Finset.sum_congr rfl fun k _ => mul_comm _ _

/-- The branches side by side. -/
theorem v49_eq : val_main_v49 (F := Ideal) (lift2 BG) (lift2 CG) (lift2 U) (lift2 CW) (lift2 QM) (lift2 KV)
    = lift2 (y0 BG CG U CW QM KV) := by
  funext i; idx_vars i
  pointwise [val_main_v49, val_main_v48, v25_eq, v47_eq]
  simp only [lift2_at, ← EReal.coe_mul, y0]
  split <;> rfl

/-- The SiLU of the gate. -/
theorem v50_eq : val_main_v50 (F := Ideal) (lift2 Z) = lift2 (fun s j => Z s j * lgst (Z s j)) := by
  funext i; idx_vars i
  pointwise [val_main_v50, val_main_call0_v5, val_main_call0_v4, val_main_call0_v3, val_main_call0_v2, val_main_call0_v1, val_main_call0_v0,
    val_main_call0_cst, val_main_call0_cst_0]
  simp only [lift2_at, ← EReal.coe_one, ← EReal.coe_neg, Ideal.exp_coe, ← EReal.coe_add]
  rw [div_real _ _ (by positivity), ← EReal.coe_mul, lgst, one_div]

/-- The gated branches. -/
theorem v51_eq : val_main_v51 (F := Ideal) (lift2 BG) (lift2 CG) (lift2 U) (lift2 CW) (lift2 QM) (lift2 KV) (lift2 Z)
    = lift2 (yv BG CG U CW QM KV Z) := by
  funext i; idx_vars i
  pointwise [val_main_v51, v49_eq, v50_eq]
  simp only [lift2_at, ← EReal.coe_mul, yv]

/-- The residual stream behind the layer. -/
theorem v54_eq : val_main_v54 (F := Ideal) (lift2 BG) (lift2 CG) (lift2 U) (lift2 CW) (lift2 QM) (lift2 KV) (lift2 Z) (lift2 H) (lift2 WO)
    = lift2 (resid BG CG U CW QM KV Z H WO) := by
  funext i; idx_vars i
  pointwise [val_main_v54, val_main_v53, val_main_v52, v51_eq]
  simp only [lift2_at, ← EReal.coe_mul, coe_sum, ← EReal.coe_add, resid]

/-! ## The norm and the loss -/

/-- The mean of each row's squares, with the small constant. -/
theorem v61_eq : val_main_v61 (F := Ideal) (lift2 BG) (lift2 CG) (lift2 U) (lift2 CW) (lift2 QM) (lift2 KV) (lift2 Z) (lift2 H) (lift2 WO)
    = lift2 (fun s _ => ms (resid BG CG U CW QM KV Z H WO) s) := by
  funext i; idx_vars i
  pointwise [val_main_v61, val_main_v60, val_main_v59, val_main_v58, val_main_v57, val_main_v56, val_main_v55,
    val_main_cst_5, val_main_cst_6, val_main_cst_7, v54_eq]
  simp only [lift2_at, ofBits_eps, ofBits_1024, ← EReal.coe_mul, coe_sum, div_real _ _ (by norm_num : (1024 : ℝ) ≠ 0), ← EReal.coe_add]
  rfl

/-- The reciprocal root. -/
theorem v62_eq : val_main_v62 (F := Ideal) (lift2 BG) (lift2 CG) (lift2 U) (lift2 CW) (lift2 QM) (lift2 KV) (lift2 Z) (lift2 H) (lift2 WO)
    = lift2 (fun s _ => rs (resid BG CG U CW QM KV Z H WO) s) := by
  funext i; idx_vars i
  pointwise [val_main_v62, v61_eq]
  simp only [lift2_at]
  exact rsqrt_real _ (ms_pos _ _)

/-- The normalised rows. -/
theorem v67_eq : val_main_v67 (F := Ideal) (lift2 BG) (lift2 CG) (lift2 U) (lift2 CW) (lift2 QM) (lift2 KV) (lift2 Z) (lift2 H) (lift2 WO)
    = lift2 (nrm (resid BG CG U CW QM KV Z H WO)) := by
  funext i; idx_vars i
  pointwise [val_main_v67, val_main_v66, v54_eq, v62_eq]
  simp only [lift2_at, ← EReal.coe_mul, nrm]

/-- The error. -/
theorem v71_eq : val_main_v71 (F := Ideal) (lift2 BG) (lift2 CG) (lift2 U) (lift2 CW) (lift2 QM) (lift2 KV) (lift2 Z) (lift2 H) (lift2 WO)
    (lift1 G) (lift2 T) = lift2 (err (resid BG CG U CW QM KV Z H WO) T G) := by
  funext i; idx_vars i
  pointwise [val_main_v71, val_main_v70, val_main_v69, val_main_v68, v67_eq]
  simp only [lift2_at, lift1_at, ← EReal.coe_mul, ← EReal.coe_sub, err]

/-- The loss, on every lane. -/
theorem v106_eq : val_main_v106 (F := Ideal) (lift2 BG) (lift2 CG) (lift2 U) (lift2 CW) (lift2 QM) (lift2 KV) (lift2 Z) (lift2 H) (lift2 WO)
    (lift1 G) (lift2 T) = lift2 (fun _ _ => loss (resid BG CG U CW QM KV Z H WO) T G) := by
  funext i; idx_vars i
  pointwise [val_main_v106, val_main_v79, val_main_v78, val_main_v77, val_main_v76, val_main_v75, val_main_v72, val_main_cst_10, val_main_cst_11,
    val_main_cst_12, val_main_cst_13, v71_eq]
  simp only [lift2_at, ofBits_half, ofBits_1024, ← EReal.coe_mul, coe_sum, div_real _ _ (by norm_num : (1024 : ℝ) ≠ 0)]
  rfl

/-- The gradient of the norm's output. -/
theorem v85_eq : val_main_v85 (F := Ideal) (lift2 BG) (lift2 CG) (lift2 U) (lift2 CW) (lift2 QM) (lift2 KV) (lift2 Z) (lift2 H) (lift2 WO)
    (lift1 G) (lift2 T) = lift2 (dout (resid BG CG U CW QM KV Z H WO) T G) := by
  funext i; idx_vars i
  pointwise [val_main_v85, val_main_v84, val_main_v83, val_main_v82, val_main_v81, val_main_v80, val_main_v74, val_main_v73, val_main_cst_9,
    val_main_cst_14, val_main_cst_15, val_main_cst_16, v71_eq]
  simp only [lift2_at, ofBits_half, ofBits_one, ofBits_two, ofBits_1024, ← EReal.coe_mul, ← EReal.coe_one, div_real _ _ (by norm_num : (1024 : ℝ) ≠ 0), dout]
  congr 1
  ring

/-- … times the gain. -/
theorem v90_eq : val_main_v90 (F := Ideal) (lift2 BG) (lift2 CG) (lift2 U) (lift2 CW) (lift2 QM) (lift2 KV) (lift2 Z) (lift2 H) (lift2 WO)
    (lift1 G) (lift2 T) = lift2 (dn (resid BG CG U CW QM KV Z H WO) T G) := by
  funext i; idx_vars i
  pointwise [val_main_v90, val_main_v89, val_main_v68, v85_eq]
  simp only [lift2_at, lift1_at, ← EReal.coe_mul, dn]

/-- The gradient of the gain. -/
theorem v107_eq : val_main_v107 (F := Ideal) (lift2 BG) (lift2 CG) (lift2 U) (lift2 CW) (lift2 QM) (lift2 KV) (lift2 Z) (lift2 H) (lift2 WO)
    (lift1 G) (lift2 T) = lift2 (fun _ d => dfg (resid BG CG U CW QM KV Z H WO) T G d) := by
  funext i; idx_vars i
  pointwise [val_main_v107, val_main_v91, val_main_v88, val_main_v87, val_main_v86, val_main_cst_17, val_main_cst_18, v67_eq, v85_eq]
  simp only [lift2_at, ← EReal.coe_mul, coe_sum, dfg, Finset.univ_unique, Finset.sum_singleton]
  congr 1
  exact Finset.sum_congr rfl fun k _ => mul_comm _ _

/-- The gradient of the residual stream. -/
theorem v105_eq : val_main_v105 (F := Ideal) (lift2 BG) (lift2 CG) (lift2 U) (lift2 CW) (lift2 QM) (lift2 KV) (lift2 Z) (lift2 H) (lift2 WO)
    (lift1 G) (lift2 T) = lift2 (dh (resid BG CG U CW QM KV Z H WO) T G) := by
  funext i; idx_vars i
  pointwise [val_main_v105, val_main_v104, val_main_v103, val_main_v102, val_main_v101, val_main_v100, val_main_v99, val_main_v98, val_main_v97,
    val_main_v96, val_main_v95, val_main_v94, val_main_v93, val_main_v92, val_main_v65, val_main_v64, val_main_v63, val_main_cst_8, val_main_cst_19,
    val_main_cst_20, val_main_cst_21, v54_eq, v61_eq, v62_eq, v90_eq]
  simp only [lift2_at, ofBits_neg_half, ofBits_1024, div_real _ _ (ms_pos _ _).ne', div_real _ _ (by norm_num : (1024 : ℝ) ≠ 0),
    ← EReal.coe_mul, coe_sum, ← EReal.coe_add, Finset.univ_unique, Finset.sum_singleton]
  congr 1
  exact dh_form ..

end Cert.Grad.Loss.Ref

end
-- ==== Proof.FiniteLoss11.lean ====
module

public import proofs.«01_k».proof.Proof.Finite
public import proofs.«01_k».proof.Proof.LossSpec11
public import proofs.«01_k».proof.Proof.Gen.Pre_finite11

@[expose] public section

noncomputable section

/-! # Finite arguments of the loss call are arrays of numbers -/

namespace Cert.Grad.Loss

open Idealize.ShloMosaic

/-- A row, every entry of which compares below +∞ in absolute value, is a row of numbers. -/
theorem real1_of_finite {n : ℕ} (x : (⟨1, ![n]⟩ : Shape).Idx → EReal)
    (h : ∀ i, Ideal.cmp .olt (max (x i) (-(x i))) (Ideal.ofBits .f32 0x7F800000#32) = 1#1) :
    ∃ X : ℕ → ℝ, x = lift1 X := by
  classical
  have htop : Ideal.ofBits .f32 0x7F800000#32 = ⊤ := by simp [Ideal.ofBits, Ideal.ieee]
  refine ⟨fun a => if ha : a < n then (x (ix1 ⟨a, ha⟩)).toReal else 0, ?_⟩
  funext i
  have hi := h i
  rw [htop] at hi
  have hlt : max (x i) (-(x i)) < ⊤ := by
    by_contra hn
    simp [Ideal.cmp, hn] at hi
  rw [max_lt_iff] at hlt
  have h1 : x i ≠ ⊤ := hlt.1.ne
  have h2 : x i ≠ ⊥ := fun e => by
    rw [e] at hlt
    exact absurd hlt.2 (by simp)
  have ha : (i 0).val < n := (i 0).isLt
  have e : (ix1 ⟨(i 0).val, ha⟩ : (⟨1, ![n]⟩ : Shape).Idx) = i := ix1_eta i
  simp only [lift1, ha, dite_true]
  rw [e, EReal.coe_toReal h1 h2]

open Cert.Pre_finite11 in
/-- What the precondition says of the eleven arguments. -/
theorem args_real11 (x0 x1 x2 : FVec Ideal S2048x1024 .f32) (x3 : FVec Ideal S3x1024 .f32) (x4 : FVec Ideal S2048x256 .bf16)
    (x5 : FVec Ideal S256x512 .bf16) (x6 : FVec Ideal S2048x1280 .f32) (x7 : FVec Ideal S2048x1024 .f32)
    (x8 : FVec Ideal S1280x1024 .bf16) (x9 : FVec Ideal S1024 .f32) (x10 : FVec Ideal S2048x1024 .f32)
    (h : (fn (F := Ideal) x0 x1 x2 x3 x4 x5 x6 x7 x8 x9 x10).1 = (fun _ => 1#1)
      ∧ (fn (F := Ideal) x0 x1 x2 x3 x4 x5 x6 x7 x8 x9 x10).2.1 = (fun _ => 1#1)
      ∧ (fn (F := Ideal) x0 x1 x2 x3 x4 x5 x6 x7 x8 x9 x10).2.2.1 = (fun _ => 1#1)
      ∧ (fn (F := Ideal) x0 x1 x2 x3 x4 x5 x6 x7 x8 x9 x10).2.2.2.1 = (fun _ => 1#1)
      ∧ (fn (F := Ideal) x0 x1 x2 x3 x4 x5 x6 x7 x8 x9 x10).2.2.2.2.1 = (fun _ => 1#1)
      ∧ (fn (F := Ideal) x0 x1 x2 x3 x4 x5 x6 x7 x8 x9 x10).2.2.2.2.2.1 = (fun _ => 1#1)
      ∧ (fn (F := Ideal) x0 x1 x2 x3 x4 x5 x6 x7 x8 x9 x10).2.2.2.2.2.2.1 = (fun _ => 1#1)
      ∧ (fn (F := Ideal) x0 x1 x2 x3 x4 x5 x6 x7 x8 x9 x10).2.2.2.2.2.2.2.1 = (fun _ => 1#1)
      ∧ (fn (F := Ideal) x0 x1 x2 x3 x4 x5 x6 x7 x8 x9 x10).2.2.2.2.2.2.2.2.1 = (fun _ => 1#1)
      ∧ (fn (F := Ideal) x0 x1 x2 x3 x4 x5 x6 x7 x8 x9 x10).2.2.2.2.2.2.2.2.2.1 = (fun _ => 1#1)
      ∧ (fn (F := Ideal) x0 x1 x2 x3 x4 x5 x6 x7 x8 x9 x10).2.2.2.2.2.2.2.2.2.2 = (fun _ => 1#1)) :
    ∃ (BG CG UG CW QM KV ZG H WO : ℕ → ℕ → ℝ) (G : ℕ → ℝ) (T : ℕ → ℕ → ℝ),
      x0 = lift2 BG ∧ x1 = lift2 CG ∧ x2 = lift2 UG ∧ x3 = lift2 CW ∧ x4 = lift2 QM ∧ x5 = lift2 KV
      ∧ x6 = lift2 ZG ∧ x7 = lift2 H ∧ x8 = lift2 WO ∧ x9 = lift1 G ∧ x10 = lift2 T := by
  obtain ⟨h0, h1, h2, h3, h4, h5, h6, h7, h8, h9, h10⟩ := h
  obtain ⟨BG, e0⟩ := real_of_finite x0 fun i => congrFun h0 i
  obtain ⟨CG, e1⟩ := real_of_finite x1 fun i => congrFun h1 i
  obtain ⟨UG, e2⟩ := real_of_finite x2 fun i => congrFun h2 i
  obtain ⟨CW, e3⟩ := real_of_finite x3 fun i => congrFun h3 i
  obtain ⟨QM, e4⟩ := real_of_finite x4 fun i => congrFun h4 i
  obtain ⟨KV, e5⟩ := real_of_finite x5 fun i => congrFun h5 i
  obtain ⟨ZG, e6⟩ := real_of_finite x6 fun i => congrFun h6 i
  obtain ⟨H, e7⟩ := real_of_finite x7 fun i => congrFun h7 i
  obtain ⟨WO, e8⟩ := real_of_finite x8 fun i => congrFun h8 i
  obtain ⟨G, e9⟩ := real1_of_finite x9 fun i => congrFun h9 i
  obtain ⟨T, e10⟩ := real_of_finite x10 fun i => congrFun h10 i
  exact ⟨BG, CG, UG, CW, QM, KV, ZG, H, WO, G, T, e0, e1, e2, e3, e4, e5, e6, e7, e8, e9, e10⟩

end Cert.Grad.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite2
public import proofs.«01_k».proof.Proof.Gen.Pre_finite3
public import proofs.«01_k».proof.Proof.Finite
public import proofs.«01_k».proof.Proof.Assemble
public import proofs.«01_k».proof.Proof.Reference
public import proofs.«01_k».proof.Proof.InFwd6
public import proofs.«01_k».proof.Proof.WGrad5
public import proofs.«01_k».proof.Proof.WGrad4
public import proofs.«01_k».proof.Proof.InBwdRef3
public import proofs.«01_k».proof.Proof.InBwdRef2
public import proofs.«01_k».proof.Proof.InBwdKer3
public import proofs.«01_k».proof.Proof.InBwdKer2
public import proofs.«01_k».proof.Proof.FiniteIn
public import Idealize.ShloMosaic.Adequacy
public import Idealize.ShloMosaic.Init
public import Idealize.ShloMosaic.Lib.Claim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.InFwd7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.AdamW8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.AdamW9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Small10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite11
public import proofs.«01_k».proof.Proof.Loss11
public import proofs.«01_k».proof.Proof.LossRef11
public import proofs.«01_k».proof.Proof.FiniteLoss11

@[expose] public section

noncomputable section

namespace Cert.Proof

open Idealize.ShloMosaic Idealize.ShloMosaic.TcCoe Idealize.SL.Sem
open Cert.Grad

/-- The gradient call and the reference's gradient agree, result by result. -/
theorem algebraic : Cert.algebraic_KernelIdeal_ReferenceIdeal_pre_finite := by
  intro m g m' g' pre hargs
  refine ⟨fun c => (Cert.KernelIdeal.Gen.dats m 0 c).arrAt 11 Cert.KernelIdeal.cfg0.N, fun c => (Cert.KernelIdeal.Gen.dats m 0 c).arrAt 12 Cert.KernelIdeal.cfg0.N,
    fun c => (Cert.KernelIdeal.Gen.dats m 0 c).arrAt 13 Cert.KernelIdeal.cfg0.N, fun c => (Cert.KernelIdeal.Gen.dats m 0 c).arrAt 14 Cert.KernelIdeal.cfg0.N,
    fun c => (Cert.KernelIdeal.Gen.dats m 0 c).arrAt 15 Cert.KernelIdeal.cfg0.N, Cert.KernelIdeal.Value.run_blocks m g, ?_⟩
  refine (θ_run _ _ _).mono (fun r h c => ?_) (Cert.ReferenceIdeal.Value.run m' g')
  obtain ⟨r0, r1, r2, r3, r4, ra⟩ := h c
  obtain ⟨i0, i1, i2, i3, i4, i5, i6, i7, i8⟩ := hargs c
  obtain ⟨DH, BG, CG, UG, CW, QM, KV, ZG, WO, e0, e1, e2, e3, e4, e5, e6, e7, e8⟩ := args_real _ _ _ _ _ _ _ _ _ (pre c)
  have a : Ker.Args m c DH BG CG UG CW QM KV ZG WO := ⟨e0, e1, e2, e3, e4, e5, e6, e7, e8⟩
  rw [e0] at i0
  rw [e1] at i1
  rw [e2] at i2
  rw [e3] at i3
  rw [e4] at i4
  rw [e5] at i5
  rw [e6] at i6
  rw [e7] at i7
  rw [e8] at i8
  refine ⟨?_, ?_, ?_, ?_, ?_, ra⟩
  · refine r0.trans ((Cert.ReferenceIdeal.Read.val_main_v147_eq (StableHlo.launchContents m' c)).trans ?_)
    show Cert.ReferenceIdeal.Read.val_main_v147 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [i0, i1, i2, i3, i4, i5, i6, i7, i8]
    exact (Ref.v147_eq ..).trans (Ker.proj_array a).symm
  · refine r1.trans ((Cert.ReferenceIdeal.Read.val_main_v74_eq (StableHlo.launchContents m' c)).trans ?_)
    show Cert.ReferenceIdeal.Read.val_main_v74 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [i0, i1, i2, i3, i4, i5, i6, i7]
    exact (Ref.v74_eq ..).trans (Ker.array12 a).symm
  · refine r2.trans ((Cert.ReferenceIdeal.Read.val_main_v148_eq (StableHlo.launchContents m' c)).trans ?_)
    show Cert.ReferenceIdeal.Read.val_main_v148 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [i0, i1, i2, i3, i7, i8]
    exact (Ref.v148_eq ..).trans (Ker.array13 a).symm
  · refine r3.trans ((Cert.ReferenceIdeal.Read.val_main_v107_eq (StableHlo.launchContents m' c)).trans ?_)
    show Cert.ReferenceIdeal.Read.val_main_v107 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [i0, i5, i6, i7, i8]
    exact (Ref.v107_eq ..).trans (Ker.array14 a).symm
  · refine r4.trans ((Cert.ReferenceIdeal.Read.val_main_v149_eq (StableHlo.launchContents m' c)).trans ?_)
    show Cert.ReferenceIdeal.Read.val_main_v149 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [i0, i1, i2, i3, i4, i5, i6, i7]
    exact (Ref.v149_eq ..).trans (Ker.array15 a).symm

/-- The reference runs to its end and leaves its arguments as they were. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The gradient behind the convolution layer's norm and input projection: the call and the reference's derivative agree. -/
theorem algebraic2 : Cert.algebraic_Kernel2Ideal_Reference2Ideal_pre_finite2 := by
  intro m g m' g' pre hargs
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    Cert.Kernel2Ideal.Value.run_blocks m g, ?_⟩
  refine (θ_run _ _ _).mono (fun r h c => ?_) (Cert.Reference2Ideal.Value.run m' g')
  obtain ⟨r0, r1, ra⟩ := h c
  obtain ⟨i0, i1, i2, i3, i4, -⟩ := hargs c
  obtain ⟨DP, W, X, G, DR, e0, e1, e2, e3, e4⟩ := args_real2 _ _ _ _ _ _ (pre c)
  have a : InBwd2.Ker.Args m c DP W X G DR := ⟨e0, e1, e2, e3, e4⟩
  rw [e0] at i0
  rw [e1] at i1
  rw [e2] at i2
  rw [e3] at i3
  rw [e4] at i4
  refine ⟨?_, ?_, ra⟩
  · refine r0.trans ((Cert.Reference2Ideal.Read.val_main_v40_eq m' c).trans ?_)
    refine Eq.trans ?_ ((InBwd2.Ref.v40_eq DP W X G DR).trans (InBwd2.Ker.array5 a).symm)
    exact congr (congr (congr (congr (congrArg (Cert.Reference2Ideal.Read.val_main_v40 (F := Ideal)) i0) i1) i2) i3) i4
  · refine r1.trans ((Cert.Reference2Ideal.Read.val_main_v23_eq _ _ _).trans ?_)
    refine Eq.trans ?_ ((InBwd2.Ref.v23_eq DP W X).trans (InBwd2.Ker.array6 a).symm)
    exact congr (congr (congrArg (Cert.Reference2Ideal.Read.val_main_v23 (F := Ideal)) i0) i1) i2

/-- The gradient behind the attention layer's norm and input projection: the call and the reference's derivative agree. -/
theorem algebraic3 : Cert.algebraic_Kernel3Ideal_Reference3Ideal_pre_finite3 := by
  intro m g m' g' pre hargs
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    Cert.Kernel3Ideal.Value.run_blocks m g, ?_⟩
  refine (θ_run _ _ _).mono (fun r h c => ?_) (Cert.Reference3Ideal.Value.run m' g')
  obtain ⟨r0, r1, ra⟩ := h c
  obtain ⟨i0, i1, i2, i3, i4, -⟩ := hargs c
  obtain ⟨DP, W, X, G, DR, e0, e1, e2, e3, e4⟩ := args_real3 _ _ _ _ _ _ (pre c)
  have a : InBwd3.Ker.Args m c DP W X G DR := ⟨e0, e1, e2, e3, e4⟩
  rw [e0] at i0
  rw [e1] at i1
  rw [e2] at i2
  rw [e3] at i3
  rw [e4] at i4
  refine ⟨?_, ?_, ra⟩
  · refine r0.trans ((Cert.Reference3Ideal.Read.val_main_v40_eq m' c).trans ?_)
    refine Eq.trans ?_ ((InBwd3.Ref.v40_eq DP W X G DR).trans (InBwd3.Ker.array5 a).symm)
    exact congr (congr (congr (congr (congrArg (Cert.Reference3Ideal.Read.val_main_v40 (F := Ideal)) i0) i1) i2) i3) i4
  · refine r1.trans ((Cert.Reference3Ideal.Read.val_main_v23_eq _ _ _).trans ?_)
    refine Eq.trans ?_ ((InBwd3.Ref.v23_eq DP W X).trans (InBwd3.Ker.array6 a).symm)
    exact congr (congr (congrArg (Cert.Reference3Ideal.Read.val_main_v23 (F := Ideal)) i0) i1) i2

/-- The gradient of the convolution layer's input projection's weights: the call and the reference's derivative agree, of every argument. -/
theorem algebraic4 : Cert.algebraic_Kernel4Ideal_Reference4Ideal := by
  intro m g m' g' _ hargs
  refine ⟨fun c => (Cert.Kernel4Ideal.Gen.dats m 0 c).arrAt 2 Cert.Kernel4Ideal.cfg0.N, fun c => (Cert.Kernel4Ideal.Gen.dats m 0 c).arrAt 3 Cert.Kernel4Ideal.cfg0.N,
    Cert.Kernel4Ideal.Value.run_blocks m g, ?_⟩
  refine (θ_run _ _ _).mono (fun r h c => ?_) (Cert.Reference4Ideal.Value.run m' g')
  obtain ⟨r0, r1, ra⟩ := h c
  obtain ⟨i0, i1, i2⟩ := hargs c
  refine ⟨?_, ?_, ra⟩
  · refine r0.trans ((Cert.Reference4Ideal.Read.val_main_v18_eq _ _ _).trans ?_)
    refine Eq.trans ?_ ((WGrad4.v18_eq _ _ _).trans (WGrad4.array2 m c).symm)
    exact congr (congr (congrArg (Cert.Reference4Ideal.Read.val_main_v18 (F := Ideal)) i0) i1) i2
  · refine r1.trans ((Cert.Reference4Ideal.Read.val_main_v19_eq _ _ _).trans ?_)
    refine Eq.trans ?_ ((WGrad4.v19_eq _ _ _).trans (WGrad4.array3 m c).symm)
    exact congr (congr (congrArg (Cert.Reference4Ideal.Read.val_main_v19 (F := Ideal)) i0) i1) i2

/-- The gradient of the attention layer's input projection's weights: the call and the reference's derivative agree, of every argument. -/
theorem algebraic5 : Cert.algebraic_Kernel5Ideal_Reference5Ideal := by
  intro m g m' g' _ hargs
  refine ⟨fun c => (Cert.Kernel5Ideal.Gen.dats m 0 c).arrAt 2 Cert.Kernel5Ideal.cfg0.N, fun c => (Cert.Kernel5Ideal.Gen.dats m 0 c).arrAt 3 Cert.Kernel5Ideal.cfg0.N,
    Cert.Kernel5Ideal.Value.run_blocks m g, ?_⟩
  refine (θ_run _ _ _).mono (fun r h c => ?_) (Cert.Reference5Ideal.Value.run m' g')
  obtain ⟨r0, r1, ra⟩ := h c
  obtain ⟨i0, i1, i2⟩ := hargs c
  refine ⟨?_, ?_, ra⟩
  · refine r0.trans ((Cert.Reference5Ideal.Read.val_main_v18_eq _ _ _).trans ?_)
    refine Eq.trans ?_ ((WGrad5.v18_eq _ _ _).trans (WGrad5.array2 m c).symm)
    exact congr (congr (congrArg (Cert.Reference5Ideal.Read.val_main_v18 (F := Ideal)) i0) i1) i2
  · refine r1.trans ((Cert.Reference5Ideal.Read.val_main_v19_eq _ _ _).trans ?_)
    refine Eq.trans ?_ ((WGrad5.v19_eq _ _ _).trans (WGrad5.array3 m c).symm)
    exact congr (congr (congrArg (Cert.Reference5Ideal.Read.val_main_v19 (F := Ideal)) i0) i1) i2

/-- The convolution layer's norm and input projection: the call and the reference agree, of every argument. -/
theorem algebraic6 : Cert.algebraic_Kernel6Ideal_Reference6Ideal := by
  intro m g m' g' _ hargs
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N, fun c => (Cert.Kernel6Ideal.Gen.dats m 0 c).arrAt 5 Cert.Kernel6Ideal.cfg0.N, fun c => (Cert.Kernel6Ideal.Gen.dats m 0 c).arrAt 6 Cert.Kernel6Ideal.cfg0.N, fun c => (Cert.Kernel6Ideal.Gen.dats m 0 c).arrAt 7 Cert.Kernel6Ideal.cfg0.N, fun c => (Cert.Kernel6Ideal.Gen.dats m 0 c).arrAt 8 Cert.Kernel6Ideal.cfg0.N,
    Cert.Kernel6Ideal.Value.run_blocks m g, ?_⟩
  refine (θ_run _ _ _).mono (fun r h c => ?_) (Cert.Reference6Ideal.Value.run m' g')
  obtain ⟨r0, r1, r2, r3, r4, r5, ra⟩ := h c
  obtain ⟨i0, i1, i2⟩ := hargs c
  refine ⟨?_, ?_, ?_, ?_, ?_, ?_, ra⟩
  · refine r0.trans ((Cert.Reference6Ideal.Read.val_main_v21_eq _ _).trans (Eq.trans ?_ (InFwd6.array3 m c).symm))
    exact congr (congrArg (Cert.Reference6Ideal.Read.val_main_v21 (F := Ideal)) i0) i1
  · refine r1.trans ((Cert.Reference6Ideal.Read.val_main_v16_eq _ _ _).trans (Eq.trans ?_ (InFwd6.array4 m c).symm))
    exact congr (congr (congrArg (Cert.Reference6Ideal.Read.val_main_v16 (F := Ideal)) i0) i1) i2
  · refine r2.trans ((Cert.Reference6Ideal.Read.val_main_v17_eq _ _ _).trans (Eq.trans ?_ (InFwd6.array5 m c).symm))
    exact congr (congr (congrArg (Cert.Reference6Ideal.Read.val_main_v17 (F := Ideal)) i0) i1) i2
  · refine r3.trans ((Cert.Reference6Ideal.Read.val_main_v18_eq _ _ _).trans (Eq.trans ?_ (InFwd6.array6 m c).symm))
    exact congr (congr (congrArg (Cert.Reference6Ideal.Read.val_main_v18 (F := Ideal)) i0) i1) i2
  · refine r4.trans ((Cert.Reference6Ideal.Read.val_main_v22_eq _ _ _).trans (Eq.trans ?_ (InFwd6.array7 m c).symm))
    exact congr (congr (congrArg (Cert.Reference6Ideal.Read.val_main_v22 (F := Ideal)) i0) i1) i2
  · refine r5.trans ((Cert.Reference6Ideal.Read.val_main_v20_eq _ _ _).trans (Eq.trans ?_ (InFwd6.array8 m c).symm))
    exact congr (congr (congrArg (Cert.Reference6Ideal.Read.val_main_v20 (F := Ideal)) i0) i1) i2

/-- The reference's derivative behind the convolution layer's projection runs to its end and leaves its arguments as they were. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The reference's derivative behind the attention layer's projection runs to its end and leaves its arguments as they were. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The reference's gradient of the convolution layer's projection runs to its end and leaves its arguments as they were. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The reference's gradient of the attention layer's projection runs to its end and leaves its arguments as they were. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The reference's norm and projection runs to its end and leaves its arguments as they were. -/
theorem frame_reference6 : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

set_option maxHeartbeats 2000000 in
/-- The attention layer's input projection with its norm and its rotations: the call and the reference agree, of every argument. -/
theorem algebraic7 : Cert.algebraic_Kernel7Ideal_Reference7Ideal := by
  intro m g m' g' _ hargs
  refine ⟨fun c => (Cert.Kernel7Ideal.Gen.dats m 0 c).arrAt 6 Cert.Kernel7Ideal.cfg0.N,
    fun c => (Cert.Kernel7Ideal.Gen.dats m 0 c).arrAt 7 Cert.Kernel7Ideal.cfg0.N,
    fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    Cert.Kernel7Ideal.Value.run_blocks m g, ?_⟩
  refine (θ_run _ _ _).mono (fun r h c => ?_) (Cert.Reference7Ideal.Value.run m' g')
  obtain ⟨r0, r1, r2, r3, r4, r5, ra⟩ := h c
  obtain ⟨i0, i1, i2, i3, i4⟩ := hargs c
  refine ⟨?_, ?_, ?_, ?_, ?_, ?_, ra⟩
  · refine r0.trans ((Cert.Reference7Ideal.Read.val_main_v91_eq _ _).trans (Eq.trans ?_ (InFwd7.array6 m c).symm))
    exact congr (congrArg (Cert.Reference7Ideal.Read.val_main_v91 (F := Ideal)) i0) i1
  · refine r1.trans ((Cert.Reference7Ideal.Read.val_main_v92_eq m' c).trans (Eq.trans ?_ (InFwd7.array7 m c).symm))
    rw [← i0, ← i1, ← i2, ← i3]
  · refine r2.trans ((Cert.Reference7Ideal.Read.val_main_v93_eq m' c).trans (Eq.trans ?_ (InFwd7.array8 m c).symm))
    rw [← i0, ← i1, ← i2, ← i3]
  · refine r3.trans ((Cert.Reference7Ideal.Read.val_main_v94_eq _ _ _).trans (Eq.trans ?_ (InFwd7.array9 m c).symm))
    exact congr (congr (congrArg (Cert.Reference7Ideal.Read.val_main_v94 (F := Ideal)) i0) i1) i2
  · refine r4.trans ((Cert.Reference7Ideal.Read.val_main_v95_eq _ _ _).trans (Eq.trans ?_ (InFwd7.array10 m c).symm))
    exact congr (congr (congrArg (Cert.Reference7Ideal.Read.val_main_v95 (F := Ideal)) i0) i1) i2
  · refine r5.trans ((Cert.Reference7Ideal.Read.val_main_v20_eq _ _ _).trans (Eq.trans ?_ (InFwd7.array11 m c).symm))
    exact congr (congr (congrArg (Cert.Reference7Ideal.Read.val_main_v20 (F := Ideal)) i0) i1) i2

/-- AdamW's step for the convolution layer's weights: the call and the reference agree, of every argument. -/
theorem algebraic8 : Cert.algebraic_Kernel8Ideal_Reference8Ideal := by
  intro m g m' g' _ hargs
  refine ⟨fun c => (Cert.Kernel8Ideal.Gen.dats m 0 c).arrAt 8 Cert.Kernel8Ideal.cfg0.N,
    fun c => (Cert.Kernel8Ideal.Gen.dats m 0 c).arrAt 10 Cert.Kernel8Ideal.cfg0.N,
    fun c => (Cert.Kernel8Ideal.Gen.dats m 0 c).arrAt 12 Cert.Kernel8Ideal.cfg0.N,
    fun c => (Cert.Kernel8Ideal.Gen.dats m 0 c).arrAt 9 Cert.Kernel8Ideal.cfg0.N,
    fun c => (Cert.Kernel8Ideal.Gen.dats m 0 c).arrAt 11 Cert.Kernel8Ideal.cfg0.N,
    fun c => (Cert.Kernel8Ideal.Gen.dats m 0 c).arrAt 13 Cert.Kernel8Ideal.cfg0.N,
    (θ_run _ _ _).mono (fun r h c => ?_) (Cert.Kernel8Ideal.Value.run_blocks m g), ?_⟩
  · obtain ⟨k8, k9, k10, k11, k12, k13, k14, k15, ka⟩ := h c
    exact ⟨k8, k10, k12, k9, k11, k13, ka⟩
  refine (θ_run _ _ _).mono (fun r h c => ?_) (Cert.Reference8Ideal.Value.run m' g')
  obtain ⟨r0, r1, r2, r3, r4, r5, ra⟩ := h c
  obtain ⟨i0, i1, i2, i3, i4, i5, i6, i7⟩ := hargs c
  refine ⟨?_, ?_, ?_, ?_, ?_, ?_, ra⟩
  · refine r0.trans ((Cert.Reference8Ideal.Read.val_main_v23_eq _ _ _ _).trans (Eq.trans ?_ (AdamW8.array8 m c).symm))
    exact congr (congr (congr (congrArg (Cert.Reference8Ideal.Read.val_main_v23 (F := Ideal)) i0) i2) i4) i6
  · refine r1.trans ((Cert.Reference8Ideal.Read.val_main_v4_eq _ _).trans (Eq.trans ?_ (AdamW8.array10 m c).symm))
    exact congr (congrArg (Cert.Reference8Ideal.Read.val_main_v4 (F := Ideal)) i2) i4
  · refine r2.trans ((Cert.Reference8Ideal.Read.val_main_v10_eq _ _).trans (Eq.trans ?_ (AdamW8.array12 m c).symm))
    exact congr (congrArg (Cert.Reference8Ideal.Read.val_main_v10 (F := Ideal)) i2) i6
  · refine r3.trans ((Cert.Reference8Ideal.Read.val_main_v47_eq _ _ _ _).trans (Eq.trans ?_ (AdamW8.array9 m c).symm))
    exact congr (congr (congr (congrArg (Cert.Reference8Ideal.Read.val_main_v47 (F := Ideal)) i1) i3) i5) i7
  · refine r4.trans ((Cert.Reference8Ideal.Read.val_main_v28_eq _ _).trans (Eq.trans ?_ (AdamW8.array11 m c).symm))
    exact congr (congrArg (Cert.Reference8Ideal.Read.val_main_v28 (F := Ideal)) i3) i5
  · refine r5.trans ((Cert.Reference8Ideal.Read.val_main_v34_eq _ _).trans (Eq.trans ?_ (AdamW8.array13 m c).symm))
    exact congr (congrArg (Cert.Reference8Ideal.Read.val_main_v34 (F := Ideal)) i3) i7

set_option maxHeartbeats 2000000 in
/-- AdamW's step for the attention layer's and the memory's weights: the call and the reference agree, of every argument. -/
theorem algebraic9 : Cert.algebraic_Kernel9Ideal_Reference9Ideal := by
  intro m g m' g' _ hargs
  refine ⟨fun c => (Cert.Kernel9Ideal.Gen.dats m 0 c).arrAt 12 Cert.Kernel9Ideal.cfg0.N,
    fun c => (Cert.Kernel9Ideal.Gen.dats m 0 c).arrAt 15 Cert.Kernel9Ideal.cfg0.N,
    fun c => (Cert.Kernel9Ideal.Gen.dats m 0 c).arrAt 18 Cert.Kernel9Ideal.cfg0.N,
    fun c => (Cert.Kernel9Ideal.Gen.dats m 0 c).arrAt 13 Cert.Kernel9Ideal.cfg0.N,
    fun c => (Cert.Kernel9Ideal.Gen.dats m 0 c).arrAt 16 Cert.Kernel9Ideal.cfg0.N,
    fun c => (Cert.Kernel9Ideal.Gen.dats m 0 c).arrAt 19 Cert.Kernel9Ideal.cfg0.N,
    fun c => (Cert.Kernel9Ideal.Gen.dats m 0 c).arrAt 14 Cert.Kernel9Ideal.cfg0.N,
    fun c => (Cert.Kernel9Ideal.Gen.dats m 0 c).arrAt 17 Cert.Kernel9Ideal.cfg0.N,
    fun c => (Cert.Kernel9Ideal.Gen.dats m 0 c).arrAt 20 Cert.Kernel9Ideal.cfg0.N,
    (θ_run _ _ _).mono (fun r h c => ?_) (Cert.Kernel9Ideal.Value.run_blocks m g), ?_⟩
  · obtain ⟨k12, k13, k14, k15, k16, k17, k18, k19, k20, k21, k22, k23, ka⟩ := h c
    exact ⟨k12, k15, k18, k13, k16, k19, k14, k17, k20, ka⟩
  refine (θ_run _ _ _).mono (fun r h c => ?_) (Cert.Reference9Ideal.Value.run m' g')
  obtain ⟨r0, r1, r2, r3, r4, r5, r6, r7, r8, ra⟩ := h c
  obtain ⟨i0, i1, i2, i3, i4, i5, i6, i7, i8, i9, i10, i11⟩ := hargs c
  refine ⟨?_, ?_, ?_, ?_, ?_, ?_, ?_, ?_, ?_, ra⟩
  · refine r0.trans ((Cert.Reference9Ideal.Read.val_main_v23_eq _ _ _ _).trans (Eq.trans ?_ (AdamW9.array12 m c).symm))
    exact congr (congr (congr (congrArg (Cert.Reference9Ideal.Read.val_main_v23 (F := Ideal)) i0) i3) i6) i9
  · refine r1.trans ((Cert.Reference9Ideal.Read.val_main_v4_eq _ _).trans (Eq.trans ?_ (AdamW9.array15 m c).symm))
    exact congr (congrArg (Cert.Reference9Ideal.Read.val_main_v4 (F := Ideal)) i3) i6
  · refine r2.trans ((Cert.Reference9Ideal.Read.val_main_v10_eq _ _).trans (Eq.trans ?_ (AdamW9.array18 m c).symm))
    exact congr (congrArg (Cert.Reference9Ideal.Read.val_main_v10 (F := Ideal)) i3) i9
  · refine r3.trans ((Cert.Reference9Ideal.Read.val_main_v47_eq _ _ _ _).trans (Eq.trans ?_ (AdamW9.array13 m c).symm))
    exact congr (congr (congr (congrArg (Cert.Reference9Ideal.Read.val_main_v47 (F := Ideal)) i1) i4) i7) i10
  · refine r4.trans ((Cert.Reference9Ideal.Read.val_main_v28_eq _ _).trans (Eq.trans ?_ (AdamW9.array16 m c).symm))
    exact congr (congrArg (Cert.Reference9Ideal.Read.val_main_v28 (F := Ideal)) i4) i7
  · refine r5.trans ((Cert.Reference9Ideal.Read.val_main_v34_eq _ _).trans (Eq.trans ?_ (AdamW9.array19 m c).symm))
    exact congr (congrArg (Cert.Reference9Ideal.Read.val_main_v34 (F := Ideal)) i4) i10
  · refine r6.trans ((Cert.Reference9Ideal.Read.val_main_v71_eq _ _ _ _).trans (Eq.trans ?_ (AdamW9.array14 m c).symm))
    exact congr (congr (congr (congrArg (Cert.Reference9Ideal.Read.val_main_v71 (F := Ideal)) i2) i5) i8) i11
  · refine r7.trans ((Cert.Reference9Ideal.Read.val_main_v52_eq _ _).trans (Eq.trans ?_ (AdamW9.array17 m c).symm))
    exact congr (congrArg (Cert.Reference9Ideal.Read.val_main_v52 (F := Ideal)) i5) i8
  · refine r8.trans ((Cert.Reference9Ideal.Read.val_main_v58_eq _ _).trans (Eq.trans ?_ (AdamW9.array20 m c).symm))
    exact congr (congrArg (Cert.Reference9Ideal.Read.val_main_v58 (F := Ideal)) i5) i11

set_option maxHeartbeats 2000000 in
/-- The small arrays' sum over the devices and AdamW's step for three small weights: the call and the reference agree, of every argument. -/
theorem algebraic10 : Cert.algebraic_Kernel10Ideal_Reference10Ideal := by
  intro m g m' g' _ hargs
  refine ⟨fun c => (Cert.Kernel10Ideal.Gen.dats m 0 c).arrAt 11 Cert.Kernel10Ideal.cfg0.N,
    fun c => (Cert.Kernel10Ideal.Gen.dats m 0 c).arrAt 12 Cert.Kernel10Ideal.cfg0.N,
    fun c => (Cert.Kernel10Ideal.Gen.dats m 0 c).arrAt 13 Cert.Kernel10Ideal.cfg0.N,
    fun c => (Cert.Kernel10Ideal.Gen.dats m 0 c).arrAt 14 Cert.Kernel10Ideal.cfg0.N,
    fun c => (Cert.Kernel10Ideal.Gen.dats m 0 c).arrAt 15 Cert.Kernel10Ideal.cfg0.N,
    fun c => (Cert.Kernel10Ideal.Gen.dats m 0 c).arrAt 16 Cert.Kernel10Ideal.cfg0.N,
    fun c => (Cert.Kernel10Ideal.Gen.dats m 0 c).arrAt 17 Cert.Kernel10Ideal.cfg0.N,
    fun c => (Cert.Kernel10Ideal.Gen.dats m 0 c).arrAt 18 Cert.Kernel10Ideal.cfg0.N,
    fun c => (Cert.Kernel10Ideal.Gen.dats m 0 c).arrAt 19 Cert.Kernel10Ideal.cfg0.N,
    fun c => (Cert.Kernel10Ideal.Gen.dats m 0 c).arrAt 20 Cert.Kernel10Ideal.cfg0.N,
    fun c => (Cert.Kernel10Ideal.Gen.dats m 0 c).arrAt 21 Cert.Kernel10Ideal.cfg0.N,
    fun c => (Cert.Kernel10Ideal.Gen.dats m 0 c).arrAt 22 Cert.Kernel10Ideal.cfg0.N,
    fun c => (Cert.Kernel10Ideal.Gen.dats m 0 c).arrAt 23 Cert.Kernel10Ideal.cfg0.N,
    Cert.Kernel10Ideal.Value.run_blocks m g, ?_⟩
  refine (θ_run _ _ _).mono (fun r h c => ?_) (Cert.Reference10Ideal.Value.run m' g')
  obtain ⟨r0, r1, r2, r3, r4, r5, r6, r7, r8, r9, r10, r11, r12, ra⟩ := h c
  obtain ⟨i0, i1, i2, i3, i4, i5, i6, i7, i8, i9, i10⟩ := hargs c
  refine ⟨?_, ?_, ?_, ?_, ?_, ?_, ?_, ?_, ?_, ?_, ?_, ?_, ?_, ra⟩
  · refine r0.trans ((Cert.Reference10Ideal.Read.val_main_v78_eq _ _).trans (Eq.trans ?_ (Small10.array11 m c).symm))
    exact congr (congrArg (Cert.Reference10Ideal.Read.val_main_v78 (F := Ideal)) i0) i1
  · refine r1.trans ((Cert.Reference10Ideal.Read.val_main_v2_eq _ _).trans (Eq.trans ?_ (Small10.array12 m c).symm))
    exact congr (congrArg (Cert.Reference10Ideal.Read.val_main_v2 (F := Ideal)) i0) i1
  · refine r2.trans ((Cert.Reference10Ideal.Read.val_main_v3_eq _ _).trans (Eq.trans ?_ (Small10.array13 m c).symm))
    exact congr (congrArg (Cert.Reference10Ideal.Read.val_main_v3 (F := Ideal)) i0) i1
  · refine r3.trans ((Cert.Reference10Ideal.Read.val_main_v5_eq _ _).trans (Eq.trans ?_ (Small10.array14 m c).symm))
    exact congr (congrArg (Cert.Reference10Ideal.Read.val_main_v5 (F := Ideal)) i0) i1
  · refine r4.trans ((Cert.Reference10Ideal.Read.val_main_v29_eq _ _ _ _ _).trans (Eq.trans ?_ (Small10.array15 m c).symm))
    exact congr (congr (congr (congr (congrArg (Cert.Reference10Ideal.Read.val_main_v29 (F := Ideal)) i0) i1) i2) i5) i8
  · refine r5.trans ((Cert.Reference10Ideal.Read.val_main_v53_eq _ _ _ _ _).trans (Eq.trans ?_ (Small10.array16 m c).symm))
    exact congr (congr (congr (congr (congrArg (Cert.Reference10Ideal.Read.val_main_v53 (F := Ideal)) i0) i1) i3) i6) i9
  · refine r6.trans ((Cert.Reference10Ideal.Read.val_main_v77_eq _ _ _ _ _).trans (Eq.trans ?_ (Small10.array17 m c).symm))
    exact congr (congr (congr (congr (congrArg (Cert.Reference10Ideal.Read.val_main_v77 (F := Ideal)) i0) i1) i4) i7) i10
  · refine r7.trans ((Cert.Reference10Ideal.Read.val_main_v10_eq _ _ _).trans (Eq.trans ?_ (Small10.array18 m c).symm))
    exact congr (congr (congrArg (Cert.Reference10Ideal.Read.val_main_v10 (F := Ideal)) i0) i1) i5
  · refine r8.trans ((Cert.Reference10Ideal.Read.val_main_v34_eq _ _ _).trans (Eq.trans ?_ (Small10.array19 m c).symm))
    exact congr (congr (congrArg (Cert.Reference10Ideal.Read.val_main_v34 (F := Ideal)) i0) i1) i6
  · refine r9.trans ((Cert.Reference10Ideal.Read.val_main_v58_eq _ _ _).trans (Eq.trans ?_ (Small10.array20 m c).symm))
    exact congr (congr (congrArg (Cert.Reference10Ideal.Read.val_main_v58 (F := Ideal)) i0) i1) i7
  · refine r10.trans ((Cert.Reference10Ideal.Read.val_main_v16_eq _ _ _).trans (Eq.trans ?_ (Small10.array21 m c).symm))
    exact congr (congr (congrArg (Cert.Reference10Ideal.Read.val_main_v16 (F := Ideal)) i0) i1) i8
  · refine r11.trans ((Cert.Reference10Ideal.Read.val_main_v40_eq _ _ _).trans (Eq.trans ?_ (Small10.array22 m c).symm))
    exact congr (congr (congrArg (Cert.Reference10Ideal.Read.val_main_v40 (F := Ideal)) i0) i1) i9
  · refine r12.trans ((Cert.Reference10Ideal.Read.val_main_v64_eq _ _ _).trans (Eq.trans ?_ (Small10.array23 m c).symm))
    exact congr (congr (congrArg (Cert.Reference10Ideal.Read.val_main_v64 (F := Ideal)) i0) i1) i10

/-- The attention layer's input projection's reference: it runs to its end and leaves its arguments as they were. -/
theorem frame_reference7 : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

/-- The reference of AdamW's step for the convolution layer's weights: it runs to its end and leaves its arguments as they were. -/
theorem frame_reference8 : Cert.quiescent_Reference8Ideal := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

/-- The reference of AdamW's step for the attention layer's and the memory's weights: it runs to its end and leaves its arguments as they were. -/
theorem frame_reference9 : Cert.quiescent_Reference9Ideal := fun m ρ _ =>
  (θ_run Cert.Reference9Ideal.defs _ _).mono (fun r h => ⟨fun c => (h c).2.2.2.2.2.2.2.2.2, sem_eq_zero_of_no_sems (by decide) r.2⟩)
    (Cert.Reference9Ideal.Value.run (F := Ideal) m ρ)

/-- The reference of the small arrays' sum over the devices and of AdamW's step for three small weights: it runs to its end and leaves its arguments as they were. -/
theorem frame_reference10 : Cert.quiescent_Reference10Ideal := fun m ρ _ =>
  (θ_run Cert.Reference10Ideal.defs _ _).mono (fun r h => ⟨fun c => (h c).2.2.2.2.2.2.2.2.2.2.2.2.2, sem_eq_zero_of_no_sems (by decide) r.2⟩)
    (Cert.Reference10Ideal.Value.run (F := Ideal) m ρ)

/-- The last convolution layer's forward pass with the final norm, the loss and their gradient: the call and the reference's derivative agree. -/
theorem algebraic11 : Cert.algebraic_Kernel11Ideal_Reference11Ideal_pre_finite11 := by
  intro m g m' g' pre hargs
  refine ⟨fun c => (Cert.Kernel11Ideal.Gen.dats m 0 c).arrAt 13 Cert.Kernel11Ideal.cfg0.N, fun c => (Cert.Kernel11Ideal.Gen.dats m 0 c).arrAt 14 Cert.Kernel11Ideal.cfg0.N,
    fun c => (Cert.Kernel11Ideal.Gen.dats m 0 c).arrAt 15 Cert.Kernel11Ideal.cfg0.N, Cert.Kernel11Ideal.Value.run_blocks m g, ?_⟩
  refine (θ_run _ _ _).mono (fun r h c => ?_) (Cert.Reference11Ideal.Value.run m' g')
  obtain ⟨r0, r1, r2, ra⟩ := h c
  obtain ⟨i0, i1, i2, i3, i4, i5, i6, i7, i8, i9, i10⟩ := hargs c
  obtain ⟨BG, CG, UG, CW, QM, KV, ZG, H, WO, G, T, e0, e1, e2, e3, e4, e5, e6, e7, e8, e9, e10⟩ := Loss.args_real11 _ _ _ _ _ _ _ _ _ _ _ (pre c)
  have a : Loss.Args m c BG CG UG CW QM KV ZG H WO G T := ⟨e0, e1, e2, e3, e4, e5, e6, e7, e8, e9, e10⟩
  rw [e0] at i0
  rw [e1] at i1
  rw [e2] at i2
  rw [e3] at i3
  rw [e4] at i4
  rw [e5] at i5
  rw [e6] at i6
  rw [e7] at i7
  rw [e8] at i8
  rw [e9] at i9
  rw [e10] at i10
  refine ⟨?_, ?_, ?_, ra⟩
  · refine r0.trans ((Cert.Reference11Ideal.Read.val_main_v105_eq _).trans ?_)
    refine Eq.trans ?_ ((Loss.Ref.v105_eq BG CG UG CW QM KV ZG H WO T G).trans (Loss.array13 a).symm)
    exact congr (congr (congr (congr (congr (congr (congr (congr (congr (congr (congrArg (Cert.Reference11Ideal.Read.val_main_v105 (F := Ideal)) i0) i1) i2) i3) i4) i5) i6) i7) i8) i9) i10
  · refine r1.trans ((Cert.Reference11Ideal.Read.val_main_v106_eq _).trans ?_)
    refine Eq.trans ?_ ((Loss.Ref.v106_eq BG CG UG CW QM KV ZG H WO T G).trans (Loss.array14 a).symm)
    exact congr (congr (congr (congr (congr (congr (congr (congr (congr (congr (congrArg (Cert.Reference11Ideal.Read.val_main_v106 (F := Ideal)) i0) i1) i2) i3) i4) i5) i6) i7) i8) i9) i10
  · refine r2.trans ((Cert.Reference11Ideal.Read.val_main_v107_eq _).trans ?_)
    refine Eq.trans ?_ ((Loss.Ref.v107_eq BG CG UG CW QM KV ZG H WO T G).trans (Loss.array15 a).symm)
    exact congr (congr (congr (congr (congr (congr (congr (congr (congr (congr (congrArg (Cert.Reference11Ideal.Read.val_main_v107 (F := Ideal)) i0) i1) i2) i3) i4) i5) i6) i7) i8) i9) i10

/-- The reference of the loss and its gradient: it runs to its end and leaves its arguments as they were. -/
theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- Every claim made of the calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite2.Gen.facts, Cert.Pre_finite3.Gen.facts, Cert.Pre_finite11.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, fun m ρ _ => Cert.Kernel2.Gen.frame m ρ,
  fun m ρ _ => Cert.Kernel2Ideal.Gen.frame m ρ, fun m ρ _ => Cert.Kernel2Ideal.Gen.frame m ρ, frame_reference2,
  fun m ρ _ => frame_reference2 m ρ trivial, fun m ρ _ => Cert.Kernel3.Gen.frame m ρ, fun m ρ _ => Cert.Kernel3Ideal.Gen.frame m ρ,
  fun m ρ _ => Cert.Kernel3Ideal.Gen.frame m ρ, frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, fun m ρ _ => Cert.Kernel11Ideal.Gen.frame m ρ,
  frame_reference11, fun m ρ _ => frame_reference11 m ρ trivial,
  trivial, algebraic, trivial,
  algebraic2, trivial, algebraic3,
  trivial, algebraic4, trivial,
  algebraic5, trivial, algebraic6,
  trivial, algebraic7,
  trivial, algebraic8,
  trivial, algebraic9,
  trivial, algebraic10,
  trivial, algebraic11⟩

end Cert.Proof

end
